-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_in [hPre_finite_in : Cert.Pre_finite_in.Facts] (m : (ℓ : Loc Cert.KernelIdeal.nD Cert.KernelIdeal.τ Cert.KernelIdeal.sig) → Buf (Elt Ideal) ℓ) : Prop :=
  ∀ c : Dev Cert.KernelIdeal.nD,
    (Cert.Pre_finite_in.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_in [hPre_finite_in : Cert.Pre_finite_in.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_in.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Kernel10Ideal_finite_in10 [hPre_finite_in10 : Cert.Pre_finite_in10.Facts] (m : (ℓ : Loc Cert.Kernel10Ideal.nD Cert.Kernel10Ideal.τ Cert.Kernel10Ideal.sig) → Buf (Elt Ideal) ℓ) : Prop :=
  ∀ c : Dev Cert.Kernel10Ideal.nD,
    (Cert.Pre_finite_in10.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)) (m ((c.tc : Thread Cert.Kernel10Ideal.nD Cert.Kernel10Ideal.τ).loc Cert.Kernel10Ideal.main_arg4)) (m ((c.tc : Thread Cert.Kernel10Ideal.nD Cert.Kernel10Ideal.τ).loc Cert.Kernel10Ideal.main_arg5))) = (fun _ => 1#1)

def Pre_Reference10Ideal (m : (ℓ : Loc Cert.Reference10Ideal.nD Cert.Reference10Ideal.τ Cert.Reference10Ideal.sig) → Buf (Elt Ideal) ℓ) : Prop :=
  True

def Pre_Reference10Ideal_finite_in10 [hPre_finite_in10 : Cert.Pre_finite_in10.Facts] (m : (ℓ : Loc Cert.Reference10Ideal.nD Cert.Reference10Ideal.τ Cert.Reference10Ideal.sig) → Buf (Elt Ideal) ℓ) : Prop :=
  ∀ c : Dev Cert.Reference10Ideal.nD,
    (Cert.Pre_finite_in10.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3)) (m ((c.tc : Thread Cert.Reference10Ideal.nD Cert.Reference10Ideal.τ).loc Cert.Reference10Ideal.main_arg4)) (m ((c.tc : Thread Cert.Reference10Ideal.nD Cert.Reference10Ideal.τ).loc Cert.Reference10Ideal.main_arg5))) = (fun _ => 1#1)

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_in [hKernelIdeal : Cert.KernelIdeal.Facts] [hPre_finite_in : Cert.Pre_finite_in.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_in m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_in [hReferenceIdeal : Cert.ReferenceIdeal.Facts] [hPre_finite_in : Cert.Pre_finite_in.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_in m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5))
      ∧ r.2.sem = fun _ => 0)

def quiescent_Kernel10Ideal_pre_finite_in10 [hKernel10Ideal : Cert.Kernel10Ideal.Facts] [hPre_finite_in10 : Cert.Pre_finite_in10.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal_finite_in10 m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5))
      ∧ r.2.sem = fun _ => 0)

def quiescent_Reference10Ideal_pre_finite_in10 [hReference10Ideal : Cert.Reference10Ideal.Facts] [hPre_finite_in10 : Cert.Pre_finite_in10.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal_finite_in10 m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4)
      ∧ r.2.mem ((c.tc : Thread Cert.Kernel11.nD Cert.Kernel11.τ).loc Cert.Kernel11.main_arg5) = m ((c.tc : Thread Cert.Kernel11.nD Cert.Kernel11.τ).loc Cert.Kernel11.main_arg5))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
      ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4)
      ∧ r.2.mem ((c.tc : Thread Cert.Reference11Ideal.nD Cert.Reference11Ideal.τ).loc Cert.Reference11Ideal.main_arg5) = m ((c.tc : Thread Cert.Reference11Ideal.nD Cert.Reference11Ideal.τ).loc Cert.Reference11Ideal.main_arg5))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_in [hKernelIdeal : Cert.KernelIdeal.Facts] [hReferenceIdeal : Cert.ReferenceIdeal.Facts] [hPre_finite_in : Cert.Pre_finite_in.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_in m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v100) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v1_0)) (v1 : (c : Dev Cert.Kernel2Ideal.nD) → Buf (Elt Ideal) ((c.tc : Thread Cert.Kernel2Ideal.nD Cert.Kernel2Ideal.τ).loc Cert.Kernel2Ideal.main_v1_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1_0) = v0 c
          ∧ r.2.mem ((c.tc : Thread Cert.Kernel2Ideal.nD Cert.Kernel2Ideal.τ).loc Cert.Kernel2Ideal.main_v1_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v31) = v0 c
          ∧ r.2.mem ((c.tc : Thread Cert.Reference2Ideal.nD Cert.Reference2Ideal.τ).loc Cert.Reference2Ideal.main_v25) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v28) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v5)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v5) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v28) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v12_0)) (v1 : (c : Dev Cert.Kernel5Ideal.nD) → Buf (Elt Ideal) ((c.tc : Thread Cert.Kernel5Ideal.nD Cert.Kernel5Ideal.τ).loc Cert.Kernel5Ideal.main_v12_1)) (v2 : (c : Dev Cert.Kernel5Ideal.nD) → Buf (Elt Ideal) ((c.tc : Thread Cert.Kernel5Ideal.nD Cert.Kernel5Ideal.τ).loc Cert.Kernel5Ideal.main_v12_2)) (v3 : (c : Dev Cert.Kernel5Ideal.nD) → Buf (Elt Ideal) ((c.tc : Thread Cert.Kernel5Ideal.nD Cert.Kernel5Ideal.τ).loc Cert.Kernel5Ideal.main_v12_3)) (v4 : (c : Dev Cert.Kernel5Ideal.nD) → Buf (Elt Ideal) ((c.tc : Thread Cert.Kernel5Ideal.nD Cert.Kernel5Ideal.τ).loc Cert.Kernel5Ideal.main_v12_4)) (v5 : (c : Dev Cert.Kernel5Ideal.nD) → Buf (Elt Ideal) ((c.tc : Thread Cert.Kernel5Ideal.nD Cert.Kernel5Ideal.τ).loc Cert.Kernel5Ideal.main_v12_5)) (v6 : (c : Dev Cert.Kernel5Ideal.nD) → Buf (Elt Ideal) ((c.tc : Thread Cert.Kernel5Ideal.nD Cert.Kernel5Ideal.τ).loc Cert.Kernel5Ideal.main_v12_6)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v12_0) = v0 c
          ∧ r.2.mem ((c.tc : Thread Cert.Kernel5Ideal.nD Cert.Kernel5Ideal.τ).loc Cert.Kernel5Ideal.main_v12_1) = v1 c
          ∧ r.2.mem ((c.tc : Thread Cert.Kernel5Ideal.nD Cert.Kernel5Ideal.τ).loc Cert.Kernel5Ideal.main_v12_2) = v2 c
          ∧ r.2.mem ((c.tc : Thread Cert.Kernel5Ideal.nD Cert.Kernel5Ideal.τ).loc Cert.Kernel5Ideal.main_v12_3) = v3 c
          ∧ r.2.mem ((c.tc : Thread Cert.Kernel5Ideal.nD Cert.Kernel5Ideal.τ).loc Cert.Kernel5Ideal.main_v12_4) = v4 c
          ∧ r.2.mem ((c.tc : Thread Cert.Kernel5Ideal.nD Cert.Kernel5Ideal.τ).loc Cert.Kernel5Ideal.main_v12_5) = v5 c
          ∧ r.2.mem ((c.tc : Thread Cert.Kernel5Ideal.nD Cert.Kernel5Ideal.τ).loc Cert.Kernel5Ideal.main_v12_6) = v6 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v10) = v0 c
          ∧ r.2.mem ((c.tc : Thread Cert.Reference5Ideal.nD Cert.Reference5Ideal.τ).loc Cert.Reference5Ideal.main_v3) = v1 c
          ∧ r.2.mem ((c.tc : Thread Cert.Reference5Ideal.nD Cert.Reference5Ideal.τ).loc Cert.Reference5Ideal.main_v6) = v2 c
          ∧ r.2.mem ((c.tc : Thread Cert.Reference5Ideal.nD Cert.Reference5Ideal.τ).loc Cert.Reference5Ideal.main_v7) = v3 c
          ∧ r.2.mem ((c.tc : Thread Cert.Reference5Ideal.nD Cert.Reference5Ideal.τ).loc Cert.Reference5Ideal.main_v8) = v4 c
          ∧ r.2.mem ((c.tc : Thread Cert.Reference5Ideal.nD Cert.Reference5Ideal.τ).loc Cert.Reference5Ideal.main_v9) = v5 c
          ∧ r.2.mem ((c.tc : Thread Cert.Reference5Ideal.nD Cert.Reference5Ideal.τ).loc Cert.Reference5Ideal.main_v12) = v6 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v13_0)) (v1 : (c : Dev Cert.Kernel6Ideal.nD) → Buf (Elt Ideal) ((c.tc : Thread Cert.Kernel6Ideal.nD Cert.Kernel6Ideal.τ).loc Cert.Kernel6Ideal.main_v13_1)) (v2 : (c : Dev Cert.Kernel6Ideal.nD) → Buf (Elt Ideal) ((c.tc : Thread Cert.Kernel6Ideal.nD Cert.Kernel6Ideal.τ).loc Cert.Kernel6Ideal.main_v13_2)) (v3 : (c : Dev Cert.Kernel6Ideal.nD) → Buf (Elt Ideal) ((c.tc : Thread Cert.Kernel6Ideal.nD Cert.Kernel6Ideal.τ).loc Cert.Kernel6Ideal.main_v13_3)) (v4 : (c : Dev Cert.Kernel6Ideal.nD) → Buf (Elt Ideal) ((c.tc : Thread Cert.Kernel6Ideal.nD Cert.Kernel6Ideal.τ).loc Cert.Kernel6Ideal.main_v13_4)) (v5 : (c : Dev Cert.Kernel6Ideal.nD) → Buf (Elt Ideal) ((c.tc : Thread Cert.Kernel6Ideal.nD Cert.Kernel6Ideal.τ).loc Cert.Kernel6Ideal.main_v13_5)) (v6 : (c : Dev Cert.Kernel6Ideal.nD) → Buf (Elt Ideal) ((c.tc : Thread Cert.Kernel6Ideal.nD Cert.Kernel6Ideal.τ).loc Cert.Kernel6Ideal.main_v13_6)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v13_0) = v0 c
          ∧ r.2.mem ((c.tc : Thread Cert.Kernel6Ideal.nD Cert.Kernel6Ideal.τ).loc Cert.Kernel6Ideal.main_v13_1) = v1 c
          ∧ r.2.mem ((c.tc : Thread Cert.Kernel6Ideal.nD Cert.Kernel6Ideal.τ).loc Cert.Kernel6Ideal.main_v13_2) = v2 c
          ∧ r.2.mem ((c.tc : Thread Cert.Kernel6Ideal.nD Cert.Kernel6Ideal.τ).loc Cert.Kernel6Ideal.main_v13_3) = v3 c
          ∧ r.2.mem ((c.tc : Thread Cert.Kernel6Ideal.nD Cert.Kernel6Ideal.τ).loc Cert.Kernel6Ideal.main_v13_4) = v4 c
          ∧ r.2.mem ((c.tc : Thread Cert.Kernel6Ideal.nD Cert.Kernel6Ideal.τ).loc Cert.Kernel6Ideal.main_v13_5) = v5 c
          ∧ r.2.mem ((c.tc : Thread Cert.Kernel6Ideal.nD Cert.Kernel6Ideal.τ).loc Cert.Kernel6Ideal.main_v13_6) = v6 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v1) = v0 c
          ∧ r.2.mem ((c.tc : Thread Cert.Reference6Ideal.nD Cert.Reference6Ideal.τ).loc Cert.Reference6Ideal.main_v2) = v1 c
          ∧ r.2.mem ((c.tc : Thread Cert.Reference6Ideal.nD Cert.Reference6Ideal.τ).loc Cert.Reference6Ideal.main_v3) = v2 c
          ∧ r.2.mem ((c.tc : Thread Cert.Reference6Ideal.nD Cert.Reference6Ideal.τ).loc Cert.Reference6Ideal.main_v4) = v3 c
          ∧ r.2.mem ((c.tc : Thread Cert.Reference6Ideal.nD Cert.Reference6Ideal.τ).loc Cert.Reference6Ideal.main_v7) = v4 c
          ∧ r.2.mem ((c.tc : Thread Cert.Reference6Ideal.nD Cert.Reference6Ideal.τ).loc Cert.Reference6Ideal.main_v10) = v5 c
          ∧ r.2.mem ((c.tc : Thread Cert.Reference6Ideal.nD Cert.Reference6Ideal.τ).loc Cert.Reference6Ideal.main_v12) = v6 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v3)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v3) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v28) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v12_0)) (v1 : (c : Dev Cert.Kernel8Ideal.nD) → Buf (Elt Ideal) ((c.tc : Thread Cert.Kernel8Ideal.nD Cert.Kernel8Ideal.τ).loc Cert.Kernel8Ideal.main_v12_1)) (v2 : (c : Dev Cert.Kernel8Ideal.nD) → Buf (Elt Ideal) ((c.tc : Thread Cert.Kernel8Ideal.nD Cert.Kernel8Ideal.τ).loc Cert.Kernel8Ideal.main_v12_2)) (v3 : (c : Dev Cert.Kernel8Ideal.nD) → Buf (Elt Ideal) ((c.tc : Thread Cert.Kernel8Ideal.nD Cert.Kernel8Ideal.τ).loc Cert.Kernel8Ideal.main_v12_3)) (v4 : (c : Dev Cert.Kernel8Ideal.nD) → Buf (Elt Ideal) ((c.tc : Thread Cert.Kernel8Ideal.nD Cert.Kernel8Ideal.τ).loc Cert.Kernel8Ideal.main_v12_4)) (v5 : (c : Dev Cert.Kernel8Ideal.nD) → Buf (Elt Ideal) ((c.tc : Thread Cert.Kernel8Ideal.nD Cert.Kernel8Ideal.τ).loc Cert.Kernel8Ideal.main_v12_5)) (v6 : (c : Dev Cert.Kernel8Ideal.nD) → Buf (Elt Ideal) ((c.tc : Thread Cert.Kernel8Ideal.nD Cert.Kernel8Ideal.τ).loc Cert.Kernel8Ideal.main_v12_6)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v12_0) = v0 c
          ∧ r.2.mem ((c.tc : Thread Cert.Kernel8Ideal.nD Cert.Kernel8Ideal.τ).loc Cert.Kernel8Ideal.main_v12_1) = v1 c
          ∧ r.2.mem ((c.tc : Thread Cert.Kernel8Ideal.nD Cert.Kernel8Ideal.τ).loc Cert.Kernel8Ideal.main_v12_2) = v2 c
          ∧ r.2.mem ((c.tc : Thread Cert.Kernel8Ideal.nD Cert.Kernel8Ideal.τ).loc Cert.Kernel8Ideal.main_v12_3) = v3 c
          ∧ r.2.mem ((c.tc : Thread Cert.Kernel8Ideal.nD Cert.Kernel8Ideal.τ).loc Cert.Kernel8Ideal.main_v12_4) = v4 c
          ∧ r.2.mem ((c.tc : Thread Cert.Kernel8Ideal.nD Cert.Kernel8Ideal.τ).loc Cert.Kernel8Ideal.main_v12_5) = v5 c
          ∧ r.2.mem ((c.tc : Thread Cert.Kernel8Ideal.nD Cert.Kernel8Ideal.τ).loc Cert.Kernel8Ideal.main_v12_6) = v6 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v10) = v0 c
          ∧ r.2.mem ((c.tc : Thread Cert.Reference8Ideal.nD Cert.Reference8Ideal.τ).loc Cert.Reference8Ideal.main_v3) = v1 c
          ∧ r.2.mem ((c.tc : Thread Cert.Reference8Ideal.nD Cert.Reference8Ideal.τ).loc Cert.Reference8Ideal.main_v6) = v2 c
          ∧ r.2.mem ((c.tc : Thread Cert.Reference8Ideal.nD Cert.Reference8Ideal.τ).loc Cert.Reference8Ideal.main_v7) = v3 c
          ∧ r.2.mem ((c.tc : Thread Cert.Reference8Ideal.nD Cert.Reference8Ideal.τ).loc Cert.Reference8Ideal.main_v8) = v4 c
          ∧ r.2.mem ((c.tc : Thread Cert.Reference8Ideal.nD Cert.Reference8Ideal.τ).loc Cert.Reference8Ideal.main_v9) = v5 c
          ∧ r.2.mem ((c.tc : Thread Cert.Reference8Ideal.nD Cert.Reference8Ideal.τ).loc Cert.Reference8Ideal.main_v12) = v6 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v13_0)) (v1 : (c : Dev Cert.Kernel9Ideal.nD) → Buf (Elt Ideal) ((c.tc : Thread Cert.Kernel9Ideal.nD Cert.Kernel9Ideal.τ).loc Cert.Kernel9Ideal.main_v13_1)) (v2 : (c : Dev Cert.Kernel9Ideal.nD) → Buf (Elt Ideal) ((c.tc : Thread Cert.Kernel9Ideal.nD Cert.Kernel9Ideal.τ).loc Cert.Kernel9Ideal.main_v13_2)) (v3 : (c : Dev Cert.Kernel9Ideal.nD) → Buf (Elt Ideal) ((c.tc : Thread Cert.Kernel9Ideal.nD Cert.Kernel9Ideal.τ).loc Cert.Kernel9Ideal.main_v13_3)) (v4 : (c : Dev Cert.Kernel9Ideal.nD) → Buf (Elt Ideal) ((c.tc : Thread Cert.Kernel9Ideal.nD Cert.Kernel9Ideal.τ).loc Cert.Kernel9Ideal.main_v13_4)) (v5 : (c : Dev Cert.Kernel9Ideal.nD) → Buf (Elt Ideal) ((c.tc : Thread Cert.Kernel9Ideal.nD Cert.Kernel9Ideal.τ).loc Cert.Kernel9Ideal.main_v13_5)) (v6 : (c : Dev Cert.Kernel9Ideal.nD) → Buf (Elt Ideal) ((c.tc : Thread Cert.Kernel9Ideal.nD Cert.Kernel9Ideal.τ).loc Cert.Kernel9Ideal.main_v13_6)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v13_0) = v0 c
          ∧ r.2.mem ((c.tc : Thread Cert.Kernel9Ideal.nD Cert.Kernel9Ideal.τ).loc Cert.Kernel9Ideal.main_v13_1) = v1 c
          ∧ r.2.mem ((c.tc : Thread Cert.Kernel9Ideal.nD Cert.Kernel9Ideal.τ).loc Cert.Kernel9Ideal.main_v13_2) = v2 c
          ∧ r.2.mem ((c.tc : Thread Cert.Kernel9Ideal.nD Cert.Kernel9Ideal.τ).loc Cert.Kernel9Ideal.main_v13_3) = v3 c
          ∧ r.2.mem ((c.tc : Thread Cert.Kernel9Ideal.nD Cert.Kernel9Ideal.τ).loc Cert.Kernel9Ideal.main_v13_4) = v4 c
          ∧ r.2.mem ((c.tc : Thread Cert.Kernel9Ideal.nD Cert.Kernel9Ideal.τ).loc Cert.Kernel9Ideal.main_v13_5) = v5 c
          ∧ r.2.mem ((c.tc : Thread Cert.Kernel9Ideal.nD Cert.Kernel9Ideal.τ).loc Cert.Kernel9Ideal.main_v13_6) = v6 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v1) = v0 c
          ∧ r.2.mem ((c.tc : Thread Cert.Reference9Ideal.nD Cert.Reference9Ideal.τ).loc Cert.Reference9Ideal.main_v2) = v1 c
          ∧ r.2.mem ((c.tc : Thread Cert.Reference9Ideal.nD Cert.Reference9Ideal.τ).loc Cert.Reference9Ideal.main_v3) = v2 c
          ∧ r.2.mem ((c.tc : Thread Cert.Reference9Ideal.nD Cert.Reference9Ideal.τ).loc Cert.Reference9Ideal.main_v4) = v3 c
          ∧ r.2.mem ((c.tc : Thread Cert.Reference9Ideal.nD Cert.Reference9Ideal.τ).loc Cert.Reference9Ideal.main_v7) = v4 c
          ∧ r.2.mem ((c.tc : Thread Cert.Reference9Ideal.nD Cert.Reference9Ideal.τ).loc Cert.Reference9Ideal.main_v10) = v5 c
          ∧ r.2.mem ((c.tc : Thread Cert.Reference9Ideal.nD Cert.Reference9Ideal.τ).loc Cert.Reference9Ideal.main_v12) = v6 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal_pre_finite_in10 [hKernel10Ideal : Cert.Kernel10Ideal.Facts] [hReference10Ideal : Cert.Reference10Ideal.Facts] [hPre_finite_in10 : Cert.Pre_finite_in10.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal_finite_in10 m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)) →
    ∃ (v0 : (c : Dev Cert.Kernel10Ideal.nD) → Buf (Elt Ideal) ((c.tc : Thread Cert.Kernel10Ideal.nD Cert.Kernel10Ideal.τ).loc Cert.Kernel10Ideal.main_v34)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v34) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v72) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)
      ∧ m' ((c.tc : Thread Cert.Reference11Ideal.nD Cert.Reference11Ideal.τ).loc Cert.Reference11Ideal.main_arg5) = m ((c.tc : Thread Cert.Kernel11Ideal.nD Cert.Kernel11Ideal.τ).loc Cert.Kernel11Ideal.main_arg5)) →
    ∃ (v0 : (c : Dev Cert.Kernel11Ideal.nD) → Buf (Elt Ideal) ((c.tc : Thread Cert.Kernel11Ideal.nD Cert.Kernel11Ideal.τ).loc Cert.Kernel11Ideal.main_v5)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v5) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
          ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v28) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4)
          ∧ r.2.mem ((c.tc : Thread Cert.Reference11Ideal.nD Cert.Reference11Ideal.τ).loc Cert.Reference11Ideal.main_arg5) = m' ((c.tc : Thread Cert.Reference11Ideal.nD Cert.Reference11Ideal.τ).loc Cert.Reference11Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hPre_finite_in : Cert.Pre_finite_in.Facts) (hPre_finite_in10 : Cert.Pre_finite_in10.Facts),
    quiescent_Kernel (hKernel := hKernel)
    ∧ quiescent_KernelIdeal (hKernelIdeal := hKernelIdeal)
    ∧ quiescent_KernelIdeal_pre_finite_in (hKernelIdeal := hKernelIdeal) (hPre_finite_in := hPre_finite_in)
    ∧ quiescent_ReferenceIdeal (hReferenceIdeal := hReferenceIdeal)
    ∧ quiescent_ReferenceIdeal_pre_finite_in (hReferenceIdeal := hReferenceIdeal) (hPre_finite_in := hPre_finite_in)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Kernel10Ideal_pre_finite_in10 (hKernel10Ideal := hKernel10Ideal) (hPre_finite_in10 := hPre_finite_in10)
    ∧ quiescent_Reference10Ideal (hReference10Ideal := hReference10Ideal)
    ∧ quiescent_Reference10Ideal_pre_finite_in10 (hReference10Ideal := hReference10Ideal) (hPre_finite_in10 := hPre_finite_in10)
    ∧ quiescent_Kernel11 (hKernel11 := hKernel11)
    ∧ quiescent_Kernel11Ideal (hKernel11Ideal := hKernel11Ideal)
    ∧ quiescent_Reference11Ideal (hReference11Ideal := hReference11Ideal)
    ∧ preserves_Kernel_KernelIdeal
    ∧ algebraic_KernelIdeal_ReferenceIdeal_pre_finite_in (hKernelIdeal := hKernelIdeal) (hReferenceIdeal := hReferenceIdeal) (hPre_finite_in := hPre_finite_in)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal_pre_finite_in10 (hKernel10Ideal := hKernel10Ideal) (hReference10Ideal := hReference10Ideal) (hPre_finite_in10 := hPre_finite_in10)
    ∧ preserves_Kernel11_Kernel11Ideal
    ∧ algebraic_Kernel11Ideal_Reference11Ideal (hKernel11Ideal := hKernel11Ideal) (hReference11Ideal := hReference11Ideal)
-- ==== Pre_finite_in.lean ====
abbrev S16384x512 : Shape := ⟨2, ![16384, 512]⟩
abbrev S257x8 : Shape := ⟨2, ![257, 8]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel
  bcast_S_S257x8 : S_.BroadcastsInDim S257x8 (![] : Fin 0 → Fin S257x8.rank)
  reducesTo_S257x8_S_d0_1 : S257x8.ReducesTo [0, 1] S_

variable [Facts]

def fn {F : FTy → Type} [FloatOps F] (main_arg0 : FVec F S16384x512 .f32) (main_arg1 : FVec F S16384x512 .f32) (main_arg2 : FVec F S16384x512 .f32) (main_arg3 : FVec F S257x8 .f32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S16384x512 .f32 := Host.absf main_arg1
  let main_cst_0 : FVec F S_ .f32 := constant S_ .f32 0x7F800000#32
  let main_v5 : FVec F S16384x512 .f32 := broadcastInDim S16384x512 ![] bcast_S_S16384x512 main_cst_0
  let main_v6 : IVec S16384x512 1 := cmpf .olt main_v4 main_v5
  let main_c_1 : IVec S_ 1 := constantI S_ 1 1#1
  let main_v7 : IVec S_ 1 := (fun x v => Host.reduce IntOp.andi x v reducesTo_S16384x512_S_d0_1 h_S_) main_v6 main_c_1
  let main_v8 : IVec S_ 1 := andi main_v3 main_v7
  let main_v9 : FVec F S257x8 .f32 := Host.absf main_arg3
  let main_cst_2 : FVec F S_ .f32 := constant S_ .f32 0x7F800000#32
  let main_v10 : FVec F S257x8 .f32 := broadcastInDim S257x8 ![] bcast_S_S257x8 main_cst_2
  let main_v11 : IVec S257x8 1 := cmpf .olt main_v9 main_v10
  let main_c_3 : IVec S_ 1 := constantI S_ 1 1#1
  let main_v12 : IVec S_ 1 := (fun x v => Host.reduce IntOp.andi x v reducesTo_S257x8_S_d0_1 h_S_) main_v11 main_c_3
  let main_v13 : IVec S_ 1 := andi main_v8 main_v12
  main_v13
-- ==== Pre_finite_in10.lean ====
abbrev S1024x512 : Shape := ⟨2, ![1024, 512]⟩
abbrev S2x32x512x8x64 : Shape := ⟨5, ![2, 32, 512, 8, 64]⟩
abbrev S257x8 : Shape := ⟨2, ![257, 8]⟩
abbrev S_ : Shape := ⟨0, ![]⟩

class Facts : Prop where
  bcast_S_S1024x512 : S_.BroadcastsInDim S1024x512 (![] : Fin 0 → Fin S1024x512.rank)
  reducesTo_S1024x512_S_d0_1 : S1024x512.ReducesTo [0, 1] S_
  h_S_ : 0 < S_.numel
  bcast_S_S2x32x512x8x64 : S_.BroadcastsInDim S2x32x512x8x64 (![] : Fin 0 → Fin S2x32x512x8x64.rank)
  reducesTo_S2x32x512x8x64_S_d0_1_2_3_4 : S2x32x512x8x64.ReducesTo [0, 1, 2, 3, 4] S_
  bcast_S_S257x8 : S_.BroadcastsInDim S257x8 (![] : Fin 0 → Fin S257x8.rank)
  reducesTo_S257x8_S_d0_1 : S257x8.ReducesTo [0, 1] S_

variable [Facts]

def fn_part1 {F : FTy → Type} [FloatOps F] (main_v13 : IVec S_ 1) (main_v16 : IVec S257x8 1) : IVec S_ 1 :=
  let main_c_5 : IVec S_ 1 := constantI S_ 1 1#1
  let main_v17 : IVec S_ 1 := (fun x v => Host.reduce IntOp.andi x v reducesTo_S257x8_S_d0_1 h_S_) main_v16 main_c_5
  let main_v18 : IVec S_ 1 := andi main_v13 main_v17
  main_v18

def fn {F : FTy → Type} [FloatOps F] (main_arg0 : FVec F S1024x512 .f32) (main_arg1 : FVec F S1024x512 .f32) (main_arg2 : FVec F S1024x512 .f32) (main_arg3 : FVec F S2x32x512x8x64 .f32) (main_arg4 : FVec F S2x32x512x8x64 .f32) (main_arg5 : FVec F S257x8 .f32) : IVec S_ 1 :=
  let main_v0 : FVec F S1024x512 .f32 := Host.absf main_arg0
  let main_cst : FVec F S_ .f32 := constant S_ .f32 0x7F800000#32
  let main_v1 : FVec F S1024x512 .f32 := broadcastInDim S1024x512 ![] bcast_S_S1024x512 main_cst
  let main_v2 : IVec S1024x512 1 := cmpf .olt main_v0 main_v1
  let main_c : IVec S_ 1 := constantI S_ 1 1#1
  let main_v3 : IVec S_ 1 := (fun x v => Host.reduce IntOp.andi x v reducesTo_S1024x512_S_d0_1 h_S_) main_v2 main_c
  let main_v4 : FVec F S1024x512 .f32 := Host.absf main_arg1
  let main_cst_0 : FVec F S_ .f32 := constant S_ .f32 0x7F800000#32
  let main_v5 : FVec F S1024x512 .f32 := broadcastInDim S1024x512 ![] bcast_S_S1024x512 main_cst_0
  let main_v6 : IVec S1024x512 1 := cmpf .olt main_v4 main_v5
  let main_c_1 : IVec S_ 1 := constantI S_ 1 1#1
  let main_v7 : IVec S_ 1 := (fun x v => Host.reduce IntOp.andi x v reducesTo_S1024x512_S_d0_1 h_S_) main_v6 main_c_1
  let main_v8 : IVec S_ 1 := andi main_v3 main_v7
  let main_v9 : FVec F S2x32x512x8x64 .f32 := Host.absf main_arg3
  let main_cst_2 : FVec F S_ .f32 := constant S_ .f32 0x7F800000#32
  let main_v10 : FVec F S2x32x512x8x64 .f32 := broadcastInDim S2x32x512x8x64 ![] bcast_S_S2x32x512x8x64 main_cst_2
  let main_v11 : IVec S2x32x512x8x64 1 := cmpf .olt main_v9 main_v10
  let main_c_3 : IVec S_ 1 := constantI S_ 1 1#1
  let main_v12 : IVec S_ 1 := (fun x v => Host.reduce IntOp.andi x v reducesTo_S2x32x512x8x64_S_d0_1_2_3_4 h_S_) main_v11 main_c_3
  let main_v13 : IVec S_ 1 := andi main_v8 main_v12
  let main_v14 : FVec F S257x8 .f32 := Host.absf main_arg5
  let main_cst_4 : FVec F S_ .f32 := constant S_ .f32 0x7F800000#32
  let main_v15 : FVec F S257x8 .f32 := broadcastInDim S257x8 ![] bcast_S_S257x8 main_cst_4
  let main_v16 : IVec S257x8 1 := cmpf .olt main_v14 main_v15
  fn_part1 (F := F) main_v13 main_v16
-- ==== Kernel.lean ====
abbrev S16384x512 : Shape := ⟨2, ![16384, 512]⟩
abbrev S257x8 : Shape := ⟨2, ![257, 8]⟩
abbrev S768 : Shape := ⟨1, ![768]⟩
abbrev S640x128 : Shape := ⟨2, ![640, 128]⟩
abbrev S8x2048x512 : Shape := ⟨3, ![8, 2048, 512]⟩
abbrev S_ : Shape := ⟨0, ![]⟩
abbrev S768x1 : Shape := ⟨2, ![768, 1]⟩
abbrev S768x8 : Shape := ⟨2, ![768, 8]⟩
abbrev S8x768 : Shape := ⟨2, ![8, 768]⟩
abbrev S1x8x1x768 : Shape := ⟨4, ![1, 8, 1, 768]⟩
abbrev S1x8x640x768 : Shape := ⟨4, ![1, 8, 640, 768]⟩
abbrev S8x491520 : Shape := ⟨2, ![8, 491520]⟩
abbrev S8x490880 : Shape := ⟨2, ![8, 490880]⟩
abbrev S8x640x767 : Shape := ⟨3, ![8, 640, 767]⟩
abbrev S8x640x128 : Shape := ⟨3, ![8, 640, 128]⟩
abbrev S1x640x128 : Shape := ⟨3, ![1, 640, 128]⟩
abbrev S128x512 : Shape := ⟨2, ![128, 512]⟩
abbrev S1x2048x512 : Shape := ⟨3, ![1, 2048, 512]⟩
abbrev S2560x512 : Shape := ⟨2, ![2560, 512]⟩
abbrev S20x512x128 : Shape := ⟨3, ![20, 512, 128]⟩
abbrev S512x128 : Shape := ⟨2, ![512, 128]⟩
abbrev S512x512 : Shape := ⟨2, ![512, 512]⟩
abbrev S4x512x128 : Shape := ⟨3, ![4, 512, 128]⟩
abbrev S1x512x512 : Shape := ⟨3, ![1, 512, 512]⟩
abbrev S1x128x512 : Shape := ⟨3, ![1, 128, 512]⟩
abbrev S1x512x128 : Shape := ⟨3, ![1, 512, 128]⟩
abbrev S640x64 : Shape := ⟨2, ![640, 64]⟩
abbrev S128x64 : Shape := ⟨2, ![128, 64]⟩
abbrev S64x128 : Shape := ⟨2, ![64, 128]⟩
abbrev S128 : Shape := ⟨1, ![128]⟩
abbrev S1x128 : Shape := ⟨2, ![1, 128]⟩
abbrev S1x64x128 : Shape := ⟨3, ![1, 64, 128]⟩
abbrev S128x128 : Shape := ⟨2, ![128, 128]⟩

abbrev nBuf : Space → Nat
  | .hbm => 29
  | .vmem => 12
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S16384x512, .f32⟩
  | .hbm, ⟨3, _⟩ => ⟨S257x8, .f32⟩
  | .hbm, ⟨4, _⟩ => ⟨S768, .i32⟩
  | .hbm, ⟨5, _⟩ => ⟨S768, .i1⟩
  | .hbm, ⟨6, _⟩ => ⟨S640x128, .i1⟩
  | .hbm, ⟨7, _⟩ => ⟨S8x2048x512, .f32⟩
  | .hbm, ⟨8, _⟩ => ⟨S8x2048x512, .f32⟩
  | .hbm, ⟨9, _⟩ => ⟨S_, .i32⟩
  | .hbm, ⟨10, _⟩ => ⟨S768, .i32⟩
  | .hbm, ⟨11, _⟩ => ⟨S768, .i32⟩
  | .hbm, ⟨12, _⟩ => ⟨S768, .i32⟩
  | .hbm, ⟨13, _⟩ => ⟨S768x1, .i32⟩
  | .hbm, ⟨14, _⟩ => ⟨S768x8, .f32⟩
  | .hbm, ⟨15, _⟩ => ⟨S8x768, .f32⟩
  | .hbm, ⟨16, _⟩ => ⟨S1x8x1x768, .f32⟩
  | .hbm, ⟨17, _⟩ => ⟨S1x8x640x768, .f32⟩
  | .hbm, ⟨18, _⟩ => ⟨S8x491520, .f32⟩
  | .hbm, ⟨19, _⟩ => ⟨S8x490880, .f32⟩
  | .hbm, ⟨20, _⟩ => ⟨S8x640x767, .f32⟩
  | .hbm, ⟨21, _⟩ => ⟨S8x640x128, .f32⟩
  | .hbm, ⟨22, _⟩ => ⟨S1x640x128, .i1⟩
  | .hbm, ⟨23, _⟩ => ⟨S_, .f32⟩
  | .hbm, ⟨24, _⟩ => ⟨S_, .f32⟩
  | .hbm, ⟨25, _⟩ => ⟨S8x640x128, .i1⟩
  | .hbm, ⟨26, _⟩ => ⟨S8x640x128, .f32⟩
  | .hbm, ⟨27, _⟩ => ⟨S8x640x128, .f32⟩
  | .hbm, ⟨28, _⟩ => ⟨S16384x512, .f32⟩
  | .local _ .vmem, ⟨0, _⟩ => ⟨S128x512, .f32⟩
  | .local _ .vmem, ⟨1, _⟩ => ⟨S128x512, .f32⟩
  | .local _ .vmem, ⟨2, _⟩ => ⟨S1x2048x512, .f32⟩
  | .local _ .vmem, ⟨3, _⟩ => ⟨S1x2048x512, .f32⟩
  | .local _ .vmem, ⟨4, _⟩ => ⟨S1x2048x512, .f32⟩
  | .local _ .vmem, ⟨5, _⟩ => ⟨S1x2048x512, .f32⟩
  | .local _ .vmem, ⟨6, _⟩ => ⟨S8x640x128, .f32⟩
  | .local _ .vmem, ⟨7, _⟩ => ⟨S128x512, .f32⟩
  | .local _ .vmem, ⟨8, _⟩ => ⟨S128x512, .f32⟩
  | .local _ .vmem, ⟨9, _⟩ => ⟨S2560x512, .bf16⟩
  | .local _ .vmem, ⟨10, _⟩ => ⟨S20x512x128, .bf16⟩
  | .local _ .vmem, ⟨11, _⟩ => ⟨S512x128, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_c_1 : Ref sig .tc := ⟨.hbm, 6, rfl⟩
abbrev main_v0 : Ref sig .tc := ⟨.hbm, 7, rfl⟩
abbrev main_v1 : Ref sig .tc := ⟨.hbm, 8, rfl⟩
abbrev main_c_2 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_v15 : Ref sig .tc := ⟨.hbm, 27, rfl⟩
abbrev main_v16 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 16], ![false, false]⟩

def k0_mult1 (i : grid0.Coords) : BitVec 32 :=
  let arg1 : BitVec 32 := BitVec.ofNat 32 (i 1).val
  let c128_i32 : BitVec 32 := 128#32
  let v3 : BitVec 32 := Scalar.muli arg1 c128_i32
  v3
def k0_off1 (i : grid0.Coords) : Fin 2 → Nat :=
  let arg1 : BitVec 32 := BitVec.ofNat 32 (i 1).val
  let c128_i32 : BitVec 32 := 128#32
  let v3 : BitVec 32 := Scalar.muli arg1 c128_i32
  let v4 : BitVec 32 := v3
  let v17 : Index := Scalar.indexCast v4
  let c0_5 : Index := 0#32
  ![v17.toNat, 0]
def k0_off2 (i : grid0.Coords) : Fin 2 → Nat :=
  let arg1 : BitVec 32 := BitVec.ofNat 32 (i 1).val
  let c128_i32 : BitVec 32 := 128#32
  let v3 : BitVec 32 := Scalar.muli arg1 c128_i32
  let v4 : BitVec 32 := v3
  let v25 : Index := Scalar.indexCast v4
  let c64 : Index := 64#32
  ![v25.toNat, 64]
def k0_off3 (i : grid0.Coords) : Fin 2 → Nat :=
  let arg1 : BitVec 32 := BitVec.ofNat 32 (i 1).val
  let c128_i32 : BitVec 32 := 128#32
  let v3 : BitVec 32 := Scalar.muli arg1 c128_i32
  let v4 : BitVec 32 := v3
  let v33 : Index := Scalar.indexCast v4
  let c128 : Index := 128#32
  ![v33.toNat, 128]
def k0_off4 (i : grid0.Coords) : Fin 2 → Nat :=
  let arg1 : BitVec 32 := BitVec.ofNat 32 (i 1).val
  let c128_i32 : BitVec 32 := 128#32
  let v3 : BitVec 32 := Scalar.muli arg1 c128_i32
  let v4 : BitVec 32 := v3
  let v41 : Index := Scalar.indexCast v4
  let c192 : Index := 192#32
  ![v41.toNat, 192]
def k0_off5 (i : grid0.Coords) (c0_i32_31 : BitVec 32) : Fin 3 → Nat :=
  let arg1 : BitVec 32 := BitVec.ofNat 32 (i 1).val
  let c1_i32 : BitVec 32 := 1#32
  let v241 : BitVec 32 := Scalar.muli arg1 c1_i32
  let v242 : BitVec 32 := Scalar.addi v241 c0_i32_31
  let v243 : Index := Scalar.indexCast v242
  let c0_32 : Index := 0#32
  let c0_33 : Index := 0#32
  ![v243.toNat, 0, 0]
def k0_off6 (i : grid0.Coords) (c0_i32_54 : BitVec 32) : Fin 3 → Nat :=
  let arg1 : BitVec 32 := BitVec.ofNat 32 (i 1).val
  let c1_i32_53 : BitVec 32 := 1#32
  let v282 : BitVec 32 := Scalar.muli arg1 c1_i32_53
  let v283 : BitVec 32 := Scalar.addi v282 c0_i32_54
  let v284 : Index := Scalar.indexCast v283
  let c64_55 : Index := 64#32
  let c0_56 : Index := 0#32
  ![v284.toNat, 64, 0]
def k0_off7 (i : grid0.Coords) (c0_i32_80 : BitVec 32) : Fin 3 → Nat :=
  let arg1 : BitVec 32 := BitVec.ofNat 32 (i 1).val
  let c1_i32_79 : BitVec 32 := 1#32
  let v323 : BitVec 32 := Scalar.muli arg1 c1_i32_79
  let v324 : BitVec 32 := Scalar.addi v323 c0_i32_80
  let v325 : Index := Scalar.indexCast v324
  let c128_81 : Index := 128#32
  let c0_82 : Index := 0#32
  ![v325.toNat, 128, 0]
def k0_off8 (i : grid0.Coords) (c0_i32_106 : BitVec 32) : Fin 3 → Nat :=
  let arg1 : BitVec 32 := BitVec.ofNat 32 (i 1).val
  let c1_i32_105 : BitVec 32 := 1#32
  let v364 : BitVec 32 := Scalar.muli arg1 c1_i32_105
  let v365 : BitVec 32 := Scalar.addi v364 c0_i32_106
  let v366 : Index := Scalar.indexCast v365
  let c192_107 : Index := 192#32
  let c0_108 : Index := 0#32
  ![v366.toNat, 192, 0]
def k0_off9 (i : grid0.Coords) : Fin 2 → Nat :=
  let arg1 : BitVec 32 := BitVec.ofNat 32 (i 1).val
  let c128_i32 : BitVec 32 := 128#32
  let v3 : BitVec 32 := Scalar.muli arg1 c128_i32
  let v4 : BitVec 32 := v3
  let v425 : Index := Scalar.indexCast v4
  let c256 : Index := 256#32
  ![v425.toNat, 256]
def k0_off10 (i : grid0.Coords) : Fin 2 → Nat :=
  let arg1 : BitVec 32 := BitVec.ofNat 32 (i 1).val
  let c128_i32 : BitVec 32 := 128#32
  let v3 : BitVec 32 := Scalar.muli arg1 c128_i32
  let v4 : BitVec 32 := v3
  let v433 : Index := Scalar.indexCast v4
  let c320 : Index := 320#32
  ![v433.toNat, 320]
def k0_off11 (i : grid0.Coords) : Fin 2 → Nat :=
  let arg1 : BitVec 32 := BitVec.ofNat 32 (i 1).val
  let c128_i32 : BitVec 32 := 128#32
  let v3 : BitVec 32 := Scalar.muli arg1 c128_i32
  let v4 : BitVec 32 := v3
  let v441 : Index := Scalar.indexCast v4
  let c384 : Index := 384#32
  ![v441.toNat, 384]
def k0_off12 (i : grid0.Coords) : Fin 2 → Nat :=
  let arg1 : BitVec 32 := BitVec.ofNat 32 (i 1).val
  let c128_i32 : BitVec 32 := 128#32
  let v3 : BitVec 32 := Scalar.muli arg1 c128_i32
  let v4 : BitVec 32 := v3
  let v449 : Index := Scalar.indexCast v4
  let c448 : Index := 448#32
  ![v449.toNat, 448]
def k0_off13 (i : grid0.Coords) (c0_i32_164 : BitVec 32) : Fin 3 → Nat :=
  let arg1 : BitVec 32 := BitVec.ofNat 32 (i 1).val
  let c1_i32_163 : BitVec 32 := 1#32
  let v649 : BitVec 32 := Scalar.muli arg1 c1_i32_163
  let v650 : BitVec 32 := Scalar.addi v649 c0_i32_164
  let v651 : Index := Scalar.indexCast v650
  let c256_165 : Index := 256#32
  let c0_166 : Index := 0#32
  ![v651.toNat, 256, 0]
def k0_off14 (i : grid0.Coords) (c0_i32_190 : BitVec 32) : Fin 3 → Nat :=
  let arg1 : BitVec 32 := BitVec.ofNat 32 (i 1).val
  let c1_i32_189 : BitVec 32 := 1#32
  let v690 : BitVec 32 := Scalar.muli arg1 c1_i32_189
  let v691 : BitVec 32 := Scalar.addi v690 c0_i32_190
  let v692 : Index := Scalar.indexCast v691
  let c320_191 : Index := 320#32
  let c0_192 : Index := 0#32
  ![v692.toNat, 320, 0]
def k0_off15 (i : grid0.Coords) (c0_i32_216 : BitVec 32) : Fin 3 → Nat :=
  let arg1 : BitVec 32 := BitVec.ofNat 32 (i 1).val
  let c1_i32_215 : BitVec 32 := 1#32
  let v731 : BitVec 32 := Scalar.muli arg1 c1_i32_215
  let v732 : BitVec 32 := Scalar.addi v731 c0_i32_216
  let v733 : Index := Scalar.indexCast v732
  let c384_217 : Index := 384#32
  let c0_218 : Index := 0#32
  ![v733.toNat, 384, 0]
def k0_off16 (i : grid0.Coords) (c0_i32_242 : BitVec 32) : Fin 3 → Nat :=
  let arg1 : BitVec 32 := BitVec.ofNat 32 (i 1).val
  let c1_i32_241 : BitVec 32 := 1#32
  let v772 : BitVec 32 := Scalar.muli arg1 c1_i32_241
  let v773 : BitVec 32 := Scalar.addi v772 c0_i32_242
  let v774 : Index := Scalar.indexCast v773
  let c448_243 : Index := 448#32
  let c0_244 : Index := 0#32
  ![v774.toNat, 448, 0]
def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S8x640x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S16384x512 : Shape := ⟨2, ![16384, 512]⟩
abbrev S257x8 : Shape := ⟨2, ![257, 8]⟩
abbrev S8x2048x8x64 : Shape := ⟨4, ![8, 2048, 8, 64]⟩
abbrev S8x32x64x8x64 : Shape := ⟨5, ![8, 32, 64, 8, 64]⟩
abbrev S_ : Shape := ⟨0, ![]⟩
abbrev S8x40x64x8x64 : Shape := ⟨5, ![8, 40, 64, 8, 64]⟩
abbrev S8x32x1x64x8x64 : Shape := ⟨6, ![8, 32, 1, 64, 8, 64]⟩
abbrev S8x32x9x64x8x64 : Shape := ⟨6, ![8, 32, 9, 64, 8, 64]⟩
abbrev S8x32x576x8x64 : Shape := ⟨5, ![8, 32, 576, 8, 64]⟩
abbrev S576 : Shape := ⟨1, ![576]⟩
abbrev S64 : Shape := ⟨1, ![64]⟩
abbrev S1x576 : Shape := ⟨2, ![1, 576]⟩
abbrev S64x1 : Shape := ⟨2, ![64, 1]⟩
abbrev S64x576 : Shape := ⟨2, ![64, 576]⟩
abbrev S64x576x1 : Shape := ⟨3, ![64, 576, 1]⟩
abbrev S64x576x8 : Shape := ⟨3, ![64, 576, 8]⟩
abbrev S8x64x576 : Shape := ⟨3, ![8, 64, 576]⟩
abbrev S32 : Shape := ⟨1, ![32]⟩
abbrev S32x1 : Shape := ⟨2, ![32, 1]⟩
abbrev S32x576 : Shape := ⟨2, ![32, 576]⟩
abbrev S8x32x8x64x576 : Shape := ⟨5, ![8, 32, 8, 64, 576]⟩
abbrev S1x1x8x64x576 : Shape := ⟨5, ![1, 1, 8, 64, 576]⟩
abbrev S1x32x1x1x576 : Shape := ⟨5, ![1, 32, 1, 1, 576]⟩
abbrev S8x32x8x64 : Shape := ⟨4, ![8, 32, 8, 64]⟩
abbrev S8x32x8x64x1 : Shape := ⟨5, ![8, 32, 8, 64, 1]⟩
abbrev S8x32x8x64x64 : Shape := ⟨5, ![8, 32, 8, 64, 64]⟩

abbrev nBuf : Space → Nat
  | .hbm => 147
  | .vmem => 0
  | .smem => 0
  | _ => 0

abbrev hbmTy0_0 (i : Nat) : BufTy := match i % 128 with
  | 0 => ⟨S16384x512, .f32⟩
  | 1 => ⟨S16384x512, .f32⟩
  | 2 => ⟨S16384x512, .f32⟩
  | 3 => ⟨S257x8, .f32⟩
  | 4 => ⟨S8x2048x8x64, .f32⟩
  | 5 => ⟨S8x2048x8x64, .f32⟩
  | 6 => ⟨S8x2048x8x64, .f32⟩
  | 7 => ⟨S8x32x64x8x64, .f32⟩
  | 8 => ⟨S8x32x64x8x64, .f32⟩
  | 9 => ⟨S_, .i32⟩
  | 10 => ⟨S_, .f32⟩
  | 11 => ⟨S8x40x64x8x64, .f32⟩
  | 12 => ⟨S8x32x64x8x64, .f32⟩
  | 13 => ⟨S8x32x64x8x64, .f32⟩
  | 14 => ⟨S8x32x64x8x64, .f32⟩
  | 15 => ⟨S8x32x64x8x64, .f32⟩
  | 16 => ⟨S8x32x64x8x64, .f32⟩
  | 17 => ⟨S8x32x64x8x64, .f32⟩
  | 18 => ⟨S8x32x64x8x64, .f32⟩
  | 19 => ⟨S8x32x64x8x64, .f32⟩
  | 20 => ⟨S8x32x64x8x64, .f32⟩
  | 21 => ⟨S8x32x1x64x8x64, .f32⟩
  | 22 => ⟨S8x32x1x64x8x64, .f32⟩
  | 23 => ⟨S8x32x1x64x8x64, .f32⟩
  | 24 => ⟨S8x32x1x64x8x64, .f32⟩
  | 25 => ⟨S8x32x1x64x8x64, .f32⟩
  | 26 => ⟨S8x32x1x64x8x64, .f32⟩
  | 27 => ⟨S8x32x1x64x8x64, .f32⟩
  | 28 => ⟨S8x32x1x64x8x64, .f32⟩
  | 29 => ⟨S8x32x1x64x8x64, .f32⟩
  | 30 => ⟨S8x32x9x64x8x64, .f32⟩
  | 31 => ⟨S8x32x576x8x64, .f32⟩
  | 32 => ⟨S8x32x64x8x64, .f32⟩
  | 33 => ⟨S_, .i32⟩
  | 34 => ⟨S_, .f32⟩
  | 35 => ⟨S8x40x64x8x64, .f32⟩
  | 36 => ⟨S8x32x64x8x64, .f32⟩
  | 37 => ⟨S8x32x64x8x64, .f32⟩
  | 38 => ⟨S8x32x64x8x64, .f32⟩
  | 39 => ⟨S8x32x64x8x64, .f32⟩
  | 40 => ⟨S8x32x64x8x64, .f32⟩
  | 41 => ⟨S8x32x64x8x64, .f32⟩
  | 42 => ⟨S8x32x64x8x64, .f32⟩
  | 43 => ⟨S8x32x64x8x64, .f32⟩
  | 44 => ⟨S8x32x64x8x64, .f32⟩
  | 45 => ⟨S8x32x1x64x8x64, .f32⟩
  | 46 => ⟨S8x32x1x64x8x64, .f32⟩
  | 47 => ⟨S8x32x1x64x8x64, .f32⟩
  | 48 => ⟨S8x32x1x64x8x64, .f32⟩
  | 49 => ⟨S8x32x1x64x8x64, .f32⟩
  | 50 => ⟨S8x32x1x64x8x64, .f32⟩
  | 51 => ⟨S8x32x1x64x8x64, .f32⟩
  | 52 => ⟨S8x32x1x64x8x64, .f32⟩
  | 53 => ⟨S8x32x1x64x8x64, .f32⟩
  | 54 => ⟨S8x32x9x64x8x64, .f32⟩
  | 55 => ⟨S8x32x576x8x64, .f32⟩
  | 56 => ⟨S576, .i32⟩
  | 57 => ⟨S64, .i32⟩
  | 58 => ⟨S1x576, .i32⟩
  | 59 => ⟨S_, .i32⟩
  | 60 => ⟨S1x576, .i32⟩
  | 61 => ⟨S1x576, .i32⟩
  | 62 => ⟨S64x1, .i32⟩
  | 63 => ⟨S64x576, .i32⟩
  | 64 => ⟨S64x576, .i32⟩
  | 65 => ⟨S64x576, .i32⟩
  | 66 => ⟨S_, .i32⟩
  | 67 => ⟨S_, .i32⟩
  | 68 => ⟨S_, .i32⟩
  | 69 => ⟨S64x576, .i32⟩
  | 70 => ⟨S64x576, .i32⟩
  | 71 => ⟨S_, .i32⟩
  | 72 => ⟨S64x576, .i32⟩
  | 73 => ⟨S64x576, .i32⟩
  | 74 => ⟨S_, .i32⟩
  | 75 => ⟨S64x576, .i32⟩
  | 76 => ⟨S64x576, .i32⟩
  | 77 => ⟨S_, .i32⟩
  | 78 => ⟨S64x576, .i32⟩
  | 79 => ⟨S64x576, .i1⟩
  | 80 => ⟨S_, .i32⟩
  | 81 => ⟨S64x576, .i32⟩
  | 82 => ⟨S64x576, .i32⟩
  | 83 => ⟨S64x576, .i32⟩
  | 84 => ⟨S64x576x1, .i32⟩
  | 85 => ⟨S64x576x8, .f32⟩
  | 86 => ⟨S8x64x576, .f32⟩
  | 87 => ⟨S32, .i32⟩
  | 88 => ⟨S32x1, .i32⟩
  | 89 => ⟨S_, .i32⟩
  | 90 => ⟨S32x1, .i32⟩
  | 91 => ⟨S32x1, .i32⟩
  | 92 => ⟨S1x576, .i32⟩
  | 93 => ⟨S_, .i32⟩
  | 94 => ⟨S_, .i32⟩
  | 95 => ⟨S1x576, .i32⟩
  | 96 => ⟨S1x576, .i32⟩
  | 97 => ⟨S1x576, .i32⟩
  | 98 => ⟨S_, .i32⟩
  | 99 => ⟨S1x576, .i32⟩
  | 100 => ⟨S1x576, .i1⟩
  | 101 => ⟨S1x576, .i32⟩
  | 102 => ⟨S1x576, .i32⟩
  | 103 => ⟨S_, .i32⟩
  | 104 => ⟨S1x576, .i32⟩
  | 105 => ⟨S1x576, .i1⟩
  | 106 => ⟨S1x576, .i1⟩
  | 107 => ⟨S_, .i32⟩
  | 108 => ⟨S1x576, .i32⟩
  | 109 => ⟨S1x576, .i32⟩
  | 110 => ⟨S1x576, .i32⟩
  | 111 => ⟨S32x576, .i32⟩
  | 112 => ⟨S32x576, .i32⟩
  | 113 => ⟨S32x576, .i32⟩
  | 114 => ⟨S_, .i32⟩
  | 115 => ⟨S32x576, .i32⟩
  | 116 => ⟨S32x576, .i1⟩
  | 117 => ⟨S8x32x8x64x576, .f32⟩
  | 118 => ⟨S_, .f32⟩
  | 119 => ⟨S8x32x8x64x576, .f32⟩
  | 120 => ⟨S8x32x8x64x576, .f32⟩
  | 121 => ⟨S1x1x8x64x576, .f32⟩
  | 122 => ⟨S8x32x8x64x576, .f32⟩
  | 123 => ⟨S8x32x8x64x576, .f32⟩
  | 124 => ⟨S1x32x1x1x576, .i1⟩
  | 125 => ⟨S_, .f32⟩
  | 126 => ⟨S_, .f32⟩
  | 127 => ⟨S8x32x8x64x576, .i1⟩
  | _ => ⟨S16384x512, .f32⟩

abbrev hbmTy0_1 (i : Nat) : BufTy := match i % 128 with
  | 0 => ⟨S8x32x8x64x576, .f32⟩
  | 1 => ⟨S8x32x8x64x576, .f32⟩
  | 2 => ⟨S_, .f32⟩
  | 3 => ⟨S8x32x8x64, .f32⟩
  | 4 => ⟨S_, .f32⟩
  | 5 => ⟨S8x32x8x64, .f32⟩
  | 6 => ⟨S8x32x8x64, .f32⟩
  | 7 => ⟨S8x32x8x64x1, .f32⟩
  | 8 => ⟨S8x32x8x64x576, .f32⟩
  | 9 => ⟨S8x32x8x64x576, .f32⟩
  | 10 => ⟨S8x32x8x64x576, .f32⟩
  | 11 => ⟨S_, .f32⟩
  | 12 => ⟨S8x32x8x64, .f32⟩
  | 13 => ⟨S8x32x8x64x1, .f32⟩
  | 14 => ⟨S8x32x8x64x576, .f32⟩
  | 15 => ⟨S8x32x8x64x576, .f32⟩
  | 16 => ⟨S8x32x8x64x64, .f32⟩
  | 17 => ⟨S8x32x64x8x64, .f32⟩
  | 18 => ⟨S16384x512, .f32⟩
  | _ => ⟨S16384x512, .f32⟩

abbrev hbmTy (i : Nat) : BufTy := match i / 128 with
  | 0 => hbmTy0_0 i
  | 1 => hbmTy0_1 i
  | _ => ⟨S16384x512, .f32⟩

abbrev bufTy : (tb : Table) → Fin (tcTables nBuf tb) → BufTy
  | .hbm, ⟨i, _⟩ => hbmTy i
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_call0_v0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_c_0 : Ref sig .tc := ⟨.hbm, 33, rfl⟩
abbrev main_call1_v0 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_c_1 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_c_2 : Ref sig .tc := ⟨.hbm, 66, rfl⟩
abbrev main_c_3 : Ref sig .tc := ⟨.hbm, 67, rfl⟩
abbrev main_call2_v0 : Ref sig .tc := ⟨.hbm, 68, rfl⟩
abbrev main_call2_v1 : Ref sig .tc := ⟨.hbm, 69, rfl⟩
abbrev main_call2_v2 : Ref sig .tc := ⟨.hbm, 70, rfl⟩
abbrev main_call2_v3 : Ref sig .tc := ⟨.hbm, 71, rfl⟩
abbrev main_call2_v4 : Ref sig .tc := ⟨.hbm, 72, rfl⟩
abbrev main_v57 : Ref sig .tc := ⟨.hbm, 73, rfl⟩
abbrev main_c_4 : Ref sig .tc := ⟨.hbm, 74, rfl⟩
abbrev main_v58 : Ref sig .tc := ⟨.hbm, 75, rfl⟩
abbrev main_v59 : Ref sig .tc := ⟨.hbm, 76, rfl⟩
abbrev main_c_5 : Ref sig .tc := ⟨.hbm, 77, rfl⟩
abbrev main_v60 : Ref sig .tc := ⟨.hbm, 78, rfl⟩
abbrev main_v61 : Ref sig .tc := ⟨.hbm, 79, rfl⟩
abbrev main_c_6 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_c_7 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_c_8 : Ref sig .tc := ⟨.hbm, 93, rfl⟩
abbrev main_call3_v0 : Ref sig .tc := ⟨.hbm, 94, rfl⟩
abbrev main_call3_v1 : Ref sig .tc := ⟨.hbm, 95, rfl⟩
abbrev main_call3_v2 : Ref sig .tc := ⟨.hbm, 96, rfl⟩
abbrev main_call3_v3 : Ref sig .tc := ⟨.hbm, 97, rfl⟩
abbrev main_call3_v4 : Ref sig .tc := ⟨.hbm, 98, rfl⟩
abbrev main_call3_v5 : Ref sig .tc := ⟨.hbm, 99, rfl⟩
abbrev main_call3_v6 : Ref sig .tc := ⟨.hbm, 100, rfl⟩
abbrev main_call3_v7 : Ref sig .tc := ⟨.hbm, 101, rfl⟩
abbrev main_call3_v8 : Ref sig .tc := ⟨.hbm, 102, rfl⟩
abbrev main_call3_c : Ref sig .tc := ⟨.hbm, 103, rfl⟩
abbrev main_call3_v9 : Ref sig .tc := ⟨.hbm, 104, rfl⟩
abbrev main_call3_v10 : Ref sig .tc := ⟨.hbm, 105, rfl⟩
abbrev main_call3_v11 : Ref sig .tc := ⟨.hbm, 106, rfl⟩
abbrev main_call3_c_0 : Ref sig .tc := ⟨.hbm, 107, rfl⟩
abbrev main_call3_v12 : Ref sig .tc := ⟨.hbm, 108, rfl⟩
abbrev main_call3_v13 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_c_9 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_cst : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_cst_10 : Ref sig .tc := ⟨.hbm, 125, rfl⟩
abbrev main_call4_v0 : Ref sig .tc := ⟨.hbm, 126, rfl⟩
abbrev main_call4_v1 : Ref sig .tc := ⟨.hbm, 127, rfl⟩
abbrev main_call4_v2 : Ref sig .tc := ⟨.hbm, 128, rfl⟩
abbrev main_v86 : Ref sig .tc := ⟨.hbm, 129, rfl⟩
abbrev main_cst_11 : Ref sig .tc := ⟨.hbm, 130, rfl⟩
abbrev main_v87 : Ref sig .tc := ⟨.hbm, 131, rfl⟩
abbrev main_cst_12 : Ref sig .tc := ⟨.hbm, 132, rfl⟩
abbrev main_v88 : Ref sig .tc := ⟨.hbm, 133, rfl⟩
abbrev main_v89 : Ref sig .tc := ⟨.hbm, 134, rfl⟩
abbrev main_v90 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩
abbrev main_cst_13 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩

abbrev nD : Nat := 1
abbrev τ : Topo := Topo.v7x

variable {F : FTy → Type} [FloatOps F]
-- ==== Kernel2.lean ====
abbrev S1024x1024 : Shape := ⟨2, ![1024, 1024]⟩
abbrev S32x2x5632 : Shape := ⟨3, ![32, 2, 5632]⟩
abbrev S1024x5632 : Shape := ⟨2, ![1024, 5632]⟩
abbrev S3x5632 : Shape := ⟨2, ![3, 5632]⟩
abbrev S1024x2816 : Shape := ⟨2, ![1024, 2816]⟩
abbrev S256x1024 : Shape := ⟨2, ![256, 1024]⟩
abbrev S8x2x5632 : Shape := ⟨3, ![8, 2, 5632]⟩
abbrev S256x2816 : Shape := ⟨2, ![256, 2816]⟩
abbrev S8x40x5632 : Shape := ⟨3, ![8, 40, 5632]⟩
abbrev S1024x256 : Shape := ⟨2, ![1024, 256]⟩
abbrev S256x256 : Shape := ⟨2, ![256, 256]⟩
abbrev S8x32x256 : Shape := ⟨3, ![8, 32, 256]⟩
abbrev S1x256 : Shape := ⟨2, ![1, 256]⟩
abbrev S1x1x256 : Shape := ⟨3, ![1, 1, 256]⟩

abbrev nBuf : Space → Nat
  | .hbm => 7
  | .vmem => 11
  | .smem => 0
  | _ => 0

abbrev bufTy : (tb : Table) → Fin (tcTables nBuf tb) → BufTy
  | .hbm, ⟨0, _⟩ => ⟨S1024x1024, .f32⟩
  | .hbm, ⟨1, _⟩ => ⟨S32x2x5632, .f32⟩
  | .hbm, ⟨2, _⟩ => ⟨S1024x5632, .f32⟩
  | .hbm, ⟨3, _⟩ => ⟨S3x5632, .f32⟩
  | .hbm, ⟨4, _⟩ => ⟨S1024x5632, .bf16⟩
  | .hbm, ⟨5, _⟩ => ⟨S1024x2816, .bf16⟩
  | .hbm, ⟨6, _⟩ => ⟨S32x2x5632, .f32⟩
  | .local _ .vmem, ⟨0, _⟩ => ⟨S256x1024, .f32⟩
  | .local _ .vmem, ⟨1, _⟩ => ⟨S256x1024, .f32⟩
  | .local _ .vmem, ⟨2, _⟩ => ⟨S1024x5632, .bf16⟩
  | .local _ .vmem, ⟨3, _⟩ => ⟨S3x5632, .f32⟩
  | .local _ .vmem, ⟨4, _⟩ => ⟨S8x2x5632, .f32⟩
  | .local _ .vmem, ⟨5, _⟩ => ⟨S8x2x5632, .f32⟩
  | .local _ .vmem, ⟨6, _⟩ => ⟨S256x2816, .bf16⟩
  | .local _ .vmem, ⟨7, _⟩ => ⟨S256x2816, .bf16⟩
  | .local _ .vmem, ⟨8, _⟩ => ⟨S8x2x5632, .f32⟩
  | .local _ .vmem, ⟨9, _⟩ => ⟨S8x2x5632, .f32⟩
  | .local _ .vmem, ⟨10, _⟩ => ⟨S8x40x5632, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x5632 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3x5632 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8x2x5632 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x2x5632 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference2Ideal.lean ====
abbrev S1024x1024 : Shape := ⟨2, ![1024, 1024]⟩
abbrev S32x2x5632 : Shape := ⟨3, ![32, 2, 5632]⟩
abbrev S1024x5632 : Shape := ⟨2, ![1024, 5632]⟩
abbrev S3x5632 : Shape := ⟨2, ![3, 5632]⟩
abbrev S32x32x5632 : Shape := ⟨3, ![32, 32, 5632]⟩
abbrev S32x34x5632 : Shape := ⟨3, ![32, 34, 5632]⟩
abbrev S1x5632 : Shape := ⟨2, ![1, 5632]⟩
abbrev S5632 : Shape := ⟨1, ![5632]⟩
abbrev S1x1x5632 : Shape := ⟨3, ![1, 1, 5632]⟩
abbrev S_ : Shape := ⟨0, ![]⟩
abbrev S32x32x2816 : Shape := ⟨3, ![32, 32, 2816]⟩
abbrev S1024x2816 : Shape := ⟨2, ![1024, 2816]⟩

abbrev nBuf : Space → Nat
  | .hbm => 45
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S32x2x5632, .f32⟩
  | .hbm, ⟨2, _⟩ => ⟨S1024x5632, .f32⟩
  | .hbm, ⟨3, _⟩ => ⟨S3x5632, .f32⟩
  | .hbm, ⟨4, _⟩ => ⟨S1024x5632, .f32⟩
  | .hbm, ⟨5, _⟩ => ⟨S32x32x5632, .f32⟩
  | .hbm, ⟨6, _⟩ => ⟨S32x34x5632, .f32⟩
  | .hbm, ⟨7, _⟩ => ⟨S32x32x5632, .f32⟩
  | .hbm, ⟨8, _⟩ => ⟨S1x5632, .f32⟩
  | .hbm, ⟨9, _⟩ => ⟨S5632, .f32⟩
  | .hbm, ⟨10, _⟩ => ⟨S1x1x5632, .f32⟩
  | .hbm, ⟨11, _⟩ => ⟨S32x32x5632, .f32⟩
  | .hbm, ⟨12, _⟩ => ⟨S32x32x5632, .f32⟩
  | .hbm, ⟨13, _⟩ => ⟨S_, .f32⟩
  | .hbm, ⟨14, _⟩ => ⟨S32x32x5632, .f32⟩
  | .hbm, ⟨15, _⟩ => ⟨S32x32x5632, .f32⟩
  | .hbm, ⟨16, _⟩ => ⟨S32x32x5632, .f32⟩
  | .hbm, ⟨17, _⟩ => ⟨S1x5632, .f32⟩
  | .hbm, ⟨18, _⟩ => ⟨S5632, .f32⟩
  | .hbm, ⟨19, _⟩ => ⟨S1x1x5632, .f32⟩
  | .hbm, ⟨20, _⟩ => ⟨S32x32x5632, .f32⟩
  | .hbm, ⟨21, _⟩ => ⟨S32x32x5632, .f32⟩
  | .hbm, ⟨22, _⟩ => ⟨S32x32x5632, .f32⟩
  | .hbm, ⟨23, _⟩ => ⟨S32x32x5632, .f32⟩
  | .hbm, ⟨24, _⟩ => ⟨S1x5632, .f32⟩
  | .hbm, ⟨25, _⟩ => ⟨S5632, .f32⟩
  | .hbm, ⟨26, _⟩ => ⟨S1x1x5632, .f32⟩
  | .hbm, ⟨27, _⟩ => ⟨S32x32x5632, .f32⟩
  | .hbm, ⟨28, _⟩ => ⟨S32x32x5632, .f32⟩
  | .hbm, ⟨29, _⟩ => ⟨S32x32x5632, .f32⟩
  | .hbm, ⟨30, _⟩ => ⟨S32x2x5632, .f32⟩
  | .hbm, ⟨31, _⟩ => ⟨S32x32x2816, .f32⟩
  | .hbm, ⟨32, _⟩ => ⟨S32x32x2816, .f32⟩
  | .hbm, ⟨33, _⟩ => ⟨S32x32x2816, .f32⟩
  | .hbm, ⟨34, _⟩ => ⟨S32x32x2816, .f32⟩
  | .hbm, ⟨35, _⟩ => ⟨S_, .f32⟩
  | .hbm, ⟨36, _⟩ => ⟨S32x32x2816, .f32⟩
  | .hbm, ⟨37, _⟩ => ⟨S32x32x2816, .f32⟩
  | .hbm, ⟨38, _⟩ => ⟨S_, .f32⟩
  | .hbm, ⟨39, _⟩ => ⟨S32x32x2816, .f32⟩
  | .hbm, ⟨40, _⟩ => ⟨S32x32x2816, .f32⟩
  | .hbm, ⟨41, _⟩ => ⟨S32x32x2816, .f32⟩
  | .hbm, ⟨42, _⟩ => ⟨S32x32x2816, .f32⟩
  | .hbm, ⟨43, _⟩ => ⟨S1024x2816, .f32⟩
  | .hbm, ⟨44, _⟩ => ⟨S1024x2816, .bf16⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_call0_v0 : Ref sig .tc := ⟨.hbm, 33, rfl⟩
abbrev main_call0_v1 : Ref sig .tc := ⟨.hbm, 34, rfl⟩
abbrev main_call0_cst : Ref sig .tc := ⟨.hbm, 35, rfl⟩
abbrev main_call0_v2 : Ref sig .tc := ⟨.hbm, 36, rfl⟩
abbrev main_call0_v3 : Ref sig .tc := ⟨.hbm, 37, rfl⟩
abbrev main_call0_cst_0 : Ref sig .tc := ⟨.hbm, 38, rfl⟩
abbrev main_call0_v4 : Ref sig .tc := ⟨.hbm, 39, rfl⟩
abbrev main_call0_v5 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩

abbrev nD : Nat := 1
abbrev τ : Topo := Topo.v7x

variable {F : FTy → Type} [FloatOps F]
-- ==== Kernel3.lean ====
abbrev S16384x2816 : Shape := ⟨2, ![16384, 2816]⟩
abbrev S2816x1024 : Shape := ⟨2, ![2816, 1024]⟩
abbrev S16384x1024 : Shape := ⟨2, ![16384, 1024]⟩
abbrev S1024 : Shape := ⟨1, ![1024]⟩
abbrev S1x1024 : Shape := ⟨2, ![1, 1024]⟩
abbrev S1024x2816 : Shape := ⟨2, ![1024, 2816]⟩
abbrev S1024x1024 : Shape := ⟨2, ![1024, 1024]⟩
abbrev S1024x1 : Shape := ⟨2, ![1024, 1]⟩

abbrev nBuf : Space → Nat
  | .hbm => 9
  | .vmem => 9
  | .smem => 0
  | _ => 0

abbrev bufTy : (tb : Table) → Fin (tcTables nBuf tb) → BufTy
  | .hbm, ⟨0, _⟩ => ⟨S16384x2816, .bf16⟩
  | .hbm, ⟨1, _⟩ => ⟨S2816x1024, .f32⟩
  | .hbm, ⟨2, _⟩ => ⟨S16384x1024, .f32⟩
  | .hbm, ⟨3, _⟩ => ⟨S1024, .f32⟩
  | .hbm, ⟨4, _⟩ => ⟨S1024, .f32⟩
  | .hbm, ⟨5, _⟩ => ⟨S2816x1024, .bf16⟩
  | .hbm, ⟨6, _⟩ => ⟨S1x1024, .f32⟩
  | .hbm, ⟨7, _⟩ => ⟨S1x1024, .f32⟩
  | .hbm, ⟨8, _⟩ => ⟨S16384x1024, .f32⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | _, _ => ⟨S16384x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference3Ideal.lean ====
abbrev S16384x2816 : Shape := ⟨2, ![16384, 2816]⟩
abbrev S2816x1024 : Shape := ⟨2, ![2816, 1024]⟩
abbrev S16384x1024 : Shape := ⟨2, ![16384, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 40
  | .vmem => 0
  | .smem => 0
  | _ => 0

abbrev bufTy : (tb : Table) → Fin (tcTables nBuf tb) → BufTy
  | .hbm, ⟨0, _⟩ => ⟨S16384x2816, .bf16⟩
  | .hbm, ⟨1, _⟩ => ⟨S2816x1024, .f32⟩
  | .hbm, ⟨2, _⟩ => ⟨S16384x1024, .f32⟩
  | .hbm, ⟨3, _⟩ => ⟨S1024, .f32⟩
  | .hbm, ⟨4, _⟩ => ⟨S1024, .f32⟩
  | .hbm, ⟨5, _⟩ => ⟨S_, .f32⟩
  | .hbm, ⟨6, _⟩ => ⟨S16384x1024, .f32⟩
  | .hbm, ⟨7, _⟩ => ⟨S16384x1024, .f32⟩
  | .hbm, ⟨8, _⟩ => ⟨S16384x2816, .f32⟩
  | .hbm, ⟨9, _⟩ => ⟨S16384x1024, .f32⟩
  | .hbm, ⟨10, _⟩ => ⟨S16384x1024, .f32⟩
  | .hbm, ⟨11, _⟩ => ⟨S_, .f32⟩
  | .hbm, ⟨12, _⟩ => ⟨S16384, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S16384x1024, .f32⟩
  | .hbm, ⟨18, _⟩ => ⟨S16384x1024, .f32⟩
  | .hbm, ⟨19, _⟩ => ⟨S16384x1024, .f32⟩
  | .hbm, ⟨20, _⟩ => ⟨S_, .f32⟩
  | .hbm, ⟨21, _⟩ => ⟨S16384, .f32⟩
  | .hbm, ⟨22, _⟩ => ⟨S16384x1, .f32⟩
  | .hbm, ⟨23, _⟩ => ⟨S_, .f32⟩
  | .hbm, ⟨24, _⟩ => ⟨S16384x1, .f32⟩
  | .hbm, ⟨25, _⟩ => ⟨S16384x1, .f32⟩
  | .hbm, ⟨26, _⟩ => ⟨S16384x1024, .f32⟩
  | .hbm, ⟨27, _⟩ => ⟨S16384x1024, .f32⟩
  | .hbm, ⟨28, _⟩ => ⟨S_, .f32⟩
  | .hbm, ⟨29, _⟩ => ⟨S16384x1, .f32⟩
  | .hbm, ⟨30, _⟩ => ⟨S16384x1, .f32⟩
  | .hbm, ⟨31, _⟩ => ⟨S16384x1, .f32⟩
  | .hbm, ⟨32, _⟩ => ⟨S16384x1024, .f32⟩
  | .hbm, ⟨33, _⟩ => ⟨S16384x1024, .f32⟩
  | .hbm, ⟨34, _⟩ => ⟨S1x1024, .f32⟩
  | .hbm, ⟨35, _⟩ => ⟨S16384x1024, .f32⟩
  | .hbm, ⟨36, _⟩ => ⟨S16384x1024, .f32⟩
  | .hbm, ⟨37, _⟩ => ⟨S1x1024, .f32⟩
  | .hbm, ⟨38, _⟩ => ⟨S16384x1024, .f32⟩
  | .hbm, ⟨39, _⟩ => ⟨S16384x1024, .f32⟩
  | _, _ => ⟨S16384x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩

abbrev nD : Nat := 1
abbrev τ : Topo := Topo.v7x

variable {F : FTy → Type} [FloatOps F]
-- ==== Kernel4.lean ====
abbrev S16384x512 : Shape := ⟨2, ![16384, 512]⟩
abbrev S1024x1024 : Shape := ⟨2, ![1024, 1024]⟩
abbrev S16384x1024 : Shape := ⟨2, ![16384, 1024]⟩
abbrev S1024 : Shape := ⟨1, ![1024]⟩
abbrev S512x1024 : Shape := ⟨2, ![512, 1024]⟩
abbrev S1x1024 : Shape := ⟨2, ![1, 1024]⟩
abbrev S1024x512 : Shape := ⟨2, ![1024, 512]⟩
abbrev S1024x1 : Shape := ⟨2, ![1024, 1]⟩

abbrev nBuf : Space → Nat
  | .hbm => 12
  | .vmem => 12
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S1024x1024, .f32⟩
  | .hbm, ⟨3, _⟩ => ⟨S16384x1024, .f32⟩
  | .hbm, ⟨4, _⟩ => ⟨S1024, .f32⟩
  | .hbm, ⟨5, _⟩ => ⟨S1024, .f32⟩
  | .hbm, ⟨6, _⟩ => ⟨S1024x1024, .bf16⟩
  | .hbm, ⟨7, _⟩ => ⟨S512x1024, .bf16⟩
  | .hbm, ⟨8, _⟩ => ⟨S512x1024, .bf16⟩
  | .hbm, ⟨9, _⟩ => ⟨S1x1024, .f32⟩
  | .hbm, ⟨10, _⟩ => ⟨S1x1024, .f32⟩
  | .hbm, ⟨11, _⟩ => ⟨S16384x1024, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S512x1024, .bf16⟩
  | .local _ .vmem, ⟨5, _⟩ => ⟨S512x1024, .bf16⟩
  | .local _ .vmem, ⟨6, _⟩ => ⟨S1024x1024, .f32⟩
  | .local _ .vmem, ⟨7, _⟩ => ⟨S1024x1024, .f32⟩
  | .local _ .vmem, ⟨8, _⟩ => ⟨S1x1024, .f32⟩
  | .local _ .vmem, ⟨9, _⟩ => ⟨S1x1024, .f32⟩
  | .local _ .vmem, ⟨10, _⟩ => ⟨S1024x1024, .f32⟩
  | .local _ .vmem, ⟨11, _⟩ => ⟨S1024x1024, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference4Ideal.lean ====
abbrev S16384x512 : Shape := ⟨2, ![16384, 512]⟩
abbrev S1024x1024 : Shape := ⟨2, ![1024, 1024]⟩
abbrev S16384x1024 : Shape := ⟨2, ![16384, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 41
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S1024x1024, .f32⟩
  | .hbm, ⟨3, _⟩ => ⟨S16384x1024, .f32⟩
  | .hbm, ⟨4, _⟩ => ⟨S1024, .f32⟩
  | .hbm, ⟨5, _⟩ => ⟨S1024, .f32⟩
  | .hbm, ⟨6, _⟩ => ⟨S_, .f32⟩
  | .hbm, ⟨7, _⟩ => ⟨S16384x1024, .f32⟩
  | .hbm, ⟨8, _⟩ => ⟨S16384x1024, .f32⟩
  | .hbm, ⟨9, _⟩ => ⟨S16384x1024, .f32⟩
  | .hbm, ⟨10, _⟩ => ⟨S16384x1024, .f32⟩
  | .hbm, ⟨11, _⟩ => ⟨S16384x1024, .f32⟩
  | .hbm, ⟨12, _⟩ => ⟨S_, .f32⟩
  | .hbm, ⟨13, _⟩ => ⟨S16384, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S16384x1024, .f32⟩
  | .hbm, ⟨19, _⟩ => ⟨S16384x1024, .f32⟩
  | .hbm, ⟨20, _⟩ => ⟨S16384x1024, .f32⟩
  | .hbm, ⟨21, _⟩ => ⟨S_, .f32⟩
  | .hbm, ⟨22, _⟩ => ⟨S16384, .f32⟩
  | .hbm, ⟨23, _⟩ => ⟨S16384x1, .f32⟩
  | .hbm, ⟨24, _⟩ => ⟨S_, .f32⟩
  | .hbm, ⟨25, _⟩ => ⟨S16384x1, .f32⟩
  | .hbm, ⟨26, _⟩ => ⟨S16384x1, .f32⟩
  | .hbm, ⟨27, _⟩ => ⟨S16384x1024, .f32⟩
  | .hbm, ⟨28, _⟩ => ⟨S16384x1024, .f32⟩
  | .hbm, ⟨29, _⟩ => ⟨S_, .f32⟩
  | .hbm, ⟨30, _⟩ => ⟨S16384x1, .f32⟩
  | .hbm, ⟨31, _⟩ => ⟨S16384x1, .f32⟩
  | .hbm, ⟨32, _⟩ => ⟨S16384x1, .f32⟩
  | .hbm, ⟨33, _⟩ => ⟨S16384x1024, .f32⟩
  | .hbm, ⟨34, _⟩ => ⟨S16384x1024, .f32⟩
  | .hbm, ⟨35, _⟩ => ⟨S1x1024, .f32⟩
  | .hbm, ⟨36, _⟩ => ⟨S16384x1024, .f32⟩
  | .hbm, ⟨37, _⟩ => ⟨S16384x1024, .f32⟩
  | .hbm, ⟨38, _⟩ => ⟨S1x1024, .f32⟩
  | .hbm, ⟨39, _⟩ => ⟨S16384x1024, .f32⟩
  | .hbm, ⟨40, _⟩ => ⟨S16384x1024, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_4 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩

abbrev nD : Nat := 1
abbrev τ : Topo := Topo.v7x

variable {F : FTy → Type} [FloatOps F]
-- ==== Kernel5.lean ====
abbrev S16384x1024 : Shape := ⟨2, ![16384, 1024]⟩
abbrev S1024x3088 : Shape := ⟨2, ![1024, 3088]⟩
abbrev S1024x256 : Shape := ⟨2, ![1024, 256]⟩
abbrev S1024x512 : Shape := ⟨2, ![1024, 512]⟩
abbrev S1024x8 : Shape := ⟨2, ![1024, 8]⟩
abbrev S_ : Shape := ⟨0, ![]⟩
abbrev S1024x112 : Shape := ⟨2, ![1024, 112]⟩
abbrev S1024x3200 : Shape := ⟨2, ![1024, 3200]⟩
abbrev S16384x512 : Shape := ⟨2, ![16384, 512]⟩
abbrev S16384x128 : Shape := ⟨2, ![16384, 128]⟩
abbrev S512x1024 : Shape := ⟨2, ![512, 1024]⟩
abbrev S512x512 : Shape := ⟨2, ![512, 512]⟩
abbrev S512x128 : Shape := ⟨2, ![512, 128]⟩
abbrev S1024x128 : Shape := ⟨2, ![1024, 128]⟩

abbrev nBuf : Space → Nat
  | .hbm => 22
  | .vmem => 17
  | .smem => 0
  | _ => 0

abbrev bufTy : (tb : Table) → Fin (tcTables nBuf tb) → BufTy
  | .hbm, ⟨0, _⟩ => ⟨S16384x1024, .f32⟩
  | .hbm, ⟨1, _⟩ => ⟨S1024x3088, .f32⟩
  | .hbm, ⟨2, _⟩ => ⟨S1024x256, .f32⟩
  | .hbm, ⟨3, _⟩ => ⟨S1024x256, .f32⟩
  | .hbm, ⟨4, _⟩ => ⟨S1024x512, .f32⟩
  | .hbm, ⟨5, _⟩ => ⟨S1024x512, .f32⟩
  | .hbm, ⟨6, _⟩ => ⟨S1024x512, .f32⟩
  | .hbm, ⟨7, _⟩ => ⟨S1024x512, .f32⟩
  | .hbm, ⟨8, _⟩ => ⟨S1024x512, .f32⟩
  | .hbm, ⟨9, _⟩ => ⟨S1024x8, .f32⟩
  | .hbm, ⟨10, _⟩ => ⟨S1024x8, .f32⟩
  | .hbm, ⟨11, _⟩ => ⟨S_, .f32⟩
  | .hbm, ⟨12, _⟩ => ⟨S1024x112, .f32⟩
  | .hbm, ⟨13, _⟩ => ⟨S1024x3200, .f32⟩
  | .hbm, ⟨14, _⟩ => ⟨S1024x3200, .bf16⟩
  | .hbm, ⟨15, _⟩ => ⟨S16384x512, .f32⟩
  | .hbm, ⟨16, _⟩ => ⟨S16384x512, .f32⟩
  | .hbm, ⟨17, _⟩ => ⟨S16384x512, .f32⟩
  | .hbm, ⟨18, _⟩ => ⟨S16384x512, .f32⟩
  | .hbm, ⟨19, _⟩ => ⟨S16384x512, .f32⟩
  | .hbm, ⟨20, _⟩ => ⟨S16384x512, .f32⟩
  | .hbm, ⟨21, _⟩ => ⟨S16384x128, .f32⟩
  | .local _ .vmem, ⟨0, _⟩ => ⟨S512x1024, .f32⟩
  | .local _ .vmem, ⟨1, _⟩ => ⟨S512x1024, .f32⟩
  | .local _ .vmem, ⟨2, _⟩ => ⟨S1024x3200, .bf16⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x128, .f32⟩
  | .local _ .vmem, ⟨16, _⟩ => ⟨S512x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12_0 : Ref sig .tc := ⟨.hbm, 15, rfl⟩
abbrev main_v12_1 : Ref sig .tc := ⟨.hbm, 16, rfl⟩
abbrev main_v12_2 : Ref sig .tc := ⟨.hbm, 17, rfl⟩
abbrev main_v12_3 : Ref sig .tc := ⟨.hbm, 18, rfl⟩
abbrev main_v12_4 : Ref sig .tc := ⟨.hbm, 19, rfl⟩
abbrev main_v12_5 : Ref sig .tc := ⟨.hbm, 20, rfl⟩
abbrev main_v12_6 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3200 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Kernel5Ideal.lean ====
abbrev S16384x1024 : Shape := ⟨2, ![16384, 1024]⟩
abbrev S1024x3088 : Shape := ⟨2, ![1024, 3088]⟩
abbrev S1024x256 : Shape := ⟨2, ![1024, 256]⟩
abbrev S1024x512 : Shape := ⟨2, ![1024, 512]⟩
abbrev S1024x8 : Shape := ⟨2, ![1024, 8]⟩
abbrev S_ : Shape := ⟨0, ![]⟩
abbrev S1024x112 : Shape := ⟨2, ![1024, 112]⟩
abbrev S1024x3200 : Shape := ⟨2, ![1024, 3200]⟩
abbrev S16384x512 : Shape := ⟨2, ![16384, 512]⟩
abbrev S16384x128 : Shape := ⟨2, ![16384, 128]⟩
abbrev S512x1024 : Shape := ⟨2, ![512, 1024]⟩
abbrev S512x512 : Shape := ⟨2, ![512, 512]⟩
abbrev S512x128 : Shape := ⟨2, ![512, 128]⟩
abbrev S1024x128 : Shape := ⟨2, ![1024, 128]⟩

abbrev nBuf : Space → Nat
  | .hbm => 22
  | .vmem => 17
  | .smem => 0
  | _ => 0

abbrev bufTy : (tb : Table) → Fin (tcTables nBuf tb) → BufTy
  | .hbm, ⟨0, _⟩ => ⟨S16384x1024, .f32⟩
  | .hbm, ⟨1, _⟩ => ⟨S1024x3088, .f32⟩
  | .hbm, ⟨2, _⟩ => ⟨S1024x256, .f32⟩
  | .hbm, ⟨3, _⟩ => ⟨S1024x256, .f32⟩
  | .hbm, ⟨4, _⟩ => ⟨S1024x512, .f32⟩
  | .hbm, ⟨5, _⟩ => ⟨S1024x512, .f32⟩
  | .hbm, ⟨6, _⟩ => ⟨S1024x512, .f32⟩
  | .hbm, ⟨7, _⟩ => ⟨S1024x512, .f32⟩
  | .hbm, ⟨8, _⟩ => ⟨S1024x512, .f32⟩
  | .hbm, ⟨9, _⟩ => ⟨S1024x8, .f32⟩
  | .hbm, ⟨10, _⟩ => ⟨S1024x8, .f32⟩
  | .hbm, ⟨11, _⟩ => ⟨S_, .f32⟩
  | .hbm, ⟨12, _⟩ => ⟨S1024x112, .f32⟩
  | .hbm, ⟨13, _⟩ => ⟨S1024x3200, .f32⟩
  | .hbm, ⟨14, _⟩ => ⟨S1024x3200, .bf16⟩
  | .hbm, ⟨15, _⟩ => ⟨S16384x512, .f32⟩
  | .hbm, ⟨16, _⟩ => ⟨S16384x512, .f32⟩
  | .hbm, ⟨17, _⟩ => ⟨S16384x512, .f32⟩
  | .hbm, ⟨18, _⟩ => ⟨S16384x512, .f32⟩
  | .hbm, ⟨19, _⟩ => ⟨S16384x512, .f32⟩
  | .hbm, ⟨20, _⟩ => ⟨S16384x512, .f32⟩
  | .hbm, ⟨21, _⟩ => ⟨S16384x128, .f32⟩
  | .local _ .vmem, ⟨0, _⟩ => ⟨S512x1024, .f32⟩
  | .local _ .vmem, ⟨1, _⟩ => ⟨S512x1024, .f32⟩
  | .local _ .vmem, ⟨2, _⟩ => ⟨S1024x3200, .bf16⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x128, .f32⟩
  | .local _ .vmem, ⟨16, _⟩ => ⟨S512x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12_0 : Ref sig .tc := ⟨.hbm, 15, rfl⟩
abbrev main_v12_1 : Ref sig .tc := ⟨.hbm, 16, rfl⟩
abbrev main_v12_2 : Ref sig .tc := ⟨.hbm, 17, rfl⟩
abbrev main_v12_3 : Ref sig .tc := ⟨.hbm, 18, rfl⟩
abbrev main_v12_4 : Ref sig .tc := ⟨.hbm, 19, rfl⟩
abbrev main_v12_5 : Ref sig .tc := ⟨.hbm, 20, rfl⟩
abbrev main_v12_6 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3200 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference5Ideal.lean ====
abbrev S16384x1024 : Shape := ⟨2, ![16384, 1024]⟩
abbrev S1024x3088 : Shape := ⟨2, ![1024, 3088]⟩
abbrev S16384x3088 : Shape := ⟨2, ![16384, 3088]⟩
abbrev S16384x256 : Shape := ⟨2, ![16384, 256]⟩
abbrev S16384x512 : Shape := ⟨2, ![16384, 512]⟩
abbrev S16384x8 : Shape := ⟨2, ![16384, 8]⟩
abbrev S_ : Shape := ⟨0, ![]⟩
abbrev S16384x112 : Shape := ⟨2, ![16384, 112]⟩
abbrev S16384x128 : Shape := ⟨2, ![16384, 128]⟩

abbrev nBuf : Space → Nat
  | .hbm => 16
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x3088, .f32⟩
  | .hbm, ⟨2, _⟩ => ⟨S16384x3088, .f32⟩
  | .hbm, ⟨3, _⟩ => ⟨S16384x256, .f32⟩
  | .hbm, ⟨4, _⟩ => ⟨S16384x256, .f32⟩
  | .hbm, ⟨5, _⟩ => ⟨S16384x512, .f32⟩
  | .hbm, ⟨6, _⟩ => ⟨S16384x8, .f32⟩
  | .hbm, ⟨7, _⟩ => ⟨S16384x8, .f32⟩
  | .hbm, ⟨8, _⟩ => ⟨S16384x512, .f32⟩
  | .hbm, ⟨9, _⟩ => ⟨S16384x512, .f32⟩
  | .hbm, ⟨10, _⟩ => ⟨S16384x512, .f32⟩
  | .hbm, ⟨11, _⟩ => ⟨S16384x512, .f32⟩
  | .hbm, ⟨12, _⟩ => ⟨S16384x512, .f32⟩
  | .hbm, ⟨13, _⟩ => ⟨S_, .f32⟩
  | .hbm, ⟨14, _⟩ => ⟨S16384x112, .f32⟩
  | .hbm, ⟨15, _⟩ => ⟨S16384x128, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_cst : Ref sig .tc := ⟨.hbm, 13, rfl⟩
abbrev main_v11 : Ref sig .tc := ⟨.hbm, 14, rfl⟩
abbrev main_v12 : Ref sig .tc := ⟨.hbm, 15, rfl⟩

abbrev nD : Nat := 1
abbrev τ : Topo := Topo.v7x

variable {F : FTy → Type} [FloatOps F]
-- ==== Kernel6.lean ====
abbrev S16384x1024 : Shape := ⟨2, ![16384, 1024]⟩
abbrev S1024x4184 : Shape := ⟨2, ![1024, 4184]⟩
abbrev S1024x512 : Shape := ⟨2, ![1024, 512]⟩
abbrev S1024x1536 : Shape := ⟨2, ![1024, 1536]⟩
abbrev S1024x64 : Shape := ⟨2, ![1024, 64]⟩
abbrev S1024x8 : Shape := ⟨2, ![1024, 8]⟩
abbrev S_ : Shape := ⟨0, ![]⟩
abbrev S1024x40 : Shape := ⟨2, ![1024, 40]⟩
abbrev S1024x4224 : Shape := ⟨2, ![1024, 4224]⟩
abbrev S16384x512 : Shape := ⟨2, ![16384, 512]⟩
abbrev S16384x1536 : Shape := ⟨2, ![16384, 1536]⟩
abbrev S16384x128 : Shape := ⟨2, ![16384, 128]⟩
abbrev S512x1024 : Shape := ⟨2, ![512, 1024]⟩
abbrev S512x512 : Shape := ⟨2, ![512, 512]⟩
abbrev S512x1536 : Shape := ⟨2, ![512, 1536]⟩
abbrev S512x128 : Shape := ⟨2, ![512, 128]⟩
abbrev S1024x128 : Shape := ⟨2, ![1024, 128]⟩

abbrev nBuf : Space → Nat
  | .hbm => 23
  | .vmem => 17
  | .smem => 0
  | _ => 0

abbrev bufTy : (tb : Table) → Fin (tcTables nBuf tb) → BufTy
  | .hbm, ⟨0, _⟩ => ⟨S16384x1024, .f32⟩
  | .hbm, ⟨1, _⟩ => ⟨S1024x4184, .f32⟩
  | .hbm, ⟨2, _⟩ => ⟨S1024x512, .f32⟩
  | .hbm, ⟨3, _⟩ => ⟨S1024x512, .f32⟩
  | .hbm, ⟨4, _⟩ => ⟨S1024x512, .f32⟩
  | .hbm, ⟨5, _⟩ => ⟨S1024x512, .f32⟩
  | .hbm, ⟨6, _⟩ => ⟨S1024x1536, .f32⟩
  | .hbm, ⟨7, _⟩ => ⟨S1024x512, .f32⟩
  | .hbm, ⟨8, _⟩ => ⟨S1024x64, .f32⟩
  | .hbm, ⟨9, _⟩ => ⟨S1024x8, .f32⟩
  | .hbm, ⟨10, _⟩ => ⟨S1024x8, .f32⟩
  | .hbm, ⟨11, _⟩ => ⟨S1024x8, .f32⟩
  | .hbm, ⟨12, _⟩ => ⟨S_, .f32⟩
  | .hbm, ⟨13, _⟩ => ⟨S1024x40, .f32⟩
  | .hbm, ⟨14, _⟩ => ⟨S1024x4224, .f32⟩
  | .hbm, ⟨15, _⟩ => ⟨S1024x4224, .bf16⟩
  | .hbm, ⟨16, _⟩ => ⟨S16384x512, .f32⟩
  | .hbm, ⟨17, _⟩ => ⟨S16384x512, .f32⟩
  | .hbm, ⟨18, _⟩ => ⟨S16384x512, .f32⟩
  | .hbm, ⟨19, _⟩ => ⟨S16384x512, .f32⟩
  | .hbm, ⟨20, _⟩ => ⟨S16384x1536, .f32⟩
  | .hbm, ⟨21, _⟩ => ⟨S16384x512, .f32⟩
  | .hbm, ⟨22, _⟩ => ⟨S16384x128, .f32⟩
  | .local _ .vmem, ⟨0, _⟩ => ⟨S512x1024, .f32⟩
  | .local _ .vmem, ⟨1, _⟩ => ⟨S512x1024, .f32⟩
  | .local _ .vmem, ⟨2, _⟩ => ⟨S1024x4224, .bf16⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x1536, .f32⟩
  | .local _ .vmem, ⟨12, _⟩ => ⟨S512x1536, .f32⟩
  | .local _ .vmem, ⟨13, _⟩ => ⟨S512x512, .f32⟩
  | .local _ .vmem, ⟨14, _⟩ => ⟨S512x512, .f32⟩
  | .local _ .vmem, ⟨15, _⟩ => ⟨S512x128, .f32⟩
  | .local _ .vmem, ⟨16, _⟩ => ⟨S512x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13_0 : Ref sig .tc := ⟨.hbm, 16, rfl⟩
abbrev main_v13_1 : Ref sig .tc := ⟨.hbm, 17, rfl⟩
abbrev main_v13_2 : Ref sig .tc := ⟨.hbm, 18, rfl⟩
abbrev main_v13_3 : Ref sig .tc := ⟨.hbm, 19, rfl⟩
abbrev main_v13_4 : Ref sig .tc := ⟨.hbm, 20, rfl⟩
abbrev main_v13_5 : Ref sig .tc := ⟨.hbm, 21, rfl⟩
abbrev main_v13_6 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x4224 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Kernel6Ideal.lean ====
abbrev S16384x1024 : Shape := ⟨2, ![16384, 1024]⟩
abbrev S1024x4184 : Shape := ⟨2, ![1024, 4184]⟩
abbrev S1024x512 : Shape := ⟨2, ![1024, 512]⟩
abbrev S1024x1536 : Shape := ⟨2, ![1024, 1536]⟩
abbrev S1024x64 : Shape := ⟨2, ![1024, 64]⟩
abbrev S1024x8 : Shape := ⟨2, ![1024, 8]⟩
abbrev S_ : Shape := ⟨0, ![]⟩
abbrev S1024x40 : Shape := ⟨2, ![1024, 40]⟩
abbrev S1024x4224 : Shape := ⟨2, ![1024, 4224]⟩
abbrev S16384x512 : Shape := ⟨2, ![16384, 512]⟩
abbrev S16384x1536 : Shape := ⟨2, ![16384, 1536]⟩
abbrev S16384x128 : Shape := ⟨2, ![16384, 128]⟩
abbrev S512x1024 : Shape := ⟨2, ![512, 1024]⟩
abbrev S512x512 : Shape := ⟨2, ![512, 512]⟩
abbrev S512x1536 : Shape := ⟨2, ![512, 1536]⟩
abbrev S512x128 : Shape := ⟨2, ![512, 128]⟩
abbrev S1024x128 : Shape := ⟨2, ![1024, 128]⟩

abbrev nBuf : Space → Nat
  | .hbm => 23
  | .vmem => 17
  | .smem => 0
  | _ => 0

abbrev bufTy : (tb : Table) → Fin (tcTables nBuf tb) → BufTy
  | .hbm, ⟨0, _⟩ => ⟨S16384x1024, .f32⟩
  | .hbm, ⟨1, _⟩ => ⟨S1024x4184, .f32⟩
  | .hbm, ⟨2, _⟩ => ⟨S1024x512, .f32⟩
  | .hbm, ⟨3, _⟩ => ⟨S1024x512, .f32⟩
  | .hbm, ⟨4, _⟩ => ⟨S1024x512, .f32⟩
  | .hbm, ⟨5, _⟩ => ⟨S1024x512, .f32⟩
  | .hbm, ⟨6, _⟩ => ⟨S1024x1536, .f32⟩
  | .hbm, ⟨7, _⟩ => ⟨S1024x512, .f32⟩
  | .hbm, ⟨8, _⟩ => ⟨S1024x64, .f32⟩
  | .hbm, ⟨9, _⟩ => ⟨S1024x8, .f32⟩
  | .hbm, ⟨10, _⟩ => ⟨S1024x8, .f32⟩
  | .hbm, ⟨11, _⟩ => ⟨S1024x8, .f32⟩
  | .hbm, ⟨12, _⟩ => ⟨S_, .f32⟩
  | .hbm, ⟨13, _⟩ => ⟨S1024x40, .f32⟩
  | .hbm, ⟨14, _⟩ => ⟨S1024x4224, .f32⟩
  | .hbm, ⟨15, _⟩ => ⟨S1024x4224, .bf16⟩
  | .hbm, ⟨16, _⟩ => ⟨S16384x512, .f32⟩
  | .hbm, ⟨17, _⟩ => ⟨S16384x512, .f32⟩
  | .hbm, ⟨18, _⟩ => ⟨S16384x512, .f32⟩
  | .hbm, ⟨19, _⟩ => ⟨S16384x512, .f32⟩
  | .hbm, ⟨20, _⟩ => ⟨S16384x1536, .f32⟩
  | .hbm, ⟨21, _⟩ => ⟨S16384x512, .f32⟩
  | .hbm, ⟨22, _⟩ => ⟨S16384x128, .f32⟩
  | .local _ .vmem, ⟨0, _⟩ => ⟨S512x1024, .f32⟩
  | .local _ .vmem, ⟨1, _⟩ => ⟨S512x1024, .f32⟩
  | .local _ .vmem, ⟨2, _⟩ => ⟨S1024x4224, .bf16⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x1536, .f32⟩
  | .local _ .vmem, ⟨12, _⟩ => ⟨S512x1536, .f32⟩
  | .local _ .vmem, ⟨13, _⟩ => ⟨S512x512, .f32⟩
  | .local _ .vmem, ⟨14, _⟩ => ⟨S512x512, .f32⟩
  | .local _ .vmem, ⟨15, _⟩ => ⟨S512x128, .f32⟩
  | .local _ .vmem, ⟨16, _⟩ => ⟨S512x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13_0 : Ref sig .tc := ⟨.hbm, 16, rfl⟩
abbrev main_v13_1 : Ref sig .tc := ⟨.hbm, 17, rfl⟩
abbrev main_v13_2 : Ref sig .tc := ⟨.hbm, 18, rfl⟩
abbrev main_v13_3 : Ref sig .tc := ⟨.hbm, 19, rfl⟩
abbrev main_v13_4 : Ref sig .tc := ⟨.hbm, 20, rfl⟩
abbrev main_v13_5 : Ref sig .tc := ⟨.hbm, 21, rfl⟩
abbrev main_v13_6 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x4224 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference6Ideal.lean ====
abbrev S16384x1024 : Shape := ⟨2, ![16384, 1024]⟩
abbrev S1024x4184 : Shape := ⟨2, ![1024, 4184]⟩
abbrev S16384x4184 : Shape := ⟨2, ![16384, 4184]⟩
abbrev S16384x512 : Shape := ⟨2, ![16384, 512]⟩
abbrev S16384x64 : Shape := ⟨2, ![16384, 64]⟩
abbrev S16384x8 : Shape := ⟨2, ![16384, 8]⟩
abbrev S16384x1536 : Shape := ⟨2, ![16384, 1536]⟩
abbrev S_ : Shape := ⟨0, ![]⟩
abbrev S16384x40 : Shape := ⟨2, ![16384, 40]⟩
abbrev S16384x128 : Shape := ⟨2, ![16384, 128]⟩

abbrev nBuf : Space → Nat
  | .hbm => 16
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x4184, .f32⟩
  | .hbm, ⟨2, _⟩ => ⟨S16384x4184, .f32⟩
  | .hbm, ⟨3, _⟩ => ⟨S16384x512, .f32⟩
  | .hbm, ⟨4, _⟩ => ⟨S16384x512, .f32⟩
  | .hbm, ⟨5, _⟩ => ⟨S16384x512, .f32⟩
  | .hbm, ⟨6, _⟩ => ⟨S16384x512, .f32⟩
  | .hbm, ⟨7, _⟩ => ⟨S16384x64, .f32⟩
  | .hbm, ⟨8, _⟩ => ⟨S16384x8, .f32⟩
  | .hbm, ⟨9, _⟩ => ⟨S16384x1536, .f32⟩
  | .hbm, ⟨10, _⟩ => ⟨S16384x8, .f32⟩
  | .hbm, ⟨11, _⟩ => ⟨S16384x8, .f32⟩
  | .hbm, ⟨12, _⟩ => ⟨S16384x512, .f32⟩
  | .hbm, ⟨13, _⟩ => ⟨S_, .f32⟩
  | .hbm, ⟨14, _⟩ => ⟨S16384x40, .f32⟩
  | .hbm, ⟨15, _⟩ => ⟨S16384x128, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_cst : Ref sig .tc := ⟨.hbm, 13, rfl⟩
abbrev main_v11 : Ref sig .tc := ⟨.hbm, 14, rfl⟩
abbrev main_v12 : Ref sig .tc := ⟨.hbm, 15, rfl⟩

abbrev nD : Nat := 1
abbrev τ : Topo := Topo.v7x

variable {F : FTy → Type} [FloatOps F]
-- ==== Kernel7.lean ====
abbrev S1024x2816 : Shape := ⟨2, ![1024, 2816]⟩
abbrev S2816x1024 : Shape := ⟨2, ![2816, 1024]⟩
abbrev S1024x1024 : Shape := ⟨2, ![1024, 1024]⟩
abbrev S1024 : Shape := ⟨1, ![1024]⟩
abbrev S1x1024 : Shape := ⟨2, ![1, 1024]⟩
abbrev S512x2816 : Shape := ⟨2, ![512, 2816]⟩
abbrev S512x1024 : Shape := ⟨2, ![512, 1024]⟩
abbrev S512 : Shape := ⟨1, ![512]⟩
abbrev S512x1 : Shape := ⟨2, ![512, 1]⟩

abbrev nBuf : Space → Nat
  | .hbm => 9
  | .vmem => 9
  | .smem => 0
  | _ => 0

abbrev bufTy : (tb : Table) → Fin (tcTables nBuf tb) → BufTy
  | .hbm, ⟨0, _⟩ => ⟨S1024x2816, .bf16⟩
  | .hbm, ⟨1, _⟩ => ⟨S2816x1024, .f32⟩
  | .hbm, ⟨2, _⟩ => ⟨S1024x1024, .f32⟩
  | .hbm, ⟨3, _⟩ => ⟨S1024, .f32⟩
  | .hbm, ⟨4, _⟩ => ⟨S1024, .f32⟩
  | .hbm, ⟨5, _⟩ => ⟨S2816x1024, .bf16⟩
  | .hbm, ⟨6, _⟩ => ⟨S1x1024, .f32⟩
  | .hbm, ⟨7, _⟩ => ⟨S1x1024, .f32⟩
  | .hbm, ⟨8, _⟩ => ⟨S1024x1024, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | _, _ => ⟨S1024x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference7Ideal.lean ====
abbrev S1024x2816 : Shape := ⟨2, ![1024, 2816]⟩
abbrev S2816x1024 : Shape := ⟨2, ![2816, 1024]⟩
abbrev S1024x1024 : Shape := ⟨2, ![1024, 1024]⟩
abbrev S1024 : Shape := ⟨1, ![1024]⟩
abbrev S_ : Shape := ⟨0, ![]⟩
abbrev S1024x1 : Shape := ⟨2, ![1024, 1]⟩
abbrev S1x1024 : Shape := ⟨2, ![1, 1024]⟩

abbrev nBuf : Space → Nat
  | .hbm => 40
  | .vmem => 0
  | .smem => 0
  | _ => 0

abbrev bufTy : (tb : Table) → Fin (tcTables nBuf tb) → BufTy
  | .hbm, ⟨0, _⟩ => ⟨S1024x2816, .bf16⟩
  | .hbm, ⟨1, _⟩ => ⟨S2816x1024, .f32⟩
  | .hbm, ⟨2, _⟩ => ⟨S1024x1024, .f32⟩
  | .hbm, ⟨3, _⟩ => ⟨S1024, .f32⟩
  | .hbm, ⟨4, _⟩ => ⟨S1024, .f32⟩
  | .hbm, ⟨5, _⟩ => ⟨S_, .f32⟩
  | .hbm, ⟨6, _⟩ => ⟨S1024x1024, .f32⟩
  | .hbm, ⟨7, _⟩ => ⟨S1024x1024, .f32⟩
  | .hbm, ⟨8, _⟩ => ⟨S1024x2816, .f32⟩
  | .hbm, ⟨9, _⟩ => ⟨S1024x1024, .f32⟩
  | .hbm, ⟨10, _⟩ => ⟨S1024x1024, .f32⟩
  | .hbm, ⟨11, _⟩ => ⟨S_, .f32⟩
  | .hbm, ⟨12, _⟩ => ⟨S1024, .f32⟩
  | .hbm, ⟨13, _⟩ => ⟨S1024x1, .f32⟩
  | .hbm, ⟨14, _⟩ => ⟨S_, .f32⟩
  | .hbm, ⟨15, _⟩ => ⟨S1024x1, .f32⟩
  | .hbm, ⟨16, _⟩ => ⟨S1024x1, .f32⟩
  | .hbm, ⟨17, _⟩ => ⟨S1024x1024, .f32⟩
  | .hbm, ⟨18, _⟩ => ⟨S1024x1024, .f32⟩
  | .hbm, ⟨19, _⟩ => ⟨S1024x1024, .f32⟩
  | .hbm, ⟨20, _⟩ => ⟨S_, .f32⟩
  | .hbm, ⟨21, _⟩ => ⟨S1024, .f32⟩
  | .hbm, ⟨22, _⟩ => ⟨S1024x1, .f32⟩
  | .hbm, ⟨23, _⟩ => ⟨S_, .f32⟩
  | .hbm, ⟨24, _⟩ => ⟨S1024x1, .f32⟩
  | .hbm, ⟨25, _⟩ => ⟨S1024x1, .f32⟩
  | .hbm, ⟨26, _⟩ => ⟨S1024x1024, .f32⟩
  | .hbm, ⟨27, _⟩ => ⟨S1024x1024, .f32⟩
  | .hbm, ⟨28, _⟩ => ⟨S_, .f32⟩
  | .hbm, ⟨29, _⟩ => ⟨S1024x1, .f32⟩
  | .hbm, ⟨30, _⟩ => ⟨S1024x1, .f32⟩
  | .hbm, ⟨31, _⟩ => ⟨S1024x1, .f32⟩
  | .hbm, ⟨32, _⟩ => ⟨S1024x1024, .f32⟩
  | .hbm, ⟨33, _⟩ => ⟨S1024x1024, .f32⟩
  | .hbm, ⟨34, _⟩ => ⟨S1x1024, .f32⟩
  | .hbm, ⟨35, _⟩ => ⟨S1024x1024, .f32⟩
  | .hbm, ⟨36, _⟩ => ⟨S1024x1024, .f32⟩
  | .hbm, ⟨37, _⟩ => ⟨S1x1024, .f32⟩
  | .hbm, ⟨38, _⟩ => ⟨S1024x1024, .f32⟩
  | .hbm, ⟨39, _⟩ => ⟨S1024x1024, .f32⟩
  | _, _ => ⟨S1024x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩

abbrev nD : Nat := 1
abbrev τ : Topo := Topo.v7x

variable {F : FTy → Type} [FloatOps F]
-- ==== Kernel8.lean ====
abbrev S1024x1024 : Shape := ⟨2, ![1024, 1024]⟩
abbrev S1024x3088 : Shape := ⟨2, ![1024, 3088]⟩
abbrev S1024x256 : Shape := ⟨2, ![1024, 256]⟩
abbrev S1024x512 : Shape := ⟨2, ![1024, 512]⟩
abbrev S1024x8 : Shape := ⟨2, ![1024, 8]⟩
abbrev S_ : Shape := ⟨0, ![]⟩
abbrev S1024x112 : Shape := ⟨2, ![1024, 112]⟩
abbrev S1024x3200 : Shape := ⟨2, ![1024, 3200]⟩
abbrev S1024x128 : Shape := ⟨2, ![1024, 128]⟩
abbrev S512x1024 : Shape := ⟨2, ![512, 1024]⟩
abbrev S512x512 : Shape := ⟨2, ![512, 512]⟩
abbrev S512x128 : Shape := ⟨2, ![512, 128]⟩

abbrev nBuf : Space → Nat
  | .hbm => 22
  | .vmem => 17
  | .smem => 0
  | _ => 0

abbrev bufTy : (tb : Table) → Fin (tcTables nBuf tb) → BufTy
  | .hbm, ⟨0, _⟩ => ⟨S1024x1024, .f32⟩
  | .hbm, ⟨1, _⟩ => ⟨S1024x3088, .f32⟩
  | .hbm, ⟨2, _⟩ => ⟨S1024x256, .f32⟩
  | .hbm, ⟨3, _⟩ => ⟨S1024x256, .f32⟩
  | .hbm, ⟨4, _⟩ => ⟨S1024x512, .f32⟩
  | .hbm, ⟨5, _⟩ => ⟨S1024x512, .f32⟩
  | .hbm, ⟨6, _⟩ => ⟨S1024x512, .f32⟩
  | .hbm, ⟨7, _⟩ => ⟨S1024x512, .f32⟩
  | .hbm, ⟨8, _⟩ => ⟨S1024x512, .f32⟩
  | .hbm, ⟨9, _⟩ => ⟨S1024x8, .f32⟩
  | .hbm, ⟨10, _⟩ => ⟨S1024x8, .f32⟩
  | .hbm, ⟨11, _⟩ => ⟨S_, .f32⟩
  | .hbm, ⟨12, _⟩ => ⟨S1024x112, .f32⟩
  | .hbm, ⟨13, _⟩ => ⟨S1024x3200, .f32⟩
  | .hbm, ⟨14, _⟩ => ⟨S1024x3200, .bf16⟩
  | .hbm, ⟨15, _⟩ => ⟨S1024x512, .f32⟩
  | .hbm, ⟨16, _⟩ => ⟨S1024x512, .f32⟩
  | .hbm, ⟨17, _⟩ => ⟨S1024x512, .f32⟩
  | .hbm, ⟨18, _⟩ => ⟨S1024x512, .f32⟩
  | .hbm, ⟨19, _⟩ => ⟨S1024x512, .f32⟩
  | .hbm, ⟨20, _⟩ => ⟨S1024x512, .f32⟩
  | .hbm, ⟨21, _⟩ => ⟨S1024x128, .f32⟩
  | .local _ .vmem, ⟨0, _⟩ => ⟨S512x1024, .f32⟩
  | .local _ .vmem, ⟨1, _⟩ => ⟨S512x1024, .f32⟩
  | .local _ .vmem, ⟨2, _⟩ => ⟨S1024x3200, .bf16⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x128, .f32⟩
  | .local _ .vmem, ⟨16, _⟩ => ⟨S512x128, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12_0 : Ref sig .tc := ⟨.hbm, 15, rfl⟩
abbrev main_v12_1 : Ref sig .tc := ⟨.hbm, 16, rfl⟩
abbrev main_v12_2 : Ref sig .tc := ⟨.hbm, 17, rfl⟩
abbrev main_v12_3 : Ref sig .tc := ⟨.hbm, 18, rfl⟩
abbrev main_v12_4 : Ref sig .tc := ⟨.hbm, 19, rfl⟩
abbrev main_v12_5 : Ref sig .tc := ⟨.hbm, 20, rfl⟩
abbrev main_v12_6 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3200 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference8Ideal.lean ====
abbrev S1024x1024 : Shape := ⟨2, ![1024, 1024]⟩
abbrev S1024x3088 : Shape := ⟨2, ![1024, 3088]⟩
abbrev S1024x256 : Shape := ⟨2, ![1024, 256]⟩
abbrev S1024x512 : Shape := ⟨2, ![1024, 512]⟩
abbrev S1024x8 : Shape := ⟨2, ![1024, 8]⟩
abbrev S_ : Shape := ⟨0, ![]⟩
abbrev S1024x112 : Shape := ⟨2, ![1024, 112]⟩
abbrev S1024x128 : Shape := ⟨2, ![1024, 128]⟩

abbrev nBuf : Space → Nat
  | .hbm => 16
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x3088, .f32⟩
  | .hbm, ⟨2, _⟩ => ⟨S1024x3088, .f32⟩
  | .hbm, ⟨3, _⟩ => ⟨S1024x256, .f32⟩
  | .hbm, ⟨4, _⟩ => ⟨S1024x256, .f32⟩
  | .hbm, ⟨5, _⟩ => ⟨S1024x512, .f32⟩
  | .hbm, ⟨6, _⟩ => ⟨S1024x8, .f32⟩
  | .hbm, ⟨7, _⟩ => ⟨S1024x8, .f32⟩
  | .hbm, ⟨8, _⟩ => ⟨S1024x512, .f32⟩
  | .hbm, ⟨9, _⟩ => ⟨S1024x512, .f32⟩
  | .hbm, ⟨10, _⟩ => ⟨S1024x512, .f32⟩
  | .hbm, ⟨11, _⟩ => ⟨S1024x512, .f32⟩
  | .hbm, ⟨12, _⟩ => ⟨S1024x512, .f32⟩
  | .hbm, ⟨13, _⟩ => ⟨S_, .f32⟩
  | .hbm, ⟨14, _⟩ => ⟨S1024x112, .f32⟩
  | .hbm, ⟨15, _⟩ => ⟨S1024x128, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_cst : Ref sig .tc := ⟨.hbm, 13, rfl⟩
abbrev main_v11 : Ref sig .tc := ⟨.hbm, 14, rfl⟩
abbrev main_v12 : Ref sig .tc := ⟨.hbm, 15, rfl⟩

abbrev nD : Nat := 1
abbrev τ : Topo := Topo.v7x

variable {F : FTy → Type} [FloatOps F]
-- ==== Kernel9.lean ====
abbrev S1024x1024 : Shape := ⟨2, ![1024, 1024]⟩
abbrev S1024x4184 : Shape := ⟨2, ![1024, 4184]⟩
abbrev S1024x512 : Shape := ⟨2, ![1024, 512]⟩
abbrev S1024x1536 : Shape := ⟨2, ![1024, 1536]⟩
abbrev S1024x64 : Shape := ⟨2, ![1024, 64]⟩
abbrev S1024x8 : Shape := ⟨2, ![1024, 8]⟩
abbrev S_ : Shape := ⟨0, ![]⟩
abbrev S1024x40 : Shape := ⟨2, ![1024, 40]⟩
abbrev S1024x4224 : Shape := ⟨2, ![1024, 4224]⟩
abbrev S1024x128 : Shape := ⟨2, ![1024, 128]⟩
abbrev S512x1024 : Shape := ⟨2, ![512, 1024]⟩
abbrev S512x512 : Shape := ⟨2, ![512, 512]⟩
abbrev S512x1536 : Shape := ⟨2, ![512, 1536]⟩
abbrev S512x128 : Shape := ⟨2, ![512, 128]⟩

abbrev nBuf : Space → Nat
  | .hbm => 23
  | .vmem => 17
  | .smem => 0
  | _ => 0

abbrev bufTy : (tb : Table) → Fin (tcTables nBuf tb) → BufTy
  | .hbm, ⟨0, _⟩ => ⟨S1024x1024, .f32⟩
  | .hbm, ⟨1, _⟩ => ⟨S1024x4184, .f32⟩
  | .hbm, ⟨2, _⟩ => ⟨S1024x512, .f32⟩
  | .hbm, ⟨3, _⟩ => ⟨S1024x512, .f32⟩
  | .hbm, ⟨4, _⟩ => ⟨S1024x512, .f32⟩
  | .hbm, ⟨5, _⟩ => ⟨S1024x512, .f32⟩
  | .hbm, ⟨6, _⟩ => ⟨S1024x1536, .f32⟩
  | .hbm, ⟨7, _⟩ => ⟨S1024x512, .f32⟩
  | .hbm, ⟨8, _⟩ => ⟨S1024x64, .f32⟩
  | .hbm, ⟨9, _⟩ => ⟨S1024x8, .f32⟩
  | .hbm, ⟨10, _⟩ => ⟨S1024x8, .f32⟩
  | .hbm, ⟨11, _⟩ => ⟨S1024x8, .f32⟩
  | .hbm, ⟨12, _⟩ => ⟨S_, .f32⟩
  | .hbm, ⟨13, _⟩ => ⟨S1024x40, .f32⟩
  | .hbm, ⟨14, _⟩ => ⟨S1024x4224, .f32⟩
  | .hbm, ⟨15, _⟩ => ⟨S1024x4224, .bf16⟩
  | .hbm, ⟨16, _⟩ => ⟨S1024x512, .f32⟩
  | .hbm, ⟨17, _⟩ => ⟨S1024x512, .f32⟩
  | .hbm, ⟨18, _⟩ => ⟨S1024x512, .f32⟩
  | .hbm, ⟨19, _⟩ => ⟨S1024x512, .f32⟩
  | .hbm, ⟨20, _⟩ => ⟨S1024x1536, .f32⟩
  | .hbm, ⟨21, _⟩ => ⟨S1024x512, .f32⟩
  | .hbm, ⟨22, _⟩ => ⟨S1024x128, .f32⟩
  | .local _ .vmem, ⟨0, _⟩ => ⟨S512x1024, .f32⟩
  | .local _ .vmem, ⟨1, _⟩ => ⟨S512x1024, .f32⟩
  | .local _ .vmem, ⟨2, _⟩ => ⟨S1024x4224, .bf16⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x1536, .f32⟩
  | .local _ .vmem, ⟨12, _⟩ => ⟨S512x1536, .f32⟩
  | .local _ .vmem, ⟨13, _⟩ => ⟨S512x512, .f32⟩
  | .local _ .vmem, ⟨14, _⟩ => ⟨S512x512, .f32⟩
  | .local _ .vmem, ⟨15, _⟩ => ⟨S512x128, .f32⟩
  | .local _ .vmem, ⟨16, _⟩ => ⟨S512x128, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13_0 : Ref sig .tc := ⟨.hbm, 16, rfl⟩
abbrev main_v13_1 : Ref sig .tc := ⟨.hbm, 17, rfl⟩
abbrev main_v13_2 : Ref sig .tc := ⟨.hbm, 18, rfl⟩
abbrev main_v13_3 : Ref sig .tc := ⟨.hbm, 19, rfl⟩
abbrev main_v13_4 : Ref sig .tc := ⟨.hbm, 20, rfl⟩
abbrev main_v13_5 : Ref sig .tc := ⟨.hbm, 21, rfl⟩
abbrev main_v13_6 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x4224 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference9Ideal.lean ====
abbrev S1024x1024 : Shape := ⟨2, ![1024, 1024]⟩
abbrev S1024x4184 : Shape := ⟨2, ![1024, 4184]⟩
abbrev S1024x512 : Shape := ⟨2, ![1024, 512]⟩
abbrev S1024x64 : Shape := ⟨2, ![1024, 64]⟩
abbrev S1024x8 : Shape := ⟨2, ![1024, 8]⟩
abbrev S1024x1536 : Shape := ⟨2, ![1024, 1536]⟩
abbrev S_ : Shape := ⟨0, ![]⟩
abbrev S1024x40 : Shape := ⟨2, ![1024, 40]⟩
abbrev S1024x128 : Shape := ⟨2, ![1024, 128]⟩

abbrev nBuf : Space → Nat
  | .hbm => 16
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x4184, .f32⟩
  | .hbm, ⟨2, _⟩ => ⟨S1024x4184, .f32⟩
  | .hbm, ⟨3, _⟩ => ⟨S1024x512, .f32⟩
  | .hbm, ⟨4, _⟩ => ⟨S1024x512, .f32⟩
  | .hbm, ⟨5, _⟩ => ⟨S1024x512, .f32⟩
  | .hbm, ⟨6, _⟩ => ⟨S1024x512, .f32⟩
  | .hbm, ⟨7, _⟩ => ⟨S1024x64, .f32⟩
  | .hbm, ⟨8, _⟩ => ⟨S1024x8, .f32⟩
  | .hbm, ⟨9, _⟩ => ⟨S1024x1536, .f32⟩
  | .hbm, ⟨10, _⟩ => ⟨S1024x8, .f32⟩
  | .hbm, ⟨11, _⟩ => ⟨S1024x8, .f32⟩
  | .hbm, ⟨12, _⟩ => ⟨S1024x512, .f32⟩
  | .hbm, ⟨13, _⟩ => ⟨S_, .f32⟩
  | .hbm, ⟨14, _⟩ => ⟨S1024x40, .f32⟩
  | .hbm, ⟨15, _⟩ => ⟨S1024x128, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_cst : Ref sig .tc := ⟨.hbm, 13, rfl⟩
abbrev main_v11 : Ref sig .tc := ⟨.hbm, 14, rfl⟩
abbrev main_v12 : Ref sig .tc := ⟨.hbm, 15, rfl⟩

abbrev nD : Nat := 1
abbrev τ : Topo := Topo.v7x

variable {F : FTy → Type} [FloatOps F]
-- ==== Kernel10.lean ====
abbrev S1024x512 : Shape := ⟨2, ![1024, 512]⟩
abbrev S2x32x512x8x64 : Shape := ⟨5, ![2, 32, 512, 8, 64]⟩
abbrev S257x8 : Shape := ⟨2, ![257, 8]⟩
abbrev S544 : Shape := ⟨1, ![544]⟩
abbrev S32x512 : Shape := ⟨2, ![32, 512]⟩
abbrev S64 : Shape := ⟨1, ![64]⟩
abbrev S32x32 : Shape := ⟨2, ![32, 32]⟩
abbrev S2x32x8x64x512 : Shape := ⟨5, ![2, 32, 8, 64, 512]⟩
abbrev S32x32x8x64 : Shape := ⟨4, ![32, 32, 8, 64]⟩
abbrev S32x8x64x32 : Shape := ⟨4, ![32, 8, 64, 32]⟩
abbrev S_ : Shape := ⟨0, ![]⟩
abbrev S544x1 : Shape := ⟨2, ![544, 1]⟩
abbrev S544x8 : Shape := ⟨2, ![544, 8]⟩
abbrev S8x544 : Shape := ⟨2, ![8, 544]⟩
abbrev S1x8x1x544 : Shape := ⟨4, ![1, 8, 1, 544]⟩
abbrev S1x8x32x544 : Shape := ⟨4, ![1, 8, 32, 544]⟩
abbrev S8x17408 : Shape := ⟨2, ![8, 17408]⟩
abbrev S8x17376 : Shape := ⟨2, ![8, 17376]⟩
abbrev S8x32x543 : Shape := ⟨3, ![8, 32, 543]⟩
abbrev S8x32x512 : Shape := ⟨3, ![8, 32, 512]⟩
abbrev S1x32x512 : Shape := ⟨3, ![1, 32, 512]⟩
abbrev S64x1 : Shape := ⟨2, ![64, 1]⟩
abbrev S64x8 : Shape := ⟨2, ![64, 8]⟩
abbrev S8x64 : Shape := ⟨2, ![8, 64]⟩
abbrev S1x8x1x64 : Shape := ⟨4, ![1, 8, 1, 64]⟩
abbrev S1x8x32x64 : Shape := ⟨4, ![1, 8, 32, 64]⟩
abbrev S8x2048 : Shape := ⟨2, ![8, 2048]⟩
abbrev S8x2016 : Shape := ⟨2, ![8, 2016]⟩
abbrev S8x32x63 : Shape := ⟨3, ![8, 32, 63]⟩
abbrev S8x32x32 : Shape := ⟨3, ![8, 32, 32]⟩
abbrev S1x32x32 : Shape := ⟨3, ![1, 32, 32]⟩
abbrev S128x512 : Shape := ⟨2, ![128, 512]⟩
abbrev S1x4x8x64x512 : Shape := ⟨5, ![1, 4, 8, 64, 512]⟩
abbrev S4x8x64x32 : Shape := ⟨4, ![4, 8, 64, 32]⟩
abbrev S32x64 : Shape := ⟨2, ![32, 64]⟩
abbrev S1x1x1x64x512 : Shape := ⟨5, ![1, 1, 1, 64, 512]⟩
abbrev S64x512 : Shape := ⟨2, ![64, 512]⟩
abbrev S1x1x64x32 : Shape := ⟨4, ![1, 1, 64, 32]⟩
abbrev S64x32 : Shape := ⟨2, ![64, 32]⟩
abbrev S32 : Shape := ⟨1, ![32]⟩
abbrev S32x1 : Shape := ⟨2, ![32, 1]⟩

abbrev nBuf : Space → Nat
  | .hbm => 57
  | .vmem => 14
  | .smem => 0
  | _ => 0

abbrev bufTy : (tb : Table) → Fin (tcTables nBuf tb) → BufTy
  | .hbm, ⟨0, _⟩ => ⟨S1024x512, .f32⟩
  | .hbm, ⟨1, _⟩ => ⟨S1024x512, .f32⟩
  | .hbm, ⟨2, _⟩ => ⟨S1024x512, .f32⟩
  | .hbm, ⟨3, _⟩ => ⟨S2x32x512x8x64, .f32⟩
  | .hbm, ⟨4, _⟩ => ⟨S2x32x512x8x64, .f32⟩
  | .hbm, ⟨5, _⟩ => ⟨S257x8, .f32⟩
  | .hbm, ⟨6, _⟩ => ⟨S544, .i32⟩
  | .hbm, ⟨7, _⟩ => ⟨S544, .i1⟩
  | .hbm, ⟨8, _⟩ => ⟨S32x512, .i1⟩
  | .hbm, ⟨9, _⟩ => ⟨S64, .i32⟩
  | .hbm, ⟨10, _⟩ => ⟨S64, .i1⟩
  | .hbm, ⟨11, _⟩ => ⟨S32x32, .i1⟩
  | .hbm, ⟨12, _⟩ => ⟨S2x32x8x64x512, .f32⟩
  | .hbm, ⟨13, _⟩ => ⟨S2x32x8x64x512, .f32⟩
  | .hbm, ⟨14, _⟩ => ⟨S32x32x8x64, .f32⟩
  | .hbm, ⟨15, _⟩ => ⟨S32x8x64x32, .f32⟩
  | .hbm, ⟨16, _⟩ => ⟨S32x32x8x64, .f32⟩
  | .hbm, ⟨17, _⟩ => ⟨S32x8x64x32, .f32⟩
  | .hbm, ⟨18, _⟩ => ⟨S_, .i32⟩
  | .hbm, ⟨19, _⟩ => ⟨S544, .i32⟩
  | .hbm, ⟨20, _⟩ => ⟨S544, .i32⟩
  | .hbm, ⟨21, _⟩ => ⟨S544, .i32⟩
  | .hbm, ⟨22, _⟩ => ⟨S544x1, .i32⟩
  | .hbm, ⟨23, _⟩ => ⟨S544x8, .f32⟩
  | .hbm, ⟨24, _⟩ => ⟨S8x544, .f32⟩
  | .hbm, ⟨25, _⟩ => ⟨S1x8x1x544, .f32⟩
  | .hbm, ⟨26, _⟩ => ⟨S1x8x32x544, .f32⟩
  | .hbm, ⟨27, _⟩ => ⟨S8x17408, .f32⟩
  | .hbm, ⟨28, _⟩ => ⟨S8x17376, .f32⟩
  | .hbm, ⟨29, _⟩ => ⟨S8x32x543, .f32⟩
  | .hbm, ⟨30, _⟩ => ⟨S8x32x512, .f32⟩
  | .hbm, ⟨31, _⟩ => ⟨S1x32x512, .i1⟩
  | .hbm, ⟨32, _⟩ => ⟨S_, .f32⟩
  | .hbm, ⟨33, _⟩ => ⟨S_, .f32⟩
  | .hbm, ⟨34, _⟩ => ⟨S8x32x512, .i1⟩
  | .hbm, ⟨35, _⟩ => ⟨S8x32x512, .f32⟩
  | .hbm, ⟨36, _⟩ => ⟨S8x32x512, .f32⟩
  | .hbm, ⟨37, _⟩ => ⟨S_, .i32⟩
  | .hbm, ⟨38, _⟩ => ⟨S64, .i32⟩
  | .hbm, ⟨39, _⟩ => ⟨S64, .i32⟩
  | .hbm, ⟨40, _⟩ => ⟨S64, .i32⟩
  | .hbm, ⟨41, _⟩ => ⟨S64x1, .i32⟩
  | .hbm, ⟨42, _⟩ => ⟨S64x8, .f32⟩
  | .hbm, ⟨43, _⟩ => ⟨S8x64, .f32⟩
  | .hbm, ⟨44, _⟩ => ⟨S1x8x1x64, .f32⟩
  | .hbm, ⟨45, _⟩ => ⟨S1x8x32x64, .f32⟩
  | .hbm, ⟨46, _⟩ => ⟨S8x2048, .f32⟩
  | .hbm, ⟨47, _⟩ => ⟨S8x2016, .f32⟩
  | .hbm, ⟨48, _⟩ => ⟨S8x32x63, .f32⟩
  | .hbm, ⟨49, _⟩ => ⟨S8x32x32, .f32⟩
  | .hbm, ⟨50, _⟩ => ⟨S1x32x32, .i1⟩
  | .hbm, ⟨51, _⟩ => ⟨S_, .f32⟩
  | .hbm, ⟨52, _⟩ => ⟨S_, .f32⟩
  | .hbm, ⟨53, _⟩ => ⟨S8x32x32, .i1⟩
  | .hbm, ⟨54, _⟩ => ⟨S8x32x32, .f32⟩
  | .hbm, ⟨55, _⟩ => ⟨S8x32x32, .f32⟩
  | .hbm, ⟨56, _⟩ => ⟨S1024x512, .f32⟩
  | .local _ .vmem, ⟨0, _⟩ => ⟨S128x512, .f32⟩
  | .local _ .vmem, ⟨1, _⟩ => ⟨S128x512, .f32⟩
  | .local _ .vmem, ⟨2, _⟩ => ⟨S1x4x8x64x512, .f32⟩
  | .local _ .vmem, ⟨3, _⟩ => ⟨S1x4x8x64x512, .f32⟩
  | .local _ .vmem, ⟨4, _⟩ => ⟨S1x4x8x64x512, .f32⟩
  | .local _ .vmem, ⟨5, _⟩ => ⟨S1x4x8x64x512, .f32⟩
  | .local _ .vmem, ⟨6, _⟩ => ⟨S4x8x64x32, .f32⟩
  | .local _ .vmem, ⟨7, _⟩ => ⟨S4x8x64x32, .f32⟩
  | .local _ .vmem, ⟨8, _⟩ => ⟨S4x8x64x32, .f32⟩
  | .local _ .vmem, ⟨9, _⟩ => ⟨S4x8x64x32, .f32⟩
  | .local _ .vmem, ⟨10, _⟩ => ⟨S8x32x512, .f32⟩
  | .local _ .vmem, ⟨11, _⟩ => ⟨S8x32x32, .f32⟩
  | .local _ .vmem, ⟨12, _⟩ => ⟨S128x512, .f32⟩
  | .local _ .vmem, ⟨13, _⟩ => ⟨S128x512, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_c_0 : Ref sig .tc := ⟨.hbm, 7, rfl⟩
abbrev main_c_1 : Ref sig .tc := ⟨.hbm, 8, rfl⟩
abbrev main_c_2 : Ref sig .tc := ⟨.hbm, 9, rfl⟩
abbrev main_c_3 : Ref sig .tc := ⟨.hbm, 10, rfl⟩
abbrev main_c_4 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_c_5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst : Ref sig .tc := ⟨.hbm, 32, rfl⟩
abbrev main_call0_v0 : Ref sig .tc := ⟨.hbm, 33, rfl⟩
abbrev main_call0_v1 : Ref sig .tc := ⟨.hbm, 34, rfl⟩
abbrev main_call0_v2 : Ref sig .tc := ⟨.hbm, 35, rfl⟩
abbrev main_v19 : Ref sig .tc := ⟨.hbm, 36, rfl⟩
abbrev main_c_6 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_7 : Ref sig .tc := ⟨.hbm, 51, rfl⟩
abbrev main_call1_v0 : Ref sig .tc := ⟨.hbm, 52, rfl⟩
abbrev main_call1_v1 : Ref sig .tc := ⟨.hbm, 53, rfl⟩
abbrev main_call1_v2 : Ref sig .tc := ⟨.hbm, 54, rfl⟩
abbrev main_v33 : Ref sig .tc := ⟨.hbm, 55, rfl⟩
abbrev main_v34 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, arg0.toNat, c0_i32_0.toNat, c0_i32_1.toNat, c0_i32_2.toNat]

def cc0_transform_2 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, arg0.toNat, c0_i32_0.toNat, c0_i32_1.toNat, c0_i32_2.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4x8x64x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x4x8x64x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x8x64x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x8x64x32 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x32x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x32x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S128x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference10Ideal.lean ====
abbrev S1024x512 : Shape := ⟨2, ![1024, 512]⟩
abbrev S2x32x512x8x64 : Shape := ⟨5, ![2, 32, 512, 8, 64]⟩
abbrev S257x8 : Shape := ⟨2, ![257, 8]⟩
abbrev S32x32x8x64 : Shape := ⟨4, ![32, 32, 8, 64]⟩
abbrev S1x32x512x8x64 : Shape := ⟨5, ![1, 32, 512, 8, 64]⟩
abbrev S32x512x8x64 : Shape := ⟨4, ![32, 512, 8, 64]⟩
abbrev S32x544x8x64 : Shape := ⟨4, ![32, 544, 8, 64]⟩
abbrev S32 : Shape := ⟨1, ![32]⟩
abbrev S_ : Shape := ⟨0, ![]⟩
abbrev S544 : Shape := ⟨1, ![544]⟩
abbrev S1x544 : Shape := ⟨2, ![1, 544]⟩
abbrev S32x1 : Shape := ⟨2, ![32, 1]⟩
abbrev S32x544 : Shape := ⟨2, ![32, 544]⟩
abbrev S32x544x1 : Shape := ⟨3, ![32, 544, 1]⟩
abbrev S32x544x8 : Shape := ⟨3, ![32, 544, 8]⟩
abbrev S8x32x544 : Shape := ⟨3, ![8, 32, 544]⟩
abbrev S32x8x32x544 : Shape := ⟨4, ![32, 8, 32, 544]⟩
abbrev S1x8x32x544 : Shape := ⟨4, ![1, 8, 32, 544]⟩
abbrev S1x1x32x544 : Shape := ⟨4, ![1, 1, 32, 544]⟩
abbrev S32x8x32 : Shape := ⟨3, ![32, 8, 32]⟩
abbrev S32x8x32x1 : Shape := ⟨4, ![32, 8, 32, 1]⟩
abbrev S32x8x64x32 : Shape := ⟨4, ![32, 8, 64, 32]⟩

abbrev nBuf : Space → Nat
  | .hbm => 135
  | .vmem => 0
  | .smem => 0
  | _ => 0

abbrev hbmTy0_0 (i : Nat) : BufTy := match i % 128 with
  | 0 => ⟨S1024x512, .f32⟩
  | 1 => ⟨S1024x512, .f32⟩
  | 2 => ⟨S1024x512, .f32⟩
  | 3 => ⟨S2x32x512x8x64, .f32⟩
  | 4 => ⟨S2x32x512x8x64, .f32⟩
  | 5 => ⟨S257x8, .f32⟩
  | 6 => ⟨S32x32x8x64, .f32⟩
  | 7 => ⟨S32x32x8x64, .f32⟩
  | 8 => ⟨S32x32x8x64, .f32⟩
  | 9 => ⟨S1x32x512x8x64, .f32⟩
  | 10 => ⟨S32x512x8x64, .f32⟩
  | 11 => ⟨S32x544x8x64, .f32⟩
  | 12 => ⟨S1x32x512x8x64, .f32⟩
  | 13 => ⟨S32x512x8x64, .f32⟩
  | 14 => ⟨S32x544x8x64, .f32⟩
  | 15 => ⟨S32, .i32⟩
  | 16 => ⟨S_, .i32⟩
  | 17 => ⟨S32, .i32⟩
  | 18 => ⟨S32, .i32⟩
  | 19 => ⟨S544, .i32⟩
  | 20 => ⟨S_, .i32⟩
  | 21 => ⟨S544, .i32⟩
  | 22 => ⟨S544, .i32⟩
  | 23 => ⟨S_, .i32⟩
  | 24 => ⟨S_, .i32⟩
  | 25 => ⟨S32, .i32⟩
  | 26 => ⟨S32, .i32⟩
  | 27 => ⟨S32, .i32⟩
  | 28 => ⟨S_, .i32⟩
  | 29 => ⟨S32, .i32⟩
  | 30 => ⟨S32, .i1⟩
  | 31 => ⟨S32, .i32⟩
  | 32 => ⟨S32, .i32⟩
  | 33 => ⟨S_, .i32⟩
  | 34 => ⟨S32, .i32⟩
  | 35 => ⟨S32, .i1⟩
  | 36 => ⟨S32, .i1⟩
  | 37 => ⟨S_, .i32⟩
  | 38 => ⟨S32, .i32⟩
  | 39 => ⟨S32, .i32⟩
  | 40 => ⟨S32, .i32⟩
  | 41 => ⟨S_, .i32⟩
  | 42 => ⟨S_, .i32⟩
  | 43 => ⟨S544, .i32⟩
  | 44 => ⟨S544, .i32⟩
  | 45 => ⟨S544, .i32⟩
  | 46 => ⟨S_, .i32⟩
  | 47 => ⟨S544, .i32⟩
  | 48 => ⟨S544, .i1⟩
  | 49 => ⟨S544, .i32⟩
  | 50 => ⟨S544, .i32⟩
  | 51 => ⟨S_, .i32⟩
  | 52 => ⟨S544, .i32⟩
  | 53 => ⟨S544, .i1⟩
  | 54 => ⟨S544, .i1⟩
  | 55 => ⟨S_, .i32⟩
  | 56 => ⟨S544, .i32⟩
  | 57 => ⟨S544, .i32⟩
  | 58 => ⟨S544, .i32⟩
  | 59 => ⟨S1x544, .i32⟩
  | 60 => ⟨S_, .i32⟩
  | 61 => ⟨S1x544, .i32⟩
  | 62 => ⟨S1x544, .i1⟩
  | 63 => ⟨S1x544, .i32⟩
  | 64 => ⟨S32x1, .i32⟩
  | 65 => ⟨S_, .i32⟩
  | 66 => ⟨S32x1, .i32⟩
  | 67 => ⟨S32x1, .i32⟩
  | 68 => ⟨S32x544, .i32⟩
  | 69 => ⟨S32x544, .i32⟩
  | 70 => ⟨S32x544, .i1⟩
  | 71 => ⟨S32x544, .i1⟩
  | 72 => ⟨S32x544, .i1⟩
  | 73 => ⟨S1x544, .i32⟩
  | 74 => ⟨S32x1, .i32⟩
  | 75 => ⟨S32x544, .i32⟩
  | 76 => ⟨S32x544, .i32⟩
  | 77 => ⟨S32x544, .i1⟩
  | 78 => ⟨S32x544, .i1⟩
  | 79 => ⟨S1x544, .i32⟩
  | 80 => ⟨S32x1, .i32⟩
  | 81 => ⟨S32x544, .i32⟩
  | 82 => ⟨S32x544, .i32⟩
  | 83 => ⟨S32x544, .i32⟩
  | 84 => ⟨S_, .i32⟩
  | 85 => ⟨S_, .i32⟩
  | 86 => ⟨S_, .i32⟩
  | 87 => ⟨S32x544, .i32⟩
  | 88 => ⟨S32x544, .i32⟩
  | 89 => ⟨S_, .i32⟩
  | 90 => ⟨S32x544, .i32⟩
  | 91 => ⟨S32x544, .i32⟩
  | 92 => ⟨S_, .i32⟩
  | 93 => ⟨S32x544, .i32⟩
  | 94 => ⟨S32x544, .i32⟩
  | 95 => ⟨S_, .i32⟩
  | 96 => ⟨S32x544, .i32⟩
  | 97 => ⟨S32x544, .i1⟩
  | 98 => ⟨S_, .i32⟩
  | 99 => ⟨S32x544, .i32⟩
  | 100 => ⟨S32x544, .i32⟩
  | 101 => ⟨S32x544, .i32⟩
  | 102 => ⟨S32x544x1, .i32⟩
  | 103 => ⟨S32x544x8, .f32⟩
  | 104 => ⟨S8x32x544, .f32⟩
  | 105 => ⟨S32x8x32x544, .f32⟩
  | 106 => ⟨S_, .f32⟩
  | 107 => ⟨S32x8x32x544, .f32⟩
  | 108 => ⟨S32x8x32x544, .f32⟩
  | 109 => ⟨S1x8x32x544, .f32⟩
  | 110 => ⟨S32x8x32x544, .f32⟩
  | 111 => ⟨S32x8x32x544, .f32⟩
  | 112 => ⟨S1x1x32x544, .i1⟩
  | 113 => ⟨S_, .f32⟩
  | 114 => ⟨S_, .f32⟩
  | 115 => ⟨S32x8x32x544, .i1⟩
  | 116 => ⟨S32x8x32x544, .f32⟩
  | 117 => ⟨S32x8x32x544, .f32⟩
  | 118 => ⟨S_, .f32⟩
  | 119 => ⟨S32x8x32, .f32⟩
  | 120 => ⟨S_, .f32⟩
  | 121 => ⟨S32x8x32, .f32⟩
  | 122 => ⟨S32x8x32, .f32⟩
  | 123 => ⟨S32x8x32x1, .f32⟩
  | 124 => ⟨S32x8x32x544, .f32⟩
  | 125 => ⟨S32x8x32x544, .f32⟩
  | 126 => ⟨S32x8x32x544, .f32⟩
  | 127 => ⟨S_, .f32⟩
  | _ => ⟨S1024x512, .f32⟩

abbrev hbmTy0_1 (i : Nat) : BufTy := match i % 128 with
  | 0 => ⟨S32x8x32, .f32⟩
  | 1 => ⟨S32x8x32x1, .f32⟩
  | 2 => ⟨S32x8x32x544, .f32⟩
  | 3 => ⟨S32x8x32x544, .f32⟩
  | 4 => ⟨S32x8x64x32, .f32⟩
  | 5 => ⟨S32x32x8x64, .f32⟩
  | 6 => ⟨S1024x512, .f32⟩
  | _ => ⟨S1024x512, .f32⟩

abbrev hbmTy (i : Nat) : BufTy := match i / 128 with
  | 0 => hbmTy0_0 i
  | 1 => hbmTy0_1 i
  | _ => ⟨S1024x512, .f32⟩

abbrev bufTy : (tb : Table) → Fin (tcTables nBuf tb) → BufTy
  | .hbm, ⟨i, _⟩ => hbmTy i
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c_0 : Ref sig .tc := ⟨.hbm, 20, rfl⟩
abbrev main_v13 : Ref sig .tc := ⟨.hbm, 21, rfl⟩
abbrev main_v14 : Ref sig .tc := ⟨.hbm, 22, rfl⟩
abbrev main_c_1 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_call0_v5 : Ref sig .tc := ⟨.hbm, 29, rfl⟩
abbrev main_call0_v6 : Ref sig .tc := ⟨.hbm, 30, rfl⟩
abbrev main_call0_v7 : Ref sig .tc := ⟨.hbm, 31, rfl⟩
abbrev main_call0_v8 : Ref sig .tc := ⟨.hbm, 32, rfl⟩
abbrev main_call0_c : Ref sig .tc := ⟨.hbm, 33, rfl⟩
abbrev main_call0_v9 : Ref sig .tc := ⟨.hbm, 34, rfl⟩
abbrev main_call0_v10 : Ref sig .tc := ⟨.hbm, 35, rfl⟩
abbrev main_call0_v11 : Ref sig .tc := ⟨.hbm, 36, rfl⟩
abbrev main_call0_c_0 : Ref sig .tc := ⟨.hbm, 37, rfl⟩
abbrev main_call0_v12 : Ref sig .tc := ⟨.hbm, 38, rfl⟩
abbrev main_call0_v13 : Ref sig .tc := ⟨.hbm, 39, rfl⟩
abbrev main_v15 : Ref sig .tc := ⟨.hbm, 40, rfl⟩
abbrev main_c_2 : Ref sig .tc := ⟨.hbm, 41, rfl⟩
abbrev main_call1_v0 : Ref sig .tc := ⟨.hbm, 42, rfl⟩
abbrev main_call1_v1 : Ref sig .tc := ⟨.hbm, 43, rfl⟩
abbrev main_call1_v2 : Ref sig .tc := ⟨.hbm, 44, rfl⟩
abbrev main_call1_v3 : Ref sig .tc := ⟨.hbm, 45, rfl⟩
abbrev main_call1_v4 : Ref sig .tc := ⟨.hbm, 46, rfl⟩
abbrev main_call1_v5 : Ref sig .tc := ⟨.hbm, 47, rfl⟩
abbrev main_call1_v6 : Ref sig .tc := ⟨.hbm, 48, rfl⟩
abbrev main_call1_v7 : Ref sig .tc := ⟨.hbm, 49, rfl⟩
abbrev main_call1_v8 : Ref sig .tc := ⟨.hbm, 50, rfl⟩
abbrev main_call1_c : Ref sig .tc := ⟨.hbm, 51, rfl⟩
abbrev main_call1_v9 : Ref sig .tc := ⟨.hbm, 52, rfl⟩
abbrev main_call1_v10 : Ref sig .tc := ⟨.hbm, 53, rfl⟩
abbrev main_call1_v11 : Ref sig .tc := ⟨.hbm, 54, rfl⟩
abbrev main_call1_c_0 : Ref sig .tc := ⟨.hbm, 55, rfl⟩
abbrev main_call1_v12 : Ref sig .tc := ⟨.hbm, 56, rfl⟩
abbrev main_call1_v13 : Ref sig .tc := ⟨.hbm, 57, rfl⟩
abbrev main_v16 : Ref sig .tc := ⟨.hbm, 58, rfl⟩
abbrev main_v17 : Ref sig .tc := ⟨.hbm, 59, rfl⟩
abbrev main_c_3 : Ref sig .tc := ⟨.hbm, 60, rfl⟩
abbrev main_v18 : Ref sig .tc := ⟨.hbm, 61, rfl⟩
abbrev main_v19 : Ref sig .tc := ⟨.hbm, 62, rfl⟩
abbrev main_v20 : Ref sig .tc := ⟨.hbm, 63, rfl⟩
abbrev main_v21 : Ref sig .tc := ⟨.hbm, 64, rfl⟩
abbrev main_c_4 : Ref sig .tc := ⟨.hbm, 65, rfl⟩
abbrev main_v22 : Ref sig .tc := ⟨.hbm, 66, rfl⟩
abbrev main_v23 : Ref sig .tc := ⟨.hbm, 67, rfl⟩
abbrev main_v24 : Ref sig .tc := ⟨.hbm, 68, rfl⟩
abbrev main_v25 : Ref sig .tc := ⟨.hbm, 69, rfl⟩
abbrev main_v26 : Ref sig .tc := ⟨.hbm, 70, rfl⟩
abbrev main_v27 : Ref sig .tc := ⟨.hbm, 71, rfl⟩
abbrev main_v28 : Ref sig .tc := ⟨.hbm, 72, rfl⟩
abbrev main_v29 : Ref sig .tc := ⟨.hbm, 73, rfl⟩
abbrev main_v30 : Ref sig .tc := ⟨.hbm, 74, rfl⟩
abbrev main_v31 : Ref sig .tc := ⟨.hbm, 75, rfl⟩
abbrev main_v32 : Ref sig .tc := ⟨.hbm, 76, rfl⟩
abbrev main_v33 : Ref sig .tc := ⟨.hbm, 77, rfl⟩
abbrev main_v34 : Ref sig .tc := ⟨.hbm, 78, rfl⟩
abbrev main_v35 : Ref sig .tc := ⟨.hbm, 79, rfl⟩
abbrev main_v36 : Ref sig .tc := ⟨.hbm, 80, rfl⟩
abbrev main_v37 : Ref sig .tc := ⟨.hbm, 81, rfl⟩
abbrev main_v38 : Ref sig .tc := ⟨.hbm, 82, rfl⟩
abbrev main_v39 : Ref sig .tc := ⟨.hbm, 83, rfl⟩
abbrev main_c_5 : Ref sig .tc := ⟨.hbm, 84, rfl⟩
abbrev main_c_6 : Ref sig .tc := ⟨.hbm, 85, rfl⟩
abbrev main_call2_v0 : Ref sig .tc := ⟨.hbm, 86, rfl⟩
abbrev main_call2_v1 : Ref sig .tc := ⟨.hbm, 87, rfl⟩
abbrev main_call2_v2 : Ref sig .tc := ⟨.hbm, 88, rfl⟩
abbrev main_call2_v3 : Ref sig .tc := ⟨.hbm, 89, rfl⟩
abbrev main_call2_v4 : Ref sig .tc := ⟨.hbm, 90, rfl⟩
abbrev main_v40 : Ref sig .tc := ⟨.hbm, 91, rfl⟩
abbrev main_c_7 : Ref sig .tc := ⟨.hbm, 92, rfl⟩
abbrev main_v41 : Ref sig .tc := ⟨.hbm, 93, rfl⟩
abbrev main_v42 : Ref sig .tc := ⟨.hbm, 94, rfl⟩
abbrev main_c_8 : Ref sig .tc := ⟨.hbm, 95, rfl⟩
abbrev main_v43 : Ref sig .tc := ⟨.hbm, 96, rfl⟩
abbrev main_v44 : Ref sig .tc := ⟨.hbm, 97, rfl⟩
abbrev main_c_9 : Ref sig .tc := ⟨.hbm, 98, rfl⟩
abbrev main_v45 : Ref sig .tc := ⟨.hbm, 99, rfl⟩
abbrev main_v46 : Ref sig .tc := ⟨.hbm, 100, rfl⟩
abbrev main_v47 : Ref sig .tc := ⟨.hbm, 101, rfl⟩
abbrev main_v48 : Ref sig .tc := ⟨.hbm, 102, rfl⟩
abbrev main_v49 : Ref sig .tc := ⟨.hbm, 103, rfl⟩
abbrev main_v50 : Ref sig .tc := ⟨.hbm, 104, rfl⟩
abbrev main_v51 : Ref sig .tc := ⟨.hbm, 105, rfl⟩
abbrev main_cst : Ref sig .tc := ⟨.hbm, 106, rfl⟩
abbrev main_v52 : Ref sig .tc := ⟨.hbm, 107, rfl⟩
abbrev main_v53 : Ref sig .tc := ⟨.hbm, 108, rfl⟩
abbrev main_v54 : Ref sig .tc := ⟨.hbm, 109, rfl⟩
abbrev main_v55 : Ref sig .tc := ⟨.hbm, 110, rfl⟩
abbrev main_v56 : Ref sig .tc := ⟨.hbm, 111, rfl⟩
abbrev main_v57 : Ref sig .tc := ⟨.hbm, 112, rfl⟩
abbrev main_cst_10 : Ref sig .tc := ⟨.hbm, 113, rfl⟩
abbrev main_call3_v0 : Ref sig .tc := ⟨.hbm, 114, rfl⟩
abbrev main_call3_v1 : Ref sig .tc := ⟨.hbm, 115, rfl⟩
abbrev main_call3_v2 : Ref sig .tc := ⟨.hbm, 116, rfl⟩
abbrev main_v58 : Ref sig .tc := ⟨.hbm, 117, rfl⟩
abbrev main_cst_11 : Ref sig .tc := ⟨.hbm, 118, rfl⟩
abbrev main_v59 : Ref sig .tc := ⟨.hbm, 119, rfl⟩
abbrev main_cst_12 : Ref sig .tc := ⟨.hbm, 120, rfl⟩
abbrev main_v60 : Ref sig .tc := ⟨.hbm, 121, rfl⟩
abbrev main_v61 : Ref sig .tc := ⟨.hbm, 122, rfl⟩
abbrev main_v62 : Ref sig .tc := ⟨.hbm, 123, rfl⟩
abbrev main_v63 : Ref sig .tc := ⟨.hbm, 124, rfl⟩
abbrev main_v64 : Ref sig .tc := ⟨.hbm, 125, rfl⟩
abbrev main_v65 : Ref sig .tc := ⟨.hbm, 126, rfl⟩
abbrev main_cst_13 : Ref sig .tc := ⟨.hbm, 127, rfl⟩
abbrev main_v66 : Ref sig .tc := ⟨.hbm, 128, rfl⟩
abbrev main_v67 : Ref sig .tc := ⟨.hbm, 129, rfl⟩
abbrev main_v68 : Ref sig .tc := ⟨.hbm, 130, rfl⟩
abbrev main_v69 : Ref sig .tc := ⟨.hbm, 131, rfl⟩
abbrev main_v70 : Ref sig .tc := ⟨.hbm, 132, rfl⟩
abbrev main_v71 : Ref sig .tc := ⟨.hbm, 133, rfl⟩
abbrev main_v72 : Ref sig .tc := ⟨.hbm, 134, rfl⟩

abbrev nD : Nat := 1
abbrev τ : Topo := Topo.v7x

variable {F : FTy → Type} [FloatOps F]
-- ==== Kernel11.lean ====
abbrev S1024x512 : Shape := ⟨2, ![1024, 512]⟩
abbrev S1024x1024 : Shape := ⟨2, ![1024, 1024]⟩
abbrev S1024 : Shape := ⟨1, ![1024]⟩
abbrev S512x1024 : Shape := ⟨2, ![512, 1024]⟩
abbrev S1x1024 : Shape := ⟨2, ![1, 1024]⟩
abbrev S512x512 : Shape := ⟨2, ![512, 512]⟩
abbrev S512 : Shape := ⟨1, ![512]⟩
abbrev S512x1 : Shape := ⟨2, ![512, 1]⟩

abbrev nBuf : Space → Nat
  | .hbm => 12
  | .vmem => 12
  | .smem => 0
  | _ => 0

abbrev bufTy : (tb : Table) → Fin (tcTables nBuf tb) → BufTy
  | .hbm, ⟨0, _⟩ => ⟨S1024x512, .f32⟩
  | .hbm, ⟨1, _⟩ => ⟨S1024x512, .f32⟩
  | .hbm, ⟨2, _⟩ => ⟨S1024x1024, .f32⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S1024x1024, .bf16⟩
  | .hbm, ⟨7, _⟩ => ⟨S512x1024, .bf16⟩
  | .hbm, ⟨8, _⟩ => ⟨S512x1024, .bf16⟩
  | .hbm, ⟨9, _⟩ => ⟨S1x1024, .f32⟩
  | .hbm, ⟨10, _⟩ => ⟨S1x1024, .f32⟩
  | .hbm, ⟨11, _⟩ => ⟨S1024x1024, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference11Ideal.lean ====
abbrev S1024x512 : Shape := ⟨2, ![1024, 512]⟩
abbrev S1024x1024 : Shape := ⟨2, ![1024, 1024]⟩
abbrev S1024 : Shape := ⟨1, ![1024]⟩
abbrev S_ : Shape := ⟨0, ![]⟩
abbrev S1024x1 : Shape := ⟨2, ![1024, 1]⟩
abbrev S1x1024 : Shape := ⟨2, ![1, 1024]⟩

abbrev nBuf : Space → Nat
  | .hbm => 41
  | .vmem => 0
  | .smem => 0
  | _ => 0

abbrev bufTy : (tb : Table) → Fin (tcTables nBuf tb) → BufTy
  | .hbm, ⟨0, _⟩ => ⟨S1024x512, .f32⟩
  | .hbm, ⟨1, _⟩ => ⟨S1024x512, .f32⟩
  | .hbm, ⟨2, _⟩ => ⟨S1024x1024, .f32⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S_, .f32⟩
  | .hbm, ⟨7, _⟩ => ⟨S1024x1024, .f32⟩
  | .hbm, ⟨8, _⟩ => ⟨S1024x1024, .f32⟩
  | .hbm, ⟨9, _⟩ => ⟨S1024x1024, .f32⟩
  | .hbm, ⟨10, _⟩ => ⟨S1024x1024, .f32⟩
  | .hbm, ⟨11, _⟩ => ⟨S1024x1024, .f32⟩
  | .hbm, ⟨12, _⟩ => ⟨S_, .f32⟩
  | .hbm, ⟨13, _⟩ => ⟨S1024, .f32⟩
  | .hbm, ⟨14, _⟩ => ⟨S1024x1, .f32⟩
  | .hbm, ⟨15, _⟩ => ⟨S_, .f32⟩
  | .hbm, ⟨16, _⟩ => ⟨S1024x1, .f32⟩
  | .hbm, ⟨17, _⟩ => ⟨S1024x1, .f32⟩
  | .hbm, ⟨18, _⟩ => ⟨S1024x1024, .f32⟩
  | .hbm, ⟨19, _⟩ => ⟨S1024x1024, .f32⟩
  | .hbm, ⟨20, _⟩ => ⟨S1024x1024, .f32⟩
  | .hbm, ⟨21, _⟩ => ⟨S_, .f32⟩
  | .hbm, ⟨22, _⟩ => ⟨S1024, .f32⟩
  | .hbm, ⟨23, _⟩ => ⟨S1024x1, .f32⟩
  | .hbm, ⟨24, _⟩ => ⟨S_, .f32⟩
  | .hbm, ⟨25, _⟩ => ⟨S1024x1, .f32⟩
  | .hbm, ⟨26, _⟩ => ⟨S1024x1, .f32⟩
  | .hbm, ⟨27, _⟩ => ⟨S1024x1024, .f32⟩
  | .hbm, ⟨28, _⟩ => ⟨S1024x1024, .f32⟩
  | .hbm, ⟨29, _⟩ => ⟨S_, .f32⟩
  | .hbm, ⟨30, _⟩ => ⟨S1024x1, .f32⟩
  | .hbm, ⟨31, _⟩ => ⟨S1024x1, .f32⟩
  | .hbm, ⟨32, _⟩ => ⟨S1024x1, .f32⟩
  | .hbm, ⟨33, _⟩ => ⟨S1024x1024, .f32⟩
  | .hbm, ⟨34, _⟩ => ⟨S1024x1024, .f32⟩
  | .hbm, ⟨35, _⟩ => ⟨S1x1024, .f32⟩
  | .hbm, ⟨36, _⟩ => ⟨S1024x1024, .f32⟩
  | .hbm, ⟨37, _⟩ => ⟨S1024x1024, .f32⟩
  | .hbm, ⟨38, _⟩ => ⟨S1x1024, .f32⟩
  | .hbm, ⟨39, _⟩ => ⟨S1024x1024, .f32⟩
  | .hbm, ⟨40, _⟩ => ⟨S1024x1024, .f32⟩
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_4 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩

abbrev nD : Nat := 1
abbrev τ : Topo := Topo.v7x

variable {F : FTy → Type} [FloatOps F]
-- ==== Proof.Ref.lean ====
/- The reference's result read at an index: the band of nine chunks of keys and values, the bias by relative position, and the softmax over the band's 576 rows. -/
module

public import proofs.«01_k».proof.Proof.Gen.ReferenceIdeal.Run
public import Idealize.ShloMosaic.Lib.Pointwise

@[expose] public section
set_option maxRecDepth 16384
noncomputable section
namespace Cert.ReferenceIdeal.Band
open Idealize.ShloMosaic Idealize.ShloMosaic.TcCoe Idealize.SL.Sem
open Cert.ReferenceIdeal.Gen

/-- An operand split into batch, chunk, position in the chunk, head and feature. -/
def chunks (X : Vec Ideal S16384x512 .f32) : Vec Ideal S8x32x64x8x64 .f32 :=
  shapeCast _ (shapeCast _ X shapeCasts_S16384x512_S8x2048x8x64) shapeCasts_S8x2048x8x64_S8x32x64x8x64

/-- The chunks with eight chunks of zeros in front. -/
def padded (X : Vec Ideal S16384x512 .f32) : Vec Ideal S8x40x64x8x64 .f32 :=
  pad S8x40x64x8x64 ![0, 8, 0, 0, 0] ![0, 0, 0, 0, 0] ![0, 0, 0, 0, 0] (chunks X) (sitofp (F := Ideal) .f32 (constantI S_ 32 0#32))
    pads_S8x32x64x8x64_S8x40x64x8x64_000_800_000_000_000 h_S_

/-- Nine consecutive chunks from each chunk's eighth predecessor on, of the padded chunks. -/
def stack (P : Vec Ideal S8x40x64x8x64 .f32) : Vec Ideal S8x32x9x64x8x64 .f32 :=
  concatenate S8x32x9x64x8x64 2 [⟨S8x32x1x64x8x64, ((broadcastInDim S8x32x1x64x8x64 ![0, 1, 3, 4, 5] bcast_S8x32x64x8x64_S8x32x1x64x8x64_0_1_3_4_5 (extractStridedSlice S8x32x64x8x64 ![0, 0, 0, 0, 0] P slices_S8x40x64x8x64_S8x32x64x8x64_0_0_0_0_0)) : (⟨S8x32x1x64x8x64, .f32⟩ : BufTy).Contents (Elt Ideal))⟩,
    ⟨S8x32x1x64x8x64, ((broadcastInDim S8x32x1x64x8x64 ![0, 1, 3, 4, 5] bcast_S8x32x64x8x64_S8x32x1x64x8x64_0_1_3_4_5 (extractStridedSlice S8x32x64x8x64 ![0, 1, 0, 0, 0] P slices_S8x40x64x8x64_S8x32x64x8x64_0_1_0_0_0)) : (⟨S8x32x1x64x8x64, .f32⟩ : BufTy).Contents (Elt Ideal))⟩,
    ⟨S8x32x1x64x8x64, ((broadcastInDim S8x32x1x64x8x64 ![0, 1, 3, 4, 5] bcast_S8x32x64x8x64_S8x32x1x64x8x64_0_1_3_4_5 (extractStridedSlice S8x32x64x8x64 ![0, 2, 0, 0, 0] P slices_S8x40x64x8x64_S8x32x64x8x64_0_2_0_0_0)) : (⟨S8x32x1x64x8x64, .f32⟩ : BufTy).Contents (Elt Ideal))⟩,
    ⟨S8x32x1x64x8x64, ((broadcastInDim S8x32x1x64x8x64 ![0, 1, 3, 4, 5] bcast_S8x32x64x8x64_S8x32x1x64x8x64_0_1_3_4_5 (extractStridedSlice S8x32x64x8x64 ![0, 3, 0, 0, 0] P slices_S8x40x64x8x64_S8x32x64x8x64_0_3_0_0_0)) : (⟨S8x32x1x64x8x64, .f32⟩ : BufTy).Contents (Elt Ideal))⟩,
    ⟨S8x32x1x64x8x64, ((broadcastInDim S8x32x1x64x8x64 ![0, 1, 3, 4, 5] bcast_S8x32x64x8x64_S8x32x1x64x8x64_0_1_3_4_5 (extractStridedSlice S8x32x64x8x64 ![0, 4, 0, 0, 0] P slices_S8x40x64x8x64_S8x32x64x8x64_0_4_0_0_0)) : (⟨S8x32x1x64x8x64, .f32⟩ : BufTy).Contents (Elt Ideal))⟩,
    ⟨S8x32x1x64x8x64, ((broadcastInDim S8x32x1x64x8x64 ![0, 1, 3, 4, 5] bcast_S8x32x64x8x64_S8x32x1x64x8x64_0_1_3_4_5 (extractStridedSlice S8x32x64x8x64 ![0, 5, 0, 0, 0] P slices_S8x40x64x8x64_S8x32x64x8x64_0_5_0_0_0)) : (⟨S8x32x1x64x8x64, .f32⟩ : BufTy).Contents (Elt Ideal))⟩,
    ⟨S8x32x1x64x8x64, ((broadcastInDim S8x32x1x64x8x64 ![0, 1, 3, 4, 5] bcast_S8x32x64x8x64_S8x32x1x64x8x64_0_1_3_4_5 (extractStridedSlice S8x32x64x8x64 ![0, 6, 0, 0, 0] P slices_S8x40x64x8x64_S8x32x64x8x64_0_6_0_0_0)) : (⟨S8x32x1x64x8x64, .f32⟩ : BufTy).Contents (Elt Ideal))⟩,
    ⟨S8x32x1x64x8x64, ((broadcastInDim S8x32x1x64x8x64 ![0, 1, 3, 4, 5] bcast_S8x32x64x8x64_S8x32x1x64x8x64_0_1_3_4_5 (extractStridedSlice S8x32x64x8x64 ![0, 7, 0, 0, 0] P slices_S8x40x64x8x64_S8x32x64x8x64_0_7_0_0_0)) : (⟨S8x32x1x64x8x64, .f32⟩ : BufTy).Contents (Elt Ideal))⟩,
    ⟨S8x32x1x64x8x64, ((broadcastInDim S8x32x1x64x8x64 ![0, 1, 3, 4, 5] bcast_S8x32x64x8x64_S8x32x1x64x8x64_0_1_3_4_5 (extractStridedSlice S8x32x64x8x64 ![0, 8, 0, 0, 0] P slices_S8x40x64x8x64_S8x32x64x8x64_0_8_0_0_0)) : (⟨S8x32x1x64x8x64, .f32⟩ : BufTy).Contents (Elt Ideal))⟩]
    concatenates_S8x32x1x64x8x64_S8x32x1x64x8x64_S8x32x1x64x8x64_S8x32x1x64x8x64_S8x32x1x64x8x64_S8x32x1x64x8x64_S8x32x1x64x8x64_S8x32x1x64x8x64_S8x32x1x64x8x64_S8x32x9x64x8x64_d2

/-- The band of each chunk, 576 rows. -/
def band (X : Vec Ideal S16384x512 .f32) : Vec Ideal S8x32x576x8x64 .f32 :=
  shapeCast _ (stack (padded X)) shapeCasts_S8x32x9x64x8x64_S8x32x576x8x64

/-- The chunk number of each band row. -/
def rowChunk : IVec S1x576 32 :=
  select (andi (cmpi .ne (signi (broadcastInDim S1x576 ![1] bcast_S576_S1x576_1 (iotaInDim S576 32 0))) (broadcastInDim S1x576 ![] bcast_S_S1x576 (signi (id (constantI S_ 32 64#32))))) (cmpi .ne (Host.remsi (broadcastInDim S1x576 ![1] bcast_S576_S1x576_1 (iotaInDim S576 32 0)) (broadcastInDim S1x576 ![] bcast_S_S1x576 (id (constantI S_ 32 64#32)))) (broadcastInDim S1x576 ![] bcast_S_S1x576 (constantI S_ 32 0#32)))) (subi (Host.divsi (broadcastInDim S1x576 ![1] bcast_S576_S1x576_1 (iotaInDim S576 32 0)) (broadcastInDim S1x576 ![] bcast_S_S1x576 (id (constantI S_ 32 64#32)))) (broadcastInDim S1x576 ![] bcast_S_S1x576 (constantI S_ 32 1#32))) (Host.divsi (broadcastInDim S1x576 ![1] bcast_S576_S1x576_1 (iotaInDim S576 32 0)) (broadcastInDim S1x576 ![] bcast_S_S1x576 (id (constantI S_ 32 64#32))))

/-- Whether a band row lies in the sequence, by chunk. -/
def valid : IVec S32x576 1 :=
  cmpi .sge (addi (broadcastInDim S32x576 ![0, 1] bcast_S32x1_S32x576_0_1 (subi (broadcastInDim S32x1 ![0] bcast_S32_S32x1_0 (iotaInDim S32 32 0)) (broadcastInDim S32x1 ![] bcast_S_S32x1 (constantI S_ 32 8#32)))) (broadcastInDim S32x576 ![0, 1] bcast_S1x576_S32x576_0_1 rowChunk)) (broadcastInDim S32x576 ![] bcast_S_S32x576 (constantI S_ 32 0#32))

/-- The clipped relative position, from zero on. -/
def place : IVec S64x576 32 :=
  addi (minsi (broadcastInDim S64x576 ![] bcast_S_S64x576 (id (constantI S_ 32 128#32))) (maxsi (broadcastInDim S64x576 ![] bcast_S_S64x576 (id (constantI S_ 32 4294967168#32))) (subi (broadcastInDim S64x576 ![0, 1] bcast_S1x576_S64x576_0_1 (subi (broadcastInDim S1x576 ![1] bcast_S576_S1x576_1 (iotaInDim S576 32 0)) (broadcastInDim S1x576 ![] bcast_S_S1x576 (constantI S_ 32 512#32)))) (broadcastInDim S64x576 ![0, 1] bcast_S64x1_S64x576_0_1 (broadcastInDim S64x1 ![0] bcast_S64_S64x1_0 (iotaInDim S64 32 0)))))) (broadcastInDim S64x576 ![] bcast_S_S64x576 (constantI S_ 32 128#32))

/-- The table's row of a query position and a band row. -/
def tableRow : IVec S64x576 32 :=
  select (cmpi .slt place (broadcastInDim S64x576 ![] bcast_S_S64x576 (constantI S_ 32 0#32))) (addi place (broadcastInDim S64x576 ![] bcast_S_S64x576 (constantI S_ 32 257#32))) place

/-- The bias by head, query position and band row. -/
def bias (T : Vec Ideal S257x8 .f32) : Vec Ideal S8x64x576 .f32 :=
  transpose S8x64x576 [2, 0, 1] (Host.gather gather_S257x8_S64x576x1_S64x576x8_2_0_n_n_0_2_18 T (broadcastInDim S64x576x1 ![0, 1] bcast_S64x576_S64x576x1_0_1 tableRow)) transposes_S64x576x8_S8x64x576_2_0_1

/-- The scores, minus infinity before the sequence. -/
def scores (q : Vec Ideal S8x32x64x8x64 .f32) (k : Vec Ideal S8x32x576x8x64 .f32) (b : Vec Ideal S8x64x576 .f32) : Vec Ideal S8x32x8x64x576 .f32 :=
  select (broadcastInDim S8x32x8x64x576 ![0, 1, 2, 3, 4] bcast_S1x32x1x1x576_S8x32x8x64x576_0_1_2_3_4 (broadcastInDim S1x32x1x1x576 ![1, 4] bcast_S32x576_S1x32x1x1x576_1_4 valid))
    (addf (F := Ideal) (mulf (F := Ideal) (Host.dotGeneral (F := Ideal) (φ₁ := .f32) (φ₂ := .f32) dot_S8x32x64x8x64_S8x32x576x8x64_S8x32x8x64x576_4_4_2_2_013_013 none q k) (broadcastInDim S8x32x8x64x576 ![] bcast_S_S8x32x8x64x576 (constant (F := Ideal) S_ .f32 0x3E000000#32))) (broadcastInDim S8x32x8x64x576 ![0, 1, 2, 3, 4] bcast_S1x1x8x64x576_S8x32x8x64x576_0_1_2_3_4 (broadcastInDim S1x1x8x64x576 ![2, 3, 4] bcast_S8x64x576_S1x1x8x64x576_2_3_4 b)))
    (broadcastInDim S8x32x8x64x576 ![] bcast_S_S8x32x8x64x576 (id (constant (F := Ideal) S_ .f32 0xFF800000#32)))

/-- The exponentials of the scores less their maximum over the band. -/
def weights (s : Vec Ideal S8x32x8x64x576 .f32) : Vec Ideal S8x32x8x64x576 .f32 :=
  Host.exp (F := Ideal) (subf (F := Ideal) s (broadcastInDim S8x32x8x64x576 ![0, 1, 2, 3, 4] bcast_S8x32x8x64x1_S8x32x8x64x576_0_1_2_3_4 (broadcastInDim S8x32x8x64x1 ![0, 1, 2, 3] bcast_S8x32x8x64_S8x32x8x64x1_0_1_2_3 (maximumf (F := Ideal) (broadcastInDim S8x32x8x64 ![] bcast_S_S8x32x8x64 (constant (F := Ideal) S_ .f32 0xFF800000#32)) (Host.reduce (FloatOps.maximumf (F := Ideal)) s (constant (F := Ideal) S_ .f32 0xFF800000#32) reducesTo_S8x32x8x64x576_S8x32x8x64_d4 h_S_)))))

/-- The weights divided by their sum over the band. -/
def normal (e : Vec Ideal S8x32x8x64x576 .f32) : Vec Ideal S8x32x8x64x576 .f32 :=
  Host.divf (F := Ideal) e (broadcastInDim S8x32x8x64x576 ![0, 1, 2, 3, 4] bcast_S8x32x8x64x1_S8x32x8x64x576_0_1_2_3_4 (broadcastInDim S8x32x8x64x1 ![0, 1, 2, 3] bcast_S8x32x8x64_S8x32x8x64x1_0_1_2_3 (Host.reduceAdd (F := Ideal) e (constant (F := Ideal) S_ .f32 0x00000000#32) reducesTo_S8x32x8x64x576_S8x32x8x64_d4 h_S_)))

/-- The weighted sum of the band's values, by chunk. -/
def mixed (v : Vec Ideal S8x32x576x8x64 .f32) (p : Vec Ideal S8x32x8x64x576 .f32) : Vec Ideal S8x32x64x8x64 .f32 :=
  transpose S8x32x64x8x64 [0, 1, 4, 2, 3] (Host.dotGeneral (F := Ideal) (φ₁ := .f32) (φ₂ := .f32) dot_S8x32x576x8x64_S8x32x8x64x576_S8x32x8x64x64_2_4_4_3_013_012 none v p) transposes_S8x32x8x64x64_S8x32x64x8x64_0_1_4_2_3

/-- The reference's result from its arguments. -/
def result (q k v : Vec Ideal S16384x512 .f32) (T : Vec Ideal S257x8 .f32) : Vec Ideal S16384x512 .f32 :=
  shapeCast _ (mixed (band v) (normal (weights (scores (chunks q) (band k) (bias T))))) shapeCasts_S8x32x64x8x64_S16384x512

set_option maxHeartbeats 4000000 in
/-- The run's result is that term. -/
theorem result_eq (m : (ℓ : Loc nD τ sig) → Buf (Elt Ideal) ℓ) (c : Dev nD) :
    Value.res_main_v100 m c = result (m ((c.tc : Thread nD τ).loc main_arg0)) (m ((c.tc : Thread nD τ).loc main_arg1)) (m ((c.tc : Thread nD τ).loc main_arg2)) (m ((c.tc : Thread nD τ).loc main_arg3)) := by
  unfold Value.res_main_v100 result mixed normal weights scores bias tableRow place valid rowChunk band stack padded chunks
  rfl

end Cert.ReferenceIdeal.Band
-- ==== Proof.Head.lean ====
/- One head of the band attention over one tile of 128 queries: the kernel's vector operations read at an index. -/
module

public import proofs.«01_k».proof.Proof.Gen.KernelIdeal.Skeleton
public import Idealize.ShloMosaic.Lib.Pipeline.ValueKit
public import Idealize.ShloMosaic.Lib.Pointwise

@[expose] public section
set_option maxRecDepth 16384
noncomputable section
namespace Cert.KernelIdeal.Band
open Idealize.ShloMosaic Idealize.ShloMosaic.TcCoe Idealize.SL.Sem
open Cert.KernelIdeal.Gen

/-- The scale 2⁻³ as a real. -/
theorem eighth : Ideal.ofBits .f32 0x3E000000#32 = ((1 / 8 : ℝ) : EReal) := by
  simp only [Ideal.ofBits, Ideal.ieee]
  simp
  rw [← EReal.coe_mul]
  norm_num

/-- The pattern of minus infinity. -/
theorem negInf : Ideal.ofBits .f32 0xFF800000#32 = ⊥ := by
  simp [Ideal.ofBits, Ideal.ieee]

/-- The kernel's score of local key row `r` for query `c`: the product with the scaled query, plus the bias and the mask of the rows before the sequence. -/
theorem score_at (bs : FVec Ideal S640x128 .f32) (K : Vec Ideal S640x64 .bf16) (q : FVec Ideal S128x64 .bf16) (B : Vec Ideal S1x640x128 .f32) (r : Fin 640) (c : Fin 128) :
   k0_pay32 (F := Ideal) bs K q B (ix2 r c) = (∑ d : Fin 64, K (ix2 r d) * q (ix2 c d)) + (B (ix3 0 r c) + bs (ix2 r c)) := by
  pointwise [k0_pay32]

/-- A maximum over 640 rows taken as a tree over ten blocks of 64 rows. -/
theorem sup_tiles (f : Fin 640 → EReal) :
    Finset.fold max (⊥ : EReal) (fun x : Fin 64 =>
      max (max (max (max (f ⟨x, by omega⟩) (f ⟨64 + x, by omega⟩)) (max (f ⟨128 + x, by omega⟩) (f ⟨192 + x, by omega⟩)))
            (max (max (f ⟨256 + x, by omega⟩) (f ⟨320 + x, by omega⟩)) (max (f ⟨384 + x, by omega⟩) (f ⟨448 + x, by omega⟩))))
          (max (f ⟨512 + x, by omega⟩) (f ⟨576 + x, by omega⟩))) Finset.univ = Finset.univ.sup f := by
  apply le_antisymm
  · rw [Finset.fold_max_le]
    refine ⟨bot_le, fun x _ => ?_⟩
    simp only [max_le_iff]
    refine ⟨⟨⟨⟨?_, ?_⟩, ⟨?_, ?_⟩⟩, ⟨⟨?_, ?_⟩, ⟨?_, ?_⟩⟩⟩, ⟨?_, ?_⟩⟩ <;> exact Finset.le_sup (f := f) (Finset.mem_univ _)
  · refine Finset.sup_le fun r _ => ?_
    rw [Finset.le_fold_max]
    refine Or.inr ⟨⟨r % 64, by omega⟩, Finset.mem_univ _, ?_⟩
    obtain ⟨r, hr⟩ := r
    simp only [le_max_iff]
    have h : r / 64 < 10 := by omega
    have e := Nat.div_add_mod r 64
    generalize r / 64 = k at h e
    interval_cases k
    · refine Or.inl (Or.inl (Or.inl (Or.inl ?_))); exact le_of_eq (congrArg f (Fin.ext (by simp only; omega)))
    · refine Or.inl (Or.inl (Or.inl (Or.inr ?_))); exact le_of_eq (congrArg f (Fin.ext (by simp only; omega)))
    · refine Or.inl (Or.inl (Or.inr (Or.inl ?_))); exact le_of_eq (congrArg f (Fin.ext (by simp only; omega)))
    · refine Or.inl (Or.inl (Or.inr (Or.inr ?_))); exact le_of_eq (congrArg f (Fin.ext (by simp only; omega)))
    · refine Or.inl (Or.inr (Or.inl (Or.inl ?_))); exact le_of_eq (congrArg f (Fin.ext (by simp only; omega)))
    · refine Or.inl (Or.inr (Or.inl (Or.inr ?_))); exact le_of_eq (congrArg f (Fin.ext (by simp only; omega)))
    · refine Or.inl (Or.inr (Or.inr (Or.inl ?_))); exact le_of_eq (congrArg f (Fin.ext (by simp only; omega)))
    · refine Or.inl (Or.inr (Or.inr (Or.inr ?_))); exact le_of_eq (congrArg f (Fin.ext (by simp only; omega)))
    · refine Or.inr (Or.inl ?_); exact le_of_eq (congrArg f (Fin.ext (by simp only; omega)))
    · refine Or.inr (Or.inr ?_); exact le_of_eq (congrArg f (Fin.ext (by simp only; omega)))

/-- The kernel's weight before normalisation: the exponential of the score less the maximum over the 640 local rows. -/
theorem expo_at (s : FVec Ideal S640x128 .f32) (r : Fin 640) (c : Fin 128) :
    k0_pay43 (F := Ideal) s (ix2 r c) = Ideal.exp (s (ix2 r c) - Finset.univ.sup fun x : Fin 640 => s (ix2 x c)) := by
  pointwise [k0_pay43]
  rw [negInf]
  exact congrArg Ideal.exp (congrArg (s (ix2 r c) - ·) (sup_tiles fun x => s (ix2 x c)))

/-- A sum over 640 rows taken as a tree over ten blocks of 64 rows. -/
theorem sum_tiles (f : Fin 640 → EReal) :
    (∑ x : Fin 64,
      ((f ⟨x, by omega⟩ + f ⟨64 + x, by omega⟩ + (f ⟨128 + x, by omega⟩ + f ⟨192 + x, by omega⟩)
            + (f ⟨256 + x, by omega⟩ + f ⟨320 + x, by omega⟩ + (f ⟨384 + x, by omega⟩ + f ⟨448 + x, by omega⟩)))
          + (f ⟨512 + x, by omega⟩ + f ⟨576 + x, by omega⟩))) = ∑ r, f r := by
  rw [Fin.sum_univ_tiles 10 64 rfl f, Finset.sum_comm]
  refine Finset.sum_congr rfl fun x _ => ?_
  simp only [Fin.sum_univ_succ, Fin.sum_univ_zero, add_zero]
  simp only [Fin.val_succ, Fin.val_zero, Nat.zero_mul, Nat.zero_add, Nat.reduceAdd, Nat.reduceMul]
  ac_rfl

/-- The kernel's normaliser: one over the sum of the 640 weights. -/
theorem rden_at (e : FVec Ideal S640x128 .f32) (u : Fin 1) (c : Fin 128) :
    k0_pay46 (F := Ideal) e (ix2 u c) = Ideal.div 1 (∑ r : Fin 640, e (ix2 r c)) := by
  pointwise [k0_pay46]
  exact congrArg (Ideal.div 1) (sum_tiles fun r => e (ix2 r c))

/-- A sum over 640 rows taken in five blocks of 128 rows. -/
theorem sum_five (f : Fin 640 → EReal) :
    (∑ x : Fin 128, f ⟨x, by omega⟩) + (∑ x : Fin 128, f ⟨128 + x, by omega⟩) + (∑ x : Fin 128, f ⟨256 + x, by omega⟩)
      + (∑ x : Fin 128, f ⟨384 + x, by omega⟩) + (∑ x : Fin 128, f ⟨512 + x, by omega⟩) = ∑ r, f r := by
  rw [Fin.sum_univ_tiles 5 128 rfl f, Fin.sum_univ_five]
  refine congrArg₂ (· + ·) (congrArg₂ (· + ·) (congrArg₂ (· + ·) (congrArg₂ (· + ·) ?_ ?_) ?_) ?_) ?_
  all_goals exact Finset.sum_congr rfl fun x _ => congrArg f (Fin.ext (by simp))

/-- The kernel's product of the transposed values with the weights, taken in five blocks of 128 keys. -/
theorem accum_at (e : FVec Ideal S640x128 .bf16) (v0 v1 v2 v3 v4 : Vec Ideal S1x64x128 .bf16) (u : Fin 64) (c : Fin 128) (w : Fin 640 → EReal)
    (h0 : ∀ x : Fin 128, v0 (ix3 0 u x) = w ⟨x, by omega⟩) (h1 : ∀ x : Fin 128, v1 (ix3 0 u x) = w ⟨128 + x, by omega⟩)
    (h2 : ∀ x : Fin 128, v2 (ix3 0 u x) = w ⟨256 + x, by omega⟩) (h3 : ∀ x : Fin 128, v3 (ix3 0 u x) = w ⟨384 + x, by omega⟩)
    (h4 : ∀ x : Fin 128, v4 (ix3 0 u x) = w ⟨512 + x, by omega⟩) :
    k0_pay65 (F := Ideal) e v0 v1 v2 v3 v4 (ix2 u c) = ∑ r : Fin 640, w r * e (ix2 r c) := by
  pointwise [k0_pay65, h0, h1, h2, h3, h4]
  exact sum_five fun r => w r * e (ix2 r c)

/-- The head's result: the accumulated product times the normaliser. -/
theorem fin_at (e : FVec Ideal S1x128 .f32) (a : FVec Ideal S64x128 .f32) (u : Fin 64) (c : Fin 128) :
    k0_pay70 (F := Ideal) e a (ix2 u c) = a (ix2 u c) * e (ix2 0 c) := by
  pointwise [k0_pay70]

/-- The word comparison that finds the rows before the sequence. -/
theorem before_word : ∀ (g : Fin 16) (r : Fin 640),
    IntOp.cmpi CmpIPredicate.sge (BitVec.ofNat 32 r.val) (Scalar.subi (512#32) (Scalar.muli (BitVec.ofNat 32 g.val) 128#32))
      = if 512 ≤ 128 * g.val + r.val then 1#1 else 0#1 := by
  decide +kernel

/-- The mask of the local rows that lie before the sequence's first key. -/
theorem bef_at (i : grid0.Coords) (r : Fin 640) (c : Fin 128) :
    k0_pay28 (F := Ideal) i (ix2 r c) = if 512 ≤ 128 * (i 1).val + r.val then (0 : EReal) else ⊥ := by
  pointwise [k0_pay28]
  rw [before_word (i 1) r]
  split_ifs
  · rfl
  · rfl

/-- The scaled queries. -/
theorem q_at (q : Vec Ideal S128x512 .f32) (r : Fin 128) (c : Fin 512) :
    k0_pay27 (F := Ideal) q (ix2 r c) = q (ix2 r c) * ((1 / 8 : ℝ) : EReal) := by
  pointwise [k0_pay27]
  rw [eighth]
end Cert.KernelIdeal.Band
-- ==== Proof.Tile.lean ====
/- A tile of the band attention: the eight heads' chains of operations are one function, whose value is given in closed form. -/
module

public import proofs.«01_k».proof.Proof.Head

@[expose] public section
set_option maxRecDepth 16384
noncomputable section
namespace Cert.KernelIdeal.Band
open Idealize.ShloMosaic Idealize.ShloMosaic.TcCoe Idealize.SL.Sem
open Cert.KernelIdeal.Gen

/-- One head of one tile: scores, weights, normaliser, product with the values, and the final multiplication. -/
def headPay (i : grid0.Coords) (K : Vec Ideal S640x64 .bf16) (q : FVec Ideal S128x64 .bf16) (B : Vec Ideal S1x640x128 .f32)
    (v0 v1 v2 v3 v4 : Vec Ideal S1x64x128 .bf16) : FVec Ideal S64x128 .f32 :=
  k0_pay70 (k0_pay46 (k0_pay43 (k0_pay32 (k0_pay28 i) K q B)))
    (k0_pay65 (k0_pay58 (k0_pay43 (k0_pay32 (k0_pay28 i) K q B))) v0 v1 v2 v3 v4)

/-- Head 0's chain of operations is the common one, at this head's slice of the scaled queries. -/
theorem head0_eq (i : grid0.Coords) (Q : FVec Ideal S128x512 .f32) (K : Vec Ideal S640x64 .bf16) (B : Vec Ideal S1x640x128 .f32) (v0 v1 v2 v3 v4 : Vec Ideal S1x64x128 .bf16) :
    k0_pay70 (k0_pay46 (k0_pay34 (k0_pay29 i Q K B))) (k0_pay64 (k0_pay58 (k0_pay34 (k0_pay29 i Q K B))) (k0_pay62 (k0_pay34 (k0_pay29 i Q K B)) v0) k0_pay63 v1 v2 v3 v4)
      = headPay i K (extractStridedSlice S128x64 ![0, 0] (k0_pay27 Q) slices_S128x512_o0_0_S128x64) B v0 v1 v2 v3 v4 := by
  rfl

/-- Head 1's chain of operations is the common one, at this head's slice of the scaled queries. -/
theorem head1_eq (i : grid0.Coords) (Q : FVec Ideal S128x512 .f32) (K : Vec Ideal S640x64 .bf16) (B : Vec Ideal S1x640x128 .f32) (v0 v1 v2 v3 v4 : Vec Ideal S1x64x128 .bf16) :
    k0_pay71 (k0_pay47 (k0_pay42 (k0_pay30 i Q K B) (k0_pay35 (k0_pay30 i Q K B)) (k0_pay36 (k0_pay30 i Q K B)) (k0_pay37 (k0_pay30 i Q K B)) (k0_pay38 (k0_pay30 i Q K B)) (k0_pay39 (k0_pay30 i Q K B)) (k0_pay40 (k0_pay30 i Q K B)) (k0_pay41 (k0_pay30 i Q K B)))) (k0_pay65 (k0_pay59 (k0_pay42 (k0_pay30 i Q K B) (k0_pay35 (k0_pay30 i Q K B)) (k0_pay36 (k0_pay30 i Q K B)) (k0_pay37 (k0_pay30 i Q K B)) (k0_pay38 (k0_pay30 i Q K B)) (k0_pay39 (k0_pay30 i Q K B)) (k0_pay40 (k0_pay30 i Q K B)) (k0_pay41 (k0_pay30 i Q K B)))) v0 v1 v2 v3 v4)
      = headPay i K (extractStridedSlice S128x64 ![0, 64] (k0_pay27 Q) slices_S128x512_o0_64_S128x64) B v0 v1 v2 v3 v4 := by
  rfl

/-- Head 2's chain of operations is the common one, at this head's slice of the scaled queries. -/
theorem head2_eq (i : grid0.Coords) (Q : FVec Ideal S128x512 .f32) (K : Vec Ideal S640x64 .bf16) (B : Vec Ideal S1x640x128 .f32) (v0 v1 v2 v3 v4 : Vec Ideal S1x64x128 .bf16) :
    k0_pay72 (k0_pay56 (k0_pay43 (k0_pay32 (k0_pay28 i) K (k0_pay31 Q) B)) (k0_pay48 (k0_pay43 (k0_pay32 (k0_pay28 i) K (k0_pay31 Q) B))) (k0_pay49 (k0_pay43 (k0_pay32 (k0_pay28 i) K (k0_pay31 Q) B))) (k0_pay50 (k0_pay43 (k0_pay32 (k0_pay28 i) K (k0_pay31 Q) B))) (k0_pay51 (k0_pay43 (k0_pay32 (k0_pay28 i) K (k0_pay31 Q) B))) (k0_pay52 (k0_pay43 (k0_pay32 (k0_pay28 i) K (k0_pay31 Q) B))) (k0_pay53 (k0_pay43 (k0_pay32 (k0_pay28 i) K (k0_pay31 Q) B))) (k0_pay54 (k0_pay43 (k0_pay32 (k0_pay28 i) K (k0_pay31 Q) B))) (k0_pay55 (k0_pay43 (k0_pay32 (k0_pay28 i) K (k0_pay31 Q) B)))) (k0_pay67 (k0_pay60 (k0_pay43 (k0_pay32 (k0_pay28 i) K (k0_pay31 Q) B))) (k0_pay66 (k0_pay60 (k0_pay43 (k0_pay32 (k0_pay28 i) K (k0_pay31 Q) B))) v0 v1 v2 v3) v4)
      = headPay i K (extractStridedSlice S128x64 ![0, 128] (k0_pay27 Q) slices_S128x512_o0_128_S128x64) B v0 v1 v2 v3 v4 := by
  rfl

/-- Head 3's chain of operations is the common one, at this head's slice of the scaled queries. -/
theorem head3_eq (i : grid0.Coords) (Q : FVec Ideal S128x512 .f32) (K : Vec Ideal S640x64 .bf16) (B : Vec Ideal S1x640x128 .f32) (v0 v1 v2 v3 v4 : Vec Ideal S1x64x128 .bf16) :
    k0_pay73 (k0_pay57 (k0_pay45 (k0_pay33 (k0_pay27 Q) (k0_pay28 i) K B) (k0_pay44 (k0_pay33 (k0_pay27 Q) (k0_pay28 i) K B)))) (k0_pay61 (k0_pay45 (k0_pay33 (k0_pay27 Q) (k0_pay28 i) K B) (k0_pay44 (k0_pay33 (k0_pay27 Q) (k0_pay28 i) K B)))) (k0_pay68 (k0_pay61 (k0_pay45 (k0_pay33 (k0_pay27 Q) (k0_pay28 i) K B) (k0_pay44 (k0_pay33 (k0_pay27 Q) (k0_pay28 i) K B)))) v0 v1 v2) (k0_pay69 (k0_pay61 (k0_pay45 (k0_pay33 (k0_pay27 Q) (k0_pay28 i) K B) (k0_pay44 (k0_pay33 (k0_pay27 Q) (k0_pay28 i) K B)))) v3) v4
      = headPay i K (extractStridedSlice S128x64 ![0, 192] (k0_pay27 Q) slices_S128x512_o0_192_S128x64) B v0 v1 v2 v3 v4 := by
  rfl

/-- Head 4's chain of operations is the common one, at this head's slice of the scaled queries. -/
theorem head4_eq (i : grid0.Coords) (Q : FVec Ideal S128x512 .f32) (K : Vec Ideal S640x64 .bf16) (B : Vec Ideal S1x640x128 .f32) (v0 v1 v2 v3 v4 : Vec Ideal S1x64x128 .bf16) :
    k0_pay111 (k0_pay90 (k0_pay79 (k0_pay74 (k0_pay27 Q) (k0_pay28 i) K B) (k0_pay78 (k0_pay74 (k0_pay27 Q) (k0_pay28 i) K B)))) (k0_pay102 (k0_pay97 (k0_pay79 (k0_pay74 (k0_pay27 Q) (k0_pay28 i) K B) (k0_pay78 (k0_pay74 (k0_pay27 Q) (k0_pay28 i) K B)))) (k0_pay101 (k0_pay97 (k0_pay79 (k0_pay74 (k0_pay27 Q) (k0_pay28 i) K B) (k0_pay78 (k0_pay74 (k0_pay27 Q) (k0_pay28 i) K B)))) v0 v1 v2 v3) v4)
      = headPay i K (extractStridedSlice S128x64 ![0, 256] (k0_pay27 Q) slices_S128x512_o0_256_S128x64) B v0 v1 v2 v3 v4 := by
  rfl

/-- Head 5's chain of operations is the common one, at this head's slice of the scaled queries. -/
theorem head5_eq (i : grid0.Coords) (Q : FVec Ideal S128x512 .f32) (K : Vec Ideal S640x64 .bf16) (B : Vec Ideal S1x640x128 .f32) (v0 v1 v2 v3 v4 : Vec Ideal S1x64x128 .bf16) :
    k0_pay112 (k0_pay94 (k0_pay91 (k0_pay80 (k0_pay75 (k0_pay27 Q) (k0_pay28 i) K B))) (k0_pay92 (k0_pay80 (k0_pay75 (k0_pay27 Q) (k0_pay28 i) K B))) (k0_pay93 (k0_pay80 (k0_pay75 (k0_pay27 Q) (k0_pay28 i) K B)))) (k0_pay106 (k0_pay98 (k0_pay80 (k0_pay75 (k0_pay27 Q) (k0_pay28 i) K B))) (k0_pay103 (k0_pay98 (k0_pay80 (k0_pay75 (k0_pay27 Q) (k0_pay28 i) K B))) v0 v1 v2) (k0_pay104 v3) (k0_pay105 (k0_pay98 (k0_pay80 (k0_pay75 (k0_pay27 Q) (k0_pay28 i) K B)))) v4)
      = headPay i K (extractStridedSlice S128x64 ![0, 320] (k0_pay27 Q) slices_S128x512_o0_320_S128x64) B v0 v1 v2 v3 v4 := by
  rfl

/-- Head 6's chain of operations is the common one, at this head's slice of the scaled queries. -/
theorem head6_eq (i : grid0.Coords) (Q : FVec Ideal S128x512 .f32) (K : Vec Ideal S640x64 .bf16) (B : Vec Ideal S1x640x128 .f32) (v0 v1 v2 v3 v4 : Vec Ideal S1x64x128 .bf16) :
    k0_pay113 (k0_pay95 (k0_pay81 (k0_pay76 (k0_pay27 Q) (k0_pay28 i) K B))) (k0_pay108 (k0_pay99 (k0_pay81 (k0_pay76 (k0_pay27 Q) (k0_pay28 i) K B))) (k0_pay107 (k0_pay99 (k0_pay81 (k0_pay76 (k0_pay27 Q) (k0_pay28 i) K B))) v0 v1 v2) v3 v4)
      = headPay i K (extractStridedSlice S128x64 ![0, 384] (k0_pay27 Q) slices_S128x512_o0_384_S128x64) B v0 v1 v2 v3 v4 := by
  rfl

/-- Head 7's chain of operations is the common one, at this head's slice of the scaled queries. -/
theorem head7_eq (i : grid0.Coords) (Q : FVec Ideal S128x512 .f32) (K : Vec Ideal S640x64 .bf16) (B : Vec Ideal S1x640x128 .f32) (v0 v1 v2 v3 v4 : Vec Ideal S1x64x128 .bf16) :
    k0_pay1 (k0_pay114 (k0_pay96 (k0_pay89 (k0_pay77 (k0_pay27 Q) (k0_pay28 i) K B) (k0_pay82 (k0_pay77 (k0_pay27 Q) (k0_pay28 i) K B)) (k0_pay83 (k0_pay77 (k0_pay27 Q) (k0_pay28 i) K B)) (k0_pay84 (k0_pay77 (k0_pay27 Q) (k0_pay28 i) K B)) (k0_pay85 (k0_pay77 (k0_pay27 Q) (k0_pay28 i) K B)) (k0_pay86 (k0_pay77 (k0_pay27 Q) (k0_pay28 i) K B)) (k0_pay87 (k0_pay77 (k0_pay27 Q) (k0_pay28 i) K B)) (k0_pay88 (k0_pay77 (k0_pay27 Q) (k0_pay28 i) K B)))) (k0_pay100 (k0_pay89 (k0_pay77 (k0_pay27 Q) (k0_pay28 i) K B) (k0_pay82 (k0_pay77 (k0_pay27 Q) (k0_pay28 i) K B)) (k0_pay83 (k0_pay77 (k0_pay27 Q) (k0_pay28 i) K B)) (k0_pay84 (k0_pay77 (k0_pay27 Q) (k0_pay28 i) K B)) (k0_pay85 (k0_pay77 (k0_pay27 Q) (k0_pay28 i) K B)) (k0_pay86 (k0_pay77 (k0_pay27 Q) (k0_pay28 i) K B)) (k0_pay87 (k0_pay77 (k0_pay27 Q) (k0_pay28 i) K B)) (k0_pay88 (k0_pay77 (k0_pay27 Q) (k0_pay28 i) K B)))) (k0_pay109 (k0_pay100 (k0_pay89 (k0_pay77 (k0_pay27 Q) (k0_pay28 i) K B) (k0_pay82 (k0_pay77 (k0_pay27 Q) (k0_pay28 i) K B)) (k0_pay83 (k0_pay77 (k0_pay27 Q) (k0_pay28 i) K B)) (k0_pay84 (k0_pay77 (k0_pay27 Q) (k0_pay28 i) K B)) (k0_pay85 (k0_pay77 (k0_pay27 Q) (k0_pay28 i) K B)) (k0_pay86 (k0_pay77 (k0_pay27 Q) (k0_pay28 i) K B)) (k0_pay87 (k0_pay77 (k0_pay27 Q) (k0_pay28 i) K B)) (k0_pay88 (k0_pay77 (k0_pay27 Q) (k0_pay28 i) K B)))) v0 v1) (k0_pay110 v2) v3 v4)
      = headPay i K (extractStridedSlice S128x64 ![0, 448] (k0_pay27 Q) slices_S128x512_o0_448_S128x64) B v0 v1 v2 v3 v4 := by
  rfl

/-- The attention's result for one query and one feature: scores `sc` and values `w` over the 640 local rows. -/
def soft (sc w : Fin 640 → EReal) : EReal :=
  (∑ r, w r * Ideal.exp (sc r - Finset.univ.sup sc)) * Ideal.div 1 (∑ r, Ideal.exp (sc r - Finset.univ.sup sc))

/-- The padded keys' row number of a tile's local row. -/
abbrev padRow (g : Fin 16) (r : Fin 640) : Fin 2560 := ⟨128 * g.val + r.val, by omega⟩

/-- The column of feature `d` of head `h`. -/
abbrev col (h : Fin 8) (d : Fin 64) : Fin 512 := ⟨64 * h.val + d.val, by omega⟩

/-- The kernel's score in a tile: head `h`, local row `r`, query `c`. -/
def tileScore (g : Fin 16) (Q : Fin 128 → Fin 512 → EReal) (B : Fin 8 → Fin 640 → Fin 128 → EReal) (kF : Fin 2560 → Fin 512 → EReal)
    (h : Fin 8) (c : Fin 128) (r : Fin 640) : EReal :=
  (∑ d : Fin 64, kF (padRow g r) (col h d) * (Q c (col h d) * ((1 / 8 : ℝ) : EReal)))
    + (B h r c + if 512 ≤ 128 * g.val + r.val then (0 : EReal) else ⊥)

/-- The kernel's result in a tile: head `h`, feature `u`, query `c`. -/
def tileVal (g : Fin 16) (Q : Fin 128 → Fin 512 → EReal) (B : Fin 8 → Fin 640 → Fin 128 → EReal) (kF vF : Fin 2560 → Fin 512 → EReal)
    (h : Fin 8) (u : Fin 64) (c : Fin 128) : EReal :=
  soft (tileScore g Q B kF h c) fun r => vF (padRow g r) (col h u)

/-- A head's chain of operations at an index, from what its operands hold. -/
theorem head_at (i : grid0.Coords) (g : Fin 16) (hg : i 1 = g) (K : Vec Ideal S640x64 .bf16) (q : FVec Ideal S128x64 .bf16) (Bh : Vec Ideal S1x640x128 .f32)
    (v0 v1 v2 v3 v4 : Vec Ideal S1x64x128 .bf16)
    (Q : Fin 128 → Fin 512 → EReal) (B : Fin 8 → Fin 640 → Fin 128 → EReal) (kF vF : Fin 2560 → Fin 512 → EReal) (h : Fin 8)
    (hK : ∀ (r : Fin 640) (d : Fin 64), K (ix2 r d) = kF (padRow g r) (col h d))
    (hq : ∀ (c : Fin 128) (d : Fin 64), q (ix2 c d) = Q c (col h d) * ((1 / 8 : ℝ) : EReal))
    (hB : ∀ (r : Fin 640) (c : Fin 128), Bh (ix3 0 r c) = B h r c)
    (h0 : ∀ (u : Fin 64) (x : Fin 128), v0 (ix3 0 u x) = vF (padRow g ⟨x, by omega⟩) (col h u))
    (h1 : ∀ (u : Fin 64) (x : Fin 128), v1 (ix3 0 u x) = vF (padRow g ⟨128 + x, by omega⟩) (col h u))
    (h2 : ∀ (u : Fin 64) (x : Fin 128), v2 (ix3 0 u x) = vF (padRow g ⟨256 + x, by omega⟩) (col h u))
    (h3 : ∀ (u : Fin 64) (x : Fin 128), v3 (ix3 0 u x) = vF (padRow g ⟨384 + x, by omega⟩) (col h u))
    (h4 : ∀ (u : Fin 64) (x : Fin 128), v4 (ix3 0 u x) = vF (padRow g ⟨512 + x, by omega⟩) (col h u))
    (u : Fin 64) (c : Fin 128) :
    headPay i K q Bh v0 v1 v2 v3 v4 (ix2 u c) = tileVal g Q B kF vF h u c := by
  subst hg
  have hs : ∀ r : Fin 640, k0_pay32 (k0_pay28 (F := Ideal) i) K q Bh (ix2 r c) = tileScore (i 1) Q B kF h c r := by
    intro r
    rw [score_at, bef_at, hB]
    refine congrArg (· + _) (Finset.sum_congr rfl fun d _ => ?_)
    rw [hK, hq]
  have he : ∀ r : Fin 640, k0_pay43 (k0_pay32 (k0_pay28 (F := Ideal) i) K q Bh) (ix2 r c)
      = Ideal.exp (tileScore (i 1) Q B kF h c r - Finset.univ.sup (tileScore (i 1) Q B kF h c)) := by
    intro r
    rw [expo_at, hs]
    exact congrArg (fun f => Ideal.exp (tileScore (i 1) Q B kF h c r - Finset.univ.sup f)) (funext hs)
  unfold headPay tileVal soft
  rw [fin_at, rden_at, accum_at _ v0 v1 v2 v3 v4 u c (fun r => vF (padRow (i 1) r) (col h u)) (h0 u) (h1 u) (h2 u) (h3 u) (h4 u)]
  refine congrArg₂ (· * ·) (Finset.sum_congr rfl fun r _ => congrArg (_ * ·) ?_) (congrArg (Ideal.div 1) (Finset.sum_congr rfl fun r _ => he r))
  exact he r

end Cert.KernelIdeal.Band
-- ==== Proof.Tiles.lean ====
module

public import proofs.«01_k».proof.Proof.Gen.KernelIdeal.Value
public import proofs.«01_k».proof.Proof.Tile
public import Idealize.ShloMosaic.Lib.VecWindow

@[expose] public section
set_option maxRecDepth 16384
noncomputable section
namespace Cert.KernelIdeal.Band
open Idealize.ShloMosaic Idealize.ShloMosaic.TcCoe Idealize.SL.Sem
open Idealize.ShloMosaic.Pipeline (Dat)
open Cert.KernelIdeal.Gen
variable (m : (ℓ : Loc nD τ sig) → Buf (Elt Ideal) ℓ)

/-- A tile's values laid out as the kernel's scratch holds them: row = head and feature, column = query. -/
def tileT (g : Fin 16) (Q : Fin 128 → Fin 512 → EReal) (B : Fin 8 → Fin 640 → Fin 128 → EReal) (kF vF : Fin 2560 → Fin 512 → EReal) :
    Vec Ideal S512x128 .f32 := fun j =>
  tileVal g Q B kF vF ⟨(j 0).val / 64, by have : (j 0).val < 512 := (j 0).isLt; omega⟩ ⟨(j 0).val % 64, Nat.mod_lt _ (by decide)⟩ (j 1)

/-- One element of the stored tile, from the block functions: which head and which column of the head it belongs to. -/
theorem tileT_at (g : Fin 16) (Q : Fin 128 → Fin 512 → EReal) (B : Fin 8 → Fin 640 → Fin 128 → EReal) (kF vF : Fin 2560 → Fin 512 → EReal)
    (j : S512x128.Idx) (h : Fin 8) (u : Fin 64) (c : Fin 128) (hu : (j 0).val = 64 * h.val + u.val) (hc : (j 1).val = c.val) :
    tileT g Q B kF vF j = tileVal g Q B kF vF h u c := by
  unfold tileT
  have e1 : (⟨(j 0).val / 64, by have : (j 0).val < 512 := (j 0).isLt; omega⟩ : Fin 8) = h := Fin.ext (by show (j 0).val / 64 = h.val; omega)
  have e2 : (⟨(j 0).val % 64, Nat.mod_lt _ (by decide)⟩ : Fin 64) = u := Fin.ext (by show (j 0).val % 64 = u.val; omega)
  rw [e1, e2, show j 1 = c from Fin.ext hc]

/-- A load of a head's keys reads the padded keys from the tile's first row on. -/
theorem key_load (g : Fin 16) (kF : Fin 2560 → Fin 512 → EReal) (KB : Vec Ideal S2560x512 .bf16) (hkb : ∀ (p : Fin 2560) (e : Fin 512), KB (ix2 p e) = kF p e)
    (h : Fin 8) (n : Nat) (off : Fin 2 → Nat) (hin : ∀ a, off a + (![640, 64] : Fin 2 → Nat) a ≤ S2560x512.size a) (ho : off = ![128 * n, 64 * h.val]) (hg : n = g.val) (r : Fin 640) (d : Fin 64) :
    View.ld KB (Rect.unit (s := S2560x512) off ![640, 64] hin) (ix2 r d) = kF (padRow g r) (col h d) := by
  subst ho hg
  pointwise [hkb]

/-- A load of a head's values reads one block of 128 padded rows, transposed. -/
theorem value_load (g : Fin 16) (vF : Fin 2560 → Fin 512 → EReal) (VT : Vec Ideal S20x512x128 .bf16)
    (hvt : ∀ (n : Fin 20) (e : Fin 512) (l : Fin 128), VT (ix3 n e l) = vF ⟨128 * n.val + l.val, by omega⟩ e)
    (h : Fin 8) (k : Fin 5) (n : Nat) (off : Fin 3 → Nat) (hin : ∀ a, off a + (![1, 64, 128] : Fin 3 → Nat) a ≤ S20x512x128.size a) (ho : off = ![n + k.val, 64 * h.val, 0]) (hg : n = g.val) (u : Fin 64) (x : Fin 128) :
    View.ld VT (Rect.unit (s := S20x512x128) off ![1, 64, 128] hin) (ix3 0 u x) = vF (padRow g ⟨128 * k.val + x.val, by omega⟩) (col h u) := by
  subst ho hg
  pointwise [hvt]
  exact congrArg₂ vF (Fin.ext (by show 128 * (g.val + k.val) + x.val = 128 * g.val + (128 * k.val + x.val); omega)) rfl

/-- The first of a head's five blocks of values. -/
theorem value_load0 (g : Fin 16) (vF : Fin 2560 → Fin 512 → EReal) (VT : Vec Ideal S20x512x128 .bf16)
    (hvt : ∀ (n : Fin 20) (e : Fin 512) (l : Fin 128), VT (ix3 n e l) = vF ⟨128 * n.val + l.val, by omega⟩ e)
    (h : Fin 8) (n : Nat) (off : Fin 3 → Nat) (hin : ∀ a, off a + (![1, 64, 128] : Fin 3 → Nat) a ≤ S20x512x128.size a) (ho : off = ![n + (0 : Fin 5).val, 64 * h.val, 0]) (hg : n = g.val) (u : Fin 64) (x : Fin 128) :
    View.ld VT (Rect.unit (s := S20x512x128) off ![1, 64, 128] hin) (ix3 0 u x) = vF (padRow g ⟨x.val, by omega⟩) (col h u) :=
  (value_load g vF VT hvt h 0 n off hin ho hg u x).trans (congrArg₂ vF (Fin.ext (by simp)) rfl)

set_option maxHeartbeats 2000000 in
/-- A tile that is not its sequence's first: what it writes, when the carried key and value copies hold the sequence. -/
theorem tile_B (c : Dev nD) (t : Fin cfg0.N) (h0 : ¬t.val % 16 = 0) (g : Fin 16) (hg : (grid0.coords t 1).val = g.val) (kF vF : Fin 2560 → Fin 512 → EReal)
    (hkb : ∀ (p : Fin 2560) (e : Fin 512), (outsAt0 m c (t.val - 1) (Nat.lt_of_le_of_lt (Nat.sub_le _ _) t.isLt)).2.1 (ix2 p e) = kF p e)
    (hvt : ∀ (n : Fin 20) (e : Fin 512) (l : Fin 128), (outsAt0 m c (t.val - 1) (Nat.lt_of_le_of_lt (Nat.sub_le _ _) t.isLt)).2.2 (ix3 n e l) = vF ⟨128 * n.val + l.val, by omega⟩ e) :
    (outsAt0 m c t.val t.isLt).1 = k0_pay2 (F := Ideal) (tileT g (fun x e => iblk m c 0 t (ix2 x e)) (fun h r x => iblk m c 3 t (ix3 h r x)) kF vF) := by
  rw [outsAt0_B m c t h0]
  dsimp only
  revert hkb hvt
  generalize (outsAt0 m c (t.val - 1) (Nat.lt_of_le_of_lt (Nat.sub_le _ _) t.isLt)).2.1 = KB
  generalize (outsAt0 m c (t.val - 1) (Nat.lt_of_le_of_lt (Nat.sub_le _ _) t.isLt)).2.2 = VT
  frame_out
  intro hkb hvt
  revert hg
  generalize grid0.coords t = I
  intro hg
  generalize iblk m c 0 t = Q
  generalize iblk m c 3 t = B
  refine congrArg (k0_pay2 (F := Ideal)) ?_
  rw [View.readCov_eq_canon']
  have e0 : ∀ hw : (Memref.whole cc0_scratch0).IsWhole, View.read (Elt Ideal) (View.whole cc0_scratch0) (hw.unread KB) = KB := fun hw => hw.read_unread KB
  have e1 : ∀ hw : (Memref.whole cc0_scratch1).IsWhole, View.read (Elt Ideal) (View.whole cc0_scratch1) (hw.unread VT) = VT := fun hw => hw.read_unread VT
  rw [e0, e1]
  funext j
  refine (congrArg (View.canon _) (show _ = j from by
    first | exact Rect.emb_unit_full _ _ | (funext a; fin_cases a <;> exact Fin.ext (by simp [Rect.idx, Rect.emb])))).trans ?_
  canon_tiles x hh
  case piece7 =>
    rw [head0_eq]
    refine Eq.trans ?_ (tileT_at g _ _ _ _ j 0 (x 0) (x 1) (by simpa using hh0) hh1).symm
    rw [show x = ix2 (x 0) (x 1) from by pointwise]
    refine head_at I g (Fin.ext hg) _ _ _ _ _ _ _ _ _ _ _ _ 0 ?_ ?_ ?_ ?_ ?_ ?_ ?_ ?_ (x 0) (x 1)
    · exact key_load g kF _ hkb 0 _ _ _ (k0_off1_eq I) hg
    · intro r d
      refine Eq.trans ?_ (q_at Q r (col 0 d))
      pointwise
      exact congrArg (fun e => k0_pay27 (F := Ideal) Q (ix2 r e)) (Fin.ext (by simp))
    · intro r d
      pointwise
    · exact value_load0 g vF _ hvt 0 _ _ _ (k0_off5_eq I 0) hg
    · exact value_load g vF _ hvt 0 1 _ _ _ (k0_off5_eq I 1) hg
    · exact value_load g vF _ hvt 0 2 _ _ _ (k0_off5_eq I 2) hg
    · exact value_load g vF _ hvt 0 3 _ _ _ (k0_off5_eq I 3) hg
    · exact value_load g vF _ hvt 0 4 _ _ _ (k0_off5_eq I 4) hg
  case piece6 =>
    rw [head1_eq]
    refine Eq.trans ?_ (tileT_at g _ _ _ _ j 1 (x 0) (x 1) (by simpa using hh0) hh1).symm
    rw [show x = ix2 (x 0) (x 1) from by pointwise]
    refine head_at I g (Fin.ext hg) _ _ _ _ _ _ _ _ _ _ _ _ 1 ?_ ?_ ?_ ?_ ?_ ?_ ?_ ?_ (x 0) (x 1)
    · exact key_load g kF _ hkb 1 _ _ _ (k0_off2_eq I) hg
    · intro r d
      refine Eq.trans ?_ (q_at Q r (col 1 d))
      pointwise
      exact congrArg (fun e => k0_pay27 (F := Ideal) Q (ix2 r e)) (Fin.ext (by simp))
    · intro r d
      pointwise
    · exact value_load0 g vF _ hvt 1 _ _ _ (k0_off6_eq I 0) hg
    · exact value_load g vF _ hvt 1 1 _ _ _ (k0_off6_eq I 1) hg
    · exact value_load g vF _ hvt 1 2 _ _ _ (k0_off6_eq I 2) hg
    · exact value_load g vF _ hvt 1 3 _ _ _ (k0_off6_eq I 3) hg
    · exact value_load g vF _ hvt 1 4 _ _ _ (k0_off6_eq I 4) hg
  case piece5 =>
    rw [head2_eq]
    refine Eq.trans ?_ (tileT_at g _ _ _ _ j 2 (x 0) (x 1) (by simpa using hh0) hh1).symm
    rw [show x = ix2 (x 0) (x 1) from by pointwise]
    refine head_at I g (Fin.ext hg) _ _ _ _ _ _ _ _ _ _ _ _ 2 ?_ ?_ ?_ ?_ ?_ ?_ ?_ ?_ (x 0) (x 1)
    · exact key_load g kF _ hkb 2 _ _ _ (k0_off3_eq I) hg
    · intro r d
      refine Eq.trans ?_ (q_at Q r (col 2 d))
      pointwise
      exact congrArg (fun e => k0_pay27 (F := Ideal) Q (ix2 r e)) (Fin.ext (by simp))
    · intro r d
      pointwise
    · exact value_load0 g vF _ hvt 2 _ _ _ (k0_off7_eq I 0) hg
    · exact value_load g vF _ hvt 2 1 _ _ _ (k0_off7_eq I 1) hg
    · exact value_load g vF _ hvt 2 2 _ _ _ (k0_off7_eq I 2) hg
    · exact value_load g vF _ hvt 2 3 _ _ _ (k0_off7_eq I 3) hg
    · exact value_load g vF _ hvt 2 4 _ _ _ (k0_off7_eq I 4) hg
  case piece4 =>
    rw [head3_eq]
    refine Eq.trans ?_ (tileT_at g _ _ _ _ j 3 (x 0) (x 1) (by simpa using hh0) hh1).symm
    rw [show x = ix2 (x 0) (x 1) from by pointwise]
    refine head_at I g (Fin.ext hg) _ _ _ _ _ _ _ _ _ _ _ _ 3 ?_ ?_ ?_ ?_ ?_ ?_ ?_ ?_ (x 0) (x 1)
    · exact key_load g kF _ hkb 3 _ _ _ (k0_off4_eq I) hg
    · intro r d
      refine Eq.trans ?_ (q_at Q r (col 3 d))
      pointwise
      exact congrArg (fun e => k0_pay27 (F := Ideal) Q (ix2 r e)) (Fin.ext (by simp))
    · intro r d
      pointwise
    · exact value_load0 g vF _ hvt 3 _ _ _ (k0_off8_eq I 0) hg
    · exact value_load g vF _ hvt 3 1 _ _ _ (k0_off8_eq I 1) hg
    · exact value_load g vF _ hvt 3 2 _ _ _ (k0_off8_eq I 2) hg
    · exact value_load g vF _ hvt 3 3 _ _ _ (k0_off8_eq I 3) hg
    · exact value_load g vF _ hvt 3 4 _ _ _ (k0_off8_eq I 4) hg
  case piece3 =>
    rw [head4_eq]
    refine Eq.trans ?_ (tileT_at g _ _ _ _ j 4 (x 0) (x 1) (by simpa using hh0) hh1).symm
    rw [show x = ix2 (x 0) (x 1) from by pointwise]
    refine head_at I g (Fin.ext hg) _ _ _ _ _ _ _ _ _ _ _ _ 4 ?_ ?_ ?_ ?_ ?_ ?_ ?_ ?_ (x 0) (x 1)
    · exact key_load g kF _ hkb 4 _ _ _ (k0_off9_eq I) hg
    · intro r d
      refine Eq.trans ?_ (q_at Q r (col 4 d))
      pointwise
      exact congrArg (fun e => k0_pay27 (F := Ideal) Q (ix2 r e)) (Fin.ext (by simp))
    · intro r d
      pointwise
    · exact value_load0 g vF _ hvt 4 _ _ _ (k0_off13_eq I 0) hg
    · exact value_load g vF _ hvt 4 1 _ _ _ (k0_off13_eq I 1) hg
    · exact value_load g vF _ hvt 4 2 _ _ _ (k0_off13_eq I 2) hg
    · exact value_load g vF _ hvt 4 3 _ _ _ (k0_off13_eq I 3) hg
    · exact value_load g vF _ hvt 4 4 _ _ _ (k0_off13_eq I 4) hg
  case piece2 =>
    rw [head5_eq]
    refine Eq.trans ?_ (tileT_at g _ _ _ _ j 5 (x 0) (x 1) (by simpa using hh0) hh1).symm
    rw [show x = ix2 (x 0) (x 1) from by pointwise]
    refine head_at I g (Fin.ext hg) _ _ _ _ _ _ _ _ _ _ _ _ 5 ?_ ?_ ?_ ?_ ?_ ?_ ?_ ?_ (x 0) (x 1)
    · exact key_load g kF _ hkb 5 _ _ _ (k0_off10_eq I) hg
    · intro r d
      refine Eq.trans ?_ (q_at Q r (col 5 d))
      pointwise
      exact congrArg (fun e => k0_pay27 (F := Ideal) Q (ix2 r e)) (Fin.ext (by simp))
    · intro r d
      pointwise
    · exact value_load0 g vF _ hvt 5 _ _ _ (k0_off14_eq I 0) hg
    · exact value_load g vF _ hvt 5 1 _ _ _ (k0_off14_eq I 1) hg
    · exact value_load g vF _ hvt 5 2 _ _ _ (k0_off14_eq I 2) hg
    · exact value_load g vF _ hvt 5 3 _ _ _ (k0_off14_eq I 3) hg
    · exact value_load g vF _ hvt 5 4 _ _ _ (k0_off14_eq I 4) hg
  case piece1 =>
    rw [head6_eq]
    refine Eq.trans ?_ (tileT_at g _ _ _ _ j 6 (x 0) (x 1) (by simpa using hh0) hh1).symm
    rw [show x = ix2 (x 0) (x 1) from by pointwise]
    refine head_at I g (Fin.ext hg) _ _ _ _ _ _ _ _ _ _ _ _ 6 ?_ ?_ ?_ ?_ ?_ ?_ ?_ ?_ (x 0) (x 1)
    · exact key_load g kF _ hkb 6 _ _ _ (k0_off11_eq I) hg
    · intro r d
      refine Eq.trans ?_ (q_at Q r (col 6 d))
      pointwise
      exact congrArg (fun e => k0_pay27 (F := Ideal) Q (ix2 r e)) (Fin.ext (by simp))
    · intro r d
      pointwise
    · exact value_load0 g vF _ hvt 6 _ _ _ (k0_off15_eq I 0) hg
    · exact value_load g vF _ hvt 6 1 _ _ _ (k0_off15_eq I 1) hg
    · exact value_load g vF _ hvt 6 2 _ _ _ (k0_off15_eq I 2) hg
    · exact value_load g vF _ hvt 6 3 _ _ _ (k0_off15_eq I 3) hg
    · exact value_load g vF _ hvt 6 4 _ _ _ (k0_off15_eq I 4) hg
  case piece0 =>
    rw [head7_eq]
    refine Eq.trans ?_ (tileT_at g _ _ _ _ j 7 (x 0) (x 1) (by simpa using hh0) hh1).symm
    rw [show x = ix2 (x 0) (x 1) from by pointwise]
    refine head_at I g (Fin.ext hg) _ _ _ _ _ _ _ _ _ _ _ _ 7 ?_ ?_ ?_ ?_ ?_ ?_ ?_ ?_ (x 0) (x 1)
    · exact key_load g kF _ hkb 7 _ _ _ (k0_off12_eq I) hg
    · intro r d
      refine Eq.trans ?_ (q_at Q r (col 7 d))
      pointwise
      exact congrArg (fun e => k0_pay27 (F := Ideal) Q (ix2 r e)) (Fin.ext (by simp))
    · intro r d
      pointwise
    · exact value_load0 g vF _ hvt 7 _ _ _ (k0_off16_eq I 0) hg
    · exact value_load g vF _ hvt 7 1 _ _ _ (k0_off16_eq I 1) hg
    · exact value_load g vF _ hvt 7 2 _ _ _ (k0_off16_eq I 2) hg
    · exact value_load g vF _ hvt 7 3 _ _ _ (k0_off16_eq I 3) hg
    · exact value_load g vF _ hvt 7 4 _ _ _ (k0_off16_eq I 4) hg
/-- The padded keys (or values) a batch's tiles read: 512 zero rows, then the batch's 2048 rows. -/
def padF (X : S1x2048x512.Idx → EReal) (p : Fin 2560) (e : Fin 512) : EReal :=
  if h : p.val < 512 then 0 else X (ix3 0 ⟨p.val - 512, by omega⟩ e)

/-- The first 512 padded rows are zero. -/
theorem padF_lo (X : S1x2048x512.Idx → EReal) (p : Fin 2560) (e : Fin 512) (h : p.val < 512) : padF X p e = 0 := by
  unfold padF; rw [dif_pos h]

/-- A padded row from 512 on is the batch's row 512 earlier. -/
theorem padF_hi (X : S1x2048x512.Idx → EReal) (p : Fin 2560) (e : Fin 512) (n : Fin 2048) (h : p.val = 512 + n.val) : padF X p e = X (ix3 0 n e) := by
  unfold padF; rw [dif_neg (by omega)]; exact congrArg (fun r => X (ix3 0 r e)) (Fin.ext (by show p.val - 512 = n.val; omega))

/-- The bits of the half-width zero are zero. -/
theorem zero_half : Ideal.ofBits .bf16 0x0000#16 = 0 := by
  simp only [Ideal.ofBits, Ideal.ieee]; simp

/-- A slab of the values' scratch holds the blocks it names. -/
theorem mem_slab (k sz : Nat) (hin : ∀ a, (![k, 0, 0] : Fin 3 → Nat) a + (![sz, 512, 128] : Fin 3 → Nat) a ≤ S20x512x128.size a) (n : Fin 20) (e : Fin 512) (l : Fin 128) :
    (ix3 n e l : S20x512x128.Idx) ∈ (Rect.unit (s := S20x512x128) ![k, 0, 0] ![sz, 512, 128] hin).set ↔ k ≤ n.val ∧ n.val < k + sz := by
  rw [Rect.mem_set_unit]
  constructor
  · intro h; exact h 0
  · rintro h a
    fin_cases a
    · exact h
    · exact ⟨Nat.zero_le _, by show e.val < 0 + 512; omega⟩
    · exact ⟨Nat.zero_le _, by show l.val < 0 + 128; omega⟩

set_option maxHeartbeats 2000000 in
/-- A sequence's first tile: what it writes, the key and value copies being the ones that it makes itself. -/
theorem tile_A (c : Dev nD) (t : Fin cfg0.N) (h0 : t.val % 16 = 0) (g : Fin 16) (hg : (grid0.coords t 1).val = g.val) :
    (outsAt0 m c t.val t.isLt).1 = k0_pay2 (F := Ideal) (tileT g (fun x e => iblk m c 0 t (ix2 x e)) (fun h r x => iblk m c 3 t (ix3 h r x))
      (padF (iblk m c 1 t)) (padF (iblk m c 2 t)))
    ∧ (∀ (p : Fin 2560) (e : Fin 512), (outsAt0 m c t.val t.isLt).2.1 (ix2 p e) = padF (iblk m c 1 t) p e)
    ∧ (∀ (n : Fin 20) (e : Fin 512) (l : Fin 128), (outsAt0 m c t.val t.isLt).2.2 (ix3 n e l) = padF (iblk m c 2 t) ⟨128 * n.val + l.val, by omega⟩ e) := by
  rw [outsAt0_A m c t h0]
  dsimp only
  frame_out
  revert hg
  generalize grid0.coords t = I
  intro hg
  generalize iblk m c 0 t = Q
  generalize iblk m c 1 t = X1
  generalize iblk m c 2 t = X2
  generalize iblk m c 3 t = B
  generalize hK : View.canon (Val := Elt Ideal) (s := S2560x512) (e := .bf16) _ = KB
  generalize hV : View.canon (Val := Elt Ideal) (s := S20x512x128) (e := .bf16) _ = VT
  have hkb : ∀ (p : Fin 2560) (e : Fin 512), KB (ix2 p e) = padF X1 p e := by
    intro p e
    rw [← hK]
    canon_tiles x hh
    case piece0 =>
      refine Eq.trans ?_ (padF_hi X1 p e ⟨1536 + (x 0).val, by omega⟩ (hh0.trans (by show _ = 512 + (1536 + (x 0).val); omega))).symm
      obtain rfl : e = x 1 := Fin.ext (hh1.trans (by simp))
      pointwise
    case piece1 =>
      refine Eq.trans ?_ (padF_hi X1 p e ⟨1024 + (x 0).val, by omega⟩ (hh0.trans (by show _ = 512 + (1024 + (x 0).val); omega))).symm
      obtain rfl : e = x 1 := Fin.ext (hh1.trans (by simp))
      pointwise
    case piece2 =>
      refine Eq.trans ?_ (padF_hi X1 p e ⟨512 + (x 0).val, by omega⟩ (hh0.trans (by show _ = 512 + (512 + (x 0).val); omega))).symm
      obtain rfl : e = x 1 := Fin.ext (hh1.trans (by simp))
      pointwise
    case piece3 =>
      refine Eq.trans ?_ (padF_hi X1 p e ⟨0 + (x 0).val, by omega⟩ (hh0.trans (by show _ = 512 + (0 + (x 0).val); omega))).symm
      obtain rfl : e = x 1 := Fin.ext (hh1.trans (by simp))
      pointwise
    case piece4 =>
      refine Eq.trans ?_ (padF_lo X1 p e (hh0.trans_lt x0_lt)).symm
      pointwise
  have hvt : ∀ (n : Fin 20) (e : Fin 512) (l : Fin 128), VT (ix3 n e l) = padF X2 ⟨128 * n.val + l.val, by omega⟩ e := by
    intro n e l
    rw [← hV]
    canon_tiles x hh using (by simp only [List.exists_mem_cons_iff, mem_slab]; omega)
    case piece0 =>
      have hn : n.val = 19 + (x 0).val := hh0
      refine Eq.trans ?_ (padF_hi X2 ⟨128 * n.val + l.val, by omega⟩ e ⟨1920 + l.val, by omega⟩ (by show 128 * n.val + l.val = 512 + (1920 + l.val); omega)).symm
      obtain rfl : e = x 1 := Fin.ext hh1
      obtain rfl : l = x 2 := Fin.ext hh2
      pointwise [k0_pay23, k0_pay24, k0_pay25, k0_pay26]
    case piece1 =>
      have hn : n.val = 18 + (x 0).val := hh0
      refine Eq.trans ?_ (padF_hi X2 ⟨128 * n.val + l.val, by omega⟩ e ⟨1792 + l.val, by omega⟩ (by show 128 * n.val + l.val = 512 + (1792 + l.val); omega)).symm
      obtain rfl : e = x 1 := Fin.ext hh1
      obtain rfl : l = x 2 := Fin.ext hh2
      pointwise [k0_pay23, k0_pay24, k0_pay25, k0_pay26]
    case piece2 =>
      have hn : n.val = 17 + (x 0).val := hh0
      refine Eq.trans ?_ (padF_hi X2 ⟨128 * n.val + l.val, by omega⟩ e ⟨1664 + l.val, by omega⟩ (by show 128 * n.val + l.val = 512 + (1664 + l.val); omega)).symm
      obtain rfl : e = x 1 := Fin.ext hh1
      obtain rfl : l = x 2 := Fin.ext hh2
      pointwise [k0_pay23, k0_pay24, k0_pay25, k0_pay26]
    case piece3 =>
      have hn : n.val = 16 + (x 0).val := hh0
      refine Eq.trans ?_ (padF_hi X2 ⟨128 * n.val + l.val, by omega⟩ e ⟨1536 + l.val, by omega⟩ (by show 128 * n.val + l.val = 512 + (1536 + l.val); omega)).symm
      obtain rfl : e = x 1 := Fin.ext hh1
      obtain rfl : l = x 2 := Fin.ext hh2
      pointwise [k0_pay23, k0_pay24, k0_pay25, k0_pay26]
    case piece4 =>
      have hn : n.val = 15 + (x 0).val := hh0
      refine Eq.trans ?_ (padF_hi X2 ⟨128 * n.val + l.val, by omega⟩ e ⟨1408 + l.val, by omega⟩ (by show 128 * n.val + l.val = 512 + (1408 + l.val); omega)).symm
      obtain rfl : e = x 1 := Fin.ext hh1
      obtain rfl : l = x 2 := Fin.ext hh2
      pointwise [k0_pay23, k0_pay24, k0_pay25, k0_pay26]
    case piece5 =>
      have hn : n.val = 14 + (x 0).val := hh0
      refine Eq.trans ?_ (padF_hi X2 ⟨128 * n.val + l.val, by omega⟩ e ⟨1280 + l.val, by omega⟩ (by show 128 * n.val + l.val = 512 + (1280 + l.val); omega)).symm
      obtain rfl : e = x 1 := Fin.ext hh1
      obtain rfl : l = x 2 := Fin.ext hh2
      pointwise [k0_pay23, k0_pay24, k0_pay25, k0_pay26]
    case piece6 =>
      have hn : n.val = 13 + (x 0).val := hh0
      refine Eq.trans ?_ (padF_hi X2 ⟨128 * n.val + l.val, by omega⟩ e ⟨1152 + l.val, by omega⟩ (by show 128 * n.val + l.val = 512 + (1152 + l.val); omega)).symm
      obtain rfl : e = x 1 := Fin.ext hh1
      obtain rfl : l = x 2 := Fin.ext hh2
      pointwise [k0_pay23, k0_pay24, k0_pay25, k0_pay26]
    case piece7 =>
      have hn : n.val = 12 + (x 0).val := hh0
      refine Eq.trans ?_ (padF_hi X2 ⟨128 * n.val + l.val, by omega⟩ e ⟨1024 + l.val, by omega⟩ (by show 128 * n.val + l.val = 512 + (1024 + l.val); omega)).symm
      obtain rfl : e = x 1 := Fin.ext hh1
      obtain rfl : l = x 2 := Fin.ext hh2
      pointwise [k0_pay23, k0_pay24, k0_pay25, k0_pay26]
    case piece8 =>
      have hn : n.val = 11 + (x 0).val := hh0
      refine Eq.trans ?_ (padF_hi X2 ⟨128 * n.val + l.val, by omega⟩ e ⟨896 + l.val, by omega⟩ (by show 128 * n.val + l.val = 512 + (896 + l.val); omega)).symm
      obtain rfl : e = x 1 := Fin.ext hh1
      obtain rfl : l = x 2 := Fin.ext hh2
      pointwise [k0_pay23, k0_pay24, k0_pay25, k0_pay26]
    case piece9 =>
      have hn : n.val = 10 + (x 0).val := hh0
      refine Eq.trans ?_ (padF_hi X2 ⟨128 * n.val + l.val, by omega⟩ e ⟨768 + l.val, by omega⟩ (by show 128 * n.val + l.val = 512 + (768 + l.val); omega)).symm
      obtain rfl : e = x 1 := Fin.ext hh1
      obtain rfl : l = x 2 := Fin.ext hh2
      pointwise [k0_pay23, k0_pay24, k0_pay25, k0_pay26]
    case piece10 =>
      have hn : n.val = 9 + (x 0).val := hh0
      refine Eq.trans ?_ (padF_hi X2 ⟨128 * n.val + l.val, by omega⟩ e ⟨640 + l.val, by omega⟩ (by show 128 * n.val + l.val = 512 + (640 + l.val); omega)).symm
      obtain rfl : e = x 1 := Fin.ext hh1
      obtain rfl : l = x 2 := Fin.ext hh2
      pointwise [k0_pay23, k0_pay24, k0_pay25, k0_pay26]
    case piece11 =>
      have hn : n.val = 8 + (x 0).val := hh0
      refine Eq.trans ?_ (padF_hi X2 ⟨128 * n.val + l.val, by omega⟩ e ⟨512 + l.val, by omega⟩ (by show 128 * n.val + l.val = 512 + (512 + l.val); omega)).symm
      obtain rfl : e = x 1 := Fin.ext hh1
      obtain rfl : l = x 2 := Fin.ext hh2
      pointwise [k0_pay23, k0_pay24, k0_pay25, k0_pay26]
    case piece12 =>
      have hn : n.val = 7 + (x 0).val := hh0
      refine Eq.trans ?_ (padF_hi X2 ⟨128 * n.val + l.val, by omega⟩ e ⟨384 + l.val, by omega⟩ (by show 128 * n.val + l.val = 512 + (384 + l.val); omega)).symm
      obtain rfl : e = x 1 := Fin.ext hh1
      obtain rfl : l = x 2 := Fin.ext hh2
      pointwise [k0_pay23, k0_pay24, k0_pay25, k0_pay26]
    case piece13 =>
      have hn : n.val = 6 + (x 0).val := hh0
      refine Eq.trans ?_ (padF_hi X2 ⟨128 * n.val + l.val, by omega⟩ e ⟨256 + l.val, by omega⟩ (by show 128 * n.val + l.val = 512 + (256 + l.val); omega)).symm
      obtain rfl : e = x 1 := Fin.ext hh1
      obtain rfl : l = x 2 := Fin.ext hh2
      pointwise [k0_pay23, k0_pay24, k0_pay25, k0_pay26]
    case piece14 =>
      have hn : n.val = 5 + (x 0).val := hh0
      refine Eq.trans ?_ (padF_hi X2 ⟨128 * n.val + l.val, by omega⟩ e ⟨128 + l.val, by omega⟩ (by show 128 * n.val + l.val = 512 + (128 + l.val); omega)).symm
      obtain rfl : e = x 1 := Fin.ext hh1
      obtain rfl : l = x 2 := Fin.ext hh2
      pointwise [k0_pay23, k0_pay24, k0_pay25, k0_pay26]
    case piece15 =>
      have hn : n.val = 4 + (x 0).val := hh0
      refine Eq.trans ?_ (padF_hi X2 ⟨128 * n.val + l.val, by omega⟩ e ⟨0 + l.val, by omega⟩ (by show 128 * n.val + l.val = 512 + (0 + l.val); omega)).symm
      obtain rfl : e = x 1 := Fin.ext hh1
      obtain rfl : l = x 2 := Fin.ext hh2
      pointwise [k0_pay23, k0_pay24, k0_pay25, k0_pay26]
    case piece16 =>
      have hn : n.val = (x 0).val := hh0
      refine Eq.trans ?_ (padF_lo X2 ⟨128 * n.val + l.val, by omega⟩ e (by show 128 * n.val + l.val < 512; omega)).symm
      pointwise
  clear hK hV
  refine ⟨?_, hkb, hvt⟩
  generalize padF X1 = kF at hkb ⊢
  generalize padF X2 = vF at hvt ⊢
  refine congrArg (k0_pay2 (F := Ideal)) ?_
  rw [View.readCov_eq_canon']
  funext j
  refine (congrArg (View.canon _) (show _ = j from by
    first | exact Rect.emb_unit_full _ _ | (funext a; fin_cases a <;> exact Fin.ext (by simp [Rect.idx, Rect.emb])))).trans ?_
  canon_tiles x hh
  case piece7 =>
    rw [head0_eq]
    refine Eq.trans ?_ (tileT_at g _ _ _ _ j 0 (x 0) (x 1) (by simpa using hh0) hh1).symm
    rw [show x = ix2 (x 0) (x 1) from by pointwise]
    refine head_at I g (Fin.ext hg) _ _ _ _ _ _ _ _ _ _ _ _ 0 ?_ ?_ ?_ ?_ ?_ ?_ ?_ ?_ (x 0) (x 1)
    · exact key_load g kF _ hkb 0 _ _ _ (k0_off1_eq I) hg
    · intro r d
      refine Eq.trans ?_ (q_at Q r (col 0 d))
      pointwise
      exact congrArg (fun e => k0_pay27 (F := Ideal) Q (ix2 r e)) (Fin.ext (by simp))
    · intro r d
      pointwise
    · exact value_load0 g vF _ hvt 0 _ _ _ (k0_off5_eq I 0) hg
    · exact value_load g vF _ hvt 0 1 _ _ _ (k0_off5_eq I 1) hg
    · exact value_load g vF _ hvt 0 2 _ _ _ (k0_off5_eq I 2) hg
    · exact value_load g vF _ hvt 0 3 _ _ _ (k0_off5_eq I 3) hg
    · exact value_load g vF _ hvt 0 4 _ _ _ (k0_off5_eq I 4) hg
  case piece6 =>
    rw [head1_eq]
    refine Eq.trans ?_ (tileT_at g _ _ _ _ j 1 (x 0) (x 1) (by simpa using hh0) hh1).symm
    rw [show x = ix2 (x 0) (x 1) from by pointwise]
    refine head_at I g (Fin.ext hg) _ _ _ _ _ _ _ _ _ _ _ _ 1 ?_ ?_ ?_ ?_ ?_ ?_ ?_ ?_ (x 0) (x 1)
    · exact key_load g kF _ hkb 1 _ _ _ (k0_off2_eq I) hg
    · intro r d
      refine Eq.trans ?_ (q_at Q r (col 1 d))
      pointwise
      exact congrArg (fun e => k0_pay27 (F := Ideal) Q (ix2 r e)) (Fin.ext (by simp))
    · intro r d
      pointwise
    · exact value_load0 g vF _ hvt 1 _ _ _ (k0_off6_eq I 0) hg
    · exact value_load g vF _ hvt 1 1 _ _ _ (k0_off6_eq I 1) hg
    · exact value_load g vF _ hvt 1 2 _ _ _ (k0_off6_eq I 2) hg
    · exact value_load g vF _ hvt 1 3 _ _ _ (k0_off6_eq I 3) hg
    · exact value_load g vF _ hvt 1 4 _ _ _ (k0_off6_eq I 4) hg
  case piece5 =>
    rw [head2_eq]
    refine Eq.trans ?_ (tileT_at g _ _ _ _ j 2 (x 0) (x 1) (by simpa using hh0) hh1).symm
    rw [show x = ix2 (x 0) (x 1) from by pointwise]
    refine head_at I g (Fin.ext hg) _ _ _ _ _ _ _ _ _ _ _ _ 2 ?_ ?_ ?_ ?_ ?_ ?_ ?_ ?_ (x 0) (x 1)
    · exact key_load g kF _ hkb 2 _ _ _ (k0_off3_eq I) hg
    · intro r d
      refine Eq.trans ?_ (q_at Q r (col 2 d))
      pointwise
      exact congrArg (fun e => k0_pay27 (F := Ideal) Q (ix2 r e)) (Fin.ext (by simp))
    · intro r d
      pointwise
    · exact value_load0 g vF _ hvt 2 _ _ _ (k0_off7_eq I 0) hg
    · exact value_load g vF _ hvt 2 1 _ _ _ (k0_off7_eq I 1) hg
    · exact value_load g vF _ hvt 2 2 _ _ _ (k0_off7_eq I 2) hg
    · exact value_load g vF _ hvt 2 3 _ _ _ (k0_off7_eq I 3) hg
    · exact value_load g vF _ hvt 2 4 _ _ _ (k0_off7_eq I 4) hg
  case piece4 =>
    rw [head3_eq]
    refine Eq.trans ?_ (tileT_at g _ _ _ _ j 3 (x 0) (x 1) (by simpa using hh0) hh1).symm
    rw [show x = ix2 (x 0) (x 1) from by pointwise]
    refine head_at I g (Fin.ext hg) _ _ _ _ _ _ _ _ _ _ _ _ 3 ?_ ?_ ?_ ?_ ?_ ?_ ?_ ?_ (x 0) (x 1)
    · exact key_load g kF _ hkb 3 _ _ _ (k0_off4_eq I) hg
    · intro r d
      refine Eq.trans ?_ (q_at Q r (col 3 d))
      pointwise
      exact congrArg (fun e => k0_pay27 (F := Ideal) Q (ix2 r e)) (Fin.ext (by simp))
    · intro r d
      pointwise
    · exact value_load0 g vF _ hvt 3 _ _ _ (k0_off8_eq I 0) hg
    · exact value_load g vF _ hvt 3 1 _ _ _ (k0_off8_eq I 1) hg
    · exact value_load g vF _ hvt 3 2 _ _ _ (k0_off8_eq I 2) hg
    · exact value_load g vF _ hvt 3 3 _ _ _ (k0_off8_eq I 3) hg
    · exact value_load g vF _ hvt 3 4 _ _ _ (k0_off8_eq I 4) hg
  case piece3 =>
    rw [head4_eq]
    refine Eq.trans ?_ (tileT_at g _ _ _ _ j 4 (x 0) (x 1) (by simpa using hh0) hh1).symm
    rw [show x = ix2 (x 0) (x 1) from by pointwise]
    refine head_at I g (Fin.ext hg) _ _ _ _ _ _ _ _ _ _ _ _ 4 ?_ ?_ ?_ ?_ ?_ ?_ ?_ ?_ (x 0) (x 1)
    · exact key_load g kF _ hkb 4 _ _ _ (k0_off9_eq I) hg
    · intro r d
      refine Eq.trans ?_ (q_at Q r (col 4 d))
      pointwise
      exact congrArg (fun e => k0_pay27 (F := Ideal) Q (ix2 r e)) (Fin.ext (by simp))
    · intro r d
      pointwise
    · exact value_load0 g vF _ hvt 4 _ _ _ (k0_off13_eq I 0) hg
    · exact value_load g vF _ hvt 4 1 _ _ _ (k0_off13_eq I 1) hg
    · exact value_load g vF _ hvt 4 2 _ _ _ (k0_off13_eq I 2) hg
    · exact value_load g vF _ hvt 4 3 _ _ _ (k0_off13_eq I 3) hg
    · exact value_load g vF _ hvt 4 4 _ _ _ (k0_off13_eq I 4) hg
  case piece2 =>
    rw [head5_eq]
    refine Eq.trans ?_ (tileT_at g _ _ _ _ j 5 (x 0) (x 1) (by simpa using hh0) hh1).symm
    rw [show x = ix2 (x 0) (x 1) from by pointwise]
    refine head_at I g (Fin.ext hg) _ _ _ _ _ _ _ _ _ _ _ _ 5 ?_ ?_ ?_ ?_ ?_ ?_ ?_ ?_ (x 0) (x 1)
    · exact key_load g kF _ hkb 5 _ _ _ (k0_off10_eq I) hg
    · intro r d
      refine Eq.trans ?_ (q_at Q r (col 5 d))
      pointwise
      exact congrArg (fun e => k0_pay27 (F := Ideal) Q (ix2 r e)) (Fin.ext (by simp))
    · intro r d
      pointwise
    · exact value_load0 g vF _ hvt 5 _ _ _ (k0_off14_eq I 0) hg
    · exact value_load g vF _ hvt 5 1 _ _ _ (k0_off14_eq I 1) hg
    · exact value_load g vF _ hvt 5 2 _ _ _ (k0_off14_eq I 2) hg
    · exact value_load g vF _ hvt 5 3 _ _ _ (k0_off14_eq I 3) hg
    · exact value_load g vF _ hvt 5 4 _ _ _ (k0_off14_eq I 4) hg
  case piece1 =>
    rw [head6_eq]
    refine Eq.trans ?_ (tileT_at g _ _ _ _ j 6 (x 0) (x 1) (by simpa using hh0) hh1).symm
    rw [show x = ix2 (x 0) (x 1) from by pointwise]
    refine head_at I g (Fin.ext hg) _ _ _ _ _ _ _ _ _ _ _ _ 6 ?_ ?_ ?_ ?_ ?_ ?_ ?_ ?_ (x 0) (x 1)
    · exact key_load g kF _ hkb 6 _ _ _ (k0_off11_eq I) hg
    · intro r d
      refine Eq.trans ?_ (q_at Q r (col 6 d))
      pointwise
      exact congrArg (fun e => k0_pay27 (F := Ideal) Q (ix2 r e)) (Fin.ext (by simp))
    · intro r d
      pointwise
    · exact value_load0 g vF _ hvt 6 _ _ _ (k0_off15_eq I 0) hg
    · exact value_load g vF _ hvt 6 1 _ _ _ (k0_off15_eq I 1) hg
    · exact value_load g vF _ hvt 6 2 _ _ _ (k0_off15_eq I 2) hg
    · exact value_load g vF _ hvt 6 3 _ _ _ (k0_off15_eq I 3) hg
    · exact value_load g vF _ hvt 6 4 _ _ _ (k0_off15_eq I 4) hg
  case piece0 =>
    rw [head7_eq]
    refine Eq.trans ?_ (tileT_at g _ _ _ _ j 7 (x 0) (x 1) (by simpa using hh0) hh1).symm
    rw [show x = ix2 (x 0) (x 1) from by pointwise]
    refine head_at I g (Fin.ext hg) _ _ _ _ _ _ _ _ _ _ _ _ 7 ?_ ?_ ?_ ?_ ?_ ?_ ?_ ?_ (x 0) (x 1)
    · exact key_load g kF _ hkb 7 _ _ _ (k0_off12_eq I) hg
    · intro r d
      refine Eq.trans ?_ (q_at Q r (col 7 d))
      pointwise
      exact congrArg (fun e => k0_pay27 (F := Ideal) Q (ix2 r e)) (Fin.ext (by simp))
    · intro r d
      pointwise
    · exact value_load0 g vF _ hvt 7 _ _ _ (k0_off16_eq I 0) hg
    · exact value_load g vF _ hvt 7 1 _ _ _ (k0_off16_eq I 1) hg
    · exact value_load g vF _ hvt 7 2 _ _ _ (k0_off16_eq I 2) hg
    · exact value_load g vF _ hvt 7 3 _ _ _ (k0_off16_eq I 3) hg
    · exact value_load g vF _ hvt 7 4 _ _ _ (k0_off16_eq I 4) hg
end Cert.KernelIdeal.Band
-- ==== Proof.Literals.lean ====
/- The two literal tables of the host code that lays out the bias, in closed form. -/
module

public import proofs.«01_k».proof.Proof.Gen.KernelIdeal.Skeleton

@[expose] public section
set_option maxRecDepth 16384
noncomputable section
namespace Cert.KernelIdeal.Band
open Idealize.ShloMosaic Idealize.ShloMosaic.TcCoe Idealize.SL.Sem
open Cert.KernelIdeal.Gen

/-- The row of the relative-position table that each entry of the Toeplitz sequence takes. -/
theorem lit0_at : ∀ b : Fin 768, lit0 b = BitVec.ofNat 32 (if b.val < 128 then 0 else 384 - b.val) := by decide +kernel

/-- A row of the first chunk of local keys is in the band of the first chunk of queries only. -/
theorem row_first (i : Nat) : lit1t0_0 i = if i % 128 < 64 then 1#1 else 0#1 := by
  have : i % 128 < 128 := Nat.mod_lt _ (by decide)
  unfold lit1t0_0
  generalize i % 128 = n at this ⊢
  interval_cases n <;> rfl

/-- A row of the middle chunks of local keys is in the band of both chunks of queries. -/
theorem row_middle (i : Nat) : lit1t0_64 i = 1#1 := by
  have : i % 128 < 128 := Nat.mod_lt _ (by decide)
  unfold lit1t0_64
  generalize i % 128 = n at this ⊢
  interval_cases n <;> rfl

/-- A row of the last chunk of local keys is in the band of the second chunk of queries only. -/
theorem row_last (i : Nat) : lit1t0_576 i = if i % 128 < 64 then 0#1 else 1#1 := by
  have : i % 128 < 128 := Nat.mod_lt _ (by decide)
  unfold lit1t0_576
  generalize i % 128 = n at this ⊢
  interval_cases n <;> rfl

set_option maxHeartbeats 2000000 in
/-- The first 128 rows. -/
theorem rows_0 (i : Nat) : lit1t1_0 i = if i / 128 % 128 < 64 then lit1t0_0 i else lit1t0_64 i := by
  have : i / 128 % 128 < 128 := Nat.mod_lt _ (by decide)
  unfold lit1t1_0
  generalize i / 128 % 128 = n at this ⊢
  interval_cases n <;> rfl

set_option maxHeartbeats 2000000 in
/-- The next 384 rows are all of the middle kind. -/
theorem rows_1 (i : Nat) : lit1t1_1 i = lit1t0_64 i := by
  have : i / 128 % 128 < 128 := Nat.mod_lt _ (by decide)
  unfold lit1t1_1
  generalize i / 128 % 128 = n at this ⊢
  interval_cases n <;> rfl

/-- The rows from 256 on. -/
theorem rows_2 (i : Nat) : lit1t1_2 i = lit1t1_1 i := rfl

/-- The rows from 384 on. -/
theorem rows_3 (i : Nat) : lit1t1_3 i = lit1t1_1 i := rfl

set_option maxHeartbeats 2000000 in
/-- The last 128 rows. -/
theorem rows_4 (i : Nat) : lit1t1_4 i = if i / 128 % 128 < 64 then lit1t0_64 i else lit1t0_576 i := by
  have : i / 128 % 128 < 128 := Nat.mod_lt _ (by decide)
  unfold lit1t1_4
  generalize i / 128 % 128 = n at this ⊢
  interval_cases n <;> rfl

/-- The band table: local row `r` is visible to query `x` when its chunk is one of the query's own chunk and the eight before it. -/
theorem lit1_at (n : Fin 81920) (r : Fin 640) (x : Fin 128) (h : n.val = 128 * r.val + x.val) :
    lit1 n = if x.val / 64 ≤ r.val / 64 ∧ r.val / 64 ≤ x.val / 64 + 8 then 1#1 else 0#1 := by
  have hx : n.val % 128 = x.val := by omega
  have hr : n.val / 128 % 128 = r.val % 128 := by omega
  have hd : n.val / 16384 = r.val / 128 := by omega
  have hlt : r.val / 128 < 5 := by omega
  show lit1t n.val = _
  have key : lit1t n.val = match r.val / 128 with
    | 0 => lit1t1_0 n.val | 1 => lit1t1_1 n.val | 2 => lit1t1_1 n.val | 3 => lit1t1_1 n.val | 4 => lit1t1_4 n.val | _ => 0#1 := by
    unfold lit1t; rw [hd]; rfl
  rw [key, rows_0, rows_1, rows_4, row_first, row_middle, row_last, hx, hr]
  have h5 : r.val / 128 = 0 ∨ r.val / 128 = 1 ∨ r.val / 128 = 2 ∨ r.val / 128 = 3 ∨ r.val / 128 = 4 := by omega
  rcases h5 with h0 | h0 | h0 | h0 | h0 <;> rw [h0] <;> split_ifs <;> first | rfl | omega

end Cert.KernelIdeal.Band
-- ==== Proof.Entry.lean ====
/- The arrays the kernel's region is entered with, read at an index: queries, keys and values by rows, and the bias by relative position. -/
module

public import proofs.«01_k».proof.Proof.Tiles
public import proofs.«01_k».proof.Proof.Literals

@[expose] public section
set_option maxRecDepth 16384
noncomputable section
namespace Cert.KernelIdeal.Band
open Idealize.ShloMosaic Idealize.ShloMosaic.TcCoe Idealize.SL.Sem
open Idealize.ShloMosaic.Pipeline (Dat)
open Cert.KernelIdeal.Gen
variable (m : (ℓ : Loc nD τ sig) → Buf (Elt Ideal) ℓ)

/-- The three-dimensional keys are the keys, reshaped. -/
theorem V_keys (c : Dev nD) : V m c main_v0 = shapeCast S8x2048x512 (m ((c : Thread nD τ).loc main_arg1)) shapeCasts_S16384x512_S8x2048x512 := by
  unfold V
  simp only [hostOps0, hostOps0_1, List.flatten_cons, List.flatten_nil, List.append_nil, List.cons_append, List.nil_append]
  after_results
  rfl

/-- The three-dimensional values are the values, reshaped. -/
theorem V_values (c : Dev nD) : V m c main_v1 = shapeCast S8x2048x512 (m ((c : Thread nD τ).loc main_arg2)) shapeCasts_S16384x512_S8x2048x512 := by
  unfold V
  simp only [hostOps0, hostOps0_1, List.flatten_cons, List.flatten_nil, List.append_nil, List.cons_append, List.nil_append]
  after_results
  rfl

/-- The rows of the table in the order of the Toeplitz sequence, heads first. -/
def biasSeq (T : Vec Ideal S257x8 .f32) : Vec Ideal S8x768 .f32 :=
  transpose S8x768 [1, 0]
    (Host.gather gather_S257x8_S768x1_S768x8_1_0_n_n_0_1_18 T
      (broadcastInDim S768x1 ![0] bcast_S768_S768x1_0
        (select (constantI S768 1 0#1)
          (addi (fun i => lit0 (S768.rowMajor i)) (broadcastInDim S768 ![] bcast_S_S768 (constantI S_ 32 257#32)))
          fun i => lit0 (S768.rowMajor i))))
    transposes_S768x8_S8x768_1_0

/-- The bias by head, local row and query: the sequence laid out so that a diagonal holds one entry. -/
def biasSkew (T : Vec Ideal S257x8 .f32) : Vec Ideal S8x640x128 .f32 :=
  extractStridedSlice S8x640x128 ![0, 0, 0]
    (shapeCast S8x640x767
      (extractStridedSlice S8x490880 ![0, 0]
        (shapeCast S8x491520
          (broadcastInDim S1x8x640x768 ![0, 1, 2, 3] bcast_S1x8x1x768_S1x8x640x768_0_1_2_3
            (shapeCast S1x8x1x768 (biasSeq T) shapeCasts_S8x768_S1x8x1x768))
          shapeCasts_S1x8x640x768_S8x491520)
        slices_S8x491520_S8x490880_0_0)
      shapeCasts_S8x490880_S8x640x767)
    slices_S8x640x767_S8x640x128_0_0_0

/-- The bias with the rows outside a query's band at minus infinity. -/
def biasBand (T : Vec Ideal S257x8 .f32) : Vec Ideal S8x640x128 .f32 :=
  select (broadcastInDim S8x640x128 ![0, 1, 2] bcast_S1x640x128_S8x640x128_0_1_2
      (broadcastInDim S1x640x128 ![1, 2] bcast_S640x128_S1x640x128_1_2 fun i => lit1 (S640x128.rowMajor i)))
    (biasSkew T) (broadcastInDim S8x640x128 ![] bcast_S_S8x640x128 (constant (F := Ideal) S_ FTy.f32 4286578688#32))

/-- The region's bias operand is that array. -/
theorem V_bias (c : Dev nD) : V m c main_v15 = biasBand (m ((c : Thread nD τ).loc main_arg3)) := by
  unfold V
  simp only [hostOps0, hostOps0_1, List.flatten_cons, List.flatten_nil, List.append_nil, List.cons_append, List.nil_append]
  after_results
  simp only [StableHlo.TRef.ofBuf_toBuf, id]
  unfold biasBand biasSkew biasSeq
  rfl

/-- The block each window reads or writes at a grid point, and the point's second coordinate. -/
theorem index_at : ∀ t : Fin cfg0.N, win0_0.index t (0 : Fin 2) = t.val ∧ win0_0.index t (1 : Fin 2) = 0
    ∧ win0_1.index t (0 : Fin 3) = t.val / 16 ∧ win0_1.index t (1 : Fin 3) = 0 ∧ win0_1.index t (2 : Fin 3) = 0
    ∧ win0_2.index t (0 : Fin 3) = t.val / 16 ∧ win0_2.index t (1 : Fin 3) = 0 ∧ win0_2.index t (2 : Fin 3) = 0
    ∧ win0_3.index t (0 : Fin 3) = 0 ∧ win0_3.index t (1 : Fin 3) = 0 ∧ win0_3.index t (2 : Fin 3) = 0
    ∧ win0_4.index t (0 : Fin 2) = t.val ∧ win0_4.index t (1 : Fin 2) = 0 ∧ (grid0.coords t 1).val = t.val % 16 :=
  (by decide +kernel : ∀ t : Fin grid0.N, _)

/-- A gather of whole rows of the table, at an index. -/
theorem gather_at (T : Vec Ideal S257x8 .f32) (idx : IVec S768x1 32) (b : Fin 768) (h : Fin 8) :
    Host.gather gather_S257x8_S768x1_S768x8_1_0_n_n_0_1_18 T idx (ix2 b h) = T (ix2 ⟨min (idx (ix2 b 0)).toInt.toNat 256, by omega⟩ h) := by
  unfold Host.gather
  refine congrArg T ?_
  funext a
  refine Fin.ext ?_
  show gather_S257x8_S768x1_S768x8_1_0_n_n_0_1_18.start (ix2 b h) idx a + gather_S257x8_S768x1_S768x8_1_0_n_n_0_1_18.batchCoord (ix2 b h) a
    + gather_S257x8_S768x1_S768x8_1_0_n_n_0_1_18.offCoord (ix2 b h) a = _
  have h01 : a = 0 ∨ a = 1 := by
    match a with
    | ⟨0, _⟩ => exact Or.inl rfl
    | ⟨1, _⟩ => exact Or.inr rfl
  rcases h01 with rfl | rfl
  · rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S257x8_S768x1_S768x8_1_0_n_n_0_1_18.startIndexMap from List.mem_singleton.mpr rfl)]
    have hsi : gather_S257x8_S768x1_S768x8_1_0_n_n_0_1_18.siIdx (ix2 b h) ⟨List.idxOf (0 : Fin 2) gather_S257x8_S768x1_S768x8_1_0_n_n_0_1_18.startIndexMap,
        List.idxOf_lt_length_iff.2 (List.mem_singleton.mpr rfl)⟩ = ix2 b 0 := by
      funext k; refine Fin.ext ?_
      match k with
      | ⟨0, _⟩ => rfl
      | ⟨1, _⟩ => rfl
    rw [hsi]
    rfl
  · rw [GatherDims.batchCoord_eq_zero _ _ _ List.not_mem_nil]
    unfold GatherDims.start
    rw [dif_neg (show ¬ (1 : Fin 2) ∈ gather_S257x8_S768x1_S768x8_1_0_n_n_0_1_18.startIndexMap from by decide)]
    simp only [Nat.zero_add, Nat.add_zero]
    unfold GatherDims.offCoord
    rw [dif_pos (show (1 : Fin 2) ∈ gather_S257x8_S768x1_S768x8_1_0_n_n_0_1_18.sKept from by decide)]
    rfl

/-- The repeated row of the table that the band bias is cut from, element by element. -/
theorem biasSeq_at (T : Vec Ideal S257x8 .f32) (h : Fin 8) (b : Fin 768) :
    biasSeq T (ix2 h b) = T (ix2 ⟨if b.val < 128 then 0 else 384 - b.val, by split <;> omega⟩ h) := by
  unfold biasSeq
  pointwise
  rw [gather_at]
  pointwise
  refine congrArg (fun k => T (ix2 k h)) (Fin.ext ?_)
  show min (lit0 (S768.rowMajor (ix1 b))).toInt.toNat 256 = if b.val < 128 then 0 else 384 - b.val
  have e : lit0 (S768.rowMajor (ix1 b)) = lit0 b := congrArg lit0 (Fin.ext (by simp [Shape.rowMajor_val_one]))
  rw [e, lit0_at]
  revert b
  decide +kernel

/-- Cutting that row at one place further per query gives the table entry of the distance of key and query. -/
theorem biasSkew_at (T : Vec Ideal S257x8 .f32) (h : Fin 8) (r : Fin 640) (x : Fin 128) :
    biasSkew T (ix3 h r x) = biasSeq T (ix2 h ⟨(767 * r.val + x.val) % 768, Nat.mod_lt _ (by decide)⟩) := by
  unfold biasSkew
  generalize biasSeq T = X
  pointwise
  exact congrArg (fun k => X (ix2 h k)) (Fin.ext (by show (r.val * 767 + x.val) % 768 = (767 * r.val + x.val) % 768; omega))

/-- The bias that the kernel is given: the table entry of the distance inside the band, minus infinity outside. -/
theorem biasBand_at (T : Vec Ideal S257x8 .f32) (h : Fin 8) (r : Fin 640) (x : Fin 128) :
    biasBand T (ix3 h r x) = if x.val / 64 ≤ r.val / 64 ∧ r.val / 64 ≤ x.val / 64 + 8 then biasSkew T (ix3 h r x) else ⊥ := by
  unfold biasBand
  generalize biasSkew T = X
  pointwise!
  refine (congrArg (fun w => Scalar.select w (X (ix3 h r x)) (Ideal.ofBits .f32 4286578688#32))
    (lit1_at (S640x128.rowMajor (ix2 r x)) r x (by rw [Shape.rowMajor_val_two]; show r.val * 128 + x.val = 128 * r.val + x.val; omega))).trans ?_
  rw [Cert.KernelIdeal.Band.negInf]
  split <;> rfl

/-- The Toeplitz index of a local row and a query names the relative position, clipped. -/
theorem seq_row (r x : Nat) (hr : r < 640) (hx : x < 128) :
    (if (767 * r + x) % 768 < 128 then 0 else 384 - (767 * r + x) % 768) = min 256 (r - (x + 384)) := by
  have e : (767 * r + x) % 768 = if r ≤ x then x - r else 768 + x - r := by
    split
    · rw [show 767 * r + x = (x - r) + 768 * r by omega, Nat.add_mul_mod_self_left, Nat.mod_eq_of_lt (by omega)]
    · rw [show 767 * r + x = (768 + x - r) + 768 * (r - 1) by omega, Nat.add_mul_mod_self_left, Nat.mod_eq_of_lt (by omega)]
  rw [e]
  split <;> split <;> omega

/-- The region's bias at a head, a local row and a query: the table's entry at the clipped relative position inside the band, minus infinity outside. -/
theorem bias_at (T : Vec Ideal S257x8 .f32) (h : Fin 8) (r : Fin 640) (x : Fin 128) :
    biasBand T (ix3 h r x) = if x.val / 64 ≤ r.val / 64 ∧ r.val / 64 ≤ x.val / 64 + 8
      then T (ix2 ⟨min 256 (r.val - (x.val + 384)), by omega⟩ h) else ⊥ := by
  rw [biasBand_at, biasSkew_at, biasSeq_at]
  refine if_congr Iff.rfl (congrArg (fun k => T (ix2 k h)) (Fin.ext ?_)) rfl
  exact seq_row r.val x.val r.isLt x.isLt

/-- A tile's queries are 128 rows of the queries. -/
theorem query_block (c : Dev nD) (t : Fin cfg0.N) (x : Fin 128) (e : Fin 512) :
    iblk m c 0 t (ix2 x e) = m ((c : Thread nD τ).loc main_arg0) (ix2 ⟨128 * t.val + x.val, by have := t.isLt; change _ < 128 at this; omega⟩ e) := by
  obtain ⟨h0, h1, _⟩ := index_at t
  blk_ext [iblk, V]

/-- One batch's rows of a two-dimensional operand. -/
def batch (X : Vec Ideal S16384x512 .f32) (b : Fin 8) : S1x2048x512.Idx → EReal := fun j =>
  X (ix2 ⟨2048 * b.val + (j 1).val, by have : (j 1).val < 2048 := (j 1).isLt; omega⟩ (j 2))

/-- The reshape of the keys and of the values splits the row number into batch and row. -/
theorem split_rows (X : Vec Ideal S16384x512 .f32) (b : Fin 8) (r : Fin 2048) (e : Fin 512) :
    shapeCast S8x2048x512 X shapeCasts_S16384x512_S8x2048x512 (ix3 b r e) = X (ix2 ⟨2048 * b.val + r.val, by omega⟩ e) := by
  refine shapeCast_apply _ _ _ _ ?_
  rw [Shape.rowMajor_val_two, Shape.rowMajor_val_three]
  show (2048 * b.val + r.val) * 512 + e.val = _
  show _ = (b.val * 2048 + r.val) * 512 + e.val
  rw [Nat.mul_comm b.val]

/-- A tile's keys are its batch's. -/
theorem key_block (c : Dev nD) (t : Fin cfg0.N) (b : Fin 8) (hb : t.val / 16 = b.val) :
    iblk m c 1 t = batch (m ((c : Thread nD τ).loc main_arg1)) b := by
  obtain ⟨_, _, h2, h3, h4, _⟩ := index_at t
  funext j
  have e1 : iblk m c 1 t j = V m c main_v0 (ix3 b (j 1) (j 2)) := by
    refine congrArg (V m c main_v0) ?_
    funext a
    refine Fin.ext ?_
    fin_cases a
    · show win0_1.index t 0 * 1 + 1 * (j 0).val = b.val
      have : (j 0).val < 1 := (j 0).isLt
      omega
    · show win0_1.index t 1 * 2048 + 1 * (j 1).val = (j 1).val
      omega
    · show win0_1.index t 2 * 512 + 1 * (j 2).val = (j 2).val
      omega
  rw [e1, V_keys]
  exact split_rows _ b (j 1) (j 2)

/-- A tile's values are its batch's. -/
theorem value_block (c : Dev nD) (t : Fin cfg0.N) (b : Fin 8) (hb : t.val / 16 = b.val) :
    iblk m c 2 t = batch (m ((c : Thread nD τ).loc main_arg2)) b := by
  obtain ⟨_, _, _, _, _, h2, h3, h4, _⟩ := index_at t
  funext j
  have e1 : iblk m c 2 t j = V m c main_v1 (ix3 b (j 1) (j 2)) := by
    refine congrArg (V m c main_v1) ?_
    funext a
    refine Fin.ext ?_
    fin_cases a
    · show win0_2.index t 0 * 1 + 1 * (j 0).val = b.val
      have : (j 0).val < 1 := (j 0).isLt
      omega
    · show win0_2.index t 1 * 2048 + 1 * (j 1).val = (j 1).val
      omega
    · show win0_2.index t 2 * 512 + 1 * (j 2).val = (j 2).val
      omega
  rw [e1, V_values]
  exact split_rows _ b (j 1) (j 2)

/-- Every tile's bias block is the whole bias. -/
theorem bias_block (c : Dev nD) (t : Fin cfg0.N) : iblk m c 3 t = biasBand (m ((c : Thread nD τ).loc main_arg3)) := by
  obtain ⟨_, _, _, _, _, _, _, _, h2, h3, h4, _⟩ := index_at t
  rw [← V_bias]
  funext j
  refine congrArg (V m c main_v15) ?_
  funext a
  refine Fin.ext ?_
  fin_cases a
  · show win0_3.index t 0 * 8 + 1 * (j 0).val = (j 0).val
    omega
  · show win0_3.index t 1 * 640 + 1 * (j 1).val = (j 1).val
    omega
  · show win0_3.index t 2 * 128 + 1 * (j 2).val = (j 2).val
    omega

/-- What the carried scratch holds after any tile: its batch's padded keys and values. -/
theorem scratch_at (c : Dev nD) : ∀ (n : Nat) (hn : n < cfg0.N) (b : Fin 8), n / 16 = b.val →
    (∀ (p : Fin 2560) (e : Fin 512), (outsAt0 m c n hn).2.1 (ix2 p e) = padF (batch (m ((c : Thread nD τ).loc main_arg1)) b) p e)
    ∧ (∀ (k : Fin 20) (e : Fin 512) (l : Fin 128), (outsAt0 m c n hn).2.2 (ix3 k e l) = padF (batch (m ((c : Thread nD τ).loc main_arg2)) b) ⟨128 * k.val + l.val, by omega⟩ e) := by
  intro n
  induction n using Nat.strong_induction_on with
  | _ n ih =>
    intro hn b hb
    by_cases h0 : n % 16 = 0
    · have h := (tile_A m c ⟨n, hn⟩ h0 0 (by rw [(index_at ⟨n, hn⟩).2.2.2.2.2.2.2.2.2.2.2.2.2]; exact h0)).2
      rw [key_block m c ⟨n, hn⟩ b hb, value_block m c ⟨n, hn⟩ b hb] at h
      exact h
    · have h := ih (n - 1) (by omega) (by omega) b (by omega)
      rw [outsAt0_B m c ⟨n, hn⟩ h0]
      exact h

/-- A tile's result: the attention of its 128 queries over the batch's padded keys and values. -/
theorem tile_at (c : Dev nD) (t : Fin cfg0.N) (b : Fin 8) (g : Fin 16) (hb : t.val / 16 = b.val) (hg : t.val % 16 = g.val) (h : Fin 8) (u : Fin 64) (x : Fin 128) :
    (outsAt0 m c t.val t.isLt).1 (ix2 x (col h u))
      = tileVal g (fun x e => m ((c : Thread nD τ).loc main_arg0) (ix2 ⟨128 * (16 * b.val + g.val) + x.val, by omega⟩ e))
          (fun h r x => biasBand (m ((c : Thread nD τ).loc main_arg3)) (ix3 h r x))
          (padF (batch (m ((c : Thread nD τ).loc main_arg1)) b)) (padF (batch (m ((c : Thread nD τ).loc main_arg2)) b)) h u x := by
  have hc : (grid0.coords t 1).val = g.val := (index_at t).2.2.2.2.2.2.2.2.2.2.2.2.2.trans hg
  have hq : (fun (x : Fin 128) (e : Fin 512) => iblk m c 0 t (ix2 x e)) = fun x e => m ((c : Thread nD τ).loc main_arg0) (ix2 ⟨128 * (16 * b.val + g.val) + x.val, by omega⟩ e) := by
    funext x e
    rw [query_block]
    exact congrArg (fun k => m ((c : Thread nD τ).loc main_arg0) (ix2 k e)) (Fin.ext (by show 128 * t.val + x.val = 128 * (16 * b.val + g.val) + x.val; omega))
  have e : (outsAt0 m c t.val t.isLt).1 = k0_pay2 (F := Ideal) (tileT g (fun x e => iblk m c 0 t (ix2 x e)) (fun h r x => iblk m c 3 t (ix3 h r x))
      (padF (batch (m ((c : Thread nD τ).loc main_arg1)) b)) (padF (batch (m ((c : Thread nD τ).loc main_arg2)) b))) := by
    by_cases h0 : t.val % 16 = 0
    · rw [← key_block m c t b hb, ← value_block m c t b hb]
      exact (tile_A m c t h0 g hc).1
    · have hs := scratch_at m c (t.val - 1) (Nat.lt_of_le_of_lt (Nat.sub_le _ _) t.isLt) b (by omega)
      exact tile_B m c t h0 g hc _ _ hs.1 hs.2
  rw [e, hq, bias_block]
  unfold k0_pay2
  pointwise
  exact tileT_at g _ _ _ _ _ h u x rfl rfl

end Cert.KernelIdeal.Band
-- ==== Proof.RefAt.lean ====
/- The reference's arrays at an index. -/
module

public import proofs.«01_k».proof.Proof.Ref
public import Idealize.ShloMosaic.Lib.ValueIdxRank6

@[expose] public section
set_option maxRecDepth 16384
noncomputable section
namespace Cert.ReferenceIdeal.Band
open Idealize.ShloMosaic Idealize.ShloMosaic.TcCoe Idealize.SL.Sem
open Cert.ReferenceIdeal.Gen

/-- The pattern of minus infinity. -/
theorem negInf : Ideal.ofBits .f32 0xFF800000#32 = ⊥ := by
  simp [Ideal.ofBits, Ideal.ieee]

/-- The scale 2⁻³ as a real. -/
theorem eighth : Ideal.ofBits .f32 0x3E000000#32 = ((1 / 8 : ℝ) : EReal) := by
  simp only [Ideal.ofBits, Ideal.ieee]
  simp
  rw [← EReal.coe_mul]
  norm_num

/-- A chunked operand at an index: the row of the batch, chunk and position, the column of the head and feature. -/
theorem chunks_at (X : Vec Ideal S16384x512 .f32) (b : Fin 8) (cc : Fin 32) (i : Fin 64) (h : Fin 8) (d : Fin 64) :
    chunks X (ix5 b cc i h d) = X (ix2 ⟨2048 * b.val + (64 * cc.val + i.val), by omega⟩ ⟨64 * h.val + d.val, by omega⟩) := by
  unfold chunks
  refine (shapeCast_apply _ _ _ (ix4 b (⟨64 * cc.val + i.val, by omega⟩ : Fin 2048) h d) ?_).trans (shapeCast_apply _ _ _ _ ?_)
  · rw [Shape.rowMajor_val_four, Shape.rowMajor_val_five]
    show ((b.val * 2048 + (64 * cc.val + i.val)) * 8 + h.val) * 64 + d.val = (((b.val * 32 + cc.val) * 64 + i.val) * 8 + h.val) * 64 + d.val
    omega
  · rw [Shape.rowMajor_val_four, Shape.rowMajor_val_two]
    show (2048 * b.val + (64 * cc.val + i.val)) * 512 + (64 * h.val + d.val) = ((b.val * 2048 + (64 * cc.val + i.val)) * 8 + h.val) * 64 + d.val
    omega

/-- The padding word as a number. -/
theorem zero_word : FloatOps.sitofp (F := Ideal) (w := 32) .f32 0#32 = (0 : EReal) := by
  show (((0#32 : BitVec 32).toInt : ℝ) : EReal) = 0
  simp

/-- The padded chunks at an index: zero in the first eight chunks. -/
theorem padded_at (X : Vec Ideal S16384x512 .f32) (b : Fin 8) (p : Fin 40) (i : Fin 64) (h : Fin 8) (d : Fin 64) :
    padded X (ix5 b p i h d) = if hp : 8 ≤ p.val then chunks X (ix5 b ⟨p.val - 8, by omega⟩ i h d) else 0 := by
  unfold padded
  generalize chunks X = Y
  pointwise
  by_cases hp : 8 ≤ p.val
  · rw [dif_pos ⟨hp, by omega⟩, dif_pos hp]
  · rw [dif_neg (fun hh => hp hh.1), dif_neg hp]
    exact zero_word

/-- The stack of nine chunks at an index. -/
theorem stack_at (P : Vec Ideal S8x40x64x8x64 .f32) (b : Fin 8) (cc : Fin 32) (j : Fin 9) (i : Fin 64) (h : Fin 8) (d : Fin 64) :
    stack P (ix6 b cc j i h d) = P (ix5 b ⟨cc.val + j.val, by omega⟩ i h d) := by
  unfold stack
  pointwise
  have hadd : ∀ (n : Nat) (q : Fin 40), q.val = cc.val + n → n = j.val → P (ix5 b q i h d) = P (ix5 b ⟨cc.val + j.val, by omega⟩ i h d) :=
    fun n q hq hn => congrArg (fun z => P (ix5 b z i h d)) (Fin.ext (by rw [hq, hn]))
  split
  · exact hadd 0 _ rfl (by omega)
  split
  · exact hadd 1 _ (Nat.add_comm _ _) (by omega)
  split
  · exact hadd 2 _ (Nat.add_comm _ _) (by omega)
  split
  · exact hadd 3 _ (Nat.add_comm _ _) (by omega)
  split
  · exact hadd 4 _ (Nat.add_comm _ _) (by omega)
  split
  · exact hadd 5 _ (Nat.add_comm _ _) (by omega)
  split
  · exact hadd 6 _ (Nat.add_comm _ _) (by omega)
  split
  · exact hadd 7 _ (Nat.add_comm _ _) (by omega)
  exact hadd 8 _ (Nat.add_comm _ _) (by omega)

/-- The band at an index. -/
theorem band_at (X : Vec Ideal S16384x512 .f32) (b : Fin 8) (cc : Fin 32) (k : Fin 576) (h : Fin 8) (d : Fin 64) :
    band X (ix5 b cc k h d) = padded X (ix5 b ⟨cc.val + k.val / 64, by omega⟩ ⟨k.val % 64, by omega⟩ h d) := by
  unfold band
  refine (shapeCast_apply _ _ _ (ix6 b cc (⟨k.val / 64, by omega⟩ : Fin 9) (⟨k.val % 64, by omega⟩ : Fin 64) h d) ?_).trans (stack_at _ b cc _ _ h d)
  rw [Shape.rowMajor_val_five]
  rw [Shape.rowMajor_val_six]
  show ((((b.val * 32 + cc.val) * 9 + k.val / 64) * 64 + k.val % 64) * 8 + h.val) * 64 + d.val = (((b.val * 32 + cc.val) * 576 + k.val) * 8 + h.val) * 64 + d.val
  omega

/-- The chunk number of a band row. -/
theorem rowChunk_at (k : Fin 576) : rowChunk (ix2 0 k) = BitVec.ofNat 32 (k.val / 64) := by
  unfold rowChunk
  pointwise
  revert k
  decide +kernel

/-- The comparison of a chunk number with zero, on words. -/
theorem valid_word : ∀ (cc : Fin 32) (n : Fin 9),
    IntOp.cmpi CmpIPredicate.sge (IntOp.addi (IntOp.subi (BitVec.ofNat 32 cc.val) 8#32) (BitVec.ofNat 32 n.val)) 0#32 = if 8 ≤ cc.val + n.val then 1#1 else 0#1 := by
  decide +kernel

/-- A band row lies in the sequence when its chunk is not one of the eight in front. -/
theorem valid_at (cc : Fin 32) (k : Fin 576) : valid (ix2 cc k) = if 8 ≤ cc.val + k.val / 64 then 1#1 else 0#1 := by
  unfold valid
  have e := rowChunk_at k
  generalize rowChunk = R at e ⊢
  pointwise [e]
  clear e
  have h9 : k.val / 64 < 9 := by omega
  generalize k.val / 64 = n at h9 ⊢
  exact valid_word cc ⟨n, h9⟩

/-- The clip of a relative position, on words. -/
theorem row_word : ∀ n : Fin 639, min
      (Scalar.select
            (IntOp.cmpi CmpIPredicate.slt (IntOp.addi (IntOp.minsi 128#32 (IntOp.maxsi 4294967168#32 (IntOp.subi (BitVec.ofNat 32 n.val) 575#32))) 128#32) 0#32)
            (IntOp.addi (IntOp.addi (IntOp.minsi 128#32 (IntOp.maxsi 4294967168#32 (IntOp.subi (BitVec.ofNat 32 n.val) 575#32))) 128#32) 257#32)
            (IntOp.addi (IntOp.minsi 128#32 (IntOp.maxsi 4294967168#32 (IntOp.subi (BitVec.ofNat 32 n.val) 575#32))) 128#32)).toInt.toNat
      256 = min 256 (n.val - 447) := by
  decide +kernel

/-- The table's row, by the difference of the band row and the query position. -/
theorem tableRow_at (i : Fin 64) (k : Fin 576) : min (tableRow (ix2 i k)).toInt.toNat 256 = min 256 (k.val - (i.val + 384)) := by
  unfold tableRow place
  pointwise
  have e : IntOp.subi (IntOp.subi (BitVec.ofNat 32 k.val) 512#32) (BitVec.ofNat 32 i.val)
      = IntOp.subi (BitVec.ofNat 32 (k.val + 63 - i.val)) 575#32 := by
    show BitVec.ofNat 32 k.val - 512#32 - BitVec.ofNat 32 i.val = BitVec.ofNat 32 (k.val + 63 - i.val) - 575#32
    have hi := i.isLt
    have hk := k.isLt
    refine BitVec.eq_of_toNat_eq ?_
    simp only [BitVec.toNat_sub, BitVec.toNat_ofNat]
    omega
  rw [e, show min 256 (k.val - (i.val + 384)) = min 256 (k.val + 63 - i.val - 447) by omega]
  exact row_word ⟨k.val + 63 - i.val, by omega⟩

/-- A gather of whole rows of the table, at an index. -/
theorem gather_at (T : Vec Ideal S257x8 .f32) (idx : IVec S64x576x1 32) (i : Fin 64) (k : Fin 576) (h : Fin 8) :
    Host.gather gather_S257x8_S64x576x1_S64x576x8_2_0_n_n_0_2_18 T idx (ix3 i k h) = T (ix2 ⟨min (idx (ix3 i k 0)).toInt.toNat 256, by omega⟩ h) := by
  unfold Host.gather
  refine congrArg T ?_
  funext a
  refine Fin.ext ?_
  show gather_S257x8_S64x576x1_S64x576x8_2_0_n_n_0_2_18.start (ix3 i k h) idx a + gather_S257x8_S64x576x1_S64x576x8_2_0_n_n_0_2_18.batchCoord (ix3 i k h) a
    + gather_S257x8_S64x576x1_S64x576x8_2_0_n_n_0_2_18.offCoord (ix3 i k h) a = _
  have h01 : a = 0 ∨ a = 1 := by
    match a with
    | ⟨0, _⟩ => exact Or.inl rfl
    | ⟨1, _⟩ => exact Or.inr rfl
  rcases h01 with rfl | rfl
  · rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S257x8_S64x576x1_S64x576x8_2_0_n_n_0_2_18.startIndexMap from List.mem_singleton.mpr rfl)]
    have hsi : gather_S257x8_S64x576x1_S64x576x8_2_0_n_n_0_2_18.siIdx (ix3 i k h) ⟨List.idxOf (0 : Fin 2) gather_S257x8_S64x576x1_S64x576x8_2_0_n_n_0_2_18.startIndexMap,
        List.idxOf_lt_length_iff.2 (List.mem_singleton.mpr rfl)⟩ = ix3 i k 0 := by
      funext k; refine Fin.ext ?_
      match k with
      | ⟨0, _⟩ => rfl
      | ⟨1, _⟩ => rfl
      | ⟨2, _⟩ => rfl
    rw [hsi]
    rfl
  · rw [GatherDims.batchCoord_eq_zero _ _ _ List.not_mem_nil]
    unfold GatherDims.start
    rw [dif_neg (show ¬ (1 : Fin 2) ∈ gather_S257x8_S64x576x1_S64x576x8_2_0_n_n_0_2_18.startIndexMap from by decide)]
    simp only [Nat.zero_add, Nat.add_zero]
    unfold GatherDims.offCoord
    rw [dif_pos (show (1 : Fin 2) ∈ gather_S257x8_S64x576x1_S64x576x8_2_0_n_n_0_2_18.sKept from by decide)]
    rfl

/-- The bias at an index. -/
theorem bias_at (T : Vec Ideal S257x8 .f32) (h : Fin 8) (i : Fin 64) (k : Fin 576) :
    bias T (ix3 h i k) = T (ix2 ⟨min 256 (k.val - (i.val + 384)), by omega⟩ h) := by
  unfold bias
  have e := tableRow_at i k
  generalize tableRow = R at e ⊢
  pointwise
  rw [gather_at]
  pointwise
  exact congrArg (fun n => T (ix2 n h)) (Fin.ext e)

/-- The scores at an index. -/
theorem scores_at (q : Vec Ideal S8x32x64x8x64 .f32) (k : Vec Ideal S8x32x576x8x64 .f32) (B : Vec Ideal S8x64x576 .f32)
    (b : Fin 8) (cc : Fin 32) (h : Fin 8) (i : Fin 64) (r : Fin 576) :
    scores q k B (ix5 b cc h i r) = if 8 ≤ cc.val + r.val / 64 then
      (∑ d : Fin 64, q (ix5 b cc i h d) * k (ix5 b cc r h d)) * ((1 / 8 : ℝ) : EReal) + B (ix3 h i r) else ⊥ := by
  unfold scores
  have e := valid_at cc r
  generalize valid = R at e ⊢
  pointwise [e, negInf, eighth]
  have en : (id (constant (F := Ideal) S_ FTy.f32 4286578688#32) : Vec Ideal S_ .f32) ix0 = ⊥ := negInf
  rw [en]
  split <;> rfl

/-- The maximum over the band at an index. -/
theorem top_at (s : Vec Ideal S8x32x8x64x576 .f32) (b : Fin 8) (cc : Fin 32) (h : Fin 8) (i : Fin 64) :
    Host.reduce (FloatOps.maximumf (F := Ideal)) s (constant (F := Ideal) S_ .f32 0xFF800000#32) reducesTo_S8x32x8x64x576_S8x32x8x64_d4 h_S_ (ix4 b cc h i)
      = Finset.univ.sup fun k : Fin 576 => s (ix5 b cc h i k) := by
  have hr : S8x32x8x64x576.Reduces [4] S8x32x8x64 := by decide
  refine (Host.reduce_eq_fold_single (FloatOps.maximumf (F := Ideal) (φ := .f32)) s _ reducesTo_S8x32x8x64x576_S8x32x8x64_d4 hr h_S_ (ix4 b cc h i)).trans ?_
  have e0 : (constant (F := Ideal) S_ .f32 0xFF800000#32) (Shape.Idx.first h_S_) = (⊥ : EReal) := negInf
  rw [e0]
  have e1 : (s ∘ hr.lift (ix4 b cc h i)) = fun k : Fin 576 => s (ix5 b cc h i k) := by
    funext k
    refine congrArg s ?_
    funext a
    match a with
    | ⟨0, _⟩ => rfl
    | ⟨1, _⟩ => rfl
    | ⟨2, _⟩ => rfl
    | ⟨3, _⟩ => rfl
    | ⟨4, _⟩ => rfl
  rw [e1]
  rfl

/-- The maximum with minus infinity changes nothing. -/
theorem max_at (M : Vec Ideal S8x32x8x64 .f32) (j : S8x32x8x64.Idx) :
    maximumf (F := Ideal) (broadcastInDim S8x32x8x64 ![] bcast_S_S8x32x8x64 (constant (F := Ideal) S_ .f32 0xFF800000#32)) M j = M j := by
  show max (Ideal.ofBits .f32 0xFF800000#32) (M j) = M j
  rw [negInf]
  exact max_eq_right bot_le

/-- The exponential of a difference with a row's number, at an index. -/
theorem shifted_at (s : Vec Ideal S8x32x8x64x576 .f32) (M : Vec Ideal S8x32x8x64 .f32) (b : Fin 8) (cc : Fin 32) (h : Fin 8) (i : Fin 64) (r : Fin 576) :
    Host.exp (F := Ideal) (φ := .f32) (subf (F := Ideal) (φ := .f32) s (broadcastInDim S8x32x8x64x576 ![0, 1, 2, 3, 4] bcast_S8x32x8x64x1_S8x32x8x64x576_0_1_2_3_4 (broadcastInDim S8x32x8x64x1 ![0, 1, 2, 3] bcast_S8x32x8x64_S8x32x8x64x1_0_1_2_3 M))) (ix5 b cc h i r)
      = Ideal.exp (s (ix5 b cc h i r) - M (ix4 b cc h i)) := by
  pointwise

/-- The weights at an index. -/
theorem weights_at (s : Vec Ideal S8x32x8x64x576 .f32) (b : Fin 8) (cc : Fin 32) (h : Fin 8) (i : Fin 64) (r : Fin 576) :
    weights s (ix5 b cc h i r) = Ideal.exp (s (ix5 b cc h i r) - Finset.univ.sup fun k : Fin 576 => s (ix5 b cc h i k)) := by
  unfold weights
  exact (shifted_at _ _ b cc h i r).trans (congrArg (fun w => Ideal.exp (s (ix5 b cc h i r) - w)) ((max_at _ _).trans (top_at s b cc h i)))

/-- The normalised weights at an index. -/
theorem normal_at (e : Vec Ideal S8x32x8x64x576 .f32) (b : Fin 8) (cc : Fin 32) (h : Fin 8) (i : Fin 64) (r : Fin 576) :
    normal e (ix5 b cc h i r) = Ideal.div (e (ix5 b cc h i r)) (∑ k : Fin 576, e (ix5 b cc h i k)) := by
  unfold normal
  pointwise

/-- The weighted sum at an index. -/
theorem mixed_at (v : Vec Ideal S8x32x576x8x64 .f32) (p : Vec Ideal S8x32x8x64x576 .f32) (b : Fin 8) (cc : Fin 32) (i : Fin 64) (h : Fin 8) (u : Fin 64) :
    mixed v p (ix5 b cc i h u) = ∑ r : Fin 576, v (ix5 b cc r h u) * p (ix5 b cc h i r) := by
  unfold mixed
  pointwise

/-- The result's rows are batch, chunk and position, its columns head and feature. -/
theorem joined_at (Y : Vec Ideal S8x32x64x8x64 .f32) (b : Fin 8) (cc : Fin 32) (i : Fin 64) (h : Fin 8) (u : Fin 64) :
    shapeCast S16384x512 Y shapeCasts_S8x32x64x8x64_S16384x512 (ix2 ⟨2048 * b.val + (64 * cc.val + i.val), by omega⟩ ⟨64 * h.val + u.val, by omega⟩) = Y (ix5 b cc i h u) := by
  refine shapeCast_apply _ _ _ _ ?_
  rw [Shape.rowMajor_val_five, Shape.rowMajor_val_two]
  show (((b.val * 32 + cc.val) * 64 + i.val) * 8 + h.val) * 64 + u.val = (2048 * b.val + (64 * cc.val + i.val)) * 512 + (64 * h.val + u.val)
  omega

end Cert.ReferenceIdeal.Band
-- ==== Proof.Softmax.lean ====
/- The algebra between the two forms of the softmax average: 640 local rows with some at minus infinity against the 576 rows of the band, one division at the end against a division per row. -/
module

public import proofs.«01_k».proof.Proof.Tile

@[expose] public section
noncomputable section
namespace Cert.KernelIdeal.Band
open Idealize.ShloMosaic

/-- A value that is a real number. -/
def Real' (x : EReal) : Prop := ∃ y : ℝ, x = (y : EReal)

/-- A sum of reals is a real. -/
theorem Real'.add {x y : EReal} : Real' x → Real' y → Real' (x + y) := by
  rintro ⟨a, rfl⟩ ⟨b, rfl⟩
  exact ⟨a + b, (EReal.coe_add a b).symm⟩

/-- A product of reals is a real. -/
theorem Real'.mul {x y : EReal} : Real' x → Real' y → Real' (x * y) := by
  rintro ⟨a, rfl⟩ ⟨b, rfl⟩
  exact ⟨a * b, (EReal.coe_mul a b).symm⟩

/-- A finite sum of reals is a real. -/
theorem Real'.sum {ι : Type} (S : Finset ι) (f : ι → EReal) (h : ∀ i, Real' (f i)) : Real' (∑ i ∈ S, f i) := by
  classical
  induction S using Finset.induction_on with
  | empty => exact ⟨0, by simp⟩
  | insert a S ha ih => rw [Finset.sum_insert ha]; exact (h a).add ih

/-- A value whose absolute value is below infinity is a real. -/
theorem Real'.of_ne {x : EReal} (h1 : x ≠ ⊤) (h2 : x ≠ ⊥) : Real' x :=
  ⟨x.toReal, (EReal.coe_toReal h1 h2).symm⟩

/-- A finite sum of reals, taken in the reals. -/
theorem coe_sum {ι : Type} (S : Finset ι) (f : ι → ℝ) : ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

/-- A nonnegative real factor goes into a finite sum. -/
theorem sum_mul_real {ι : Type} (S : Finset ι) (f : ι → EReal) (c : ℝ) (hc : 0 ≤ c) : (∑ i ∈ S, f i) * (c : EReal) = ∑ i ∈ S, f i * (c : EReal) := by
  classical
  induction S using Finset.induction_on with
  | empty => simp
  | insert a S ha ih =>
    rw [Finset.sum_insert ha, Finset.sum_insert ha, ← ih]
    exact EReal.right_distrib_of_nonneg_of_ne_top (EReal.coe_nonneg.mpr hc) (EReal.coe_ne_top c) _ _

/-- The exponential of a score less a real maximum: a nonnegative real, positive unless the score is minus infinity. -/
theorem exp_real (x : EReal) (M : ℝ) (hx : x ≠ ⊤) : ∃ y : ℝ, 0 ≤ y ∧ Ideal.exp (x - (M : EReal)) = (y : EReal) ∧ (x ≠ ⊥ → 0 < y) := by
  induction x with
  | bot => exact ⟨0, le_refl _, by rw [EReal.bot_sub, Ideal.exp_bot]; rfl, fun h => absurd rfl h⟩
  | top => exact absurd rfl hx
  | coe x =>
    refine ⟨Real.exp (x - M), (Real.exp_pos _).le, ?_, fun _ => Real.exp_pos _⟩
    rw [← EReal.coe_sub, Ideal.exp_coe]

/-- The kernel's form of the average over 640 local rows is the reference's over the band's 576. -/
theorem soft_eq (a : ℕ) (ha : a < 2) (sc w : Fin 640 → EReal) (s v : Fin 576 → EReal)
    (hs : ∀ r : Fin 576, sc ⟨64 * a + r.val, by omega⟩ = s r) (hv : ∀ r : Fin 576, w ⟨64 * a + r.val, by omega⟩ = v r)
    (hout : ∀ r : Fin 640, ¬ (64 * a ≤ r.val ∧ r.val < 64 * a + 576) → sc r = ⊥)
    (htop : ∀ r, s r ≠ ⊤) (r₀ : Fin 576) (hbot : s r₀ ≠ ⊥) :
    soft sc w = ∑ r : Fin 576, v r * Ideal.div (Ideal.exp (s r - Finset.univ.sup s)) (∑ k : Fin 576, Ideal.exp (s k - Finset.univ.sup s)) := by
  have hsup : Finset.univ.sup sc = Finset.univ.sup s := by
    apply le_antisymm
    · refine Finset.sup_le fun r _ => ?_
      by_cases h : 64 * a ≤ r.val ∧ r.val < 64 * a + 576
      · have e := hs ⟨r.val - 64 * a, by omega⟩
        have e' : (⟨64 * a + (r.val - 64 * a), by omega⟩ : Fin 640) = r := Fin.ext (by show 64 * a + (r.val - 64 * a) = r.val; omega)
        rw [show sc r = s ⟨r.val - 64 * a, by omega⟩ from (congrArg sc e').symm.trans e]
        exact Finset.le_sup (f := s) (Finset.mem_univ _)
      · rw [hout r h]; exact bot_le
    · refine Finset.sup_le fun r _ => ?_
      rw [← hs r]
      exact Finset.le_sup (f := sc) (Finset.mem_univ _)
  obtain ⟨M, hM⟩ : Real' (Finset.univ.sup s) := by
    obtain ⟨r₁, -, h1⟩ := Finset.exists_mem_eq_sup Finset.univ ⟨r₀, Finset.mem_univ _⟩ s
    refine Real'.of_ne (h1 ▸ htop r₁) fun h => hbot ?_
    exact le_bot_iff.mp (h ▸ Finset.le_sup (f := s) (Finset.mem_univ r₀))
  have hinj : Function.Injective fun r : Fin 576 => (⟨64 * a + r.val, by omega⟩ : Fin 640) := fun r r' e =>
    Fin.ext (by have := congrArg Fin.val e; simp only at this; omega)
  have hzero : ∀ r : Fin 640, r ∉ Set.range (fun r : Fin 576 => (⟨64 * a + r.val, by omega⟩ : Fin 640)) → Ideal.exp (sc r - (M : EReal)) = 0 := by
    intro r hr
    rw [hout r fun h => hr ⟨⟨r.val - 64 * a, by omega⟩, Fin.ext (by show 64 * a + (r.val - 64 * a) = r.val; omega)⟩, EReal.bot_sub, Ideal.exp_bot]
  unfold soft
  rw [hsup, hM]
  have hden : ∑ r : Fin 640, Ideal.exp (sc r - (M : EReal)) = ∑ k : Fin 576, Ideal.exp (s k - (M : EReal)) :=
    (Fintype.sum_of_injective _ hinj _ _ hzero fun r => by rw [hs r]).symm
  have hnum : ∑ r : Fin 640, w r * Ideal.exp (sc r - (M : EReal)) = ∑ k : Fin 576, v k * Ideal.exp (s k - (M : EReal)) :=
    (Fintype.sum_of_injective _ hinj _ _ (fun r hr => by rw [hzero r hr, mul_zero]) fun r => by rw [hs r, hv r]).symm
  rw [hden, hnum]
  choose y hy0 hy hypos using fun r => exp_real (s r) M (htop r)
  have hD : ∑ k : Fin 576, Ideal.exp (s k - (M : EReal)) = ((∑ k, y k : ℝ) : EReal) := by
    rw [coe_sum]
    exact Finset.sum_congr rfl fun k _ => hy k
  have hpos : 0 < ∑ k, y k := Finset.sum_pos' (fun k _ => hy0 k) ⟨r₀, Finset.mem_univ _, hypos r₀ hbot⟩
  rw [hD, Ideal.div_coe hpos.ne', one_mul, sum_mul_real _ _ _ (by positivity)]
  refine Finset.sum_congr rfl fun r _ => ?_
  rw [Ideal.div_coe hpos.ne', mul_assoc]

/-- The scale taken out of the scores' inner product. -/
theorem scale_eq (q k : Fin 64 → EReal) : ∑ d, k d * (q d * ((1 / 8 : ℝ) : EReal)) = (∑ d, q d * k d) * ((1 / 8 : ℝ) : EReal) := by
  rw [sum_mul_real _ _ _ (by norm_num)]
  exact Finset.sum_congr rfl fun d _ => by rw [← mul_assoc, mul_comm (k d)]

end Cert.KernelIdeal.Band
-- ==== Proof.Final.lean ====
/- The kernel's result array is the reference's. -/
module

public import proofs.«01_k».proof.Proof.Entry
public import proofs.«01_k».proof.Proof.RefAt
public import proofs.«01_k».proof.Proof.Softmax

@[expose] public section
set_option maxRecDepth 16384
noncomputable section
namespace Cert.KernelIdeal.Band
open Idealize.ShloMosaic Idealize.ShloMosaic.TcCoe Idealize.SL.Sem
open Idealize.ShloMosaic.Pipeline (Dat)
open Cert.KernelIdeal.Gen

/-- A tile's padded rows are the reference's band: tile `g` of a batch, chunk `2g + a`, band row `r`. -/
theorem row_eq (X : Vec Ideal S16384x512 .f32) (b : Fin 8) (g : Fin 16) (a : Fin 2) (r : Fin 576) (h : Fin 8) (d : Fin 64) :
    padF (batch X b) (padRow g ⟨64 * a.val + r.val, by omega⟩) (col h d) = Cert.ReferenceIdeal.Band.band X (ix5 b ⟨2 * g.val + a.val, by omega⟩ r h d) := by
  rw [Cert.ReferenceIdeal.Band.band_at, Cert.ReferenceIdeal.Band.padded_at]
  by_cases hv : 8 ≤ 2 * g.val + a.val + r.val / 64
  · rw [dif_pos hv, Cert.ReferenceIdeal.Band.chunks_at,
      padF_hi (batch X b) _ _ (⟨128 * g.val + 64 * a.val + r.val - 512, by omega⟩ : Fin 2048) (by show 128 * g.val + (64 * a.val + r.val) = 512 + (128 * g.val + 64 * a.val + r.val - 512); omega)]
    unfold batch
    refine congrArg X (funext fun z => ?_)
    match z with
    | ⟨0, _⟩ => exact Fin.ext (by show 2048 * b.val + (128 * g.val + 64 * a.val + r.val - 512) = 2048 * b.val + (64 * (2 * g.val + a.val + r.val / 64 - 8) + r.val % 64); omega)
    | ⟨1, _⟩ => rfl
  · rw [dif_neg hv, padF_lo]
    show 128 * g.val + (64 * a.val + r.val) < 512
    omega

/-- A tile's score of a row of the query's band is the reference's. -/
theorem score_eq (q k : Vec Ideal S16384x512 .f32) (T : Vec Ideal S257x8 .f32) (b : Fin 8) (g : Fin 16) (a : Fin 2) (i : Fin 64) (r : Fin 576) (h : Fin 8) :
    tileScore g (fun x e => q (ix2 ⟨128 * (16 * b.val + g.val) + x.val, by omega⟩ e)) (fun h r x => biasBand T (ix3 h r x)) (padF (batch k b)) h
        ⟨64 * a.val + i.val, by omega⟩ ⟨64 * a.val + r.val, by omega⟩
      = Cert.ReferenceIdeal.Band.scores (Cert.ReferenceIdeal.Band.chunks q) (Cert.ReferenceIdeal.Band.band k) (Cert.ReferenceIdeal.Band.bias T)
          (ix5 b ⟨2 * g.val + a.val, by omega⟩ h i r) := by
  rw [Cert.ReferenceIdeal.Band.scores_at, Cert.ReferenceIdeal.Band.bias_at]
  unfold tileScore
  beta_reduce
  rw [bias_at, if_pos (by show (64 * a.val + i.val) / 64 ≤ (64 * a.val + r.val) / 64 ∧ (64 * a.val + r.val) / 64 ≤ (64 * a.val + i.val) / 64 + 8; omega)]
  by_cases hv : 8 ≤ 2 * g.val + a.val + r.val / 64
  · rw [if_pos hv, if_pos (by show 512 ≤ 128 * g.val + (64 * a.val + r.val); omega), add_zero]
    refine congrArg₂ (· + ·) ?_ (congrArg (fun n => T (ix2 n h)) (Fin.ext ?_))
    · refine Eq.trans ?_ (scale_eq (fun d => Cert.ReferenceIdeal.Band.chunks q (ix5 b ⟨2 * g.val + a.val, by omega⟩ i h d)) fun d => Cert.ReferenceIdeal.Band.band k (ix5 b ⟨2 * g.val + a.val, by omega⟩ r h d))
      refine Finset.sum_congr rfl fun d _ => ?_
      rw [row_eq, Cert.ReferenceIdeal.Band.chunks_at]
      refine congrArg (fun z => _ * (q z * _)) (funext fun z => ?_)
      match z with
      | ⟨0, _⟩ => exact Fin.ext (by show 128 * (16 * b.val + g.val) + (64 * a.val + i.val) = 2048 * b.val + (64 * (2 * g.val + a.val) + i.val); omega)
      | ⟨1, _⟩ => rfl
    · show min 256 (64 * a.val + r.val - (64 * a.val + i.val + 384)) = min 256 (r.val - (i.val + 384))
      omega
  · rw [if_neg hv, if_neg (by show ¬ 512 ≤ 128 * g.val + (64 * a.val + r.val); omega), EReal.add_bot, EReal.add_bot]

/-- A row outside the query's band scores minus infinity. -/
theorem score_out (q k : Vec Ideal S16384x512 .f32) (T : Vec Ideal S257x8 .f32) (b : Fin 8) (g : Fin 16) (a : Fin 2) (i : Fin 64) (r : Fin 640) (h : Fin 8)
    (hr : ¬ (64 * a.val ≤ r.val ∧ r.val < 64 * a.val + 576)) :
    tileScore g (fun x e => q (ix2 ⟨128 * (16 * b.val + g.val) + x.val, by omega⟩ e)) (fun h r x => biasBand T (ix3 h r x)) (padF (batch k b)) h
        ⟨64 * a.val + i.val, by omega⟩ r = ⊥ := by
  unfold tileScore
  beta_reduce
  rw [bias_at, if_neg (by show ¬ ((64 * a.val + i.val) / 64 ≤ r.val / 64 ∧ r.val / 64 ≤ (64 * a.val + i.val) / 64 + 8); omega), EReal.bot_add, EReal.add_bot]

/-- The band of a finite operand is finite. -/
theorem band_real (k : Vec Ideal S16384x512 .f32) (hk : ∀ j, Real' (k j)) (b : Fin 8) (cc : Fin 32) (r : Fin 576) (h : Fin 8) (d : Fin 64) :
    Real' (Cert.ReferenceIdeal.Band.band k (ix5 b cc r h d)) := by
  rw [Cert.ReferenceIdeal.Band.band_at, Cert.ReferenceIdeal.Band.padded_at]
  by_cases hv : 8 ≤ cc.val + r.val / 64
  · rw [dif_pos hv, Cert.ReferenceIdeal.Band.chunks_at]; exact hk _
  · rw [dif_neg hv]; exact ⟨0, rfl⟩

/-- A tile's result is the reference's, for finite queries, keys and table. -/
theorem tile_eq (q k v : Vec Ideal S16384x512 .f32) (T : Vec Ideal S257x8 .f32) (hq : ∀ j, Real' (q j)) (hk : ∀ j, Real' (k j)) (hT : ∀ j, Real' (T j))
    (b : Fin 8) (g : Fin 16) (a : Fin 2) (i : Fin 64) (h : Fin 8) (u : Fin 64) :
    tileVal g (fun x e => q (ix2 ⟨128 * (16 * b.val + g.val) + x.val, by omega⟩ e)) (fun h r x => biasBand T (ix3 h r x)) (padF (batch k b)) (padF (batch v b)) h u
        ⟨64 * a.val + i.val, by omega⟩
      = Cert.ReferenceIdeal.Band.result q k v T (ix2 ⟨2048 * b.val + (64 * (2 * g.val + a.val) + i.val), by omega⟩ ⟨64 * h.val + u.val, by omega⟩) := by
  unfold Cert.ReferenceIdeal.Band.result
  refine Eq.trans ?_ (Cert.ReferenceIdeal.Band.joined_at _ b ⟨2 * g.val + a.val, by omega⟩ i h u).symm
  rw [Cert.ReferenceIdeal.Band.mixed_at]
  have hs := fun r => score_eq q k T b g a i r h
  generalize hS : Cert.ReferenceIdeal.Band.scores (Cert.ReferenceIdeal.Band.chunks q) (Cert.ReferenceIdeal.Band.band k) (Cert.ReferenceIdeal.Band.bias T) = S at hs ⊢
  have hfin : ∀ r : Fin 576, S (ix5 b ⟨2 * g.val + a.val, by omega⟩ h i r) = ⊥ ∨ Real' (S (ix5 b ⟨2 * g.val + a.val, by omega⟩ h i r)) := by
    intro r
    rw [← hS, Cert.ReferenceIdeal.Band.scores_at]
    split
    · refine Or.inr (((Real'.sum _ _ fun d => ?_).mul ⟨_, rfl⟩).add ?_)
      · refine Real'.mul ?_ ?_
        · rw [Cert.ReferenceIdeal.Band.chunks_at]; exact hq _
        · exact band_real k hk _ _ _ _ _
      · rw [Cert.ReferenceIdeal.Band.bias_at]; exact hT _
    · exact Or.inl rfl
  have htop : ∀ r : Fin 576, S (ix5 b ⟨2 * g.val + a.val, by omega⟩ h i r) ≠ ⊤ := by
    intro r
    rcases hfin r with e | ⟨y, e⟩
    · rw [e]; exact bot_ne_top
    · rw [e]; exact EReal.coe_ne_top y
  have hown : S (ix5 b ⟨2 * g.val + a.val, by omega⟩ h i ⟨512, by omega⟩) ≠ ⊥ := by
    rcases hfin ⟨512, by omega⟩ with e | ⟨y, e⟩
    · rw [← hS, Cert.ReferenceIdeal.Band.scores_at, if_pos (by show 8 ≤ 2 * g.val + a.val + 512 / 64; omega)] at e
      exfalso
      have hr : Real' ((∑ d : Fin 64, Cert.ReferenceIdeal.Band.chunks q (ix5 b ⟨2 * g.val + a.val, by omega⟩ i h d) * Cert.ReferenceIdeal.Band.band k (ix5 b ⟨2 * g.val + a.val, by omega⟩ ⟨512, by omega⟩ h d)) * ((1 / 8 : ℝ) : EReal)
          + Cert.ReferenceIdeal.Band.bias T (ix3 h i ⟨512, by omega⟩)) := by
        refine ((Real'.sum _ _ fun d => Real'.mul ?_ ?_).mul ⟨_, rfl⟩).add ?_
        · rw [Cert.ReferenceIdeal.Band.chunks_at]; exact hq _
        · exact band_real k hk _ _ _ _ _
        · rw [Cert.ReferenceIdeal.Band.bias_at]; exact hT _
      obtain ⟨y, hy⟩ := hr
      exact EReal.coe_ne_bot y (hy.symm.trans e)
    · rw [e]; exact EReal.coe_ne_bot y
  unfold tileVal
  refine (soft_eq a.val a.isLt _ _ (fun r => S (ix5 b ⟨2 * g.val + a.val, by omega⟩ h i r)) (fun r => Cert.ReferenceIdeal.Band.band v (ix5 b ⟨2 * g.val + a.val, by omega⟩ r h u))
    hs (fun r => row_eq v b g a r h u) (fun r hr => score_out q k T b g a i r h hr) htop _ hown).trans ?_
  refine Finset.sum_congr rfl fun r _ => congrArg (_ * ·) ?_
  rw [Cert.ReferenceIdeal.Band.normal_at, Cert.ReferenceIdeal.Band.weights_at]
  exact congrArg (Ideal.div _) (Finset.sum_congr rfl fun k _ => (Cert.ReferenceIdeal.Band.weights_at _ _ _ _ _ _).symm)

variable (m : (ℓ : Loc nD τ sig) → Buf (Elt Ideal) ℓ)

/-- A block read at its place: what a grid point writes is a block of an array when it agrees with the array row by row. -/
theorem block_eq (t : Fin cfg0.N) (O : Vec Ideal S128x512 .f32) (R : Vec Ideal S16384x512 .f32)
    (hO : ∀ (a : Fin 2) (i : Fin 64) (h : Fin 8) (u : Fin 64), O (ix2 (⟨64 * a.val + i.val, by omega⟩ : Fin 128) (col h u))
      = R (ix2 (⟨2048 * (t.val / 16) + (64 * (2 * (t.val % 16) + a.val) + i.val), by have := lt_of_lt_of_eq t.isLt N_0; omega⟩ : Fin 16384) (⟨64 * h.val + u.val, by omega⟩ : Fin 512))) :
    (cfg0.win 4).cut (grid0.coords t) O = ((cfg0.win 4).blk t).view.read (Elt Ideal) R := by
  obtain ⟨_, _, _, _, _, _, _, _, _, _, _, e0, e1, _⟩ := index_at t
  have ht : t.val < 128 := lt_of_lt_of_eq t.isLt N_0
  funext y
  have hy0 : (y 0).val < 128 := (y 0).isLt
  have hy1 : (y 1).val < 512 := (y 1).isLt
  have ex : (cfg0.win 4).xinj (grid0.coords t) y = ix2 (⟨64 * ((y 0).val / 64) + (y 0).val % 64, by omega⟩ : Fin 128) (col ⟨(y 1).val / 64, by omega⟩ ⟨(y 1).val % 64, by omega⟩) := by
    funext z; refine Fin.ext ?_
    match z with
    | ⟨0, _⟩ => show (y 0).val = 64 * ((y 0).val / 64) + (y 0).val % 64; omega
    | ⟨1, _⟩ => show (y 1).val = 64 * ((y 1).val / 64) + (y 1).val % 64; omega
  have ey : ((cfg0.win 4).blk t).view.emb y = ix2 (⟨2048 * (t.val / 16) + (64 * (2 * (t.val % 16) + (y 0).val / 64) + (y 0).val % 64), by omega⟩ : Fin 16384) (⟨64 * ((y 1).val / 64) + (y 1).val % 64, by omega⟩ : Fin 512) := by
    funext z; refine Fin.ext ?_
    match z with
    | ⟨0, _⟩ => show win0_4.index t (0 : Fin 2) * 128 + 1 * (y 0).val = 2048 * (t.val / 16) + (64 * (2 * (t.val % 16) + (y 0).val / 64) + (y 0).val % 64); omega
    | ⟨1, _⟩ => show win0_4.index t (1 : Fin 2) * 512 + 1 * (y 1).val = 64 * ((y 1).val / 64) + (y 1).val % 64; omega
  show O ((cfg0.win 4).xinj (grid0.coords t) y) = R (((cfg0.win 4).blk t).view.emb y)
  rw [ex, ey]
  exact hO ⟨(y 0).val / 64, by omega⟩ ⟨(y 0).val % 64, by omega⟩ ⟨(y 1).val / 64, by omega⟩ ⟨(y 1).val % 64, by omega⟩

/-- The result array after the run, for finite queries, keys and table. -/
theorem final_eq (c : Dev nD) (hq : ∀ j, Real' (m ((c : Thread nD τ).loc main_arg0) j)) (hk : ∀ j, Real' (m ((c : Thread nD τ).loc main_arg1) j)) (hT : ∀ j, Real' (m ((c : Thread nD τ).loc main_arg3) j)) :
    (dats m 0 c).arrAt 4 cfg0.N = Cert.ReferenceIdeal.Band.result (m ((c : Thread nD τ).loc main_arg0)) (m ((c : Thread nD τ).loc main_arg1)) (m ((c : Thread nD τ).loc main_arg2)) (m ((c : Thread nD τ).loc main_arg3)) := by
  refine (dats m 0 c).arrAt_eq_of_cover 4 _ (fun t hf => ?_) (fun i => (Value.covered_iff4 i).2 (by
    have h0 : (i 0).val < 16384 := (i 0).isLt; have h1 : (i 1).val < 512 := (i 1).isLt; omega))
  rw [Value.flushed4]
  have ht : t.val < 128 := lt_of_lt_of_eq t.isLt N_0
  refine block_eq t _ _ fun a i h u => ?_
  rw [tile_at m c t ⟨t.val / 16, by omega⟩ ⟨t.val % 16, by omega⟩ rfl rfl]
  exact tile_eq _ _ _ _ hq hk hT ⟨t.val / 16, by omega⟩ ⟨t.val % 16, by omega⟩ a i h u

end Cert.KernelIdeal.Band
-- ==== Proof.Pre.lean ====
/- The precondition: the facts its operations take, and what it says of the arguments. -/
module

public import proofs.«01_k».proof.Pre_finite_in
public import proofs.«01_k».proof.Proof.Softmax
public import Idealize.ShloMosaic.Lib.ReduceAll

@[expose] public section
noncomputable section
namespace Cert.Pre_finite_in
open Idealize.ShloMosaic

/-- The precondition's shape facts. -/
theorem facts : Facts where
  bcast_S_S16384x512 := by decide
  reducesTo_S16384x512_S_d0_1 := by decide
  h_S_ := by decide
  bcast_S_S257x8 := by decide
  reducesTo_S257x8_S_d0_1 := by decide

/-- The pattern of plus infinity. -/
theorem posInf : Ideal.ofBits .f32 0x7F800000#32 = ⊤ := by
  simp [Ideal.ofBits, Ideal.ieee]

/-- A value whose absolute value compares below infinity is a real number. -/
theorem real_of_lt (x : EReal) (h : FloatOps.cmpf (F := Ideal) (φ := .f32) .olt (FloatOps.absf (F := Ideal) (φ := .f32) x) (Ideal.ofBits .f32 0x7F800000#32) = 1#1) :
    Cert.KernelIdeal.Band.Real' x := by
  have h' : BitVec.ofBool (decide (max x (-x) < Ideal.ofBits .f32 0x7F800000#32)) = 1#1 := h
  rw [posInf] at h'
  induction x with
  | bot => exfalso; revert h'; simp
  | top => exfalso; revert h'; simp
  | coe x => exact ⟨x, rfl⟩

/-- The precondition says that the queries, the keys and the table are real numbers. -/
theorem finite [hF : Facts] (q k v : FVec Ideal S16384x512 .f32) (T : FVec Ideal S257x8 .f32) (h : fn (F := Ideal) q k v T = fun _ => 1#1) :
    (∀ j, Cert.KernelIdeal.Band.Real' (q j)) ∧ (∀ j, Cert.KernelIdeal.Band.Real' (k j)) ∧ (∀ j, Cert.KernelIdeal.Band.Real' (T j)) := by
  have h0 := congrFun h (fun a => a.elim0)
  obtain ⟨h01, hT⟩ := IntOp.andi_eq_one.1 h0
  obtain ⟨hq, hk⟩ := IntOp.andi_eq_one.1 h01
  haveI : Subsingleton S_.Idx := ⟨fun a b => funext fun z => z.elim0⟩
  exact ⟨fun j => real_of_lt _ (Host.reduce_andi_all _ _ _ _ _ hq j), fun j => real_of_lt _ (Host.reduce_andi_all _ _ _ _ _ hk j),
    fun j => real_of_lt _ (Host.reduce_andi_all _ _ _ _ _ hT j)⟩

end Cert.Pre_finite_in
-- ==== Proof.LnRow.lean ====
/- A residual row, normalised: the mean is taken off, the rest is divided by its root mean square, then scaled and shifted. -/
module

public import Idealize.ShloMosaic.Lib.StableHlo
public import Idealize.ShloMosaic.PureOps.Ideal
public import Idealize.ShloMosaic.Lib.Pointwise

@[expose] public section
noncomputable section
namespace Cert.Rows
open Idealize.ShloMosaic

/-- The mean of a row of 1024 numbers. -/
def mean (a : Fin 1024 → EReal) : EReal := Ideal.div (∑ e, a e) (Ideal.ofBits .f32 0x44800000#32)

/-- The layer norm of a row of 1024 numbers. -/
def lnRow (a g b : Fin 1024 → EReal) (e : Fin 1024) : EReal :=
  (a e - mean a) * Ideal.rsqrt (mean (fun k => (a k - mean a) * (a k - mean a)) + Ideal.ofBits .f32 0x3727C5AC#32) * g e + b e

end Cert.Rows
-- ==== Proof.Down.lean ====
/- The second product of the feed-forward part, its residual and its layer norm: the array the kernel leaves. -/
module

public import proofs.«01_k».proof.Proof.Gen.Kernel3Ideal.Value
public import proofs.«01_k».proof.Proof.Gen.Reference3Ideal.Run
public import proofs.«01_k».proof.Proof.LnRow
public import Idealize.ShloMosaic.Lib.Pointwise
public import Idealize.ShloMosaic.Lib.Pipeline.ValueKit

@[expose] public section
set_option maxRecDepth 16384
noncomputable section
namespace Cert.Reference3Ideal.Down
open Idealize.ShloMosaic Idealize.ShloMosaic.TcCoe Idealize.SL.Sem
open Cert.Reference3Ideal Cert.Reference3Ideal.Gen Cert.Rows

/-- The reference's residual and product. -/
def P (a0 : FVec Ideal S16384x2816 .bf16) (a1 : FVec Ideal S2816x1024 .f32) (a2 : FVec Ideal S16384x1024 .f32) : FVec Ideal S16384x1024 .f32 :=
  addf (mulf (broadcastInDim S16384x1024 ![] bcast_S_S16384x1024 (constant S_ .f32 0x3FD744FD#32)) a2) (Host.dotGeneral dot_S16384x2816_S2816x1024_S16384x1024_1_0_0_1_n_n none (extf .f32 a0 bitsLt_bf16_f32) a1)

/-- The reference's row means. -/
def M (P : FVec Ideal S16384x1024 .f32) : FVec Ideal S16384x1024 .f32 :=
  broadcastInDim S16384x1024 ![0, 1] bcast_S16384x1_S16384x1024_0_1 (Host.divf (broadcastInDim S16384x1 ![0] bcast_S16384_S16384x1_0 (Host.reduceAdd P (constant S_ .f32 0x00000000#32) reducesTo_S16384x1024_S16384_d1 h_S_)) (broadcastInDim S16384x1 ![] bcast_S_S16384x1 (constant S_ .f32 0x44800000#32)))

/-- The reference's layer norm of every row. -/
def norm (P : FVec Ideal S16384x1024 .f32) (a3 a4 : FVec Ideal S1024 .f32) : FVec Ideal S16384x1024 .f32 :=
  addf (mulf (mulf (subf P (M P)) (broadcastInDim S16384x1024 ![0, 1] bcast_S16384x1_S16384x1024_0_1 (Host.rsqrt (addf (Host.divf (broadcastInDim S16384x1 ![0] bcast_S16384_S16384x1_0 (Host.reduceAdd (mulf (subf P (M P)) (subf P (M P))) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x3727C5AC#32)))))) (broadcastInDim S16384x1024 ![0, 1] bcast_S1x1024_S16384x1024_0_1 (broadcastInDim S1x1024 ![1] bcast_S1024_S1x1024_1 a3))) (broadcastInDim S16384x1024 ![0, 1] bcast_S1x1024_S16384x1024_0_1 (broadcastInDim S1x1024 ![1] bcast_S1024_S1x1024_1 a4))

/-- The residual and product, element by element. -/
theorem P_at (a0 : FVec Ideal S16384x2816 .bf16) (a1 : FVec Ideal S2816x1024 .f32) (a2 : FVec Ideal S16384x1024 .f32) (r : Fin 16384) (e : Fin 1024) :
    P a0 a1 a2 (ix2 r e) = Ideal.ofBits .f32 0x3FD744FD#32 * a2 (ix2 r e) + ∑ k : Fin 2816, a0 (ix2 r k) * a1 (ix2 k e) := by
  unfold P
  pointwise

/-- The layer norm, element by element. -/
theorem norm_at (P : FVec Ideal S16384x1024 .f32) (a3 a4 : FVec Ideal S1024 .f32) (r : Fin 16384) (e : Fin 1024) :
    norm P a3 a4 (ix2 r e) = lnRow (fun k => P (ix2 r k)) (fun e => a3 (ix1 e)) (fun e => a4 (ix1 e)) e := by
  unfold norm M
  pointwise
  rfl

end Cert.Reference3Ideal.Down

namespace Cert.Kernel3Ideal.Down
open Idealize.ShloMosaic Idealize.ShloMosaic.TcCoe Idealize.SL.Sem
open Idealize.ShloMosaic.Pipeline (Dat)
open Cert.Kernel3Ideal.Gen Cert.Rows

variable (m : (ℓ : Loc nD τ sig) → Buf (Elt Ideal) ℓ)

/-- One element of the row before the norm: the scaled residual and the product. -/
def pre (x : Vec Ideal S1024x1024 .f32) (a : Vec Ideal S1024x2816 .bf16) (w : Vec Ideal S2816x1024 .bf16) (r e : Fin 1024) : EReal :=
  Ideal.ofBits .f32 0x3FD744FD#32 * x (ix2 r e) + ∑ k : Fin 2816, a (ix2 r k) * w (ix2 k e)

/-- The stored block, element by element. -/
theorem pay_at (x : Vec Ideal S1024x1024 .f32) (a : Vec Ideal S1024x2816 .bf16) (w : Vec Ideal S2816x1024 .bf16) (g b : Vec Ideal S1x1024 .f32) (r e : Fin 1024) :
    k0_pay1 x a w g b (ix2 r e) = lnRow (pre x a w r) (fun e => g (ix2 0 e)) (fun e => b (ix2 0 e)) e := by
  unfold k0_pay1
  pointwise
  rfl

/-- The windows' blocks: the rows go with the grid point, the weight and the two norm rows stay. -/
theorem idx : ∀ t : Fin cfg0.N, win0_0.index t = ![t.val, 0] ∧ win0_1.index t = ![0, 0] ∧ win0_2.index t = ![t.val, 0] ∧ win0_3.index t = ![0, 0] ∧ win0_4.index t = ![0, 0] ∧ win0_5.index t = ![t.val, 0] :=
  (by decide +kernel : ∀ t : Fin grid0.N, _)

/-- A stored block is the reference's block when its inputs are the reference's rows. -/
theorem block_eq (x : Vec Ideal S1024x1024 .f32) (a : Vec Ideal S1024x2816 .bf16) (w : Vec Ideal S2816x1024 .bf16) (g b : Vec Ideal S1x1024 .f32)
    (a0 : FVec Ideal S16384x2816 .bf16) (a1 : FVec Ideal S2816x1024 .f32) (a2 : FVec Ideal S16384x1024 .f32) (a3 a4 : FVec Ideal S1024 .f32)
    (r e : Fin 1024) (R : Fin 16384) (hx : ∀ k, x (ix2 r k) = a2 (ix2 R k)) (ha : ∀ k, a (ix2 r k) = a0 (ix2 R k)) (hw : ∀ k e, w (ix2 k e) = a1 (ix2 k e))
    (hg : ∀ k, g (ix2 0 k) = a3 (ix1 k)) (hb : ∀ k, b (ix2 0 k) = a4 (ix1 k)) :
    k0_pay1 x a w g b (ix2 r e) = Cert.Reference3Ideal.Down.norm (Cert.Reference3Ideal.Down.P a0 a1 a2) a3 a4 (ix2 R e) := by
  rw [pay_at, Cert.Reference3Ideal.Down.norm_at]
  congr 1
  · funext k
    rw [Cert.Reference3Ideal.Down.P_at]
    unfold pre
    rw [hx]
    refine congrArg _ (Finset.sum_congr rfl fun j _ => ?_)
    rw [ha, hw]
  · exact funext hg
  · exact funext hb

/-- What the body stores at a point is the reference at the block's place. -/
theorem point (c : Dev nD) (t : Fin cfg0.N) (y : S1024x1024.Idx) : k0_pay1 (iblk m c 2 t) (iblk m c 0 t) (iblk m c 1 t) (iblk m c 3 t) (iblk m c 4 t) y
    = Cert.Reference3Ideal.Down.norm (Cert.Reference3Ideal.Down.P (m ((c : Thread nD τ).loc main_arg0)) (m ((c : Thread nD τ).loc main_arg1)) (m ((c : Thread nD τ).loc main_arg2)))
        (m ((c : Thread nD τ).loc main_arg3)) (m ((c : Thread nD τ).loc main_arg4)) (((cfg0.win 5).blk t).view.emb y) := by
  obtain ⟨r, e, rfl⟩ : ∃ (r e : Fin 1024), y = ix2 r e := ⟨y 0, y 1, by blk_ext⟩
  have hN := N_0
  have ht : t.val < 16 := lt_of_lt_of_eq t.isLt hN
  refine Eq.trans (block_eq _ _ _ _ _ (m ((c : Thread nD τ).loc main_arg0)) (m ((c : Thread nD τ).loc main_arg1)) (m ((c : Thread nD τ).loc main_arg2)) (m ((c : Thread nD τ).loc main_arg3)) (m ((c : Thread nD τ).loc main_arg4)) r e ⟨1024 * t.val + r.val, by omega⟩ ?_ ?_ ?_ ?_ ?_) ?_
  · intro k; blk_ext [iblk, V, idx t]
  · intro k; blk_ext [iblk, V, idx t]
  · intro k e; blk_simp [iblk]; entry_read; pointwise; all_goals (blk_ext [idx t])
  · intro k; blk_simp [iblk]; entry_read; pointwise; all_goals (blk_ext [idx t])
  · intro k; blk_simp [iblk]; entry_read; pointwise; all_goals (blk_ext [idx t])
  · blk_ext [idx t]

/-- The kernel's final array. -/
theorem final (c : Dev nD) : (dats m 0 c).arrAt 5 (cfgs 0).N
    = Cert.Reference3Ideal.Down.norm (Cert.Reference3Ideal.Down.P (m ((c : Thread nD τ).loc main_arg0)) (m ((c : Thread nD τ).loc main_arg1)) (m ((c : Thread nD τ).loc main_arg2)))
        (m ((c : Thread nD τ).loc main_arg3)) (m ((c : Thread nD τ).loc main_arg4)) := by
  refine (dats m 0 c).arrAt_eq_of_covers 5 _ (by decide +kernel) fun t _ y => ?_
  blk_simp
  rw [after0_5]
  frame_out
  exact point m c t y

end Cert.Kernel3Ideal.Down
-- ==== Proof.OutProj.lean ====
/- The output projection of the two mixer parts, its residual and its layer norm: the array the kernel leaves. -/
module

public import proofs.«01_k».proof.Proof.Gen.Kernel4Ideal.Value
public import proofs.«01_k».proof.Proof.Gen.Reference4Ideal.Run
public import proofs.«01_k».proof.Proof.LnRow
public import Idealize.ShloMosaic.Lib.Pointwise
public import Idealize.ShloMosaic.Lib.Pipeline.ValueKit

@[expose] public section
set_option maxRecDepth 16384
noncomputable section
namespace Cert.Reference4Ideal.OutProj
open Idealize.ShloMosaic Idealize.ShloMosaic.TcCoe Idealize.SL.Sem
open Cert.Reference4Ideal Cert.Reference4Ideal.Gen Cert.Rows

/-- The reference's residual and product, the two mixer parts side by side. -/
def P (a0 a1 : FVec Ideal S16384x512 .f32) (a2 : FVec Ideal S1024x1024 .f32) (a3 : FVec Ideal S16384x1024 .f32) : FVec Ideal S16384x1024 .f32 :=
  addf (mulf (broadcastInDim S16384x1024 ![] bcast_S_S16384x1024 (constant S_ .f32 0x3FD744FD#32)) a3) (Host.dotGeneral dot_S16384x1024_S1024x1024_S16384x1024_1_0_0_1_n_n none (concatenate S16384x1024 1 [⟨S16384x512, a0⟩, ⟨S16384x512, a1⟩] concatenates_S16384x512_S16384x512_S16384x1024_d1) a2)

/-- The reference's row means. -/
def M (P : FVec Ideal S16384x1024 .f32) : FVec Ideal S16384x1024 .f32 :=
  broadcastInDim S16384x1024 ![0, 1] bcast_S16384x1_S16384x1024_0_1 (Host.divf (broadcastInDim S16384x1 ![0] bcast_S16384_S16384x1_0 (Host.reduceAdd P (constant S_ .f32 0x00000000#32) reducesTo_S16384x1024_S16384_d1 h_S_)) (broadcastInDim S16384x1 ![] bcast_S_S16384x1 (constant S_ .f32 0x44800000#32)))

/-- The reference's layer norm of every row. -/
def norm (P : FVec Ideal S16384x1024 .f32) (a3 a4 : FVec Ideal S1024 .f32) : FVec Ideal S16384x1024 .f32 :=
  addf (mulf (mulf (subf P (M P)) (broadcastInDim S16384x1024 ![0, 1] bcast_S16384x1_S16384x1024_0_1 (Host.rsqrt (addf (Host.divf (broadcastInDim S16384x1 ![0] bcast_S16384_S16384x1_0 (Host.reduceAdd (mulf (subf P (M P)) (subf P (M P))) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x3727C5AC#32)))))) (broadcastInDim S16384x1024 ![0, 1] bcast_S1x1024_S16384x1024_0_1 (broadcastInDim S1x1024 ![1] bcast_S1024_S1x1024_1 a3))) (broadcastInDim S16384x1024 ![0, 1] bcast_S1x1024_S16384x1024_0_1 (broadcastInDim S1x1024 ![1] bcast_S1024_S1x1024_1 a4))

/-- The residual and product, element by element: the product splits into one of each mixer part. -/
theorem P_at (a0 a1 : FVec Ideal S16384x512 .f32) (a2 : FVec Ideal S1024x1024 .f32) (a3 : FVec Ideal S16384x1024 .f32) (r : Fin 16384) (e : Fin 1024) :
    P a0 a1 a2 a3 (ix2 r e) = Ideal.ofBits .f32 0x3FD744FD#32 * a3 (ix2 r e)
      + (∑ k : Fin 512, a0 (ix2 r k) * a2 (ix2 ⟨k.val, by omega⟩ e) + ∑ k : Fin 512, a1 (ix2 r k) * a2 (ix2 ⟨512 + k.val, by omega⟩ e)) := by
  unfold P
  pointwise

/-- The layer norm, element by element. -/
theorem norm_at (P : FVec Ideal S16384x1024 .f32) (a3 a4 : FVec Ideal S1024 .f32) (r : Fin 16384) (e : Fin 1024) :
    norm P a3 a4 (ix2 r e) = lnRow (fun k => P (ix2 r k)) (fun e => a3 (ix1 e)) (fun e => a4 (ix1 e)) e := by
  unfold norm M
  pointwise
  rfl

end Cert.Reference4Ideal.OutProj

namespace Cert.Kernel4Ideal.OutProj
open Idealize.ShloMosaic Idealize.ShloMosaic.TcCoe Idealize.SL.Sem
open Idealize.ShloMosaic.Pipeline (Dat)
open Cert.Kernel4Ideal.Gen Cert.Rows

variable (m : (ℓ : Loc nD τ sig) → Buf (Elt Ideal) ℓ)

/-- One element of the row before the norm: the scaled residual and the two products. -/
def pre (x : Vec Ideal S1024x1024 .f32) (a : Vec Ideal S1024x512 .f32) (u : Vec Ideal S512x1024 .bf16) (b : Vec Ideal S1024x512 .f32) (v : Vec Ideal S512x1024 .bf16) (r e : Fin 1024) : EReal :=
  Ideal.ofBits .f32 0x3FD744FD#32 * x (ix2 r e) + ∑ k : Fin 512, a (ix2 r k) * u (ix2 k e) + ∑ k : Fin 512, b (ix2 r k) * v (ix2 k e)

/-- The stored block, element by element. -/
theorem pay_at (x : Vec Ideal S1024x1024 .f32) (a : Vec Ideal S1024x512 .f32) (u : Vec Ideal S512x1024 .bf16) (b : Vec Ideal S1024x512 .f32) (v : Vec Ideal S512x1024 .bf16) (g h : Vec Ideal S1x1024 .f32) (r e : Fin 1024) :
    k0_pay1 (k0_pay2 x a u b v g) (k0_pay3 h) (ix2 r e) = lnRow (pre x a u b v r) (fun e => g (ix2 0 e)) (fun e => h (ix2 0 e)) e := by
  unfold k0_pay1 k0_pay2 k0_pay3
  pointwise
  rfl

/-- The windows' blocks: the rows go with the grid point, the weights and the two norm rows stay. -/
theorem idx : ∀ t : Fin cfg0.N, win0_0.index t = ![t.val, 0] ∧ win0_1.index t = ![t.val, 0] ∧ win0_2.index t = ![0, 0] ∧ win0_3.index t = ![0, 0] ∧ win0_4.index t = ![t.val, 0] ∧ win0_5.index t = ![0, 0] ∧ win0_6.index t = ![0, 0] ∧ win0_7.index t = ![t.val, 0] :=
  (by decide +kernel : ∀ t : Fin grid0.N, _)

/-- A stored block is the reference's block when its inputs are the reference's rows. -/
theorem block_eq (x : Vec Ideal S1024x1024 .f32) (a : Vec Ideal S1024x512 .f32) (u : Vec Ideal S512x1024 .bf16) (b : Vec Ideal S1024x512 .f32) (v : Vec Ideal S512x1024 .bf16) (g h : Vec Ideal S1x1024 .f32)
    (a0 a1 : FVec Ideal S16384x512 .f32) (a2 : FVec Ideal S1024x1024 .f32) (a3 : FVec Ideal S16384x1024 .f32) (a4 a5 : FVec Ideal S1024 .f32)
    (r e : Fin 1024) (R : Fin 16384) (hx : ∀ k, x (ix2 r k) = a3 (ix2 R k)) (ha : ∀ k, a (ix2 r k) = a0 (ix2 R k)) (hb : ∀ k, b (ix2 r k) = a1 (ix2 R k))
    (hu : ∀ (k : Fin 512) (e : Fin 1024), u (ix2 k e) = a2 (ix2 ⟨k.val, by omega⟩ e)) (hv : ∀ (k : Fin 512) (e : Fin 1024), v (ix2 k e) = a2 (ix2 ⟨512 + k.val, by omega⟩ e))
    (hg : ∀ k, g (ix2 0 k) = a4 (ix1 k)) (hh : ∀ k, h (ix2 0 k) = a5 (ix1 k)) :
    k0_pay1 (k0_pay2 x a u b v g) (k0_pay3 h) (ix2 r e) = Cert.Reference4Ideal.OutProj.norm (Cert.Reference4Ideal.OutProj.P a0 a1 a2 a3) a4 a5 (ix2 R e) := by
  rw [pay_at, Cert.Reference4Ideal.OutProj.norm_at]
  congr 1
  · funext k
    rw [Cert.Reference4Ideal.OutProj.P_at]
    unfold pre
    rw [hx, add_assoc]
    refine congrArg _ (congrArg₂ (· + ·) (Finset.sum_congr rfl fun j _ => ?_) (Finset.sum_congr rfl fun j _ => ?_))
    · rw [ha, hu]
    · rw [hb, hv]
  · exact funext hg
  · exact funext hh

/-- What the body stores at a point is the reference at the block's place. -/
theorem point (c : Dev nD) (t : Fin cfg0.N) (y : S1024x1024.Idx) : k0_pay1 (k0_pay2 (iblk m c 4 t) (iblk m c 0 t) (iblk m c 2 t) (iblk m c 1 t) (iblk m c 3 t) (iblk m c 5 t)) (k0_pay3 (iblk m c 6 t)) y
    = Cert.Reference4Ideal.OutProj.norm (Cert.Reference4Ideal.OutProj.P (m ((c : Thread nD τ).loc main_arg0)) (m ((c : Thread nD τ).loc main_arg1)) (m ((c : Thread nD τ).loc main_arg2)) (m ((c : Thread nD τ).loc main_arg3)))
        (m ((c : Thread nD τ).loc main_arg4)) (m ((c : Thread nD τ).loc main_arg5)) (((cfg0.win 7).blk t).view.emb y) := by
  obtain ⟨r, e, rfl⟩ : ∃ (r e : Fin 1024), y = ix2 r e := ⟨y 0, y 1, by blk_ext⟩
  have hN := N_0
  have ht : t.val < 16 := lt_of_lt_of_eq t.isLt hN
  refine Eq.trans (block_eq _ _ _ _ _ _ _ (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) r e ⟨1024 * t.val + r.val, by omega⟩ ?_ ?_ ?_ ?_ ?_ ?_ ?_) ?_
  · intro k; blk_ext [iblk, V, idx t]
  · intro k; blk_ext [iblk, V, idx t]
  · intro k; blk_ext [iblk, V, idx t]
  · intro k e; blk_simp [iblk]; entry_read; pointwise; all_goals (blk_ext [idx t])
  · intro k e; blk_simp [iblk]; entry_read; pointwise; all_goals (blk_ext [idx t])
  · intro k; blk_simp [iblk]; entry_read; pointwise; all_goals (blk_ext [idx t])
  · intro k; blk_simp [iblk]; entry_read; pointwise; all_goals (blk_ext [idx t])
  · blk_ext [idx t]

/-- The kernel's final array. -/
theorem final (c : Dev nD) : (dats m 0 c).arrAt 7 (cfgs 0).N
    = Cert.Reference4Ideal.OutProj.norm (Cert.Reference4Ideal.OutProj.P (m ((c : Thread nD τ).loc main_arg0)) (m ((c : Thread nD τ).loc main_arg1)) (m ((c : Thread nD τ).loc main_arg2)) (m ((c : Thread nD τ).loc main_arg3)))
        (m ((c : Thread nD τ).loc main_arg4)) (m ((c : Thread nD τ).loc main_arg5)) := by
  refine (dats m 0 c).arrAt_eq_of_covers 7 _ (by decide +kernel) fun t _ y => ?_
  blk_simp
  rw [after0_7]
  frame_out
  exact point m c t y

end Cert.Kernel4Ideal.OutProj
-- ==== Proof.ProjOdd.lean ====
/- The odd layers' input projection: the arrays the kernel leaves are the reference's columns of the product. -/
module

public import proofs.«01_k».proof.Proof.Gen.Kernel5Ideal.Value
public import proofs.«01_k».proof.Proof.Gen.Reference5Ideal.Run
public import Idealize.ShloMosaic.Lib.Pointwise
public import Idealize.ShloMosaic.Lib.Pipeline.ValueKit

@[expose] public section
set_option maxRecDepth 16384
noncomputable section
namespace Cert.Reference5Ideal.Proj
open Idealize.ShloMosaic Idealize.ShloMosaic.TcCoe Idealize.SL.Sem
open Cert.Reference5Ideal Cert.Reference5Ideal.Gen

/-- The reference's columns from 0, 512 wide. -/
def qk (a0 : FVec Ideal S16384x1024 .f32) (a1 : FVec Ideal S1024x3088 .f32) : FVec Ideal S16384x512 .f32 :=
  concatenate S16384x512 1 [⟨S16384x256, (extractStridedSlice S16384x256 ![0, 0] (Host.dotGeneral dot_S16384x1024_S1024x3088_S16384x3088_1_0_0_1_n_n none a0 a1) slices_S16384x3088_S16384x256_0_0)⟩, ⟨S16384x256, (extractStridedSlice S16384x256 ![0, 256] (Host.dotGeneral dot_S16384x1024_S1024x3088_S16384x3088_1_0_0_1_n_n none a0 a1) slices_S16384x3088_S16384x256_0_256)⟩] concatenates_S16384x256_S16384x256_S16384x512_d1

/-- Those columns, element by element. -/
theorem qk_at (a0 : FVec Ideal S16384x1024 .f32) (a1 : FVec Ideal S1024x3088 .f32) (r : Fin 16384) (e : Fin 512) :
    qk a0 a1 (ix2 r e) = ∑ k : Fin 1024, a0 (ix2 r k) * a1 (ix2 k ⟨e.val, by omega⟩) := by
  unfold qk
  pointwise
  split
  · refine Finset.sum_congr rfl fun k _ => ?_
    refine congrArg _ (congrArg a1 ?_)
    blk_ext
  · refine Finset.sum_congr rfl fun k _ => ?_
    refine congrArg _ (congrArg a1 ?_)
    blk_ext

/-- The reference's columns from 512, 512 wide. -/
def v (a0 : FVec Ideal S16384x1024 .f32) (a1 : FVec Ideal S1024x3088 .f32) : FVec Ideal S16384x512 .f32 :=
  extractStridedSlice S16384x512 ![0, 512] (Host.dotGeneral dot_S16384x1024_S1024x3088_S16384x3088_1_0_0_1_n_n none a0 a1) slices_S16384x3088_S16384x512_0_512

/-- Those columns, element by element. -/
theorem v_at (a0 : FVec Ideal S16384x1024 .f32) (a1 : FVec Ideal S1024x3088 .f32) (r : Fin 16384) (e : Fin 512) :
    v a0 a1 (ix2 r e) = ∑ k : Fin 1024, a0 (ix2 r k) * a1 (ix2 k ⟨512 + e.val, by omega⟩) := by
  unfold v
  pointwise

/-- The reference's columns from 1040, 512 wide. -/
def o (a0 : FVec Ideal S16384x1024 .f32) (a1 : FVec Ideal S1024x3088 .f32) : FVec Ideal S16384x512 .f32 :=
  extractStridedSlice S16384x512 ![0, 1040] (Host.dotGeneral dot_S16384x1024_S1024x3088_S16384x3088_1_0_0_1_n_n none a0 a1) slices_S16384x3088_S16384x512_0_1040

/-- Those columns, element by element. -/
theorem o_at (a0 : FVec Ideal S16384x1024 .f32) (a1 : FVec Ideal S1024x3088 .f32) (r : Fin 16384) (e : Fin 512) :
    o a0 a1 (ix2 r e) = ∑ k : Fin 1024, a0 (ix2 r k) * a1 (ix2 k ⟨1040 + e.val, by omega⟩) := by
  unfold o
  pointwise

/-- The reference's columns from 1552, 512 wide. -/
def qd (a0 : FVec Ideal S16384x1024 .f32) (a1 : FVec Ideal S1024x3088 .f32) : FVec Ideal S16384x512 .f32 :=
  extractStridedSlice S16384x512 ![0, 1552] (Host.dotGeneral dot_S16384x1024_S1024x3088_S16384x3088_1_0_0_1_n_n none a0 a1) slices_S16384x3088_S16384x512_0_1552

/-- Those columns, element by element. -/
theorem qd_at (a0 : FVec Ideal S16384x1024 .f32) (a1 : FVec Ideal S1024x3088 .f32) (r : Fin 16384) (e : Fin 512) :
    qd a0 a1 (ix2 r e) = ∑ k : Fin 1024, a0 (ix2 r k) * a1 (ix2 k ⟨1552 + e.val, by omega⟩) := by
  unfold qd
  pointwise

/-- The reference's columns from 2064, 512 wide. -/
def kd (a0 : FVec Ideal S16384x1024 .f32) (a1 : FVec Ideal S1024x3088 .f32) : FVec Ideal S16384x512 .f32 :=
  extractStridedSlice S16384x512 ![0, 2064] (Host.dotGeneral dot_S16384x1024_S1024x3088_S16384x3088_1_0_0_1_n_n none a0 a1) slices_S16384x3088_S16384x512_0_2064

/-- Those columns, element by element. -/
theorem kd_at (a0 : FVec Ideal S16384x1024 .f32) (a1 : FVec Ideal S1024x3088 .f32) (r : Fin 16384) (e : Fin 512) :
    kd a0 a1 (ix2 r e) = ∑ k : Fin 1024, a0 (ix2 r k) * a1 (ix2 k ⟨2064 + e.val, by omega⟩) := by
  unfold kd
  pointwise

/-- The reference's columns from 2576, 512 wide. -/
def vd (a0 : FVec Ideal S16384x1024 .f32) (a1 : FVec Ideal S1024x3088 .f32) : FVec Ideal S16384x512 .f32 :=
  extractStridedSlice S16384x512 ![0, 2576] (Host.dotGeneral dot_S16384x1024_S1024x3088_S16384x3088_1_0_0_1_n_n none a0 a1) slices_S16384x3088_S16384x512_0_2576

/-- Those columns, element by element. -/
theorem vd_at (a0 : FVec Ideal S16384x1024 .f32) (a1 : FVec Ideal S1024x3088 .f32) (r : Fin 16384) (e : Fin 512) :
    vd a0 a1 (ix2 r e) = ∑ k : Fin 1024, a0 (ix2 r k) * a1 (ix2 k ⟨2576 + e.val, by omega⟩) := by
  unfold vd
  pointwise

/-- The reference's narrow columns side by side, the rest zeros. -/
def misc (a0 : FVec Ideal S16384x1024 .f32) (a1 : FVec Ideal S1024x3088 .f32) : FVec Ideal S16384x128 .f32 :=
  concatenate S16384x128 1 [⟨S16384x8, (extractStridedSlice S16384x8 ![0, 1024] (Host.dotGeneral dot_S16384x1024_S1024x3088_S16384x3088_1_0_0_1_n_n none a0 a1) slices_S16384x3088_S16384x8_0_1024)⟩, ⟨S16384x8, (extractStridedSlice S16384x8 ![0, 1032] (Host.dotGeneral dot_S16384x1024_S1024x3088_S16384x3088_1_0_0_1_n_n none a0 a1) slices_S16384x3088_S16384x8_0_1032)⟩, ⟨S16384x112, broadcastInDim S16384x112 ![] bcast_S_S16384x112 (constant S_ .f32 0x00000000#32)⟩] concatenates_S16384x8_S16384x8_S16384x112_S16384x128_d1

/-- The weight of a narrow column, zero where the column is padding. -/
def miscW (w : Fin 3088 → EReal) (e : Fin 128) : EReal :=
  if h : e.val < 8 then w ⟨1024 + (e.val - 0), by omega⟩ else if h : e.val < 16 then w ⟨1032 + (e.val - 8), by omega⟩ else 0

set_option maxHeartbeats 1600000 in
/-- The narrow columns, element by element. -/
theorem misc_at (a0 : FVec Ideal S16384x1024 .f32) (a1 : FVec Ideal S1024x3088 .f32) (r : Fin 16384) (e : Fin 128) :
    misc a0 a1 (ix2 r e) = ∑ k : Fin 1024, a0 (ix2 r k) * miscW (fun q => a1 (ix2 k q)) e := by
  unfold misc
  pointwise
  by_cases h1 : e.val < 8
  · refine (dif_pos (by omega)).trans (Finset.sum_congr rfl fun k _ => congrArg _ ?_)
    exact Eq.trans (congrArg a1 (by blk_ext)) (Eq.symm (dif_pos h1))
  refine (dif_neg (by omega)).trans ?_
  by_cases h2 : e.val < 16
  · refine (dif_pos (by omega)).trans (Finset.sum_congr rfl fun k _ => congrArg _ ?_)
    exact Eq.trans (congrArg a1 (by blk_ext)) (Eq.symm ((dif_neg h1).trans (dif_pos h2)))
  refine (dif_neg (by omega)).trans ?_
  refine Eq.symm (Finset.sum_eq_zero fun k _ => ?_)
  have h0 : miscW (fun q => a1 (ix2 k q)) e = 0 := (dif_neg h1).trans ((dif_neg h2).trans (rfl))
  rw [h0, mul_zero]

end Cert.Reference5Ideal.Proj

namespace Cert.Kernel5Ideal.Proj
open Idealize.ShloMosaic Idealize.ShloMosaic.TcCoe Idealize.SL.Sem
open Idealize.ShloMosaic.Pipeline (Dat)
open Cert.Kernel5Ideal.Gen

variable (m : (ℓ : Loc nD τ sig) → Buf (Elt Ideal) ℓ)

/-- The windows' blocks: the rows go with the grid point, the weight stays. -/
theorem idx : ∀ t : Fin cfg0.N, win0_1.index t = ![0, 0] ∧ win0_0.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] ∧ win0_8.index t = ![t.val, 0] :=
  (by decide +kernel : ∀ t : Fin grid0.N, _)

/-- The rows the last two products share are the block, its format narrowed. -/
theorem pay10_eq (x0 : Vec Ideal S512x1024 .f32) (x1 : Vec Ideal S1024x3200 .bf16) : k0_pay10 x0 x1 = k0_pay3 x0 := by
  unfold k0_pay10
  refine congrArg k0_pay3 (funext fun z => congrArg x0 (?_ : r0_0.idx z = z))
  funext a
  match a with
  | ⟨0, _⟩ => exact Fin.ext (by show 0 + 1 * (z 0).val = (z 0).val; omega)
  | ⟨1, _⟩ => exact Fin.ext (by show 0 + 1 * (z 1).val = (z 1).val; omega)

/-- The weight's columns as the call packs them. -/
def packed (w : FVec Ideal S1024x3088 .f32) : FVec Ideal S1024x3200 .f32 :=
  concatenate S1024x3200 1 [⟨S1024x256, extractStridedSlice S1024x256 ![0, 0] w slices_S1024x3088_S1024x256_0_0⟩, ⟨S1024x256, extractStridedSlice S1024x256 ![0, 256] w slices_S1024x3088_S1024x256_0_256⟩, ⟨S1024x512, extractStridedSlice S1024x512 ![0, 512] w slices_S1024x3088_S1024x512_0_512⟩, ⟨S1024x512, extractStridedSlice S1024x512 ![0, 1040] w slices_S1024x3088_S1024x512_0_1040⟩, ⟨S1024x512, extractStridedSlice S1024x512 ![0, 1552] w slices_S1024x3088_S1024x512_0_1552⟩, ⟨S1024x512, extractStridedSlice S1024x512 ![0, 2064] w slices_S1024x3088_S1024x512_0_2064⟩, ⟨S1024x512, extractStridedSlice S1024x512 ![0, 2576] w slices_S1024x3088_S1024x512_0_2576⟩, ⟨S1024x8, extractStridedSlice S1024x8 ![0, 1024] w slices_S1024x3088_S1024x8_0_1024⟩, ⟨S1024x8, extractStridedSlice S1024x8 ![0, 1032] w slices_S1024x3088_S1024x8_0_1032⟩,
    ⟨S1024x112, broadcastInDim S1024x112 ![] bcast_S_S1024x112 (constant S_ .f32 0x00000000#32)⟩]
    concatenates_S1024x256_S1024x256_S1024x512_S1024x512_S1024x512_S1024x512_S1024x512_S1024x8_S1024x8_S1024x112_S1024x3200_d1

set_option maxHeartbeats 1600000 in
/-- The call finds its weight packed. -/
theorem V_packed (c : Dev nD) : V m c main_v11 = truncf .bf16 (packed (m ((c : Thread nD τ).loc main_arg1))) bitsLt_bf16_f32 := by
  unfold V hostOps0
  after_results
  rfl

/-- The weight's block is the packed weight. -/
theorem w_blk (c : Dev nD) (t : Fin cfg0.N) (k : Fin 1024) (q : Fin 3200) :
    (show Vec Ideal S1024x3200 .bf16 from iblk m c 1 t) (ix2 k q) = packed (m ((c : Thread nD τ).loc main_arg1)) (ix2 k q) := by
  blk_simp [iblk]
  rw [V_packed]
  refine congrArg (packed (m ((c : Thread nD τ).loc main_arg1))) ?_
  blk_ext [idx t]

set_option maxHeartbeats 1600000 in
/-- The packed columns from 0 are the weight's from 0. -/
theorem packed_qk (w : FVec Ideal S1024x3088 .f32) (k : Fin 1024) (e : Fin 512) :
    packed w (ix2 k ⟨e.val, by omega⟩) = w (ix2 k ⟨e.val, by omega⟩) := by
  unfold packed
  pointwise
  by_cases h1 : e.val < 256
  · exact (dif_pos (by omega)).trans (congrArg w (by blk_ext))
  refine (dif_neg (by omega)).trans ?_
  exact (dif_pos (by omega)).trans (congrArg w (by blk_ext))

/-- The stored block is the reference's block when its inputs are the reference's rows and the packed weight. -/
theorem block_qk (x : Vec Ideal S512x1024 .f32) (w : Vec Ideal S1024x512 .bf16) (a0 : FVec Ideal S16384x1024 .f32) (a1 : FVec Ideal S1024x3088 .f32)
    (r : Fin 512) (e : Fin 512) (R : Fin 16384) (hx : ∀ k, x (ix2 r k) = a0 (ix2 R k)) (hw : ∀ (k : Fin 1024) (e : Fin 512), w (ix2 k e) = packed a1 (ix2 k ⟨e.val, by omega⟩)) :
    k0_pay4 x w (ix2 r e) = Cert.Reference5Ideal.Proj.qk a0 a1 (ix2 R e) := by
  rw [Cert.Reference5Ideal.Proj.qk_at]
  unfold k0_pay4 k0_pay3
  pointwise
  refine Finset.sum_congr rfl fun k _ => ?_
  rw [hx, hw, packed_qk]

/-- What the body stores at a point is the reference at the block's place. -/
theorem point_qk (c : Dev nD) (t : Fin cfg0.N) (y : S512x512.Idx) : k0_pay4 (iblk m c 0 t) (View.ld (iblk m c 1 t) r0_1) y
    = Cert.Reference5Ideal.Proj.qk (m ((c : Thread nD τ).loc main_arg0)) (m ((c : Thread nD τ).loc main_arg1)) (((cfg0.win 2).blk t).view.emb y) := by
  obtain ⟨r, e, rfl⟩ : ∃ (r : Fin 512) (e : Fin 512), y = ix2 r e := ⟨y 0, y 1, by blk_ext⟩
  have hN := N_0
  have ht : t.val < 32 := lt_of_lt_of_eq t.isLt hN
  refine Eq.trans (block_qk _ _ (m ((c : Thread nD τ).loc main_arg0)) (m ((c : Thread nD τ).loc main_arg1)) r e ⟨512 * t.val + r.val, by omega⟩ ?_ ?_) ?_
  · intro k; blk_ext [iblk, V, idx t]
  · intro k e
    refine Eq.trans ?_ (w_blk m c t k ⟨e.val, by omega⟩)
    refine congrArg (show Vec Ideal S1024x3200 .bf16 from iblk m c 1 t) (?_ : r0_1.idx (ix2 k e) = _)
    funext a
    match a with
    | ⟨0, _⟩ => exact Fin.ext (by show 0 + 1 * k.val = k.val; omega)
    | ⟨1, _⟩ => exact Fin.ext (by show 0 + 1 * e.val = e.val; omega)
  · blk_ext [idx t]

/-- The kernel's final array. -/
theorem final_qk (c : Dev nD) : (dats m 0 c).arrAt 2 (cfgs 0).N
    = Cert.Reference5Ideal.Proj.qk (m ((c : Thread nD τ).loc main_arg0)) (m ((c : Thread nD τ).loc main_arg1)) := by
  refine (dats m 0 c).arrAt_eq_of_covers 2 _ (by decide +kernel) fun t _ y => ?_
  blk_simp
  rw [after0_2]
  frame_out
  exact point_qk m c t y

set_option maxHeartbeats 1600000 in
/-- The packed columns from 512 are the weight's from 512. -/
theorem packed_v (w : FVec Ideal S1024x3088 .f32) (k : Fin 1024) (e : Fin 512) :
    packed w (ix2 k ⟨512 + e.val, by omega⟩) = w (ix2 k ⟨512 + e.val, by omega⟩) := by
  unfold packed
  pointwise
  refine (dif_neg (by omega)).trans ?_
  refine (dif_neg (by omega)).trans ?_
  exact (dif_pos (by omega)).trans (congrArg w (by blk_ext))

/-- The stored block is the reference's block when its inputs are the reference's rows and the packed weight. -/
theorem block_v (x : Vec Ideal S512x1024 .f32) (w : Vec Ideal S1024x512 .bf16) (a0 : FVec Ideal S16384x1024 .f32) (a1 : FVec Ideal S1024x3088 .f32)
    (r : Fin 512) (e : Fin 512) (R : Fin 16384) (hx : ∀ k, x (ix2 r k) = a0 (ix2 R k)) (hw : ∀ (k : Fin 1024) (e : Fin 512), w (ix2 k e) = packed a1 (ix2 k ⟨512 + e.val, by omega⟩)) :
    k0_pay5 x w (ix2 r e) = Cert.Reference5Ideal.Proj.v a0 a1 (ix2 R e) := by
  rw [Cert.Reference5Ideal.Proj.v_at]
  unfold k0_pay5 k0_pay3
  pointwise
  refine Finset.sum_congr rfl fun k _ => ?_
  rw [hx, hw, packed_v]

/-- What the body stores at a point is the reference at the block's place. -/
theorem point_v (c : Dev nD) (t : Fin cfg0.N) (y : S512x512.Idx) : k0_pay5 (iblk m c 0 t) (View.ld (iblk m c 1 t) r0_3) y
    = Cert.Reference5Ideal.Proj.v (m ((c : Thread nD τ).loc main_arg0)) (m ((c : Thread nD τ).loc main_arg1)) (((cfg0.win 3).blk t).view.emb y) := by
  obtain ⟨r, e, rfl⟩ : ∃ (r : Fin 512) (e : Fin 512), y = ix2 r e := ⟨y 0, y 1, by blk_ext⟩
  have hN := N_0
  have ht : t.val < 32 := lt_of_lt_of_eq t.isLt hN
  refine Eq.trans (block_v _ _ (m ((c : Thread nD τ).loc main_arg0)) (m ((c : Thread nD τ).loc main_arg1)) r e ⟨512 * t.val + r.val, by omega⟩ ?_ ?_) ?_
  · intro k; blk_ext [iblk, V, idx t]
  · intro k e
    refine Eq.trans ?_ (w_blk m c t k ⟨512 + e.val, by omega⟩)
    refine congrArg (show Vec Ideal S1024x3200 .bf16 from iblk m c 1 t) (?_ : r0_3.idx (ix2 k e) = _)
    funext a
    match a with
    | ⟨0, _⟩ => exact Fin.ext (by show 0 + 1 * k.val = k.val; omega)
    | ⟨1, _⟩ => exact Fin.ext (by show 512 + 1 * e.val = 512 + e.val; omega)
  · blk_ext [idx t]

/-- The kernel's final array. -/
theorem final_v (c : Dev nD) : (dats m 0 c).arrAt 3 (cfgs 0).N
    = Cert.Reference5Ideal.Proj.v (m ((c : Thread nD τ).loc main_arg0)) (m ((c : Thread nD τ).loc main_arg1)) := by
  refine (dats m 0 c).arrAt_eq_of_covers 3 _ (by decide +kernel) fun t _ y => ?_
  blk_simp
  rw [after0_3]
  frame_out
  exact point_v m c t y

set_option maxHeartbeats 1600000 in
/-- The packed columns from 1024 are the weight's from 1040. -/
theorem packed_o (w : FVec Ideal S1024x3088 .f32) (k : Fin 1024) (e : Fin 512) :
    packed w (ix2 k ⟨1024 + e.val, by omega⟩) = w (ix2 k ⟨1040 + e.val, by omega⟩) := by
  unfold packed
  pointwise
  refine (dif_neg (by omega)).trans ?_
  refine (dif_neg (by omega)).trans ?_
  refine (dif_neg (by omega)).trans ?_
  exact (dif_pos (by omega)).trans (congrArg w (by blk_ext))

/-- The stored block is the reference's block when its inputs are the reference's rows and the packed weight. -/
theorem block_o (x : Vec Ideal S512x1024 .f32) (w : Vec Ideal S1024x512 .bf16) (a0 : FVec Ideal S16384x1024 .f32) (a1 : FVec Ideal S1024x3088 .f32)
    (r : Fin 512) (e : Fin 512) (R : Fin 16384) (hx : ∀ k, x (ix2 r k) = a0 (ix2 R k)) (hw : ∀ (k : Fin 1024) (e : Fin 512), w (ix2 k e) = packed a1 (ix2 k ⟨1024 + e.val, by omega⟩)) :
    k0_pay6 x w (ix2 r e) = Cert.Reference5Ideal.Proj.o a0 a1 (ix2 R e) := by
  rw [Cert.Reference5Ideal.Proj.o_at]
  unfold k0_pay6 k0_pay3
  pointwise
  refine Finset.sum_congr rfl fun k _ => ?_
  rw [hx, hw, packed_o]

/-- What the body stores at a point is the reference at the block's place. -/
theorem point_o (c : Dev nD) (t : Fin cfg0.N) (y : S512x512.Idx) : k0_pay6 (iblk m c 0 t) (View.ld (iblk m c 1 t) r0_4) y
    = Cert.Reference5Ideal.Proj.o (m ((c : Thread nD τ).loc main_arg0)) (m ((c : Thread nD τ).loc main_arg1)) (((cfg0.win 4).blk t).view.emb y) := by
  obtain ⟨r, e, rfl⟩ : ∃ (r : Fin 512) (e : Fin 512), y = ix2 r e := ⟨y 0, y 1, by blk_ext⟩
  have hN := N_0
  have ht : t.val < 32 := lt_of_lt_of_eq t.isLt hN
  refine Eq.trans (block_o _ _ (m ((c : Thread nD τ).loc main_arg0)) (m ((c : Thread nD τ).loc main_arg1)) r e ⟨512 * t.val + r.val, by omega⟩ ?_ ?_) ?_
  · intro k; blk_ext [iblk, V, idx t]
  · intro k e
    refine Eq.trans ?_ (w_blk m c t k ⟨1024 + e.val, by omega⟩)
    refine congrArg (show Vec Ideal S1024x3200 .bf16 from iblk m c 1 t) (?_ : r0_4.idx (ix2 k e) = _)
    funext a
    match a with
    | ⟨0, _⟩ => exact Fin.ext (by show 0 + 1 * k.val = k.val; omega)
    | ⟨1, _⟩ => exact Fin.ext (by show 1024 + 1 * e.val = 1024 + e.val; omega)
  · blk_ext [idx t]

/-- The kernel's final array. -/
theorem final_o (c : Dev nD) : (dats m 0 c).arrAt 4 (cfgs 0).N
    = Cert.Reference5Ideal.Proj.o (m ((c : Thread nD τ).loc main_arg0)) (m ((c : Thread nD τ).loc main_arg1)) := by
  refine (dats m 0 c).arrAt_eq_of_covers 4 _ (by decide +kernel) fun t _ y => ?_
  blk_simp
  rw [after0_4]
  frame_out
  exact point_o m c t y

set_option maxHeartbeats 1600000 in
/-- The packed columns from 1536 are the weight's from 1552. -/
theorem packed_qd (w : FVec Ideal S1024x3088 .f32) (k : Fin 1024) (e : Fin 512) :
    packed w (ix2 k ⟨1536 + e.val, by omega⟩) = w (ix2 k ⟨1552 + e.val, by omega⟩) := by
  unfold packed
  pointwise
  refine (dif_neg (by omega)).trans ?_
  refine (dif_neg (by omega)).trans ?_
  refine (dif_neg (by omega)).trans ?_
  refine (dif_neg (by omega)).trans ?_
  exact (dif_pos (by omega)).trans (congrArg w (by blk_ext))

/-- The stored block is the reference's block when its inputs are the reference's rows and the packed weight. -/
theorem block_qd (x : Vec Ideal S512x1024 .f32) (w : Vec Ideal S1024x512 .bf16) (a0 : FVec Ideal S16384x1024 .f32) (a1 : FVec Ideal S1024x3088 .f32)
    (r : Fin 512) (e : Fin 512) (R : Fin 16384) (hx : ∀ k, x (ix2 r k) = a0 (ix2 R k)) (hw : ∀ (k : Fin 1024) (e : Fin 512), w (ix2 k e) = packed a1 (ix2 k ⟨1536 + e.val, by omega⟩)) :
    k0_pay7 x w (ix2 r e) = Cert.Reference5Ideal.Proj.qd a0 a1 (ix2 R e) := by
  rw [Cert.Reference5Ideal.Proj.qd_at]
  unfold k0_pay7 k0_pay3
  pointwise
  refine Finset.sum_congr rfl fun k _ => ?_
  rw [hx, hw, packed_qd]

/-- What the body stores at a point is the reference at the block's place. -/
theorem point_qd (c : Dev nD) (t : Fin cfg0.N) (y : S512x512.Idx) : k0_pay7 (iblk m c 0 t) (View.ld (iblk m c 1 t) r0_5) y
    = Cert.Reference5Ideal.Proj.qd (m ((c : Thread nD τ).loc main_arg0)) (m ((c : Thread nD τ).loc main_arg1)) (((cfg0.win 5).blk t).view.emb y) := by
  obtain ⟨r, e, rfl⟩ : ∃ (r : Fin 512) (e : Fin 512), y = ix2 r e := ⟨y 0, y 1, by blk_ext⟩
  have hN := N_0
  have ht : t.val < 32 := lt_of_lt_of_eq t.isLt hN
  refine Eq.trans (block_qd _ _ (m ((c : Thread nD τ).loc main_arg0)) (m ((c : Thread nD τ).loc main_arg1)) r e ⟨512 * t.val + r.val, by omega⟩ ?_ ?_) ?_
  · intro k; blk_ext [iblk, V, idx t]
  · intro k e
    refine Eq.trans ?_ (w_blk m c t k ⟨1536 + e.val, by omega⟩)
    refine congrArg (show Vec Ideal S1024x3200 .bf16 from iblk m c 1 t) (?_ : r0_5.idx (ix2 k e) = _)
    funext a
    match a with
    | ⟨0, _⟩ => exact Fin.ext (by show 0 + 1 * k.val = k.val; omega)
    | ⟨1, _⟩ => exact Fin.ext (by show 1536 + 1 * e.val = 1536 + e.val; omega)
  · blk_ext [idx t]

/-- The kernel's final array. -/
theorem final_qd (c : Dev nD) : (dats m 0 c).arrAt 5 (cfgs 0).N
    = Cert.Reference5Ideal.Proj.qd (m ((c : Thread nD τ).loc main_arg0)) (m ((c : Thread nD τ).loc main_arg1)) := by
  refine (dats m 0 c).arrAt_eq_of_covers 5 _ (by decide +kernel) fun t _ y => ?_
  blk_simp
  rw [after0_5]
  frame_out
  exact point_qd m c t y

set_option maxHeartbeats 1600000 in
/-- The packed columns from 2048 are the weight's from 2064. -/
theorem packed_kd (w : FVec Ideal S1024x3088 .f32) (k : Fin 1024) (e : Fin 512) :
    packed w (ix2 k ⟨2048 + e.val, by omega⟩) = w (ix2 k ⟨2064 + e.val, by omega⟩) := by
  unfold packed
  pointwise
  refine (dif_neg (by omega)).trans ?_
  refine (dif_neg (by omega)).trans ?_
  refine (dif_neg (by omega)).trans ?_
  refine (dif_neg (by omega)).trans ?_
  refine (dif_neg (by omega)).trans ?_
  exact (dif_pos (by omega)).trans (congrArg w (by blk_ext))

/-- The stored block is the reference's block when its inputs are the reference's rows and the packed weight. -/
theorem block_kd (x : Vec Ideal S512x1024 .f32) (w : Vec Ideal S1024x512 .bf16) (a0 : FVec Ideal S16384x1024 .f32) (a1 : FVec Ideal S1024x3088 .f32)
    (r : Fin 512) (e : Fin 512) (R : Fin 16384) (hx : ∀ k, x (ix2 r k) = a0 (ix2 R k)) (hw : ∀ (k : Fin 1024) (e : Fin 512), w (ix2 k e) = packed a1 (ix2 k ⟨2048 + e.val, by omega⟩)) :
    k0_pay8 x w (ix2 r e) = Cert.Reference5Ideal.Proj.kd a0 a1 (ix2 R e) := by
  rw [Cert.Reference5Ideal.Proj.kd_at]
  unfold k0_pay8 k0_pay3
  pointwise
  refine Finset.sum_congr rfl fun k _ => ?_
  rw [hx, hw, packed_kd]

/-- What the body stores at a point is the reference at the block's place. -/
theorem point_kd (c : Dev nD) (t : Fin cfg0.N) (y : S512x512.Idx) : k0_pay8 (iblk m c 0 t) (View.ld (iblk m c 1 t) r0_6) y
    = Cert.Reference5Ideal.Proj.kd (m ((c : Thread nD τ).loc main_arg0)) (m ((c : Thread nD τ).loc main_arg1)) (((cfg0.win 6).blk t).view.emb y) := by
  obtain ⟨r, e, rfl⟩ : ∃ (r : Fin 512) (e : Fin 512), y = ix2 r e := ⟨y 0, y 1, by blk_ext⟩
  have hN := N_0
  have ht : t.val < 32 := lt_of_lt_of_eq t.isLt hN
  refine Eq.trans (block_kd _ _ (m ((c : Thread nD τ).loc main_arg0)) (m ((c : Thread nD τ).loc main_arg1)) r e ⟨512 * t.val + r.val, by omega⟩ ?_ ?_) ?_
  · intro k; blk_ext [iblk, V, idx t]
  · intro k e
    refine Eq.trans ?_ (w_blk m c t k ⟨2048 + e.val, by omega⟩)
    refine congrArg (show Vec Ideal S1024x3200 .bf16 from iblk m c 1 t) (?_ : r0_6.idx (ix2 k e) = _)
    funext a
    match a with
    | ⟨0, _⟩ => exact Fin.ext (by show 0 + 1 * k.val = k.val; omega)
    | ⟨1, _⟩ => exact Fin.ext (by show 2048 + 1 * e.val = 2048 + e.val; omega)
  · blk_ext [idx t]

/-- The kernel's final array. -/
theorem final_kd (c : Dev nD) : (dats m 0 c).arrAt 6 (cfgs 0).N
    = Cert.Reference5Ideal.Proj.kd (m ((c : Thread nD τ).loc main_arg0)) (m ((c : Thread nD τ).loc main_arg1)) := by
  refine (dats m 0 c).arrAt_eq_of_covers 6 _ (by decide +kernel) fun t _ y => ?_
  blk_simp
  rw [after0_6]
  frame_out
  exact point_kd m c t y

set_option maxHeartbeats 1600000 in
/-- The packed columns from 2560 are the weight's from 2576. -/
theorem packed_vd (w : FVec Ideal S1024x3088 .f32) (k : Fin 1024) (e : Fin 512) :
    packed w (ix2 k ⟨2560 + e.val, by omega⟩) = w (ix2 k ⟨2576 + e.val, by omega⟩) := by
  unfold packed
  pointwise
  refine (dif_neg (by omega)).trans ?_
  refine (dif_neg (by omega)).trans ?_
  refine (dif_neg (by omega)).trans ?_
  refine (dif_neg (by omega)).trans ?_
  refine (dif_neg (by omega)).trans ?_
  refine (dif_neg (by omega)).trans ?_
  exact (dif_pos (by omega)).trans (congrArg w (by blk_ext))

/-- The stored block is the reference's block when its inputs are the reference's rows and the packed weight. -/
theorem block_vd (x : Vec Ideal S512x1024 .f32) (w : Vec Ideal S1024x512 .bf16) (a0 : FVec Ideal S16384x1024 .f32) (a1 : FVec Ideal S1024x3088 .f32)
    (r : Fin 512) (e : Fin 512) (R : Fin 16384) (hx : ∀ k, x (ix2 r k) = a0 (ix2 R k)) (hw : ∀ (k : Fin 1024) (e : Fin 512), w (ix2 k e) = packed a1 (ix2 k ⟨2560 + e.val, by omega⟩)) :
    k0_pay1 (k0_pay3 x) (k0_pay9 w) (constant S512x512 .f32 0x00000000#32) (ix2 r e) = Cert.Reference5Ideal.Proj.vd a0 a1 (ix2 R e) := by
  rw [Cert.Reference5Ideal.Proj.vd_at]
  unfold k0_pay1 k0_pay3 k0_pay9
  pointwise
  refine Finset.sum_congr rfl fun k _ => ?_
  rw [hx, hw, packed_vd]

/-- What the body stores at a point is the reference at the block's place. -/
theorem point_vd (c : Dev nD) (t : Fin cfg0.N) (y : S512x512.Idx) : k0_pay1 (k0_pay3 (iblk m c 0 t)) (k0_pay9 (View.ld (iblk m c 1 t) r0_7)) (constant S512x512 .f32 0x00000000#32) y
    = Cert.Reference5Ideal.Proj.vd (m ((c : Thread nD τ).loc main_arg0)) (m ((c : Thread nD τ).loc main_arg1)) (((cfg0.win 7).blk t).view.emb y) := by
  obtain ⟨r, e, rfl⟩ : ∃ (r : Fin 512) (e : Fin 512), y = ix2 r e := ⟨y 0, y 1, by blk_ext⟩
  have hN := N_0
  have ht : t.val < 32 := lt_of_lt_of_eq t.isLt hN
  refine Eq.trans (block_vd _ _ (m ((c : Thread nD τ).loc main_arg0)) (m ((c : Thread nD τ).loc main_arg1)) r e ⟨512 * t.val + r.val, by omega⟩ ?_ ?_) ?_
  · intro k; blk_ext [iblk, V, idx t]
  · intro k e
    refine Eq.trans ?_ (w_blk m c t k ⟨2560 + e.val, by omega⟩)
    refine congrArg (show Vec Ideal S1024x3200 .bf16 from iblk m c 1 t) (?_ : r0_7.idx (ix2 k e) = _)
    funext a
    match a with
    | ⟨0, _⟩ => exact Fin.ext (by show 0 + 1 * k.val = k.val; omega)
    | ⟨1, _⟩ => exact Fin.ext (by show 2560 + 1 * e.val = 2560 + e.val; omega)
  · blk_ext [idx t]

/-- The kernel's final array. -/
theorem final_vd (c : Dev nD) : (dats m 0 c).arrAt 7 (cfgs 0).N
    = Cert.Reference5Ideal.Proj.vd (m ((c : Thread nD τ).loc main_arg0)) (m ((c : Thread nD τ).loc main_arg1)) := by
  refine (dats m 0 c).arrAt_eq_of_covers 7 _ (by decide +kernel) fun t _ y => ?_
  blk_simp
  rw [after0_7]
  frame_out
  rw [pay10_eq]
  exact point_vd m c t y

set_option maxHeartbeats 1600000 in
/-- The packed columns from 3072 are the weight's narrow columns, the rest zeros. -/
theorem packed_misc (w : FVec Ideal S1024x3088 .f32) (k : Fin 1024) (e : Fin 128) :
    packed w (ix2 k ⟨3072 + e.val, by omega⟩) = Cert.Reference5Ideal.Proj.miscW (fun q => w (ix2 k q)) e := by
  unfold packed
  pointwise
  refine (dif_neg (by omega)).trans ?_
  refine (dif_neg (by omega)).trans ?_
  refine (dif_neg (by omega)).trans ?_
  refine (dif_neg (by omega)).trans ?_
  refine (dif_neg (by omega)).trans ?_
  refine (dif_neg (by omega)).trans ?_
  refine (dif_neg (by omega)).trans ?_
  by_cases h1 : e.val < 8
  · exact ((dif_pos (by omega)).trans (congrArg w (by blk_ext))).trans (Eq.symm (dif_pos h1))
  refine (dif_neg (by omega)).trans ?_
  by_cases h2 : e.val < 16
  · exact ((dif_pos (by omega)).trans (congrArg w (by blk_ext))).trans (Eq.symm ((dif_neg h1).trans (dif_pos h2)))
  refine (dif_neg (by omega)).trans ?_
  exact Eq.symm ((dif_neg h1).trans ((dif_neg h2).trans (rfl)))

/-- The stored block is the reference's block when its inputs are the reference's rows and the packed weight. -/
theorem block_misc (x : Vec Ideal S512x1024 .f32) (w : Vec Ideal S1024x128 .bf16) (a0 : FVec Ideal S16384x1024 .f32) (a1 : FVec Ideal S1024x3088 .f32)
    (r : Fin 512) (e : Fin 128) (R : Fin 16384) (hx : ∀ k, x (ix2 r k) = a0 (ix2 R k)) (hw : ∀ (k : Fin 1024) (e : Fin 128), w (ix2 k e) = packed a1 (ix2 k ⟨3072 + e.val, by omega⟩)) :
    k0_pay2 (k0_pay3 x) w (ix2 r e) = Cert.Reference5Ideal.Proj.misc a0 a1 (ix2 R e) := by
  rw [Cert.Reference5Ideal.Proj.misc_at]
  unfold k0_pay2 k0_pay3
  pointwise
  refine Finset.sum_congr rfl fun k _ => ?_
  rw [hx, hw, packed_misc]

/-- What the body stores at a point is the reference at the block's place. -/
theorem point_misc (c : Dev nD) (t : Fin cfg0.N) (y : S512x128.Idx) : k0_pay2 (k0_pay3 (iblk m c 0 t)) (View.ld (iblk m c 1 t) r0_8) y
    = Cert.Reference5Ideal.Proj.misc (m ((c : Thread nD τ).loc main_arg0)) (m ((c : Thread nD τ).loc main_arg1)) (((cfg0.win 8).blk t).view.emb y) := by
  obtain ⟨r, e, rfl⟩ : ∃ (r : Fin 512) (e : Fin 128), y = ix2 r e := ⟨y 0, y 1, by blk_ext⟩
  have hN := N_0
  have ht : t.val < 32 := lt_of_lt_of_eq t.isLt hN
  refine Eq.trans (block_misc _ _ (m ((c : Thread nD τ).loc main_arg0)) (m ((c : Thread nD τ).loc main_arg1)) r e ⟨512 * t.val + r.val, by omega⟩ ?_ ?_) ?_
  · intro k; blk_ext [iblk, V, idx t]
  · intro k e
    refine Eq.trans ?_ (w_blk m c t k ⟨3072 + e.val, by omega⟩)
    refine congrArg (show Vec Ideal S1024x3200 .bf16 from iblk m c 1 t) (?_ : r0_8.idx (ix2 k e) = _)
    funext a
    match a with
    | ⟨0, _⟩ => exact Fin.ext (by show 0 + 1 * k.val = k.val; omega)
    | ⟨1, _⟩ => exact Fin.ext (by show 3072 + 1 * e.val = 3072 + e.val; omega)
  · blk_ext [idx t]

/-- The kernel's final array. -/
theorem final_misc (c : Dev nD) : (dats m 0 c).arrAt 8 (cfgs 0).N
    = Cert.Reference5Ideal.Proj.misc (m ((c : Thread nD τ).loc main_arg0)) (m ((c : Thread nD τ).loc main_arg1)) := by
  refine (dats m 0 c).arrAt_eq_of_covers 8 _ (by decide +kernel) fun t _ y => ?_
  blk_simp
  rw [after0_8]
  frame_out
  rw [pay10_eq]
  exact point_misc m c t y

end Cert.Kernel5Ideal.Proj
-- ==== Proof.ProjEven.lean ====
/- The even layers' input projection: the arrays the kernel leaves are the reference's columns of the product. -/
module

public import proofs.«01_k».proof.Proof.Gen.Kernel6Ideal.Value
public import proofs.«01_k».proof.Proof.Gen.Reference6Ideal.Run
public import Idealize.ShloMosaic.Lib.Pointwise
public import Idealize.ShloMosaic.Lib.Pipeline.ValueKit

@[expose] public section
set_option maxRecDepth 16384
noncomputable section
namespace Cert.Reference6Ideal.Proj
open Idealize.ShloMosaic Idealize.ShloMosaic.TcCoe Idealize.SL.Sem
open Cert.Reference6Ideal Cert.Reference6Ideal.Gen

/-- The reference's columns from 0, 512 wide. -/
def qa (a0 : FVec Ideal S16384x1024 .f32) (a1 : FVec Ideal S1024x4184 .f32) : FVec Ideal S16384x512 .f32 :=
  extractStridedSlice S16384x512 ![0, 0] (Host.dotGeneral dot_S16384x1024_S1024x4184_S16384x4184_1_0_0_1_n_n none a0 a1) slices_S16384x4184_S16384x512_0_0

/-- Those columns, element by element. -/
theorem qa_at (a0 : FVec Ideal S16384x1024 .f32) (a1 : FVec Ideal S1024x4184 .f32) (r : Fin 16384) (e : Fin 512) :
    qa a0 a1 (ix2 r e) = ∑ k : Fin 1024, a0 (ix2 r k) * a1 (ix2 k ⟨e.val, by omega⟩) := by
  unfold qa
  pointwise

/-- The reference's columns from 512, 512 wide. -/
def ka (a0 : FVec Ideal S16384x1024 .f32) (a1 : FVec Ideal S1024x4184 .f32) : FVec Ideal S16384x512 .f32 :=
  extractStridedSlice S16384x512 ![0, 512] (Host.dotGeneral dot_S16384x1024_S1024x4184_S16384x4184_1_0_0_1_n_n none a0 a1) slices_S16384x4184_S16384x512_0_512

/-- Those columns, element by element. -/
theorem ka_at (a0 : FVec Ideal S16384x1024 .f32) (a1 : FVec Ideal S1024x4184 .f32) (r : Fin 16384) (e : Fin 512) :
    ka a0 a1 (ix2 r e) = ∑ k : Fin 1024, a0 (ix2 r k) * a1 (ix2 k ⟨512 + e.val, by omega⟩) := by
  unfold ka
  pointwise

/-- The reference's columns from 1024, 512 wide. -/
def va (a0 : FVec Ideal S16384x1024 .f32) (a1 : FVec Ideal S1024x4184 .f32) : FVec Ideal S16384x512 .f32 :=
  extractStridedSlice S16384x512 ![0, 1024] (Host.dotGeneral dot_S16384x1024_S1024x4184_S16384x4184_1_0_0_1_n_n none a0 a1) slices_S16384x4184_S16384x512_0_1024

/-- Those columns, element by element. -/
theorem va_at (a0 : FVec Ideal S16384x1024 .f32) (a1 : FVec Ideal S1024x4184 .f32) (r : Fin 16384) (e : Fin 512) :
    va a0 a1 (ix2 r e) = ∑ k : Fin 1024, a0 (ix2 r k) * a1 (ix2 k ⟨1024 + e.val, by omega⟩) := by
  unfold va
  pointwise

/-- The reference's columns from 1536, 512 wide. -/
def qi (a0 : FVec Ideal S16384x1024 .f32) (a1 : FVec Ideal S1024x4184 .f32) : FVec Ideal S16384x512 .f32 :=
  extractStridedSlice S16384x512 ![0, 1536] (Host.dotGeneral dot_S16384x1024_S1024x4184_S16384x4184_1_0_0_1_n_n none a0 a1) slices_S16384x4184_S16384x512_0_1536

/-- Those columns, element by element. -/
theorem qi_at (a0 : FVec Ideal S16384x1024 .f32) (a1 : FVec Ideal S1024x4184 .f32) (r : Fin 16384) (e : Fin 512) :
    qi a0 a1 (ix2 r e) = ∑ k : Fin 1024, a0 (ix2 r k) * a1 (ix2 k ⟨1536 + e.val, by omega⟩) := by
  unfold qi
  pointwise

/-- The reference's columns from 2120, 1536 wide. -/
def qkv (a0 : FVec Ideal S16384x1024 .f32) (a1 : FVec Ideal S1024x4184 .f32) : FVec Ideal S16384x1536 .f32 :=
  extractStridedSlice S16384x1536 ![0, 2120] (Host.dotGeneral dot_S16384x1024_S1024x4184_S16384x4184_1_0_0_1_n_n none a0 a1) slices_S16384x4184_S16384x1536_0_2120

/-- Those columns, element by element. -/
theorem qkv_at (a0 : FVec Ideal S16384x1024 .f32) (a1 : FVec Ideal S1024x4184 .f32) (r : Fin 16384) (e : Fin 1536) :
    qkv a0 a1 (ix2 r e) = ∑ k : Fin 1024, a0 (ix2 r k) * a1 (ix2 k ⟨2120 + e.val, by omega⟩) := by
  unfold qkv
  pointwise

/-- The reference's columns from 3672, 512 wide. -/
def z (a0 : FVec Ideal S16384x1024 .f32) (a1 : FVec Ideal S1024x4184 .f32) : FVec Ideal S16384x512 .f32 :=
  extractStridedSlice S16384x512 ![0, 3672] (Host.dotGeneral dot_S16384x1024_S1024x4184_S16384x4184_1_0_0_1_n_n none a0 a1) slices_S16384x4184_S16384x512_0_3672

/-- Those columns, element by element. -/
theorem z_at (a0 : FVec Ideal S16384x1024 .f32) (a1 : FVec Ideal S1024x4184 .f32) (r : Fin 16384) (e : Fin 512) :
    z a0 a1 (ix2 r e) = ∑ k : Fin 1024, a0 (ix2 r k) * a1 (ix2 k ⟨3672 + e.val, by omega⟩) := by
  unfold z
  pointwise

/-- The reference's narrow columns side by side, the rest zeros. -/
def misc (a0 : FVec Ideal S16384x1024 .f32) (a1 : FVec Ideal S1024x4184 .f32) : FVec Ideal S16384x128 .f32 :=
  concatenate S16384x128 1 [⟨S16384x64, (extractStridedSlice S16384x64 ![0, 2048] (Host.dotGeneral dot_S16384x1024_S1024x4184_S16384x4184_1_0_0_1_n_n none a0 a1) slices_S16384x4184_S16384x64_0_2048)⟩, ⟨S16384x8, (extractStridedSlice S16384x8 ![0, 2112] (Host.dotGeneral dot_S16384x1024_S1024x4184_S16384x4184_1_0_0_1_n_n none a0 a1) slices_S16384x4184_S16384x8_0_2112)⟩, ⟨S16384x8, (extractStridedSlice S16384x8 ![0, 3656] (Host.dotGeneral dot_S16384x1024_S1024x4184_S16384x4184_1_0_0_1_n_n none a0 a1) slices_S16384x4184_S16384x8_0_3656)⟩, ⟨S16384x8, (extractStridedSlice S16384x8 ![0, 3664] (Host.dotGeneral dot_S16384x1024_S1024x4184_S16384x4184_1_0_0_1_n_n none a0 a1) slices_S16384x4184_S16384x8_0_3664)⟩, ⟨S16384x40, broadcastInDim S16384x40 ![] bcast_S_S16384x40 (constant S_ .f32 0x00000000#32)⟩] concatenates_S16384x64_S16384x8_S16384x8_S16384x8_S16384x40_S16384x128_d1

/-- The weight of a narrow column, zero where the column is padding. -/
def miscW (w : Fin 4184 → EReal) (e : Fin 128) : EReal :=
  if h : e.val < 64 then w ⟨2048 + (e.val - 0), by omega⟩ else if h : e.val < 72 then w ⟨2112 + (e.val - 64), by omega⟩ else if h : e.val < 80 then w ⟨3656 + (e.val - 72), by omega⟩ else if h : e.val < 88 then w ⟨3664 + (e.val - 80), by omega⟩ else 0

set_option maxHeartbeats 1600000 in
/-- The narrow columns, element by element. -/
theorem misc_at (a0 : FVec Ideal S16384x1024 .f32) (a1 : FVec Ideal S1024x4184 .f32) (r : Fin 16384) (e : Fin 128) :
    misc a0 a1 (ix2 r e) = ∑ k : Fin 1024, a0 (ix2 r k) * miscW (fun q => a1 (ix2 k q)) e := by
  unfold misc
  pointwise
  by_cases h1 : e.val < 64
  · refine (dif_pos (by omega)).trans (Finset.sum_congr rfl fun k _ => congrArg _ ?_)
    exact Eq.trans (congrArg a1 (by blk_ext)) (Eq.symm (dif_pos h1))
  refine (dif_neg (by omega)).trans ?_
  by_cases h2 : e.val < 72
  · refine (dif_pos (by omega)).trans (Finset.sum_congr rfl fun k _ => congrArg _ ?_)
    exact Eq.trans (congrArg a1 (by blk_ext)) (Eq.symm ((dif_neg h1).trans (dif_pos h2)))
  refine (dif_neg (by omega)).trans ?_
  by_cases h3 : e.val < 80
  · refine (dif_pos (by omega)).trans (Finset.sum_congr rfl fun k _ => congrArg _ ?_)
    exact Eq.trans (congrArg a1 (by blk_ext)) (Eq.symm ((dif_neg h1).trans ((dif_neg h2).trans (dif_pos h3))))
  refine (dif_neg (by omega)).trans ?_
  by_cases h4 : e.val < 88
  · refine (dif_pos (by omega)).trans (Finset.sum_congr rfl fun k _ => congrArg _ ?_)
    exact Eq.trans (congrArg a1 (by blk_ext)) (Eq.symm ((dif_neg h1).trans ((dif_neg h2).trans ((dif_neg h3).trans (dif_pos h4)))))
  refine (dif_neg (by omega)).trans ?_
  refine Eq.symm (Finset.sum_eq_zero fun k _ => ?_)
  have h0 : miscW (fun q => a1 (ix2 k q)) e = 0 := (dif_neg h1).trans ((dif_neg h2).trans ((dif_neg h3).trans ((dif_neg h4).trans (rfl))))
  rw [h0, mul_zero]

end Cert.Reference6Ideal.Proj

namespace Cert.Kernel6Ideal.Proj
open Idealize.ShloMosaic Idealize.ShloMosaic.TcCoe Idealize.SL.Sem
open Idealize.ShloMosaic.Pipeline (Dat)
open Cert.Kernel6Ideal.Gen

variable (m : (ℓ : Loc nD τ sig) → Buf (Elt Ideal) ℓ)

/-- The windows' blocks: the rows go with the grid point, the weight stays. -/
theorem idx : ∀ t : Fin cfg0.N, win0_1.index t = ![0, 0] ∧ win0_0.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] ∧ win0_8.index t = ![t.val, 0] :=
  (by decide +kernel : ∀ t : Fin grid0.N, _)

/-- The rows the last two products share are the block, its format narrowed. -/
theorem pay10_eq (x0 : Vec Ideal S512x1024 .f32) (x1 : Vec Ideal S1024x4224 .bf16) : k0_pay10 x0 x1 = k0_pay3 x0 := by
  unfold k0_pay10
  refine congrArg k0_pay3 (funext fun z => congrArg x0 (?_ : r0_0.idx z = z))
  funext a
  match a with
  | ⟨0, _⟩ => exact Fin.ext (by show 0 + 1 * (z 0).val = (z 0).val; omega)
  | ⟨1, _⟩ => exact Fin.ext (by show 0 + 1 * (z 1).val = (z 1).val; omega)

/-- The weight's columns as the call packs them. -/
def packed (w : FVec Ideal S1024x4184 .f32) : FVec Ideal S1024x4224 .f32 :=
  concatenate S1024x4224 1 [⟨S1024x512, extractStridedSlice S1024x512 ![0, 0] w slices_S1024x4184_S1024x512_0_0⟩, ⟨S1024x512, extractStridedSlice S1024x512 ![0, 512] w slices_S1024x4184_S1024x512_0_512⟩, ⟨S1024x512, extractStridedSlice S1024x512 ![0, 1024] w slices_S1024x4184_S1024x512_0_1024⟩, ⟨S1024x512, extractStridedSlice S1024x512 ![0, 1536] w slices_S1024x4184_S1024x512_0_1536⟩, ⟨S1024x1536, extractStridedSlice S1024x1536 ![0, 2120] w slices_S1024x4184_S1024x1536_0_2120⟩, ⟨S1024x512, extractStridedSlice S1024x512 ![0, 3672] w slices_S1024x4184_S1024x512_0_3672⟩, ⟨S1024x64, extractStridedSlice S1024x64 ![0, 2048] w slices_S1024x4184_S1024x64_0_2048⟩, ⟨S1024x8, extractStridedSlice S1024x8 ![0, 2112] w slices_S1024x4184_S1024x8_0_2112⟩, ⟨S1024x8, extractStridedSlice S1024x8 ![0, 3656] w slices_S1024x4184_S1024x8_0_3656⟩, ⟨S1024x8, extractStridedSlice S1024x8 ![0, 3664] w slices_S1024x4184_S1024x8_0_3664⟩,
    ⟨S1024x40, broadcastInDim S1024x40 ![] bcast_S_S1024x40 (constant S_ .f32 0x00000000#32)⟩]
    concatenates_S1024x512_S1024x512_S1024x512_S1024x512_S1024x1536_S1024x512_S1024x64_S1024x8_S1024x8_S1024x8_S1024x40_S1024x4224_d1

set_option maxHeartbeats 1600000 in
/-- The call finds its weight packed. -/
theorem V_packed (c : Dev nD) : V m c main_v12 = truncf .bf16 (packed (m ((c : Thread nD τ).loc main_arg1))) bitsLt_bf16_f32 := by
  unfold V hostOps0
  after_results
  rfl

/-- The weight's block is the packed weight. -/
theorem w_blk (c : Dev nD) (t : Fin cfg0.N) (k : Fin 1024) (q : Fin 4224) :
    (show Vec Ideal S1024x4224 .bf16 from iblk m c 1 t) (ix2 k q) = packed (m ((c : Thread nD τ).loc main_arg1)) (ix2 k q) := by
  blk_simp [iblk]
  rw [V_packed]
  refine congrArg (packed (m ((c : Thread nD τ).loc main_arg1))) ?_
  blk_ext [idx t]

set_option maxHeartbeats 1600000 in
/-- The packed columns from 0 are the weight's from 0. -/
theorem packed_qa (w : FVec Ideal S1024x4184 .f32) (k : Fin 1024) (e : Fin 512) :
    packed w (ix2 k ⟨e.val, by omega⟩) = w (ix2 k ⟨e.val, by omega⟩) := by
  unfold packed
  pointwise

/-- The stored block is the reference's block when its inputs are the reference's rows and the packed weight. -/
theorem block_qa (x : Vec Ideal S512x1024 .f32) (w : Vec Ideal S1024x512 .bf16) (a0 : FVec Ideal S16384x1024 .f32) (a1 : FVec Ideal S1024x4184 .f32)
    (r : Fin 512) (e : Fin 512) (R : Fin 16384) (hx : ∀ k, x (ix2 r k) = a0 (ix2 R k)) (hw : ∀ (k : Fin 1024) (e : Fin 512), w (ix2 k e) = packed a1 (ix2 k ⟨e.val, by omega⟩)) :
    k0_pay4 x w (ix2 r e) = Cert.Reference6Ideal.Proj.qa a0 a1 (ix2 R e) := by
  rw [Cert.Reference6Ideal.Proj.qa_at]
  unfold k0_pay4 k0_pay3
  pointwise
  refine Finset.sum_congr rfl fun k _ => ?_
  rw [hx, hw, packed_qa]

/-- What the body stores at a point is the reference at the block's place. -/
theorem point_qa (c : Dev nD) (t : Fin cfg0.N) (y : S512x512.Idx) : k0_pay4 (iblk m c 0 t) (View.ld (iblk m c 1 t) r0_1) y
    = Cert.Reference6Ideal.Proj.qa (m ((c : Thread nD τ).loc main_arg0)) (m ((c : Thread nD τ).loc main_arg1)) (((cfg0.win 2).blk t).view.emb y) := by
  obtain ⟨r, e, rfl⟩ : ∃ (r : Fin 512) (e : Fin 512), y = ix2 r e := ⟨y 0, y 1, by blk_ext⟩
  have hN := N_0
  have ht : t.val < 32 := lt_of_lt_of_eq t.isLt hN
  refine Eq.trans (block_qa _ _ (m ((c : Thread nD τ).loc main_arg0)) (m ((c : Thread nD τ).loc main_arg1)) r e ⟨512 * t.val + r.val, by omega⟩ ?_ ?_) ?_
  · intro k; blk_ext [iblk, V, idx t]
  · intro k e
    refine Eq.trans ?_ (w_blk m c t k ⟨e.val, by omega⟩)
    refine congrArg (show Vec Ideal S1024x4224 .bf16 from iblk m c 1 t) (?_ : r0_1.idx (ix2 k e) = _)
    funext a
    match a with
    | ⟨0, _⟩ => exact Fin.ext (by show 0 + 1 * k.val = k.val; omega)
    | ⟨1, _⟩ => exact Fin.ext (by show 0 + 1 * e.val = e.val; omega)
  · blk_ext [idx t]

/-- The kernel's final array. -/
theorem final_qa (c : Dev nD) : (dats m 0 c).arrAt 2 (cfgs 0).N
    = Cert.Reference6Ideal.Proj.qa (m ((c : Thread nD τ).loc main_arg0)) (m ((c : Thread nD τ).loc main_arg1)) := by
  refine (dats m 0 c).arrAt_eq_of_covers 2 _ (by decide +kernel) fun t _ y => ?_
  blk_simp
  rw [after0_2]
  frame_out
  exact point_qa m c t y

set_option maxHeartbeats 1600000 in
/-- The packed columns from 512 are the weight's from 512. -/
theorem packed_ka (w : FVec Ideal S1024x4184 .f32) (k : Fin 1024) (e : Fin 512) :
    packed w (ix2 k ⟨512 + e.val, by omega⟩) = w (ix2 k ⟨512 + e.val, by omega⟩) := by
  unfold packed
  pointwise

/-- The stored block is the reference's block when its inputs are the reference's rows and the packed weight. -/
theorem block_ka (x : Vec Ideal S512x1024 .f32) (w : Vec Ideal S1024x512 .bf16) (a0 : FVec Ideal S16384x1024 .f32) (a1 : FVec Ideal S1024x4184 .f32)
    (r : Fin 512) (e : Fin 512) (R : Fin 16384) (hx : ∀ k, x (ix2 r k) = a0 (ix2 R k)) (hw : ∀ (k : Fin 1024) (e : Fin 512), w (ix2 k e) = packed a1 (ix2 k ⟨512 + e.val, by omega⟩)) :
    k0_pay5 x w (ix2 r e) = Cert.Reference6Ideal.Proj.ka a0 a1 (ix2 R e) := by
  rw [Cert.Reference6Ideal.Proj.ka_at]
  unfold k0_pay5 k0_pay3
  pointwise
  refine Finset.sum_congr rfl fun k _ => ?_
  rw [hx, hw, packed_ka]

/-- What the body stores at a point is the reference at the block's place. -/
theorem point_ka (c : Dev nD) (t : Fin cfg0.N) (y : S512x512.Idx) : k0_pay5 (iblk m c 0 t) (View.ld (iblk m c 1 t) r0_3) y
    = Cert.Reference6Ideal.Proj.ka (m ((c : Thread nD τ).loc main_arg0)) (m ((c : Thread nD τ).loc main_arg1)) (((cfg0.win 3).blk t).view.emb y) := by
  obtain ⟨r, e, rfl⟩ : ∃ (r : Fin 512) (e : Fin 512), y = ix2 r e := ⟨y 0, y 1, by blk_ext⟩
  have hN := N_0
  have ht : t.val < 32 := lt_of_lt_of_eq t.isLt hN
  refine Eq.trans (block_ka _ _ (m ((c : Thread nD τ).loc main_arg0)) (m ((c : Thread nD τ).loc main_arg1)) r e ⟨512 * t.val + r.val, by omega⟩ ?_ ?_) ?_
  · intro k; blk_ext [iblk, V, idx t]
  · intro k e
    refine Eq.trans ?_ (w_blk m c t k ⟨512 + e.val, by omega⟩)
    refine congrArg (show Vec Ideal S1024x4224 .bf16 from iblk m c 1 t) (?_ : r0_3.idx (ix2 k e) = _)
    funext a
    match a with
    | ⟨0, _⟩ => exact Fin.ext (by show 0 + 1 * k.val = k.val; omega)
    | ⟨1, _⟩ => exact Fin.ext (by show 512 + 1 * e.val = 512 + e.val; omega)
  · blk_ext [idx t]

/-- The kernel's final array. -/
theorem final_ka (c : Dev nD) : (dats m 0 c).arrAt 3 (cfgs 0).N
    = Cert.Reference6Ideal.Proj.ka (m ((c : Thread nD τ).loc main_arg0)) (m ((c : Thread nD τ).loc main_arg1)) := by
  refine (dats m 0 c).arrAt_eq_of_covers 3 _ (by decide +kernel) fun t _ y => ?_
  blk_simp
  rw [after0_3]
  frame_out
  exact point_ka m c t y

set_option maxHeartbeats 1600000 in
/-- The packed columns from 1024 are the weight's from 1024. -/
theorem packed_va (w : FVec Ideal S1024x4184 .f32) (k : Fin 1024) (e : Fin 512) :
    packed w (ix2 k ⟨1024 + e.val, by omega⟩) = w (ix2 k ⟨1024 + e.val, by omega⟩) := by
  unfold packed
  pointwise
  refine (dif_neg (by omega)).trans ?_
  refine (dif_neg (by omega)).trans ?_
  exact (dif_pos (by omega)).trans (congrArg w (by blk_ext))

/-- The stored block is the reference's block when its inputs are the reference's rows and the packed weight. -/
theorem block_va (x : Vec Ideal S512x1024 .f32) (w : Vec Ideal S1024x512 .bf16) (a0 : FVec Ideal S16384x1024 .f32) (a1 : FVec Ideal S1024x4184 .f32)
    (r : Fin 512) (e : Fin 512) (R : Fin 16384) (hx : ∀ k, x (ix2 r k) = a0 (ix2 R k)) (hw : ∀ (k : Fin 1024) (e : Fin 512), w (ix2 k e) = packed a1 (ix2 k ⟨1024 + e.val, by omega⟩)) :
    k0_pay6 x w (ix2 r e) = Cert.Reference6Ideal.Proj.va a0 a1 (ix2 R e) := by
  rw [Cert.Reference6Ideal.Proj.va_at]
  unfold k0_pay6 k0_pay3
  pointwise
  refine Finset.sum_congr rfl fun k _ => ?_
  rw [hx, hw, packed_va]

/-- What the body stores at a point is the reference at the block's place. -/
theorem point_va (c : Dev nD) (t : Fin cfg0.N) (y : S512x512.Idx) : k0_pay6 (iblk m c 0 t) (View.ld (iblk m c 1 t) r0_4) y
    = Cert.Reference6Ideal.Proj.va (m ((c : Thread nD τ).loc main_arg0)) (m ((c : Thread nD τ).loc main_arg1)) (((cfg0.win 4).blk t).view.emb y) := by
  obtain ⟨r, e, rfl⟩ : ∃ (r : Fin 512) (e : Fin 512), y = ix2 r e := ⟨y 0, y 1, by blk_ext⟩
  have hN := N_0
  have ht : t.val < 32 := lt_of_lt_of_eq t.isLt hN
  refine Eq.trans (block_va _ _ (m ((c : Thread nD τ).loc main_arg0)) (m ((c : Thread nD τ).loc main_arg1)) r e ⟨512 * t.val + r.val, by omega⟩ ?_ ?_) ?_
  · intro k; blk_ext [iblk, V, idx t]
  · intro k e
    refine Eq.trans ?_ (w_blk m c t k ⟨1024 + e.val, by omega⟩)
    refine congrArg (show Vec Ideal S1024x4224 .bf16 from iblk m c 1 t) (?_ : r0_4.idx (ix2 k e) = _)
    funext a
    match a with
    | ⟨0, _⟩ => exact Fin.ext (by show 0 + 1 * k.val = k.val; omega)
    | ⟨1, _⟩ => exact Fin.ext (by show 1024 + 1 * e.val = 1024 + e.val; omega)
  · blk_ext [idx t]

/-- The kernel's final array. -/
theorem final_va (c : Dev nD) : (dats m 0 c).arrAt 4 (cfgs 0).N
    = Cert.Reference6Ideal.Proj.va (m ((c : Thread nD τ).loc main_arg0)) (m ((c : Thread nD τ).loc main_arg1)) := by
  refine (dats m 0 c).arrAt_eq_of_covers 4 _ (by decide +kernel) fun t _ y => ?_
  blk_simp
  rw [after0_4]
  frame_out
  exact point_va m c t y

set_option maxHeartbeats 1600000 in
/-- The packed columns from 1536 are the weight's from 1536. -/
theorem packed_qi (w : FVec Ideal S1024x4184 .f32) (k : Fin 1024) (e : Fin 512) :
    packed w (ix2 k ⟨1536 + e.val, by omega⟩) = w (ix2 k ⟨1536 + e.val, by omega⟩) := by
  unfold packed
  pointwise
  refine (dif_neg (by omega)).trans ?_
  refine (dif_neg (by omega)).trans ?_
  refine (dif_neg (by omega)).trans ?_
  exact (dif_pos (by omega)).trans (congrArg w (by blk_ext))

/-- The stored block is the reference's block when its inputs are the reference's rows and the packed weight. -/
theorem block_qi (x : Vec Ideal S512x1024 .f32) (w : Vec Ideal S1024x512 .bf16) (a0 : FVec Ideal S16384x1024 .f32) (a1 : FVec Ideal S1024x4184 .f32)
    (r : Fin 512) (e : Fin 512) (R : Fin 16384) (hx : ∀ k, x (ix2 r k) = a0 (ix2 R k)) (hw : ∀ (k : Fin 1024) (e : Fin 512), w (ix2 k e) = packed a1 (ix2 k ⟨1536 + e.val, by omega⟩)) :
    k0_pay7 x w (ix2 r e) = Cert.Reference6Ideal.Proj.qi a0 a1 (ix2 R e) := by
  rw [Cert.Reference6Ideal.Proj.qi_at]
  unfold k0_pay7 k0_pay3
  pointwise
  refine Finset.sum_congr rfl fun k _ => ?_
  rw [hx, hw, packed_qi]

/-- What the body stores at a point is the reference at the block's place. -/
theorem point_qi (c : Dev nD) (t : Fin cfg0.N) (y : S512x512.Idx) : k0_pay7 (iblk m c 0 t) (View.ld (iblk m c 1 t) r0_5) y
    = Cert.Reference6Ideal.Proj.qi (m ((c : Thread nD τ).loc main_arg0)) (m ((c : Thread nD τ).loc main_arg1)) (((cfg0.win 5).blk t).view.emb y) := by
  obtain ⟨r, e, rfl⟩ : ∃ (r : Fin 512) (e : Fin 512), y = ix2 r e := ⟨y 0, y 1, by blk_ext⟩
  have hN := N_0
  have ht : t.val < 32 := lt_of_lt_of_eq t.isLt hN
  refine Eq.trans (block_qi _ _ (m ((c : Thread nD τ).loc main_arg0)) (m ((c : Thread nD τ).loc main_arg1)) r e ⟨512 * t.val + r.val, by omega⟩ ?_ ?_) ?_
  · intro k; blk_ext [iblk, V, idx t]
  · intro k e
    refine Eq.trans ?_ (w_blk m c t k ⟨1536 + e.val, by omega⟩)
    refine congrArg (show Vec Ideal S1024x4224 .bf16 from iblk m c 1 t) (?_ : r0_5.idx (ix2 k e) = _)
    funext a
    match a with
    | ⟨0, _⟩ => exact Fin.ext (by show 0 + 1 * k.val = k.val; omega)
    | ⟨1, _⟩ => exact Fin.ext (by show 1536 + 1 * e.val = 1536 + e.val; omega)
  · blk_ext [idx t]

/-- The kernel's final array. -/
theorem final_qi (c : Dev nD) : (dats m 0 c).arrAt 5 (cfgs 0).N
    = Cert.Reference6Ideal.Proj.qi (m ((c : Thread nD τ).loc main_arg0)) (m ((c : Thread nD τ).loc main_arg1)) := by
  refine (dats m 0 c).arrAt_eq_of_covers 5 _ (by decide +kernel) fun t _ y => ?_
  blk_simp
  rw [after0_5]
  frame_out
  exact point_qi m c t y

set_option maxHeartbeats 1600000 in
/-- The packed columns from 2048 are the weight's from 2120. -/
theorem packed_qkv (w : FVec Ideal S1024x4184 .f32) (k : Fin 1024) (e : Fin 1536) :
    packed w (ix2 k ⟨2048 + e.val, by omega⟩) = w (ix2 k ⟨2120 + e.val, by omega⟩) := by
  unfold packed
  pointwise
  refine (dif_neg (by omega)).trans ?_
  refine (dif_neg (by omega)).trans ?_
  refine (dif_neg (by omega)).trans ?_
  refine (dif_neg (by omega)).trans ?_
  exact (dif_pos (by omega)).trans (congrArg w (by blk_ext))

/-- The stored block is the reference's block when its inputs are the reference's rows and the packed weight. -/
theorem block_qkv (x : Vec Ideal S512x1024 .f32) (w : Vec Ideal S1024x1536 .bf16) (a0 : FVec Ideal S16384x1024 .f32) (a1 : FVec Ideal S1024x4184 .f32)
    (r : Fin 512) (e : Fin 1536) (R : Fin 16384) (hx : ∀ k, x (ix2 r k) = a0 (ix2 R k)) (hw : ∀ (k : Fin 1024) (e : Fin 1536), w (ix2 k e) = packed a1 (ix2 k ⟨2048 + e.val, by omega⟩)) :
    k0_pay8 x w (ix2 r e) = Cert.Reference6Ideal.Proj.qkv a0 a1 (ix2 R e) := by
  rw [Cert.Reference6Ideal.Proj.qkv_at]
  unfold k0_pay8 k0_pay3
  pointwise
  refine Finset.sum_congr rfl fun k _ => ?_
  rw [hx, hw, packed_qkv]

/-- What the body stores at a point is the reference at the block's place. -/
theorem point_qkv (c : Dev nD) (t : Fin cfg0.N) (y : S512x1536.Idx) : k0_pay8 (iblk m c 0 t) (View.ld (iblk m c 1 t) r0_6) y
    = Cert.Reference6Ideal.Proj.qkv (m ((c : Thread nD τ).loc main_arg0)) (m ((c : Thread nD τ).loc main_arg1)) (((cfg0.win 6).blk t).view.emb y) := by
  obtain ⟨r, e, rfl⟩ : ∃ (r : Fin 512) (e : Fin 1536), y = ix2 r e := ⟨y 0, y 1, by blk_ext⟩
  have hN := N_0
  have ht : t.val < 32 := lt_of_lt_of_eq t.isLt hN
  refine Eq.trans (block_qkv _ _ (m ((c : Thread nD τ).loc main_arg0)) (m ((c : Thread nD τ).loc main_arg1)) r e ⟨512 * t.val + r.val, by omega⟩ ?_ ?_) ?_
  · intro k; blk_ext [iblk, V, idx t]
  · intro k e
    refine Eq.trans ?_ (w_blk m c t k ⟨2048 + e.val, by omega⟩)
    refine congrArg (show Vec Ideal S1024x4224 .bf16 from iblk m c 1 t) (?_ : r0_6.idx (ix2 k e) = _)
    funext a
    match a with
    | ⟨0, _⟩ => exact Fin.ext (by show 0 + 1 * k.val = k.val; omega)
    | ⟨1, _⟩ => exact Fin.ext (by show 2048 + 1 * e.val = 2048 + e.val; omega)
  · blk_ext [idx t]

/-- The kernel's final array. -/
theorem final_qkv (c : Dev nD) : (dats m 0 c).arrAt 6 (cfgs 0).N
    = Cert.Reference6Ideal.Proj.qkv (m ((c : Thread nD τ).loc main_arg0)) (m ((c : Thread nD τ).loc main_arg1)) := by
  refine (dats m 0 c).arrAt_eq_of_covers 6 _ (by decide +kernel) fun t _ y => ?_
  blk_simp
  rw [after0_6]
  frame_out
  exact point_qkv m c t y

set_option maxHeartbeats 1600000 in
/-- The packed columns from 3584 are the weight's from 3672. -/
theorem packed_z (w : FVec Ideal S1024x4184 .f32) (k : Fin 1024) (e : Fin 512) :
    packed w (ix2 k ⟨3584 + e.val, by omega⟩) = w (ix2 k ⟨3672 + e.val, by omega⟩) := by
  unfold packed
  pointwise
  refine (dif_neg (by omega)).trans ?_
  refine (dif_neg (by omega)).trans ?_
  refine (dif_neg (by omega)).trans ?_
  refine (dif_neg (by omega)).trans ?_
  refine (dif_neg (by omega)).trans ?_
  exact (dif_pos (by omega)).trans (congrArg w (by blk_ext))

/-- The stored block is the reference's block when its inputs are the reference's rows and the packed weight. -/
theorem block_z (x : Vec Ideal S512x1024 .f32) (w : Vec Ideal S1024x512 .bf16) (a0 : FVec Ideal S16384x1024 .f32) (a1 : FVec Ideal S1024x4184 .f32)
    (r : Fin 512) (e : Fin 512) (R : Fin 16384) (hx : ∀ k, x (ix2 r k) = a0 (ix2 R k)) (hw : ∀ (k : Fin 1024) (e : Fin 512), w (ix2 k e) = packed a1 (ix2 k ⟨3584 + e.val, by omega⟩)) :
    k0_pay1 (k0_pay3 x) (k0_pay9 w) (constant S512x512 .f32 0x00000000#32) (ix2 r e) = Cert.Reference6Ideal.Proj.z a0 a1 (ix2 R e) := by
  rw [Cert.Reference6Ideal.Proj.z_at]
  unfold k0_pay1 k0_pay3 k0_pay9
  pointwise
  refine Finset.sum_congr rfl fun k _ => ?_
  rw [hx, hw, packed_z]

/-- What the body stores at a point is the reference at the block's place. -/
theorem point_z (c : Dev nD) (t : Fin cfg0.N) (y : S512x512.Idx) : k0_pay1 (k0_pay3 (iblk m c 0 t)) (k0_pay9 (View.ld (iblk m c 1 t) r0_8)) (constant S512x512 .f32 0x00000000#32) y
    = Cert.Reference6Ideal.Proj.z (m ((c : Thread nD τ).loc main_arg0)) (m ((c : Thread nD τ).loc main_arg1)) (((cfg0.win 7).blk t).view.emb y) := by
  obtain ⟨r, e, rfl⟩ : ∃ (r : Fin 512) (e : Fin 512), y = ix2 r e := ⟨y 0, y 1, by blk_ext⟩
  have hN := N_0
  have ht : t.val < 32 := lt_of_lt_of_eq t.isLt hN
  refine Eq.trans (block_z _ _ (m ((c : Thread nD τ).loc main_arg0)) (m ((c : Thread nD τ).loc main_arg1)) r e ⟨512 * t.val + r.val, by omega⟩ ?_ ?_) ?_
  · intro k; blk_ext [iblk, V, idx t]
  · intro k e
    refine Eq.trans ?_ (w_blk m c t k ⟨3584 + e.val, by omega⟩)
    refine congrArg (show Vec Ideal S1024x4224 .bf16 from iblk m c 1 t) (?_ : r0_8.idx (ix2 k e) = _)
    funext a
    match a with
    | ⟨0, _⟩ => exact Fin.ext (by show 0 + 1 * k.val = k.val; omega)
    | ⟨1, _⟩ => exact Fin.ext (by show 3584 + 1 * e.val = 3584 + e.val; omega)
  · blk_ext [idx t]

/-- The kernel's final array. -/
theorem final_z (c : Dev nD) : (dats m 0 c).arrAt 7 (cfgs 0).N
    = Cert.Reference6Ideal.Proj.z (m ((c : Thread nD τ).loc main_arg0)) (m ((c : Thread nD τ).loc main_arg1)) := by
  refine (dats m 0 c).arrAt_eq_of_covers 7 _ (by decide +kernel) fun t _ y => ?_
  blk_simp
  rw [after0_7]
  frame_out
  rw [pay10_eq]
  exact point_z m c t y

set_option maxHeartbeats 1600000 in
/-- The packed columns from 4096 are the weight's narrow columns, the rest zeros. -/
theorem packed_misc (w : FVec Ideal S1024x4184 .f32) (k : Fin 1024) (e : Fin 128) :
    packed w (ix2 k ⟨4096 + e.val, by omega⟩) = Cert.Reference6Ideal.Proj.miscW (fun q => w (ix2 k q)) e := by
  unfold packed
  pointwise
  refine (dif_neg (by omega)).trans ?_
  refine (dif_neg (by omega)).trans ?_
  refine (dif_neg (by omega)).trans ?_
  refine (dif_neg (by omega)).trans ?_
  refine (dif_neg (by omega)).trans ?_
  refine (dif_neg (by omega)).trans ?_
  by_cases h1 : e.val < 64
  · exact ((dif_pos (by omega)).trans (congrArg w (by blk_ext))).trans (Eq.symm (dif_pos h1))
  refine (dif_neg (by omega)).trans ?_
  by_cases h2 : e.val < 72
  · exact ((dif_pos (by omega)).trans (congrArg w (by blk_ext))).trans (Eq.symm ((dif_neg h1).trans (dif_pos h2)))
  refine (dif_neg (by omega)).trans ?_
  by_cases h3 : e.val < 80
  · exact ((dif_pos (by omega)).trans (congrArg w (by blk_ext))).trans (Eq.symm ((dif_neg h1).trans ((dif_neg h2).trans (dif_pos h3))))
  refine (dif_neg (by omega)).trans ?_
  by_cases h4 : e.val < 88
  · exact ((dif_pos (by omega)).trans (congrArg w (by blk_ext))).trans (Eq.symm ((dif_neg h1).trans ((dif_neg h2).trans ((dif_neg h3).trans (dif_pos h4)))))
  refine (dif_neg (by omega)).trans ?_
  exact Eq.symm ((dif_neg h1).trans ((dif_neg h2).trans ((dif_neg h3).trans ((dif_neg h4).trans (rfl)))))

/-- The stored block is the reference's block when its inputs are the reference's rows and the packed weight. -/
theorem block_misc (x : Vec Ideal S512x1024 .f32) (w : Vec Ideal S1024x128 .bf16) (a0 : FVec Ideal S16384x1024 .f32) (a1 : FVec Ideal S1024x4184 .f32)
    (r : Fin 512) (e : Fin 128) (R : Fin 16384) (hx : ∀ k, x (ix2 r k) = a0 (ix2 R k)) (hw : ∀ (k : Fin 1024) (e : Fin 128), w (ix2 k e) = packed a1 (ix2 k ⟨4096 + e.val, by omega⟩)) :
    k0_pay2 (k0_pay3 x) w (ix2 r e) = Cert.Reference6Ideal.Proj.misc a0 a1 (ix2 R e) := by
  rw [Cert.Reference6Ideal.Proj.misc_at]
  unfold k0_pay2 k0_pay3
  pointwise
  refine Finset.sum_congr rfl fun k _ => ?_
  rw [hx, hw, packed_misc]

/-- What the body stores at a point is the reference at the block's place. -/
theorem point_misc (c : Dev nD) (t : Fin cfg0.N) (y : S512x128.Idx) : k0_pay2 (k0_pay3 (iblk m c 0 t)) (View.ld (iblk m c 1 t) r0_9) y
    = Cert.Reference6Ideal.Proj.misc (m ((c : Thread nD τ).loc main_arg0)) (m ((c : Thread nD τ).loc main_arg1)) (((cfg0.win 8).blk t).view.emb y) := by
  obtain ⟨r, e, rfl⟩ : ∃ (r : Fin 512) (e : Fin 128), y = ix2 r e := ⟨y 0, y 1, by blk_ext⟩
  have hN := N_0
  have ht : t.val < 32 := lt_of_lt_of_eq t.isLt hN
  refine Eq.trans (block_misc _ _ (m ((c : Thread nD τ).loc main_arg0)) (m ((c : Thread nD τ).loc main_arg1)) r e ⟨512 * t.val + r.val, by omega⟩ ?_ ?_) ?_
  · intro k; blk_ext [iblk, V, idx t]
  · intro k e
    refine Eq.trans ?_ (w_blk m c t k ⟨4096 + e.val, by omega⟩)
    refine congrArg (show Vec Ideal S1024x4224 .bf16 from iblk m c 1 t) (?_ : r0_9.idx (ix2 k e) = _)
    funext a
    match a with
    | ⟨0, _⟩ => exact Fin.ext (by show 0 + 1 * k.val = k.val; omega)
    | ⟨1, _⟩ => exact Fin.ext (by show 4096 + 1 * e.val = 4096 + e.val; omega)
  · blk_ext [idx t]

/-- The kernel's final array. -/
theorem final_misc (c : Dev nD) : (dats m 0 c).arrAt 8 (cfgs 0).N
    = Cert.Reference6Ideal.Proj.misc (m ((c : Thread nD τ).loc main_arg0)) (m ((c : Thread nD τ).loc main_arg1)) := by
  refine (dats m 0 c).arrAt_eq_of_covers 8 _ (by decide +kernel) fun t _ y => ?_
  blk_simp
  rw [after0_8]
  frame_out
  rw [pay10_eq]
  exact point_misc m c t y

end Cert.Kernel6Ideal.Proj
-- ==== Proof.DownSample.lean ====
/- The second product of the feed-forward part, its residual and its layer norm, for the sample: the array the kernel leaves. -/
module

public import proofs.«01_k».proof.Proof.Gen.Kernel7Ideal.Value
public import proofs.«01_k».proof.Proof.Gen.Reference7Ideal.Run
public import proofs.«01_k».proof.Proof.LnRow
public import Idealize.ShloMosaic.Lib.Pointwise
public import Idealize.ShloMosaic.Lib.Pipeline.ValueKit

@[expose] public section
set_option maxRecDepth 16384
noncomputable section
namespace Cert.Reference7Ideal.Down
open Idealize.ShloMosaic Idealize.ShloMosaic.TcCoe Idealize.SL.Sem
open Cert.Reference7Ideal Cert.Reference7Ideal.Gen Cert.Rows

/-- The reference's residual and product. -/
def P (a0 : FVec Ideal S1024x2816 .bf16) (a1 : FVec Ideal S2816x1024 .f32) (a2 : FVec Ideal S1024x1024 .f32) : FVec Ideal S1024x1024 .f32 :=
  addf (mulf (broadcastInDim S1024x1024 ![] bcast_S_S1024x1024 (constant S_ .f32 0x3FD744FD#32)) a2) (Host.dotGeneral dot_S1024x2816_S2816x1024_S1024x1024_1_0_0_1_n_n none (extf .f32 a0 bitsLt_bf16_f32) a1)

/-- The reference's row means. -/
def M (P : FVec Ideal S1024x1024 .f32) : FVec Ideal S1024x1024 .f32 :=
  broadcastInDim S1024x1024 ![0, 1] bcast_S1024x1_S1024x1024_0_1 (Host.divf (broadcastInDim S1024x1 ![0] bcast_S1024_S1024x1_0 (Host.reduceAdd P (constant S_ .f32 0x00000000#32) reducesTo_S1024x1024_S1024_d1 h_S_)) (broadcastInDim S1024x1 ![] bcast_S_S1024x1 (constant S_ .f32 0x44800000#32)))

/-- The reference's layer norm of every row. -/
def norm (P : FVec Ideal S1024x1024 .f32) (a3 a4 : FVec Ideal S1024 .f32) : FVec Ideal S1024x1024 .f32 :=
  addf (mulf (mulf (subf P (M P)) (broadcastInDim S1024x1024 ![0, 1] bcast_S1024x1_S1024x1024_0_1 (Host.rsqrt (addf (Host.divf (broadcastInDim S1024x1 ![0] bcast_S1024_S1024x1_0 (Host.reduceAdd (mulf (subf P (M P)) (subf P (M P))) (constant S_ .f32 0x00000000#32) reducesTo_S1024x1024_S1024_d1 h_S_)) (broadcastInDim S1024x1 ![] bcast_S_S1024x1 (constant S_ .f32 0x44800000#32))) (broadcastInDim S1024x1 ![] bcast_S_S1024x1 (constant S_ .f32 0x3727C5AC#32)))))) (broadcastInDim S1024x1024 ![0, 1] bcast_S1x1024_S1024x1024_0_1 (broadcastInDim S1x1024 ![1] bcast_S1024_S1x1024_1 a3))) (broadcastInDim S1024x1024 ![0, 1] bcast_S1x1024_S1024x1024_0_1 (broadcastInDim S1x1024 ![1] bcast_S1024_S1x1024_1 a4))

/-- The residual and product, element by element. -/
theorem P_at (a0 : FVec Ideal S1024x2816 .bf16) (a1 : FVec Ideal S2816x1024 .f32) (a2 : FVec Ideal S1024x1024 .f32) (r : Fin 1024) (e : Fin 1024) :
    P a0 a1 a2 (ix2 r e) = Ideal.ofBits .f32 0x3FD744FD#32 * a2 (ix2 r e) + ∑ k : Fin 2816, a0 (ix2 r k) * a1 (ix2 k e) := by
  unfold P
  pointwise

/-- The layer norm, element by element. -/
theorem norm_at (P : FVec Ideal S1024x1024 .f32) (a3 a4 : FVec Ideal S1024 .f32) (r : Fin 1024) (e : Fin 1024) :
    norm P a3 a4 (ix2 r e) = lnRow (fun k => P (ix2 r k)) (fun e => a3 (ix1 e)) (fun e => a4 (ix1 e)) e := by
  unfold norm M
  pointwise
  rfl

end Cert.Reference7Ideal.Down

namespace Cert.Kernel7Ideal.Down
open Idealize.ShloMosaic Idealize.ShloMosaic.TcCoe Idealize.SL.Sem
open Idealize.ShloMosaic.Pipeline (Dat)
open Cert.Kernel7Ideal.Gen Cert.Rows

variable (m : (ℓ : Loc nD τ sig) → Buf (Elt Ideal) ℓ)

/-- One element of the row before the norm: the scaled residual and the product. -/
def pre (x : Vec Ideal S512x1024 .f32) (a : Vec Ideal S512x2816 .bf16) (w : Vec Ideal S2816x1024 .bf16) (r : Fin 512) (e : Fin 1024) : EReal :=
  Ideal.ofBits .f32 0x3FD744FD#32 * x (ix2 r e) + ∑ k : Fin 2816, a (ix2 r k) * w (ix2 k e)

/-- The stored block, element by element. -/
theorem pay_at (x : Vec Ideal S512x1024 .f32) (a : Vec Ideal S512x2816 .bf16) (w : Vec Ideal S2816x1024 .bf16) (g b : Vec Ideal S1x1024 .f32) (r : Fin 512) (e : Fin 1024) :
    k0_pay1 x a w g b (ix2 r e) = lnRow (pre x a w r) (fun e => g (ix2 0 e)) (fun e => b (ix2 0 e)) e := by
  unfold k0_pay1
  pointwise
  rfl

/-- The windows' blocks: the rows go with the grid point, the weight and the two norm rows stay. -/
theorem idx : ∀ t : Fin cfg0.N, win0_0.index t = ![t.val, 0] ∧ win0_1.index t = ![0, 0] ∧ win0_2.index t = ![t.val, 0] ∧ win0_3.index t = ![0, 0] ∧ win0_4.index t = ![0, 0] ∧ win0_5.index t = ![t.val, 0] :=
  (by decide +kernel : ∀ t : Fin grid0.N, _)

/-- A stored block is the reference's block when its inputs are the reference's rows. -/
theorem block_eq (x : Vec Ideal S512x1024 .f32) (a : Vec Ideal S512x2816 .bf16) (w : Vec Ideal S2816x1024 .bf16) (g b : Vec Ideal S1x1024 .f32)
    (a0 : FVec Ideal S1024x2816 .bf16) (a1 : FVec Ideal S2816x1024 .f32) (a2 : FVec Ideal S1024x1024 .f32) (a3 a4 : FVec Ideal S1024 .f32)
    (r : Fin 512) (e : Fin 1024) (R : Fin 1024) (hx : ∀ k, x (ix2 r k) = a2 (ix2 R k)) (ha : ∀ k, a (ix2 r k) = a0 (ix2 R k)) (hw : ∀ k e, w (ix2 k e) = a1 (ix2 k e))
    (hg : ∀ k, g (ix2 0 k) = a3 (ix1 k)) (hb : ∀ k, b (ix2 0 k) = a4 (ix1 k)) :
    k0_pay1 x a w g b (ix2 r e) = Cert.Reference7Ideal.Down.norm (Cert.Reference7Ideal.Down.P a0 a1 a2) a3 a4 (ix2 R e) := by
  rw [pay_at, Cert.Reference7Ideal.Down.norm_at]
  congr 1
  · funext k
    rw [Cert.Reference7Ideal.Down.P_at]
    unfold pre
    rw [hx]
    refine congrArg _ (Finset.sum_congr rfl fun j _ => ?_)
    rw [ha, hw]
  · exact funext hg
  · exact funext hb

/-- What the body stores at a point is the reference at the block's place. -/
theorem point (c : Dev nD) (t : Fin cfg0.N) (y : S512x1024.Idx) : k0_pay1 (iblk m c 2 t) (iblk m c 0 t) (iblk m c 1 t) (iblk m c 3 t) (iblk m c 4 t) y
    = Cert.Reference7Ideal.Down.norm (Cert.Reference7Ideal.Down.P (m ((c : Thread nD τ).loc main_arg0)) (m ((c : Thread nD τ).loc main_arg1)) (m ((c : Thread nD τ).loc main_arg2)))
        (m ((c : Thread nD τ).loc main_arg3)) (m ((c : Thread nD τ).loc main_arg4)) (((cfg0.win 5).blk t).view.emb y) := by
  obtain ⟨r, e, rfl⟩ : ∃ (r : Fin 512) (e : Fin 1024), y = ix2 r e := ⟨y 0, y 1, by blk_ext⟩
  have hN := N_0
  have ht : t.val < 2 := lt_of_lt_of_eq t.isLt hN
  refine Eq.trans (block_eq _ _ _ _ _ (m ((c : Thread nD τ).loc main_arg0)) (m ((c : Thread nD τ).loc main_arg1)) (m ((c : Thread nD τ).loc main_arg2)) (m ((c : Thread nD τ).loc main_arg3)) (m ((c : Thread nD τ).loc main_arg4)) r e ⟨512 * t.val + r.val, by omega⟩ ?_ ?_ ?_ ?_ ?_) ?_
  · intro k; blk_ext [iblk, V, idx t]
  · intro k; blk_ext [iblk, V, idx t]
  · intro k e; blk_simp [iblk]; entry_read; pointwise; all_goals (blk_ext [idx t])
  · intro k; blk_simp [iblk]; entry_read; pointwise; all_goals (blk_ext [idx t])
  · intro k; blk_simp [iblk]; entry_read; pointwise; all_goals (blk_ext [idx t])
  · blk_ext [idx t]

/-- The kernel's final array. -/
theorem final (c : Dev nD) : (dats m 0 c).arrAt 5 (cfgs 0).N
    = Cert.Reference7Ideal.Down.norm (Cert.Reference7Ideal.Down.P (m ((c : Thread nD τ).loc main_arg0)) (m ((c : Thread nD τ).loc main_arg1)) (m ((c : Thread nD τ).loc main_arg2)))
        (m ((c : Thread nD τ).loc main_arg3)) (m ((c : Thread nD τ).loc main_arg4)) := by
  refine (dats m 0 c).arrAt_eq_of_covers 5 _ (by decide +kernel) fun t _ y => ?_
  blk_simp
  rw [after0_5]
  frame_out
  exact point m c t y

end Cert.Kernel7Ideal.Down
-- ==== Proof.ProjOddSample.lean ====
/- The odd layers' input projection for the sample: the arrays the kernel leaves are the reference's columns of the product. -/
module

public import proofs.«01_k».proof.Proof.Gen.Kernel8Ideal.Value
public import proofs.«01_k».proof.Proof.Gen.Reference8Ideal.Run
public import Idealize.ShloMosaic.Lib.Pointwise
public import Idealize.ShloMosaic.Lib.Pipeline.ValueKit

@[expose] public section
set_option maxRecDepth 16384
noncomputable section
namespace Cert.Reference8Ideal.Proj
open Idealize.ShloMosaic Idealize.ShloMosaic.TcCoe Idealize.SL.Sem
open Cert.Reference8Ideal Cert.Reference8Ideal.Gen

/-- The reference's columns from 0, 512 wide. -/
def qk (a0 : FVec Ideal S1024x1024 .f32) (a1 : FVec Ideal S1024x3088 .f32) : FVec Ideal S1024x512 .f32 :=
  concatenate S1024x512 1 [⟨S1024x256, (extractStridedSlice S1024x256 ![0, 0] (Host.dotGeneral dot_S1024x1024_S1024x3088_S1024x3088_1_0_0_1_n_n none a0 a1) slices_S1024x3088_S1024x256_0_0)⟩, ⟨S1024x256, (extractStridedSlice S1024x256 ![0, 256] (Host.dotGeneral dot_S1024x1024_S1024x3088_S1024x3088_1_0_0_1_n_n none a0 a1) slices_S1024x3088_S1024x256_0_256)⟩] concatenates_S1024x256_S1024x256_S1024x512_d1

/-- Those columns, element by element. -/
theorem qk_at (a0 : FVec Ideal S1024x1024 .f32) (a1 : FVec Ideal S1024x3088 .f32) (r : Fin 1024) (e : Fin 512) :
    qk a0 a1 (ix2 r e) = ∑ k : Fin 1024, a0 (ix2 r k) * a1 (ix2 k ⟨e.val, by omega⟩) := by
  unfold qk
  pointwise
  split
  · refine Finset.sum_congr rfl fun k _ => ?_
    refine congrArg _ (congrArg a1 ?_)
    blk_ext
  · refine Finset.sum_congr rfl fun k _ => ?_
    refine congrArg _ (congrArg a1 ?_)
    blk_ext

/-- The reference's columns from 512, 512 wide. -/
def v (a0 : FVec Ideal S1024x1024 .f32) (a1 : FVec Ideal S1024x3088 .f32) : FVec Ideal S1024x512 .f32 :=
  extractStridedSlice S1024x512 ![0, 512] (Host.dotGeneral dot_S1024x1024_S1024x3088_S1024x3088_1_0_0_1_n_n none a0 a1) slices_S1024x3088_S1024x512_0_512

/-- Those columns, element by element. -/
theorem v_at (a0 : FVec Ideal S1024x1024 .f32) (a1 : FVec Ideal S1024x3088 .f32) (r : Fin 1024) (e : Fin 512) :
    v a0 a1 (ix2 r e) = ∑ k : Fin 1024, a0 (ix2 r k) * a1 (ix2 k ⟨512 + e.val, by omega⟩) := by
  unfold v
  pointwise

/-- The reference's columns from 1040, 512 wide. -/
def o (a0 : FVec Ideal S1024x1024 .f32) (a1 : FVec Ideal S1024x3088 .f32) : FVec Ideal S1024x512 .f32 :=
  extractStridedSlice S1024x512 ![0, 1040] (Host.dotGeneral dot_S1024x1024_S1024x3088_S1024x3088_1_0_0_1_n_n none a0 a1) slices_S1024x3088_S1024x512_0_1040

/-- Those columns, element by element. -/
theorem o_at (a0 : FVec Ideal S1024x1024 .f32) (a1 : FVec Ideal S1024x3088 .f32) (r : Fin 1024) (e : Fin 512) :
    o a0 a1 (ix2 r e) = ∑ k : Fin 1024, a0 (ix2 r k) * a1 (ix2 k ⟨1040 + e.val, by omega⟩) := by
  unfold o
  pointwise

/-- The reference's columns from 1552, 512 wide. -/
def qd (a0 : FVec Ideal S1024x1024 .f32) (a1 : FVec Ideal S1024x3088 .f32) : FVec Ideal S1024x512 .f32 :=
  extractStridedSlice S1024x512 ![0, 1552] (Host.dotGeneral dot_S1024x1024_S1024x3088_S1024x3088_1_0_0_1_n_n none a0 a1) slices_S1024x3088_S1024x512_0_1552

/-- Those columns, element by element. -/
theorem qd_at (a0 : FVec Ideal S1024x1024 .f32) (a1 : FVec Ideal S1024x3088 .f32) (r : Fin 1024) (e : Fin 512) :
    qd a0 a1 (ix2 r e) = ∑ k : Fin 1024, a0 (ix2 r k) * a1 (ix2 k ⟨1552 + e.val, by omega⟩) := by
  unfold qd
  pointwise

/-- The reference's columns from 2064, 512 wide. -/
def kd (a0 : FVec Ideal S1024x1024 .f32) (a1 : FVec Ideal S1024x3088 .f32) : FVec Ideal S1024x512 .f32 :=
  extractStridedSlice S1024x512 ![0, 2064] (Host.dotGeneral dot_S1024x1024_S1024x3088_S1024x3088_1_0_0_1_n_n none a0 a1) slices_S1024x3088_S1024x512_0_2064

/-- Those columns, element by element. -/
theorem kd_at (a0 : FVec Ideal S1024x1024 .f32) (a1 : FVec Ideal S1024x3088 .f32) (r : Fin 1024) (e : Fin 512) :
    kd a0 a1 (ix2 r e) = ∑ k : Fin 1024, a0 (ix2 r k) * a1 (ix2 k ⟨2064 + e.val, by omega⟩) := by
  unfold kd
  pointwise

/-- The reference's columns from 2576, 512 wide. -/
def vd (a0 : FVec Ideal S1024x1024 .f32) (a1 : FVec Ideal S1024x3088 .f32) : FVec Ideal S1024x512 .f32 :=
  extractStridedSlice S1024x512 ![0, 2576] (Host.dotGeneral dot_S1024x1024_S1024x3088_S1024x3088_1_0_0_1_n_n none a0 a1) slices_S1024x3088_S1024x512_0_2576

/-- Those columns, element by element. -/
theorem vd_at (a0 : FVec Ideal S1024x1024 .f32) (a1 : FVec Ideal S1024x3088 .f32) (r : Fin 1024) (e : Fin 512) :
    vd a0 a1 (ix2 r e) = ∑ k : Fin 1024, a0 (ix2 r k) * a1 (ix2 k ⟨2576 + e.val, by omega⟩) := by
  unfold vd
  pointwise

/-- The reference's narrow columns side by side, the rest zeros. -/
def misc (a0 : FVec Ideal S1024x1024 .f32) (a1 : FVec Ideal S1024x3088 .f32) : FVec Ideal S1024x128 .f32 :=
  concatenate S1024x128 1 [⟨S1024x8, (extractStridedSlice S1024x8 ![0, 1024] (Host.dotGeneral dot_S1024x1024_S1024x3088_S1024x3088_1_0_0_1_n_n none a0 a1) slices_S1024x3088_S1024x8_0_1024)⟩, ⟨S1024x8, (extractStridedSlice S1024x8 ![0, 1032] (Host.dotGeneral dot_S1024x1024_S1024x3088_S1024x3088_1_0_0_1_n_n none a0 a1) slices_S1024x3088_S1024x8_0_1032)⟩, ⟨S1024x112, broadcastInDim S1024x112 ![] bcast_S_S1024x112 (constant S_ .f32 0x00000000#32)⟩] concatenates_S1024x8_S1024x8_S1024x112_S1024x128_d1

/-- The weight of a narrow column, zero where the column is padding. -/
def miscW (w : Fin 3088 → EReal) (e : Fin 128) : EReal :=
  if h : e.val < 8 then w ⟨1024 + (e.val - 0), by omega⟩ else if h : e.val < 16 then w ⟨1032 + (e.val - 8), by omega⟩ else 0

set_option maxHeartbeats 1600000 in
/-- The narrow columns, element by element. -/
theorem misc_at (a0 : FVec Ideal S1024x1024 .f32) (a1 : FVec Ideal S1024x3088 .f32) (r : Fin 1024) (e : Fin 128) :
    misc a0 a1 (ix2 r e) = ∑ k : Fin 1024, a0 (ix2 r k) * miscW (fun q => a1 (ix2 k q)) e := by
  unfold misc
  pointwise
  by_cases h1 : e.val < 8
  · refine (dif_pos (by omega)).trans (Finset.sum_congr rfl fun k _ => congrArg _ ?_)
    exact Eq.trans (congrArg a1 (by blk_ext)) (Eq.symm (dif_pos h1))
  refine (dif_neg (by omega)).trans ?_
  by_cases h2 : e.val < 16
  · refine (dif_pos (by omega)).trans (Finset.sum_congr rfl fun k _ => congrArg _ ?_)
    exact Eq.trans (congrArg a1 (by blk_ext)) (Eq.symm ((dif_neg h1).trans (dif_pos h2)))
  refine (dif_neg (by omega)).trans ?_
  refine Eq.symm (Finset.sum_eq_zero fun k _ => ?_)
  have h0 : miscW (fun q => a1 (ix2 k q)) e = 0 := (dif_neg h1).trans ((dif_neg h2).trans (rfl))
  rw [h0, mul_zero]

end Cert.Reference8Ideal.Proj

namespace Cert.Kernel8Ideal.Proj
open Idealize.ShloMosaic Idealize.ShloMosaic.TcCoe Idealize.SL.Sem
open Idealize.ShloMosaic.Pipeline (Dat)
open Cert.Kernel8Ideal.Gen

variable (m : (ℓ : Loc nD τ sig) → Buf (Elt Ideal) ℓ)

/-- The windows' blocks: the rows go with the grid point, the weight stays. -/
theorem idx : ∀ t : Fin cfg0.N, win0_1.index t = ![0, 0] ∧ win0_0.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] ∧ win0_8.index t = ![t.val, 0] :=
  (by decide +kernel : ∀ t : Fin grid0.N, _)

/-- The rows the last two products share are the block, its format narrowed. -/
theorem pay10_eq (x0 : Vec Ideal S512x1024 .f32) (x1 : Vec Ideal S1024x3200 .bf16) : k0_pay10 x0 x1 = k0_pay3 x0 := by
  unfold k0_pay10
  refine congrArg k0_pay3 (funext fun z => congrArg x0 (?_ : r0_0.idx z = z))
  funext a
  match a with
  | ⟨0, _⟩ => exact Fin.ext (by show 0 + 1 * (z 0).val = (z 0).val; omega)
  | ⟨1, _⟩ => exact Fin.ext (by show 0 + 1 * (z 1).val = (z 1).val; omega)

/-- The weight's columns as the call packs them. -/
def packed (w : FVec Ideal S1024x3088 .f32) : FVec Ideal S1024x3200 .f32 :=
  concatenate S1024x3200 1 [⟨S1024x256, extractStridedSlice S1024x256 ![0, 0] w slices_S1024x3088_S1024x256_0_0⟩, ⟨S1024x256, extractStridedSlice S1024x256 ![0, 256] w slices_S1024x3088_S1024x256_0_256⟩, ⟨S1024x512, extractStridedSlice S1024x512 ![0, 512] w slices_S1024x3088_S1024x512_0_512⟩, ⟨S1024x512, extractStridedSlice S1024x512 ![0, 1040] w slices_S1024x3088_S1024x512_0_1040⟩, ⟨S1024x512, extractStridedSlice S1024x512 ![0, 1552] w slices_S1024x3088_S1024x512_0_1552⟩, ⟨S1024x512, extractStridedSlice S1024x512 ![0, 2064] w slices_S1024x3088_S1024x512_0_2064⟩, ⟨S1024x512, extractStridedSlice S1024x512 ![0, 2576] w slices_S1024x3088_S1024x512_0_2576⟩, ⟨S1024x8, extractStridedSlice S1024x8 ![0, 1024] w slices_S1024x3088_S1024x8_0_1024⟩, ⟨S1024x8, extractStridedSlice S1024x8 ![0, 1032] w slices_S1024x3088_S1024x8_0_1032⟩,
    ⟨S1024x112, broadcastInDim S1024x112 ![] bcast_S_S1024x112 (constant S_ .f32 0x00000000#32)⟩]
    concatenates_S1024x256_S1024x256_S1024x512_S1024x512_S1024x512_S1024x512_S1024x512_S1024x8_S1024x8_S1024x112_S1024x3200_d1

set_option maxHeartbeats 1600000 in
/-- The call finds its weight packed. -/
theorem V_packed (c : Dev nD) : V m c main_v11 = truncf .bf16 (packed (m ((c : Thread nD τ).loc main_arg1))) bitsLt_bf16_f32 := by
  unfold V hostOps0
  after_results
  rfl

/-- The weight's block is the packed weight. -/
theorem w_blk (c : Dev nD) (t : Fin cfg0.N) (k : Fin 1024) (q : Fin 3200) :
    (show Vec Ideal S1024x3200 .bf16 from iblk m c 1 t) (ix2 k q) = packed (m ((c : Thread nD τ).loc main_arg1)) (ix2 k q) := by
  blk_simp [iblk]
  rw [V_packed]
  refine congrArg (packed (m ((c : Thread nD τ).loc main_arg1))) ?_
  blk_ext [idx t]

set_option maxHeartbeats 1600000 in
/-- The packed columns from 0 are the weight's from 0. -/
theorem packed_qk (w : FVec Ideal S1024x3088 .f32) (k : Fin 1024) (e : Fin 512) :
    packed w (ix2 k ⟨e.val, by omega⟩) = w (ix2 k ⟨e.val, by omega⟩) := by
  unfold packed
  pointwise
  by_cases h1 : e.val < 256
  · exact (dif_pos (by omega)).trans (congrArg w (by blk_ext))
  refine (dif_neg (by omega)).trans ?_
  exact (dif_pos (by omega)).trans (congrArg w (by blk_ext))

/-- The stored block is the reference's block when its inputs are the reference's rows and the packed weight. -/
theorem block_qk (x : Vec Ideal S512x1024 .f32) (w : Vec Ideal S1024x512 .bf16) (a0 : FVec Ideal S1024x1024 .f32) (a1 : FVec Ideal S1024x3088 .f32)
    (r : Fin 512) (e : Fin 512) (R : Fin 1024) (hx : ∀ k, x (ix2 r k) = a0 (ix2 R k)) (hw : ∀ (k : Fin 1024) (e : Fin 512), w (ix2 k e) = packed a1 (ix2 k ⟨e.val, by omega⟩)) :
    k0_pay4 x w (ix2 r e) = Cert.Reference8Ideal.Proj.qk a0 a1 (ix2 R e) := by
  rw [Cert.Reference8Ideal.Proj.qk_at]
  unfold k0_pay4 k0_pay3
  pointwise
  refine Finset.sum_congr rfl fun k _ => ?_
  rw [hx, hw, packed_qk]

/-- What the body stores at a point is the reference at the block's place. -/
theorem point_qk (c : Dev nD) (t : Fin cfg0.N) (y : S512x512.Idx) : k0_pay4 (iblk m c 0 t) (View.ld (iblk m c 1 t) r0_1) y
    = Cert.Reference8Ideal.Proj.qk (m ((c : Thread nD τ).loc main_arg0)) (m ((c : Thread nD τ).loc main_arg1)) (((cfg0.win 2).blk t).view.emb y) := by
  obtain ⟨r, e, rfl⟩ : ∃ (r : Fin 512) (e : Fin 512), y = ix2 r e := ⟨y 0, y 1, by blk_ext⟩
  have hN := N_0
  have ht : t.val < 2 := lt_of_lt_of_eq t.isLt hN
  refine Eq.trans (block_qk _ _ (m ((c : Thread nD τ).loc main_arg0)) (m ((c : Thread nD τ).loc main_arg1)) r e ⟨512 * t.val + r.val, by omega⟩ ?_ ?_) ?_
  · intro k; blk_ext [iblk, V, idx t]
  · intro k e
    refine Eq.trans ?_ (w_blk m c t k ⟨e.val, by omega⟩)
    refine congrArg (show Vec Ideal S1024x3200 .bf16 from iblk m c 1 t) (?_ : r0_1.idx (ix2 k e) = _)
    funext a
    match a with
    | ⟨0, _⟩ => exact Fin.ext (by show 0 + 1 * k.val = k.val; omega)
    | ⟨1, _⟩ => exact Fin.ext (by show 0 + 1 * e.val = e.val; omega)
  · blk_ext [idx t]

/-- The kernel's final array. -/
theorem final_qk (c : Dev nD) : (dats m 0 c).arrAt 2 (cfgs 0).N
    = Cert.Reference8Ideal.Proj.qk (m ((c : Thread nD τ).loc main_arg0)) (m ((c : Thread nD τ).loc main_arg1)) := by
  refine (dats m 0 c).arrAt_eq_of_covers 2 _ (by decide +kernel) fun t _ y => ?_
  blk_simp
  rw [after0_2]
  frame_out
  exact point_qk m c t y

set_option maxHeartbeats 1600000 in
/-- The packed columns from 512 are the weight's from 512. -/
theorem packed_v (w : FVec Ideal S1024x3088 .f32) (k : Fin 1024) (e : Fin 512) :
    packed w (ix2 k ⟨512 + e.val, by omega⟩) = w (ix2 k ⟨512 + e.val, by omega⟩) := by
  unfold packed
  pointwise
  refine (dif_neg (by omega)).trans ?_
  refine (dif_neg (by omega)).trans ?_
  exact (dif_pos (by omega)).trans (congrArg w (by blk_ext))

/-- The stored block is the reference's block when its inputs are the reference's rows and the packed weight. -/
theorem block_v (x : Vec Ideal S512x1024 .f32) (w : Vec Ideal S1024x512 .bf16) (a0 : FVec Ideal S1024x1024 .f32) (a1 : FVec Ideal S1024x3088 .f32)
    (r : Fin 512) (e : Fin 512) (R : Fin 1024) (hx : ∀ k, x (ix2 r k) = a0 (ix2 R k)) (hw : ∀ (k : Fin 1024) (e : Fin 512), w (ix2 k e) = packed a1 (ix2 k ⟨512 + e.val, by omega⟩)) :
    k0_pay5 x w (ix2 r e) = Cert.Reference8Ideal.Proj.v a0 a1 (ix2 R e) := by
  rw [Cert.Reference8Ideal.Proj.v_at]
  unfold k0_pay5 k0_pay3
  pointwise
  refine Finset.sum_congr rfl fun k _ => ?_
  rw [hx, hw, packed_v]

/-- What the body stores at a point is the reference at the block's place. -/
theorem point_v (c : Dev nD) (t : Fin cfg0.N) (y : S512x512.Idx) : k0_pay5 (iblk m c 0 t) (View.ld (iblk m c 1 t) r0_3) y
    = Cert.Reference8Ideal.Proj.v (m ((c : Thread nD τ).loc main_arg0)) (m ((c : Thread nD τ).loc main_arg1)) (((cfg0.win 3).blk t).view.emb y) := by
  obtain ⟨r, e, rfl⟩ : ∃ (r : Fin 512) (e : Fin 512), y = ix2 r e := ⟨y 0, y 1, by blk_ext⟩
  have hN := N_0
  have ht : t.val < 2 := lt_of_lt_of_eq t.isLt hN
  refine Eq.trans (block_v _ _ (m ((c : Thread nD τ).loc main_arg0)) (m ((c : Thread nD τ).loc main_arg1)) r e ⟨512 * t.val + r.val, by omega⟩ ?_ ?_) ?_
  · intro k; blk_ext [iblk, V, idx t]
  · intro k e
    refine Eq.trans ?_ (w_blk m c t k ⟨512 + e.val, by omega⟩)
    refine congrArg (show Vec Ideal S1024x3200 .bf16 from iblk m c 1 t) (?_ : r0_3.idx (ix2 k e) = _)
    funext a
    match a with
    | ⟨0, _⟩ => exact Fin.ext (by show 0 + 1 * k.val = k.val; omega)
    | ⟨1, _⟩ => exact Fin.ext (by show 512 + 1 * e.val = 512 + e.val; omega)
  · blk_ext [idx t]

/-- The kernel's final array. -/
theorem final_v (c : Dev nD) : (dats m 0 c).arrAt 3 (cfgs 0).N
    = Cert.Reference8Ideal.Proj.v (m ((c : Thread nD τ).loc main_arg0)) (m ((c : Thread nD τ).loc main_arg1)) := by
  refine (dats m 0 c).arrAt_eq_of_covers 3 _ (by decide +kernel) fun t _ y => ?_
  blk_simp
  rw [after0_3]
  frame_out
  exact point_v m c t y

set_option maxHeartbeats 1600000 in
/-- The packed columns from 1024 are the weight's from 1040. -/
theorem packed_o (w : FVec Ideal S1024x3088 .f32) (k : Fin 1024) (e : Fin 512) :
    packed w (ix2 k ⟨1024 + e.val, by omega⟩) = w (ix2 k ⟨1040 + e.val, by omega⟩) := by
  unfold packed
  pointwise
  refine (dif_neg (by omega)).trans ?_
  refine (dif_neg (by omega)).trans ?_
  refine (dif_neg (by omega)).trans ?_
  exact (dif_pos (by omega)).trans (congrArg w (by blk_ext))

/-- The stored block is the reference's block when its inputs are the reference's rows and the packed weight. -/
theorem block_o (x : Vec Ideal S512x1024 .f32) (w : Vec Ideal S1024x512 .bf16) (a0 : FVec Ideal S1024x1024 .f32) (a1 : FVec Ideal S1024x3088 .f32)
    (r : Fin 512) (e : Fin 512) (R : Fin 1024) (hx : ∀ k, x (ix2 r k) = a0 (ix2 R k)) (hw : ∀ (k : Fin 1024) (e : Fin 512), w (ix2 k e) = packed a1 (ix2 k ⟨1024 + e.val, by omega⟩)) :
    k0_pay6 x w (ix2 r e) = Cert.Reference8Ideal.Proj.o a0 a1 (ix2 R e) := by
  rw [Cert.Reference8Ideal.Proj.o_at]
  unfold k0_pay6 k0_pay3
  pointwise
  refine Finset.sum_congr rfl fun k _ => ?_
  rw [hx, hw, packed_o]

/-- What the body stores at a point is the reference at the block's place. -/
theorem point_o (c : Dev nD) (t : Fin cfg0.N) (y : S512x512.Idx) : k0_pay6 (iblk m c 0 t) (View.ld (iblk m c 1 t) r0_4) y
    = Cert.Reference8Ideal.Proj.o (m ((c : Thread nD τ).loc main_arg0)) (m ((c : Thread nD τ).loc main_arg1)) (((cfg0.win 4).blk t).view.emb y) := by
  obtain ⟨r, e, rfl⟩ : ∃ (r : Fin 512) (e : Fin 512), y = ix2 r e := ⟨y 0, y 1, by blk_ext⟩
  have hN := N_0
  have ht : t.val < 2 := lt_of_lt_of_eq t.isLt hN
  refine Eq.trans (block_o _ _ (m ((c : Thread nD τ).loc main_arg0)) (m ((c : Thread nD τ).loc main_arg1)) r e ⟨512 * t.val + r.val, by omega⟩ ?_ ?_) ?_
  · intro k; blk_ext [iblk, V, idx t]
  · intro k e
    refine Eq.trans ?_ (w_blk m c t k ⟨1024 + e.val, by omega⟩)
    refine congrArg (show Vec Ideal S1024x3200 .bf16 from iblk m c 1 t) (?_ : r0_4.idx (ix2 k e) = _)
    funext a
    match a with
    | ⟨0, _⟩ => exact Fin.ext (by show 0 + 1 * k.val = k.val; omega)
    | ⟨1, _⟩ => exact Fin.ext (by show 1024 + 1 * e.val = 1024 + e.val; omega)
  · blk_ext [idx t]

/-- The kernel's final array. -/
theorem final_o (c : Dev nD) : (dats m 0 c).arrAt 4 (cfgs 0).N
    = Cert.Reference8Ideal.Proj.o (m ((c : Thread nD τ).loc main_arg0)) (m ((c : Thread nD τ).loc main_arg1)) := by
  refine (dats m 0 c).arrAt_eq_of_covers 4 _ (by decide +kernel) fun t _ y => ?_
  blk_simp
  rw [after0_4]
  frame_out
  exact point_o m c t y

set_option maxHeartbeats 1600000 in
/-- The packed columns from 1536 are the weight's from 1552. -/
theorem packed_qd (w : FVec Ideal S1024x3088 .f32) (k : Fin 1024) (e : Fin 512) :
    packed w (ix2 k ⟨1536 + e.val, by omega⟩) = w (ix2 k ⟨1552 + e.val, by omega⟩) := by
  unfold packed
  pointwise
  refine (dif_neg (by omega)).trans ?_
  refine (dif_neg (by omega)).trans ?_
  refine (dif_neg (by omega)).trans ?_
  refine (dif_neg (by omega)).trans ?_
  exact (dif_pos (by omega)).trans (congrArg w (by blk_ext))

/-- The stored block is the reference's block when its inputs are the reference's rows and the packed weight. -/
theorem block_qd (x : Vec Ideal S512x1024 .f32) (w : Vec Ideal S1024x512 .bf16) (a0 : FVec Ideal S1024x1024 .f32) (a1 : FVec Ideal S1024x3088 .f32)
    (r : Fin 512) (e : Fin 512) (R : Fin 1024) (hx : ∀ k, x (ix2 r k) = a0 (ix2 R k)) (hw : ∀ (k : Fin 1024) (e : Fin 512), w (ix2 k e) = packed a1 (ix2 k ⟨1536 + e.val, by omega⟩)) :
    k0_pay7 x w (ix2 r e) = Cert.Reference8Ideal.Proj.qd a0 a1 (ix2 R e) := by
  rw [Cert.Reference8Ideal.Proj.qd_at]
  unfold k0_pay7 k0_pay3
  pointwise
  refine Finset.sum_congr rfl fun k _ => ?_
  rw [hx, hw, packed_qd]

/-- What the body stores at a point is the reference at the block's place. -/
theorem point_qd (c : Dev nD) (t : Fin cfg0.N) (y : S512x512.Idx) : k0_pay7 (iblk m c 0 t) (View.ld (iblk m c 1 t) r0_5) y
    = Cert.Reference8Ideal.Proj.qd (m ((c : Thread nD τ).loc main_arg0)) (m ((c : Thread nD τ).loc main_arg1)) (((cfg0.win 5).blk t).view.emb y) := by
  obtain ⟨r, e, rfl⟩ : ∃ (r : Fin 512) (e : Fin 512), y = ix2 r e := ⟨y 0, y 1, by blk_ext⟩
  have hN := N_0
  have ht : t.val < 2 := lt_of_lt_of_eq t.isLt hN
  refine Eq.trans (block_qd _ _ (m ((c : Thread nD τ).loc main_arg0)) (m ((c : Thread nD τ).loc main_arg1)) r e ⟨512 * t.val + r.val, by omega⟩ ?_ ?_) ?_
  · intro k; blk_ext [iblk, V, idx t]
  · intro k e
    refine Eq.trans ?_ (w_blk m c t k ⟨1536 + e.val, by omega⟩)
    refine congrArg (show Vec Ideal S1024x3200 .bf16 from iblk m c 1 t) (?_ : r0_5.idx (ix2 k e) = _)
    funext a
    match a with
    | ⟨0, _⟩ => exact Fin.ext (by show 0 + 1 * k.val = k.val; omega)
    | ⟨1, _⟩ => exact Fin.ext (by show 1536 + 1 * e.val = 1536 + e.val; omega)
  · blk_ext [idx t]

/-- The kernel's final array. -/
theorem final_qd (c : Dev nD) : (dats m 0 c).arrAt 5 (cfgs 0).N
    = Cert.Reference8Ideal.Proj.qd (m ((c : Thread nD τ).loc main_arg0)) (m ((c : Thread nD τ).loc main_arg1)) := by
  refine (dats m 0 c).arrAt_eq_of_covers 5 _ (by decide +kernel) fun t _ y => ?_
  blk_simp
  rw [after0_5]
  frame_out
  exact point_qd m c t y

set_option maxHeartbeats 1600000 in
/-- The packed columns from 2048 are the weight's from 2064. -/
theorem packed_kd (w : FVec Ideal S1024x3088 .f32) (k : Fin 1024) (e : Fin 512) :
    packed w (ix2 k ⟨2048 + e.val, by omega⟩) = w (ix2 k ⟨2064 + e.val, by omega⟩) := by
  unfold packed
  pointwise
  refine (dif_neg (by omega)).trans ?_
  refine (dif_neg (by omega)).trans ?_
  refine (dif_neg (by omega)).trans ?_
  refine (dif_neg (by omega)).trans ?_
  refine (dif_neg (by omega)).trans ?_
  exact (dif_pos (by omega)).trans (congrArg w (by blk_ext))

/-- The stored block is the reference's block when its inputs are the reference's rows and the packed weight. -/
theorem block_kd (x : Vec Ideal S512x1024 .f32) (w : Vec Ideal S1024x512 .bf16) (a0 : FVec Ideal S1024x1024 .f32) (a1 : FVec Ideal S1024x3088 .f32)
    (r : Fin 512) (e : Fin 512) (R : Fin 1024) (hx : ∀ k, x (ix2 r k) = a0 (ix2 R k)) (hw : ∀ (k : Fin 1024) (e : Fin 512), w (ix2 k e) = packed a1 (ix2 k ⟨2048 + e.val, by omega⟩)) :
    k0_pay8 x w (ix2 r e) = Cert.Reference8Ideal.Proj.kd a0 a1 (ix2 R e) := by
  rw [Cert.Reference8Ideal.Proj.kd_at]
  unfold k0_pay8 k0_pay3
  pointwise
  refine Finset.sum_congr rfl fun k _ => ?_
  rw [hx, hw, packed_kd]

/-- What the body stores at a point is the reference at the block's place. -/
theorem point_kd (c : Dev nD) (t : Fin cfg0.N) (y : S512x512.Idx) : k0_pay8 (iblk m c 0 t) (View.ld (iblk m c 1 t) r0_6) y
    = Cert.Reference8Ideal.Proj.kd (m ((c : Thread nD τ).loc main_arg0)) (m ((c : Thread nD τ).loc main_arg1)) (((cfg0.win 6).blk t).view.emb y) := by
  obtain ⟨r, e, rfl⟩ : ∃ (r : Fin 512) (e : Fin 512), y = ix2 r e := ⟨y 0, y 1, by blk_ext⟩
  have hN := N_0
  have ht : t.val < 2 := lt_of_lt_of_eq t.isLt hN
  refine Eq.trans (block_kd _ _ (m ((c : Thread nD τ).loc main_arg0)) (m ((c : Thread nD τ).loc main_arg1)) r e ⟨512 * t.val + r.val, by omega⟩ ?_ ?_) ?_
  · intro k; blk_ext [iblk, V, idx t]
  · intro k e
    refine Eq.trans ?_ (w_blk m c t k ⟨2048 + e.val, by omega⟩)
    refine congrArg (show Vec Ideal S1024x3200 .bf16 from iblk m c 1 t) (?_ : r0_6.idx (ix2 k e) = _)
    funext a
    match a with
    | ⟨0, _⟩ => exact Fin.ext (by show 0 + 1 * k.val = k.val; omega)
    | ⟨1, _⟩ => exact Fin.ext (by show 2048 + 1 * e.val = 2048 + e.val; omega)
  · blk_ext [idx t]

/-- The kernel's final array. -/
theorem final_kd (c : Dev nD) : (dats m 0 c).arrAt 6 (cfgs 0).N
    = Cert.Reference8Ideal.Proj.kd (m ((c : Thread nD τ).loc main_arg0)) (m ((c : Thread nD τ).loc main_arg1)) := by
  refine (dats m 0 c).arrAt_eq_of_covers 6 _ (by decide +kernel) fun t _ y => ?_
  blk_simp
  rw [after0_6]
  frame_out
  exact point_kd m c t y

set_option maxHeartbeats 1600000 in
/-- The packed columns from 2560 are the weight's from 2576. -/
theorem packed_vd (w : FVec Ideal S1024x3088 .f32) (k : Fin 1024) (e : Fin 512) :
    packed w (ix2 k ⟨2560 + e.val, by omega⟩) = w (ix2 k ⟨2576 + e.val, by omega⟩) := by
  unfold packed
  pointwise
  refine (dif_neg (by omega)).trans ?_
  refine (dif_neg (by omega)).trans ?_
  refine (dif_neg (by omega)).trans ?_
  refine (dif_neg (by omega)).trans ?_
  refine (dif_neg (by omega)).trans ?_
  refine (dif_neg (by omega)).trans ?_
  exact (dif_pos (by omega)).trans (congrArg w (by blk_ext))

/-- The stored block is the reference's block when its inputs are the reference's rows and the packed weight. -/
theorem block_vd (x : Vec Ideal S512x1024 .f32) (w : Vec Ideal S1024x512 .bf16) (a0 : FVec Ideal S1024x1024 .f32) (a1 : FVec Ideal S1024x3088 .f32)
    (r : Fin 512) (e : Fin 512) (R : Fin 1024) (hx : ∀ k, x (ix2 r k) = a0 (ix2 R k)) (hw : ∀ (k : Fin 1024) (e : Fin 512), w (ix2 k e) = packed a1 (ix2 k ⟨2560 + e.val, by omega⟩)) :
    k0_pay1 (k0_pay3 x) (k0_pay9 w) (constant S512x512 .f32 0x00000000#32) (ix2 r e) = Cert.Reference8Ideal.Proj.vd a0 a1 (ix2 R e) := by
  rw [Cert.Reference8Ideal.Proj.vd_at]
  unfold k0_pay1 k0_pay3 k0_pay9
  pointwise
  refine Finset.sum_congr rfl fun k _ => ?_
  rw [hx, hw, packed_vd]

/-- What the body stores at a point is the reference at the block's place. -/
theorem point_vd (c : Dev nD) (t : Fin cfg0.N) (y : S512x512.Idx) : k0_pay1 (k0_pay3 (iblk m c 0 t)) (k0_pay9 (View.ld (iblk m c 1 t) r0_7)) (constant S512x512 .f32 0x00000000#32) y
    = Cert.Reference8Ideal.Proj.vd (m ((c : Thread nD τ).loc main_arg0)) (m ((c : Thread nD τ).loc main_arg1)) (((cfg0.win 7).blk t).view.emb y) := by
  obtain ⟨r, e, rfl⟩ : ∃ (r : Fin 512) (e : Fin 512), y = ix2 r e := ⟨y 0, y 1, by blk_ext⟩
  have hN := N_0
  have ht : t.val < 2 := lt_of_lt_of_eq t.isLt hN
  refine Eq.trans (block_vd _ _ (m ((c : Thread nD τ).loc main_arg0)) (m ((c : Thread nD τ).loc main_arg1)) r e ⟨512 * t.val + r.val, by omega⟩ ?_ ?_) ?_
  · intro k; blk_ext [iblk, V, idx t]
  · intro k e
    refine Eq.trans ?_ (w_blk m c t k ⟨2560 + e.val, by omega⟩)
    refine congrArg (show Vec Ideal S1024x3200 .bf16 from iblk m c 1 t) (?_ : r0_7.idx (ix2 k e) = _)
    funext a
    match a with
    | ⟨0, _⟩ => exact Fin.ext (by show 0 + 1 * k.val = k.val; omega)
    | ⟨1, _⟩ => exact Fin.ext (by show 2560 + 1 * e.val = 2560 + e.val; omega)
  · blk_ext [idx t]

/-- The kernel's final array. -/
theorem final_vd (c : Dev nD) : (dats m 0 c).arrAt 7 (cfgs 0).N
    = Cert.Reference8Ideal.Proj.vd (m ((c : Thread nD τ).loc main_arg0)) (m ((c : Thread nD τ).loc main_arg1)) := by
  refine (dats m 0 c).arrAt_eq_of_covers 7 _ (by decide +kernel) fun t _ y => ?_
  blk_simp
  rw [after0_7]
  frame_out
  rw [pay10_eq]
  exact point_vd m c t y

set_option maxHeartbeats 1600000 in
/-- The packed columns from 3072 are the weight's narrow columns, the rest zeros. -/
theorem packed_misc (w : FVec Ideal S1024x3088 .f32) (k : Fin 1024) (e : Fin 128) :
    packed w (ix2 k ⟨3072 + e.val, by omega⟩) = Cert.Reference8Ideal.Proj.miscW (fun q => w (ix2 k q)) e := by
  unfold packed
  pointwise
  refine (dif_neg (by omega)).trans ?_
  refine (dif_neg (by omega)).trans ?_
  refine (dif_neg (by omega)).trans ?_
  refine (dif_neg (by omega)).trans ?_
  refine (dif_neg (by omega)).trans ?_
  refine (dif_neg (by omega)).trans ?_
  refine (dif_neg (by omega)).trans ?_
  by_cases h1 : e.val < 8
  · exact ((dif_pos (by omega)).trans (congrArg w (by blk_ext))).trans (Eq.symm (dif_pos h1))
  refine (dif_neg (by omega)).trans ?_
  by_cases h2 : e.val < 16
  · exact ((dif_pos (by omega)).trans (congrArg w (by blk_ext))).trans (Eq.symm ((dif_neg h1).trans (dif_pos h2)))
  refine (dif_neg (by omega)).trans ?_
  exact Eq.symm ((dif_neg h1).trans ((dif_neg h2).trans (rfl)))

/-- The stored block is the reference's block when its inputs are the reference's rows and the packed weight. -/
theorem block_misc (x : Vec Ideal S512x1024 .f32) (w : Vec Ideal S1024x128 .bf16) (a0 : FVec Ideal S1024x1024 .f32) (a1 : FVec Ideal S1024x3088 .f32)
    (r : Fin 512) (e : Fin 128) (R : Fin 1024) (hx : ∀ k, x (ix2 r k) = a0 (ix2 R k)) (hw : ∀ (k : Fin 1024) (e : Fin 128), w (ix2 k e) = packed a1 (ix2 k ⟨3072 + e.val, by omega⟩)) :
    k0_pay2 (k0_pay3 x) w (ix2 r e) = Cert.Reference8Ideal.Proj.misc a0 a1 (ix2 R e) := by
  rw [Cert.Reference8Ideal.Proj.misc_at]
  unfold k0_pay2 k0_pay3
  pointwise
  refine Finset.sum_congr rfl fun k _ => ?_
  rw [hx, hw, packed_misc]

/-- What the body stores at a point is the reference at the block's place. -/
theorem point_misc (c : Dev nD) (t : Fin cfg0.N) (y : S512x128.Idx) : k0_pay2 (k0_pay3 (iblk m c 0 t)) (View.ld (iblk m c 1 t) r0_8) y
    = Cert.Reference8Ideal.Proj.misc (m ((c : Thread nD τ).loc main_arg0)) (m ((c : Thread nD τ).loc main_arg1)) (((cfg0.win 8).blk t).view.emb y) := by
  obtain ⟨r, e, rfl⟩ : ∃ (r : Fin 512) (e : Fin 128), y = ix2 r e := ⟨y 0, y 1, by blk_ext⟩
  have hN := N_0
  have ht : t.val < 2 := lt_of_lt_of_eq t.isLt hN
  refine Eq.trans (block_misc _ _ (m ((c : Thread nD τ).loc main_arg0)) (m ((c : Thread nD τ).loc main_arg1)) r e ⟨512 * t.val + r.val, by omega⟩ ?_ ?_) ?_
  · intro k; blk_ext [iblk, V, idx t]
  · intro k e
    refine Eq.trans ?_ (w_blk m c t k ⟨3072 + e.val, by omega⟩)
    refine congrArg (show Vec Ideal S1024x3200 .bf16 from iblk m c 1 t) (?_ : r0_8.idx (ix2 k e) = _)
    funext a
    match a with
    | ⟨0, _⟩ => exact Fin.ext (by show 0 + 1 * k.val = k.val; omega)
    | ⟨1, _⟩ => exact Fin.ext (by show 3072 + 1 * e.val = 3072 + e.val; omega)
  · blk_ext [idx t]

/-- The kernel's final array. -/
theorem final_misc (c : Dev nD) : (dats m 0 c).arrAt 8 (cfgs 0).N
    = Cert.Reference8Ideal.Proj.misc (m ((c : Thread nD τ).loc main_arg0)) (m ((c : Thread nD τ).loc main_arg1)) := by
  refine (dats m 0 c).arrAt_eq_of_covers 8 _ (by decide +kernel) fun t _ y => ?_
  blk_simp
  rw [after0_8]
  frame_out
  rw [pay10_eq]
  exact point_misc m c t y

end Cert.Kernel8Ideal.Proj
-- ==== Proof.ProjEvenSample.lean ====
/- The even layers' input projection for the sample: the arrays the kernel leaves are the reference's columns of the product. -/
module

public import proofs.«01_k».proof.Proof.Gen.Kernel9Ideal.Value
public import proofs.«01_k».proof.Proof.Gen.Reference9Ideal.Run
public import Idealize.ShloMosaic.Lib.Pointwise
public import Idealize.ShloMosaic.Lib.Pipeline.ValueKit

@[expose] public section
set_option maxRecDepth 16384
noncomputable section
namespace Cert.Reference9Ideal.Proj
open Idealize.ShloMosaic Idealize.ShloMosaic.TcCoe Idealize.SL.Sem
open Cert.Reference9Ideal Cert.Reference9Ideal.Gen

/-- The reference's columns from 0, 512 wide. -/
def qa (a0 : FVec Ideal S1024x1024 .f32) (a1 : FVec Ideal S1024x4184 .f32) : FVec Ideal S1024x512 .f32 :=
  extractStridedSlice S1024x512 ![0, 0] (Host.dotGeneral dot_S1024x1024_S1024x4184_S1024x4184_1_0_0_1_n_n none a0 a1) slices_S1024x4184_S1024x512_0_0

/-- Those columns, element by element. -/
theorem qa_at (a0 : FVec Ideal S1024x1024 .f32) (a1 : FVec Ideal S1024x4184 .f32) (r : Fin 1024) (e : Fin 512) :
    qa a0 a1 (ix2 r e) = ∑ k : Fin 1024, a0 (ix2 r k) * a1 (ix2 k ⟨e.val, by omega⟩) := by
  unfold qa
  pointwise

/-- The reference's columns from 512, 512 wide. -/
def ka (a0 : FVec Ideal S1024x1024 .f32) (a1 : FVec Ideal S1024x4184 .f32) : FVec Ideal S1024x512 .f32 :=
  extractStridedSlice S1024x512 ![0, 512] (Host.dotGeneral dot_S1024x1024_S1024x4184_S1024x4184_1_0_0_1_n_n none a0 a1) slices_S1024x4184_S1024x512_0_512

/-- Those columns, element by element. -/
theorem ka_at (a0 : FVec Ideal S1024x1024 .f32) (a1 : FVec Ideal S1024x4184 .f32) (r : Fin 1024) (e : Fin 512) :
    ka a0 a1 (ix2 r e) = ∑ k : Fin 1024, a0 (ix2 r k) * a1 (ix2 k ⟨512 + e.val, by omega⟩) := by
  unfold ka
  pointwise

/-- The reference's columns from 1024, 512 wide. -/
def va (a0 : FVec Ideal S1024x1024 .f32) (a1 : FVec Ideal S1024x4184 .f32) : FVec Ideal S1024x512 .f32 :=
  extractStridedSlice S1024x512 ![0, 1024] (Host.dotGeneral dot_S1024x1024_S1024x4184_S1024x4184_1_0_0_1_n_n none a0 a1) slices_S1024x4184_S1024x512_0_1024

/-- Those columns, element by element. -/
theorem va_at (a0 : FVec Ideal S1024x1024 .f32) (a1 : FVec Ideal S1024x4184 .f32) (r : Fin 1024) (e : Fin 512) :
    va a0 a1 (ix2 r e) = ∑ k : Fin 1024, a0 (ix2 r k) * a1 (ix2 k ⟨1024 + e.val, by omega⟩) := by
  unfold va
  pointwise

/-- The reference's columns from 1536, 512 wide. -/
def qi (a0 : FVec Ideal S1024x1024 .f32) (a1 : FVec Ideal S1024x4184 .f32) : FVec Ideal S1024x512 .f32 :=
  extractStridedSlice S1024x512 ![0, 1536] (Host.dotGeneral dot_S1024x1024_S1024x4184_S1024x4184_1_0_0_1_n_n none a0 a1) slices_S1024x4184_S1024x512_0_1536

/-- Those columns, element by element. -/
theorem qi_at (a0 : FVec Ideal S1024x1024 .f32) (a1 : FVec Ideal S1024x4184 .f32) (r : Fin 1024) (e : Fin 512) :
    qi a0 a1 (ix2 r e) = ∑ k : Fin 1024, a0 (ix2 r k) * a1 (ix2 k ⟨1536 + e.val, by omega⟩) := by
  unfold qi
  pointwise

/-- The reference's columns from 2120, 1536 wide. -/
def qkv (a0 : FVec Ideal S1024x1024 .f32) (a1 : FVec Ideal S1024x4184 .f32) : FVec Ideal S1024x1536 .f32 :=
  extractStridedSlice S1024x1536 ![0, 2120] (Host.dotGeneral dot_S1024x1024_S1024x4184_S1024x4184_1_0_0_1_n_n none a0 a1) slices_S1024x4184_S1024x1536_0_2120

/-- Those columns, element by element. -/
theorem qkv_at (a0 : FVec Ideal S1024x1024 .f32) (a1 : FVec Ideal S1024x4184 .f32) (r : Fin 1024) (e : Fin 1536) :
    qkv a0 a1 (ix2 r e) = ∑ k : Fin 1024, a0 (ix2 r k) * a1 (ix2 k ⟨2120 + e.val, by omega⟩) := by
  unfold qkv
  pointwise

/-- The reference's columns from 3672, 512 wide. -/
def z (a0 : FVec Ideal S1024x1024 .f32) (a1 : FVec Ideal S1024x4184 .f32) : FVec Ideal S1024x512 .f32 :=
  extractStridedSlice S1024x512 ![0, 3672] (Host.dotGeneral dot_S1024x1024_S1024x4184_S1024x4184_1_0_0_1_n_n none a0 a1) slices_S1024x4184_S1024x512_0_3672

/-- Those columns, element by element. -/
theorem z_at (a0 : FVec Ideal S1024x1024 .f32) (a1 : FVec Ideal S1024x4184 .f32) (r : Fin 1024) (e : Fin 512) :
    z a0 a1 (ix2 r e) = ∑ k : Fin 1024, a0 (ix2 r k) * a1 (ix2 k ⟨3672 + e.val, by omega⟩) := by
  unfold z
  pointwise

/-- The reference's narrow columns side by side, the rest zeros. -/
def misc (a0 : FVec Ideal S1024x1024 .f32) (a1 : FVec Ideal S1024x4184 .f32) : FVec Ideal S1024x128 .f32 :=
  concatenate S1024x128 1 [⟨S1024x64, (extractStridedSlice S1024x64 ![0, 2048] (Host.dotGeneral dot_S1024x1024_S1024x4184_S1024x4184_1_0_0_1_n_n none a0 a1) slices_S1024x4184_S1024x64_0_2048)⟩, ⟨S1024x8, (extractStridedSlice S1024x8 ![0, 2112] (Host.dotGeneral dot_S1024x1024_S1024x4184_S1024x4184_1_0_0_1_n_n none a0 a1) slices_S1024x4184_S1024x8_0_2112)⟩, ⟨S1024x8, (extractStridedSlice S1024x8 ![0, 3656] (Host.dotGeneral dot_S1024x1024_S1024x4184_S1024x4184_1_0_0_1_n_n none a0 a1) slices_S1024x4184_S1024x8_0_3656)⟩, ⟨S1024x8, (extractStridedSlice S1024x8 ![0, 3664] (Host.dotGeneral dot_S1024x1024_S1024x4184_S1024x4184_1_0_0_1_n_n none a0 a1) slices_S1024x4184_S1024x8_0_3664)⟩, ⟨S1024x40, broadcastInDim S1024x40 ![] bcast_S_S1024x40 (constant S_ .f32 0x00000000#32)⟩] concatenates_S1024x64_S1024x8_S1024x8_S1024x8_S1024x40_S1024x128_d1

/-- The weight of a narrow column, zero where the column is padding. -/
def miscW (w : Fin 4184 → EReal) (e : Fin 128) : EReal :=
  if h : e.val < 64 then w ⟨2048 + (e.val - 0), by omega⟩ else if h : e.val < 72 then w ⟨2112 + (e.val - 64), by omega⟩ else if h : e.val < 80 then w ⟨3656 + (e.val - 72), by omega⟩ else if h : e.val < 88 then w ⟨3664 + (e.val - 80), by omega⟩ else 0

set_option maxHeartbeats 1600000 in
/-- The narrow columns, element by element. -/
theorem misc_at (a0 : FVec Ideal S1024x1024 .f32) (a1 : FVec Ideal S1024x4184 .f32) (r : Fin 1024) (e : Fin 128) :
    misc a0 a1 (ix2 r e) = ∑ k : Fin 1024, a0 (ix2 r k) * miscW (fun q => a1 (ix2 k q)) e := by
  unfold misc
  pointwise
  by_cases h1 : e.val < 64
  · refine (dif_pos (by omega)).trans (Finset.sum_congr rfl fun k _ => congrArg _ ?_)
    exact Eq.trans (congrArg a1 (by blk_ext)) (Eq.symm (dif_pos h1))
  refine (dif_neg (by omega)).trans ?_
  by_cases h2 : e.val < 72
  · refine (dif_pos (by omega)).trans (Finset.sum_congr rfl fun k _ => congrArg _ ?_)
    exact Eq.trans (congrArg a1 (by blk_ext)) (Eq.symm ((dif_neg h1).trans (dif_pos h2)))
  refine (dif_neg (by omega)).trans ?_
  by_cases h3 : e.val < 80
  · refine (dif_pos (by omega)).trans (Finset.sum_congr rfl fun k _ => congrArg _ ?_)
    exact Eq.trans (congrArg a1 (by blk_ext)) (Eq.symm ((dif_neg h1).trans ((dif_neg h2).trans (dif_pos h3))))
  refine (dif_neg (by omega)).trans ?_
  by_cases h4 : e.val < 88
  · refine (dif_pos (by omega)).trans (Finset.sum_congr rfl fun k _ => congrArg _ ?_)
    exact Eq.trans (congrArg a1 (by blk_ext)) (Eq.symm ((dif_neg h1).trans ((dif_neg h2).trans ((dif_neg h3).trans (dif_pos h4)))))
  refine (dif_neg (by omega)).trans ?_
  refine Eq.symm (Finset.sum_eq_zero fun k _ => ?_)
  have h0 : miscW (fun q => a1 (ix2 k q)) e = 0 := (dif_neg h1).trans ((dif_neg h2).trans ((dif_neg h3).trans ((dif_neg h4).trans (rfl))))
  rw [h0, mul_zero]

end Cert.Reference9Ideal.Proj

namespace Cert.Kernel9Ideal.Proj
open Idealize.ShloMosaic Idealize.ShloMosaic.TcCoe Idealize.SL.Sem
open Idealize.ShloMosaic.Pipeline (Dat)
open Cert.Kernel9Ideal.Gen

variable (m : (ℓ : Loc nD τ sig) → Buf (Elt Ideal) ℓ)

/-- The windows' blocks: the rows go with the grid point, the weight stays. -/
theorem idx : ∀ t : Fin cfg0.N, win0_1.index t = ![0, 0] ∧ win0_0.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] ∧ win0_8.index t = ![t.val, 0] :=
  (by decide +kernel : ∀ t : Fin grid0.N, _)

/-- The rows the last two products share are the block, its format narrowed. -/
theorem pay10_eq (x0 : Vec Ideal S512x1024 .f32) (x1 : Vec Ideal S1024x4224 .bf16) : k0_pay10 x0 x1 = k0_pay3 x0 := by
  unfold k0_pay10
  refine congrArg k0_pay3 (funext fun z => congrArg x0 (?_ : r0_0.idx z = z))
  funext a
  match a with
  | ⟨0, _⟩ => exact Fin.ext (by show 0 + 1 * (z 0).val = (z 0).val; omega)
  | ⟨1, _⟩ => exact Fin.ext (by show 0 + 1 * (z 1).val = (z 1).val; omega)

/-- The weight's columns as the call packs them. -/
def packed (w : FVec Ideal S1024x4184 .f32) : FVec Ideal S1024x4224 .f32 :=
  concatenate S1024x4224 1 [⟨S1024x512, extractStridedSlice S1024x512 ![0, 0] w slices_S1024x4184_S1024x512_0_0⟩, ⟨S1024x512, extractStridedSlice S1024x512 ![0, 512] w slices_S1024x4184_S1024x512_0_512⟩, ⟨S1024x512, extractStridedSlice S1024x512 ![0, 1024] w slices_S1024x4184_S1024x512_0_1024⟩, ⟨S1024x512, extractStridedSlice S1024x512 ![0, 1536] w slices_S1024x4184_S1024x512_0_1536⟩, ⟨S1024x1536, extractStridedSlice S1024x1536 ![0, 2120] w slices_S1024x4184_S1024x1536_0_2120⟩, ⟨S1024x512, extractStridedSlice S1024x512 ![0, 3672] w slices_S1024x4184_S1024x512_0_3672⟩, ⟨S1024x64, extractStridedSlice S1024x64 ![0, 2048] w slices_S1024x4184_S1024x64_0_2048⟩, ⟨S1024x8, extractStridedSlice S1024x8 ![0, 2112] w slices_S1024x4184_S1024x8_0_2112⟩, ⟨S1024x8, extractStridedSlice S1024x8 ![0, 3656] w slices_S1024x4184_S1024x8_0_3656⟩, ⟨S1024x8, extractStridedSlice S1024x8 ![0, 3664] w slices_S1024x4184_S1024x8_0_3664⟩,
    ⟨S1024x40, broadcastInDim S1024x40 ![] bcast_S_S1024x40 (constant S_ .f32 0x00000000#32)⟩]
    concatenates_S1024x512_S1024x512_S1024x512_S1024x512_S1024x1536_S1024x512_S1024x64_S1024x8_S1024x8_S1024x8_S1024x40_S1024x4224_d1

set_option maxHeartbeats 1600000 in
/-- The call finds its weight packed. -/
theorem V_packed (c : Dev nD) : V m c main_v12 = truncf .bf16 (packed (m ((c : Thread nD τ).loc main_arg1))) bitsLt_bf16_f32 := by
  unfold V hostOps0
  after_results
  rfl

/-- The weight's block is the packed weight. -/
theorem w_blk (c : Dev nD) (t : Fin cfg0.N) (k : Fin 1024) (q : Fin 4224) :
    (show Vec Ideal S1024x4224 .bf16 from iblk m c 1 t) (ix2 k q) = packed (m ((c : Thread nD τ).loc main_arg1)) (ix2 k q) := by
  blk_simp [iblk]
  rw [V_packed]
  refine congrArg (packed (m ((c : Thread nD τ).loc main_arg1))) ?_
  blk_ext [idx t]

set_option maxHeartbeats 1600000 in
/-- The packed columns from 0 are the weight's from 0. -/
theorem packed_qa (w : FVec Ideal S1024x4184 .f32) (k : Fin 1024) (e : Fin 512) :
    packed w (ix2 k ⟨e.val, by omega⟩) = w (ix2 k ⟨e.val, by omega⟩) := by
  unfold packed
  pointwise

/-- The stored block is the reference's block when its inputs are the reference's rows and the packed weight. -/
theorem block_qa (x : Vec Ideal S512x1024 .f32) (w : Vec Ideal S1024x512 .bf16) (a0 : FVec Ideal S1024x1024 .f32) (a1 : FVec Ideal S1024x4184 .f32)
    (r : Fin 512) (e : Fin 512) (R : Fin 1024) (hx : ∀ k, x (ix2 r k) = a0 (ix2 R k)) (hw : ∀ (k : Fin 1024) (e : Fin 512), w (ix2 k e) = packed a1 (ix2 k ⟨e.val, by omega⟩)) :
    k0_pay4 x w (ix2 r e) = Cert.Reference9Ideal.Proj.qa a0 a1 (ix2 R e) := by
  rw [Cert.Reference9Ideal.Proj.qa_at]
  unfold k0_pay4 k0_pay3
  pointwise
  refine Finset.sum_congr rfl fun k _ => ?_
  rw [hx, hw, packed_qa]

/-- What the body stores at a point is the reference at the block's place. -/
theorem point_qa (c : Dev nD) (t : Fin cfg0.N) (y : S512x512.Idx) : k0_pay4 (iblk m c 0 t) (View.ld (iblk m c 1 t) r0_1) y
    = Cert.Reference9Ideal.Proj.qa (m ((c : Thread nD τ).loc main_arg0)) (m ((c : Thread nD τ).loc main_arg1)) (((cfg0.win 2).blk t).view.emb y) := by
  obtain ⟨r, e, rfl⟩ : ∃ (r : Fin 512) (e : Fin 512), y = ix2 r e := ⟨y 0, y 1, by blk_ext⟩
  have hN := N_0
  have ht : t.val < 2 := lt_of_lt_of_eq t.isLt hN
  refine Eq.trans (block_qa _ _ (m ((c : Thread nD τ).loc main_arg0)) (m ((c : Thread nD τ).loc main_arg1)) r e ⟨512 * t.val + r.val, by omega⟩ ?_ ?_) ?_
  · intro k; blk_ext [iblk, V, idx t]
  · intro k e
    refine Eq.trans ?_ (w_blk m c t k ⟨e.val, by omega⟩)
    refine congrArg (show Vec Ideal S1024x4224 .bf16 from iblk m c 1 t) (?_ : r0_1.idx (ix2 k e) = _)
    funext a
    match a with
    | ⟨0, _⟩ => exact Fin.ext (by show 0 + 1 * k.val = k.val; omega)
    | ⟨1, _⟩ => exact Fin.ext (by show 0 + 1 * e.val = e.val; omega)
  · blk_ext [idx t]

/-- The kernel's final array. -/
theorem final_qa (c : Dev nD) : (dats m 0 c).arrAt 2 (cfgs 0).N
    = Cert.Reference9Ideal.Proj.qa (m ((c : Thread nD τ).loc main_arg0)) (m ((c : Thread nD τ).loc main_arg1)) := by
  refine (dats m 0 c).arrAt_eq_of_covers 2 _ (by decide +kernel) fun t _ y => ?_
  blk_simp
  rw [after0_2]
  frame_out
  exact point_qa m c t y

set_option maxHeartbeats 1600000 in
/-- The packed columns from 512 are the weight's from 512. -/
theorem packed_ka (w : FVec Ideal S1024x4184 .f32) (k : Fin 1024) (e : Fin 512) :
    packed w (ix2 k ⟨512 + e.val, by omega⟩) = w (ix2 k ⟨512 + e.val, by omega⟩) := by
  unfold packed
  pointwise

/-- The stored block is the reference's block when its inputs are the reference's rows and the packed weight. -/
theorem block_ka (x : Vec Ideal S512x1024 .f32) (w : Vec Ideal S1024x512 .bf16) (a0 : FVec Ideal S1024x1024 .f32) (a1 : FVec Ideal S1024x4184 .f32)
    (r : Fin 512) (e : Fin 512) (R : Fin 1024) (hx : ∀ k, x (ix2 r k) = a0 (ix2 R k)) (hw : ∀ (k : Fin 1024) (e : Fin 512), w (ix2 k e) = packed a1 (ix2 k ⟨512 + e.val, by omega⟩)) :
    k0_pay5 x w (ix2 r e) = Cert.Reference9Ideal.Proj.ka a0 a1 (ix2 R e) := by
  rw [Cert.Reference9Ideal.Proj.ka_at]
  unfold k0_pay5 k0_pay3
  pointwise
  refine Finset.sum_congr rfl fun k _ => ?_
  rw [hx, hw, packed_ka]

/-- What the body stores at a point is the reference at the block's place. -/
theorem point_ka (c : Dev nD) (t : Fin cfg0.N) (y : S512x512.Idx) : k0_pay5 (iblk m c 0 t) (View.ld (iblk m c 1 t) r0_3) y
    = Cert.Reference9Ideal.Proj.ka (m ((c : Thread nD τ).loc main_arg0)) (m ((c : Thread nD τ).loc main_arg1)) (((cfg0.win 3).blk t).view.emb y) := by
  obtain ⟨r, e, rfl⟩ : ∃ (r : Fin 512) (e : Fin 512), y = ix2 r e := ⟨y 0, y 1, by blk_ext⟩
  have hN := N_0
  have ht : t.val < 2 := lt_of_lt_of_eq t.isLt hN
  refine Eq.trans (block_ka _ _ (m ((c : Thread nD τ).loc main_arg0)) (m ((c : Thread nD τ).loc main_arg1)) r e ⟨512 * t.val + r.val, by omega⟩ ?_ ?_) ?_
  · intro k; blk_ext [iblk, V, idx t]
  · intro k e
    refine Eq.trans ?_ (w_blk m c t k ⟨512 + e.val, by omega⟩)
    refine congrArg (show Vec Ideal S1024x4224 .bf16 from iblk m c 1 t) (?_ : r0_3.idx (ix2 k e) = _)
    funext a
    match a with
    | ⟨0, _⟩ => exact Fin.ext (by show 0 + 1 * k.val = k.val; omega)
    | ⟨1, _⟩ => exact Fin.ext (by show 512 + 1 * e.val = 512 + e.val; omega)
  · blk_ext [idx t]

/-- The kernel's final array. -/
theorem final_ka (c : Dev nD) : (dats m 0 c).arrAt 3 (cfgs 0).N
    = Cert.Reference9Ideal.Proj.ka (m ((c : Thread nD τ).loc main_arg0)) (m ((c : Thread nD τ).loc main_arg1)) := by
  refine (dats m 0 c).arrAt_eq_of_covers 3 _ (by decide +kernel) fun t _ y => ?_
  blk_simp
  rw [after0_3]
  frame_out
  exact point_ka m c t y

set_option maxHeartbeats 1600000 in
/-- The packed columns from 1024 are the weight's from 1024. -/
theorem packed_va (w : FVec Ideal S1024x4184 .f32) (k : Fin 1024) (e : Fin 512) :
    packed w (ix2 k ⟨1024 + e.val, by omega⟩) = w (ix2 k ⟨1024 + e.val, by omega⟩) := by
  unfold packed
  pointwise
  refine (dif_neg (by omega)).trans ?_
  refine (dif_neg (by omega)).trans ?_
  exact (dif_pos (by omega)).trans (congrArg w (by blk_ext))

/-- The stored block is the reference's block when its inputs are the reference's rows and the packed weight. -/
theorem block_va (x : Vec Ideal S512x1024 .f32) (w : Vec Ideal S1024x512 .bf16) (a0 : FVec Ideal S1024x1024 .f32) (a1 : FVec Ideal S1024x4184 .f32)
    (r : Fin 512) (e : Fin 512) (R : Fin 1024) (hx : ∀ k, x (ix2 r k) = a0 (ix2 R k)) (hw : ∀ (k : Fin 1024) (e : Fin 512), w (ix2 k e) = packed a1 (ix2 k ⟨1024 + e.val, by omega⟩)) :
    k0_pay6 x w (ix2 r e) = Cert.Reference9Ideal.Proj.va a0 a1 (ix2 R e) := by
  rw [Cert.Reference9Ideal.Proj.va_at]
  unfold k0_pay6 k0_pay3
  pointwise
  refine Finset.sum_congr rfl fun k _ => ?_
  rw [hx, hw, packed_va]

/-- What the body stores at a point is the reference at the block's place. -/
theorem point_va (c : Dev nD) (t : Fin cfg0.N) (y : S512x512.Idx) : k0_pay6 (iblk m c 0 t) (View.ld (iblk m c 1 t) r0_4) y
    = Cert.Reference9Ideal.Proj.va (m ((c : Thread nD τ).loc main_arg0)) (m ((c : Thread nD τ).loc main_arg1)) (((cfg0.win 4).blk t).view.emb y) := by
  obtain ⟨r, e, rfl⟩ : ∃ (r : Fin 512) (e : Fin 512), y = ix2 r e := ⟨y 0, y 1, by blk_ext⟩
  have hN := N_0
  have ht : t.val < 2 := lt_of_lt_of_eq t.isLt hN
  refine Eq.trans (block_va _ _ (m ((c : Thread nD τ).loc main_arg0)) (m ((c : Thread nD τ).loc main_arg1)) r e ⟨512 * t.val + r.val, by omega⟩ ?_ ?_) ?_
  · intro k; blk_ext [iblk, V, idx t]
  · intro k e
    refine Eq.trans ?_ (w_blk m c t k ⟨1024 + e.val, by omega⟩)
    refine congrArg (show Vec Ideal S1024x4224 .bf16 from iblk m c 1 t) (?_ : r0_4.idx (ix2 k e) = _)
    funext a
    match a with
    | ⟨0, _⟩ => exact Fin.ext (by show 0 + 1 * k.val = k.val; omega)
    | ⟨1, _⟩ => exact Fin.ext (by show 1024 + 1 * e.val = 1024 + e.val; omega)
  · blk_ext [idx t]

/-- The kernel's final array. -/
theorem final_va (c : Dev nD) : (dats m 0 c).arrAt 4 (cfgs 0).N
    = Cert.Reference9Ideal.Proj.va (m ((c : Thread nD τ).loc main_arg0)) (m ((c : Thread nD τ).loc main_arg1)) := by
  refine (dats m 0 c).arrAt_eq_of_covers 4 _ (by decide +kernel) fun t _ y => ?_
  blk_simp
  rw [after0_4]
  frame_out
  exact point_va m c t y

set_option maxHeartbeats 1600000 in
/-- The packed columns from 1536 are the weight's from 1536. -/
theorem packed_qi (w : FVec Ideal S1024x4184 .f32) (k : Fin 1024) (e : Fin 512) :
    packed w (ix2 k ⟨1536 + e.val, by omega⟩) = w (ix2 k ⟨1536 + e.val, by omega⟩) := by
  unfold packed
  pointwise
  refine (dif_neg (by omega)).trans ?_
  refine (dif_neg (by omega)).trans ?_
  refine (dif_neg (by omega)).trans ?_
  exact (dif_pos (by omega)).trans (congrArg w (by blk_ext))

/-- The stored block is the reference's block when its inputs are the reference's rows and the packed weight. -/
theorem block_qi (x : Vec Ideal S512x1024 .f32) (w : Vec Ideal S1024x512 .bf16) (a0 : FVec Ideal S1024x1024 .f32) (a1 : FVec Ideal S1024x4184 .f32)
    (r : Fin 512) (e : Fin 512) (R : Fin 1024) (hx : ∀ k, x (ix2 r k) = a0 (ix2 R k)) (hw : ∀ (k : Fin 1024) (e : Fin 512), w (ix2 k e) = packed a1 (ix2 k ⟨1536 + e.val, by omega⟩)) :
    k0_pay7 x w (ix2 r e) = Cert.Reference9Ideal.Proj.qi a0 a1 (ix2 R e) := by
  rw [Cert.Reference9Ideal.Proj.qi_at]
  unfold k0_pay7 k0_pay3
  pointwise
  refine Finset.sum_congr rfl fun k _ => ?_
  rw [hx, hw, packed_qi]

/-- What the body stores at a point is the reference at the block's place. -/
theorem point_qi (c : Dev nD) (t : Fin cfg0.N) (y : S512x512.Idx) : k0_pay7 (iblk m c 0 t) (View.ld (iblk m c 1 t) r0_5) y
    = Cert.Reference9Ideal.Proj.qi (m ((c : Thread nD τ).loc main_arg0)) (m ((c : Thread nD τ).loc main_arg1)) (((cfg0.win 5).blk t).view.emb y) := by
  obtain ⟨r, e, rfl⟩ : ∃ (r : Fin 512) (e : Fin 512), y = ix2 r e := ⟨y 0, y 1, by blk_ext⟩
  have hN := N_0
  have ht : t.val < 2 := lt_of_lt_of_eq t.isLt hN
  refine Eq.trans (block_qi _ _ (m ((c : Thread nD τ).loc main_arg0)) (m ((c : Thread nD τ).loc main_arg1)) r e ⟨512 * t.val + r.val, by omega⟩ ?_ ?_) ?_
  · intro k; blk_ext [iblk, V, idx t]
  · intro k e
    refine Eq.trans ?_ (w_blk m c t k ⟨1536 + e.val, by omega⟩)
    refine congrArg (show Vec Ideal S1024x4224 .bf16 from iblk m c 1 t) (?_ : r0_5.idx (ix2 k e) = _)
    funext a
    match a with
    | ⟨0, _⟩ => exact Fin.ext (by show 0 + 1 * k.val = k.val; omega)
    | ⟨1, _⟩ => exact Fin.ext (by show 1536 + 1 * e.val = 1536 + e.val; omega)
  · blk_ext [idx t]

/-- The kernel's final array. -/
theorem final_qi (c : Dev nD) : (dats m 0 c).arrAt 5 (cfgs 0).N
    = Cert.Reference9Ideal.Proj.qi (m ((c : Thread nD τ).loc main_arg0)) (m ((c : Thread nD τ).loc main_arg1)) := by
  refine (dats m 0 c).arrAt_eq_of_covers 5 _ (by decide +kernel) fun t _ y => ?_
  blk_simp
  rw [after0_5]
  frame_out
  exact point_qi m c t y

set_option maxHeartbeats 1600000 in
/-- The packed columns from 2048 are the weight's from 2120. -/
theorem packed_qkv (w : FVec Ideal S1024x4184 .f32) (k : Fin 1024) (e : Fin 1536) :
    packed w (ix2 k ⟨2048 + e.val, by omega⟩) = w (ix2 k ⟨2120 + e.val, by omega⟩) := by
  unfold packed
  pointwise
  refine (dif_neg (by omega)).trans ?_
  refine (dif_neg (by omega)).trans ?_
  refine (dif_neg (by omega)).trans ?_
  refine (dif_neg (by omega)).trans ?_
  exact (dif_pos (by omega)).trans (congrArg w (by blk_ext))

/-- The stored block is the reference's block when its inputs are the reference's rows and the packed weight. -/
theorem block_qkv (x : Vec Ideal S512x1024 .f32) (w : Vec Ideal S1024x1536 .bf16) (a0 : FVec Ideal S1024x1024 .f32) (a1 : FVec Ideal S1024x4184 .f32)
    (r : Fin 512) (e : Fin 1536) (R : Fin 1024) (hx : ∀ k, x (ix2 r k) = a0 (ix2 R k)) (hw : ∀ (k : Fin 1024) (e : Fin 1536), w (ix2 k e) = packed a1 (ix2 k ⟨2048 + e.val, by omega⟩)) :
    k0_pay8 x w (ix2 r e) = Cert.Reference9Ideal.Proj.qkv a0 a1 (ix2 R e) := by
  rw [Cert.Reference9Ideal.Proj.qkv_at]
  unfold k0_pay8 k0_pay3
  pointwise
  refine Finset.sum_congr rfl fun k _ => ?_
  rw [hx, hw, packed_qkv]

/-- What the body stores at a point is the reference at the block's place. -/
theorem point_qkv (c : Dev nD) (t : Fin cfg0.N) (y : S512x1536.Idx) : k0_pay8 (iblk m c 0 t) (View.ld (iblk m c 1 t) r0_6) y
    = Cert.Reference9Ideal.Proj.qkv (m ((c : Thread nD τ).loc main_arg0)) (m ((c : Thread nD τ).loc main_arg1)) (((cfg0.win 6).blk t).view.emb y) := by
  obtain ⟨r, e, rfl⟩ : ∃ (r : Fin 512) (e : Fin 1536), y = ix2 r e := ⟨y 0, y 1, by blk_ext⟩
  have hN := N_0
  have ht : t.val < 2 := lt_of_lt_of_eq t.isLt hN
  refine Eq.trans (block_qkv _ _ (m ((c : Thread nD τ).loc main_arg0)) (m ((c : Thread nD τ).loc main_arg1)) r e ⟨512 * t.val + r.val, by omega⟩ ?_ ?_) ?_
  · intro k; blk_ext [iblk, V, idx t]
  · intro k e
    refine Eq.trans ?_ (w_blk m c t k ⟨2048 + e.val, by omega⟩)
    refine congrArg (show Vec Ideal S1024x4224 .bf16 from iblk m c 1 t) (?_ : r0_6.idx (ix2 k e) = _)
    funext a
    match a with
    | ⟨0, _⟩ => exact Fin.ext (by show 0 + 1 * k.val = k.val; omega)
    | ⟨1, _⟩ => exact Fin.ext (by show 2048 + 1 * e.val = 2048 + e.val; omega)
  · blk_ext [idx t]

/-- The kernel's final array. -/
theorem final_qkv (c : Dev nD) : (dats m 0 c).arrAt 6 (cfgs 0).N
    = Cert.Reference9Ideal.Proj.qkv (m ((c : Thread nD τ).loc main_arg0)) (m ((c : Thread nD τ).loc main_arg1)) := by
  refine (dats m 0 c).arrAt_eq_of_covers 6 _ (by decide +kernel) fun t _ y => ?_
  blk_simp
  rw [after0_6]
  frame_out
  exact point_qkv m c t y

set_option maxHeartbeats 1600000 in
/-- The packed columns from 3584 are the weight's from 3672. -/
theorem packed_z (w : FVec Ideal S1024x4184 .f32) (k : Fin 1024) (e : Fin 512) :
    packed w (ix2 k ⟨3584 + e.val, by omega⟩) = w (ix2 k ⟨3672 + e.val, by omega⟩) := by
  unfold packed
  pointwise
  refine (dif_neg (by omega)).trans ?_
  refine (dif_neg (by omega)).trans ?_
  refine (dif_neg (by omega)).trans ?_
  refine (dif_neg (by omega)).trans ?_
  refine (dif_neg (by omega)).trans ?_
  exact (dif_pos (by omega)).trans (congrArg w (by blk_ext))

/-- The stored block is the reference's block when its inputs are the reference's rows and the packed weight. -/
theorem block_z (x : Vec Ideal S512x1024 .f32) (w : Vec Ideal S1024x512 .bf16) (a0 : FVec Ideal S1024x1024 .f32) (a1 : FVec Ideal S1024x4184 .f32)
    (r : Fin 512) (e : Fin 512) (R : Fin 1024) (hx : ∀ k, x (ix2 r k) = a0 (ix2 R k)) (hw : ∀ (k : Fin 1024) (e : Fin 512), w (ix2 k e) = packed a1 (ix2 k ⟨3584 + e.val, by omega⟩)) :
    k0_pay1 (k0_pay3 x) (k0_pay9 w) (constant S512x512 .f32 0x00000000#32) (ix2 r e) = Cert.Reference9Ideal.Proj.z a0 a1 (ix2 R e) := by
  rw [Cert.Reference9Ideal.Proj.z_at]
  unfold k0_pay1 k0_pay3 k0_pay9
  pointwise
  refine Finset.sum_congr rfl fun k _ => ?_
  rw [hx, hw, packed_z]

/-- What the body stores at a point is the reference at the block's place. -/
theorem point_z (c : Dev nD) (t : Fin cfg0.N) (y : S512x512.Idx) : k0_pay1 (k0_pay3 (iblk m c 0 t)) (k0_pay9 (View.ld (iblk m c 1 t) r0_8)) (constant S512x512 .f32 0x00000000#32) y
    = Cert.Reference9Ideal.Proj.z (m ((c : Thread nD τ).loc main_arg0)) (m ((c : Thread nD τ).loc main_arg1)) (((cfg0.win 7).blk t).view.emb y) := by
  obtain ⟨r, e, rfl⟩ : ∃ (r : Fin 512) (e : Fin 512), y = ix2 r e := ⟨y 0, y 1, by blk_ext⟩
  have hN := N_0
  have ht : t.val < 2 := lt_of_lt_of_eq t.isLt hN
  refine Eq.trans (block_z _ _ (m ((c : Thread nD τ).loc main_arg0)) (m ((c : Thread nD τ).loc main_arg1)) r e ⟨512 * t.val + r.val, by omega⟩ ?_ ?_) ?_
  · intro k; blk_ext [iblk, V, idx t]
  · intro k e
    refine Eq.trans ?_ (w_blk m c t k ⟨3584 + e.val, by omega⟩)
    refine congrArg (show Vec Ideal S1024x4224 .bf16 from iblk m c 1 t) (?_ : r0_8.idx (ix2 k e) = _)
    funext a
    match a with
    | ⟨0, _⟩ => exact Fin.ext (by show 0 + 1 * k.val = k.val; omega)
    | ⟨1, _⟩ => exact Fin.ext (by show 3584 + 1 * e.val = 3584 + e.val; omega)
  · blk_ext [idx t]

/-- The kernel's final array. -/
theorem final_z (c : Dev nD) : (dats m 0 c).arrAt 7 (cfgs 0).N
    = Cert.Reference9Ideal.Proj.z (m ((c : Thread nD τ).loc main_arg0)) (m ((c : Thread nD τ).loc main_arg1)) := by
  refine (dats m 0 c).arrAt_eq_of_covers 7 _ (by decide +kernel) fun t _ y => ?_
  blk_simp
  rw [after0_7]
  frame_out
  rw [pay10_eq]
  exact point_z m c t y

set_option maxHeartbeats 1600000 in
/-- The packed columns from 4096 are the weight's narrow columns, the rest zeros. -/
theorem packed_misc (w : FVec Ideal S1024x4184 .f32) (k : Fin 1024) (e : Fin 128) :
    packed w (ix2 k ⟨4096 + e.val, by omega⟩) = Cert.Reference9Ideal.Proj.miscW (fun q => w (ix2 k q)) e := by
  unfold packed
  pointwise
  refine (dif_neg (by omega)).trans ?_
  refine (dif_neg (by omega)).trans ?_
  refine (dif_neg (by omega)).trans ?_
  refine (dif_neg (by omega)).trans ?_
  refine (dif_neg (by omega)).trans ?_
  refine (dif_neg (by omega)).trans ?_
  by_cases h1 : e.val < 64
  · exact ((dif_pos (by omega)).trans (congrArg w (by blk_ext))).trans (Eq.symm (dif_pos h1))
  refine (dif_neg (by omega)).trans ?_
  by_cases h2 : e.val < 72
  · exact ((dif_pos (by omega)).trans (congrArg w (by blk_ext))).trans (Eq.symm ((dif_neg h1).trans (dif_pos h2)))
  refine (dif_neg (by omega)).trans ?_
  by_cases h3 : e.val < 80
  · exact ((dif_pos (by omega)).trans (congrArg w (by blk_ext))).trans (Eq.symm ((dif_neg h1).trans ((dif_neg h2).trans (dif_pos h3))))
  refine (dif_neg (by omega)).trans ?_
  by_cases h4 : e.val < 88
  · exact ((dif_pos (by omega)).trans (congrArg w (by blk_ext))).trans (Eq.symm ((dif_neg h1).trans ((dif_neg h2).trans ((dif_neg h3).trans (dif_pos h4)))))
  refine (dif_neg (by omega)).trans ?_
  exact Eq.symm ((dif_neg h1).trans ((dif_neg h2).trans ((dif_neg h3).trans ((dif_neg h4).trans (rfl)))))

/-- The stored block is the reference's block when its inputs are the reference's rows and the packed weight. -/
theorem block_misc (x : Vec Ideal S512x1024 .f32) (w : Vec Ideal S1024x128 .bf16) (a0 : FVec Ideal S1024x1024 .f32) (a1 : FVec Ideal S1024x4184 .f32)
    (r : Fin 512) (e : Fin 128) (R : Fin 1024) (hx : ∀ k, x (ix2 r k) = a0 (ix2 R k)) (hw : ∀ (k : Fin 1024) (e : Fin 128), w (ix2 k e) = packed a1 (ix2 k ⟨4096 + e.val, by omega⟩)) :
    k0_pay2 (k0_pay3 x) w (ix2 r e) = Cert.Reference9Ideal.Proj.misc a0 a1 (ix2 R e) := by
  rw [Cert.Reference9Ideal.Proj.misc_at]
  unfold k0_pay2 k0_pay3
  pointwise
  refine Finset.sum_congr rfl fun k _ => ?_
  rw [hx, hw, packed_misc]

/-- What the body stores at a point is the reference at the block's place. -/
theorem point_misc (c : Dev nD) (t : Fin cfg0.N) (y : S512x128.Idx) : k0_pay2 (k0_pay3 (iblk m c 0 t)) (View.ld (iblk m c 1 t) r0_9) y
    = Cert.Reference9Ideal.Proj.misc (m ((c : Thread nD τ).loc main_arg0)) (m ((c : Thread nD τ).loc main_arg1)) (((cfg0.win 8).blk t).view.emb y) := by
  obtain ⟨r, e, rfl⟩ : ∃ (r : Fin 512) (e : Fin 128), y = ix2 r e := ⟨y 0, y 1, by blk_ext⟩
  have hN := N_0
  have ht : t.val < 2 := lt_of_lt_of_eq t.isLt hN
  refine Eq.trans (block_misc _ _ (m ((c : Thread nD τ).loc main_arg0)) (m ((c : Thread nD τ).loc main_arg1)) r e ⟨512 * t.val + r.val, by omega⟩ ?_ ?_) ?_
  · intro k; blk_ext [iblk, V, idx t]
  · intro k e
    refine Eq.trans ?_ (w_blk m c t k ⟨4096 + e.val, by omega⟩)
    refine congrArg (show Vec Ideal S1024x4224 .bf16 from iblk m c 1 t) (?_ : r0_9.idx (ix2 k e) = _)
    funext a
    match a with
    | ⟨0, _⟩ => exact Fin.ext (by show 0 + 1 * k.val = k.val; omega)
    | ⟨1, _⟩ => exact Fin.ext (by show 4096 + 1 * e.val = 4096 + e.val; omega)
  · blk_ext [idx t]

/-- The kernel's final array. -/
theorem final_misc (c : Dev nD) : (dats m 0 c).arrAt 8 (cfgs 0).N
    = Cert.Reference9Ideal.Proj.misc (m ((c : Thread nD τ).loc main_arg0)) (m ((c : Thread nD τ).loc main_arg1)) := by
  refine (dats m 0 c).arrAt_eq_of_covers 8 _ (by decide +kernel) fun t _ y => ?_
  blk_simp
  rw [after0_8]
  frame_out
  rw [pay10_eq]
  exact point_misc m c t y

end Cert.Kernel9Ideal.Proj
-- ==== Proof.SamplePre.lean ====
/- The sample's precondition: the facts its operations take, and what it says of the arguments. -/
module

public import proofs.«01_k».proof.Pre_finite_in10
public import proofs.«01_k».proof.Proof.Pre

@[expose] public section
noncomputable section
namespace Cert.Pre_finite_in10
open Idealize.ShloMosaic
open Cert.KernelIdeal.Band (Real')

/-- The precondition's shape facts. -/
theorem facts : Facts where
  bcast_S_S1024x512 := by decide
  reducesTo_S1024x512_S_d0_1 := by decide
  h_S_ := by decide
  bcast_S_S2x32x512x8x64 := by decide
  reducesTo_S2x32x512x8x64_S_d0_1_2_3_4 := by decide
  bcast_S_S257x8 := by decide
  reducesTo_S257x8_S_d0_1 := by decide

/-- The precondition says that the queries, the new keys, the cached keys and the table are real numbers. -/
theorem finite [hF : Facts] (q k v : FVec Ideal S1024x512 .f32) (ck cv : FVec Ideal S2x32x512x8x64 .f32) (T : FVec Ideal S257x8 .f32)
    (h : fn (F := Ideal) q k v ck cv T = fun _ => 1#1) :
    (∀ j, Real' (q j)) ∧ (∀ j, Real' (k j)) ∧ (∀ j, Real' (ck j)) ∧ (∀ j, Real' (T j)) := by
  have h0 := congrFun h (fun a => a.elim0)
  obtain ⟨h1, hT⟩ := IntOp.andi_eq_one.1 h0
  obtain ⟨h2, hc⟩ := IntOp.andi_eq_one.1 h1
  obtain ⟨hq, hk⟩ := IntOp.andi_eq_one.1 h2
  haveI : Subsingleton S_.Idx := ⟨fun a b => funext fun z => z.elim0⟩
  exact ⟨fun j => Cert.Pre_finite_in.real_of_lt _ (Host.reduce_andi_all _ _ _ _ _ hq j), fun j => Cert.Pre_finite_in.real_of_lt _ (Host.reduce_andi_all _ _ _ _ _ hk j),
    fun j => Cert.Pre_finite_in.real_of_lt _ (Host.reduce_andi_all _ _ _ _ _ hc j), fun j => Cert.Pre_finite_in.real_of_lt _ (Host.reduce_andi_all _ _ _ _ _ hT j)⟩

end Cert.Pre_finite_in10
-- ==== Proof.SampleHead.lean ====
/- The sample's band attention, one head of one stream: the kernel's vector operations as one term, that term at an index, and the block a grid point stores. -/
module

public import proofs.«01_k».proof.Proof.Gen.Kernel10Ideal.Frame
public import proofs.«01_k».proof.Proof.Head
public import Idealize.ShloMosaic.Lib.Pipeline.ValueKit
public import Idealize.ShloMosaic.Lib.Pointwise

@[expose] public section
set_option maxRecDepth 16384
noncomputable section
namespace Cert.Kernel10Ideal.Sample
open Idealize.ShloMosaic Idealize.ShloMosaic.TcCoe Idealize.SL.Sem
open Cert.Kernel10Ideal.Gen
open Cert.KernelIdeal.Band (negInf eighth)

/-- The scores against the cached keys. -/
def scoreC (q : Vec Ideal S32x64 .f32) (kc : Vec Ideal S1x1x1x64x512 .f32) (bc : Vec Ideal S1x32x512 .f32) : FVec Ideal S32x512 .f32 :=
  addf (F := Ideal) (mulf (F := Ideal) (matmul (F := Ideal) dot_S32x64_S64x512_S32x512_1_0_0_1_n_n none (truncf (F := Ideal) (φ := .f32) .bf16 q bitsLt_bf16_f32)
      (truncf (F := Ideal) (φ := .f32) .bf16 (shapeCast S64x512 kc shapeCasts_S1x1x1x64x512_S64x512) bitsLt_bf16_f32) (constant (F := Ideal) S32x512 .f32 0x00000000#32))
    (broadcast S32x512 (Scalar.ofBits (F := Ideal) .f32 0x3E000000#32))) (shapeCast S32x512 bc shapeCasts_S1x32x512_S32x512)

/-- The scores against the new keys. -/
def scoreN (q : Vec Ideal S32x64 .f32) (kn : Vec Ideal S1x1x64x32 .f32) (bn : Vec Ideal S1x32x32 .f32) : FVec Ideal S32x32 .f32 :=
  addf (F := Ideal) (mulf (F := Ideal) (matmul (F := Ideal) dot_S32x64_S64x32_S32x32_1_0_0_1_n_n none (truncf (F := Ideal) (φ := .f32) .bf16 q bitsLt_bf16_f32)
      (truncf (F := Ideal) (φ := .f32) .bf16 (shapeCast S64x32 kn shapeCasts_S1x1x64x32_S64x32) bitsLt_bf16_f32) (constant (F := Ideal) S32x32 .f32 0x00000000#32))
    (broadcast S32x32 (Scalar.ofBits (F := Ideal) .f32 0x3E000000#32))) (shapeCast S32x32 bn shapeCasts_S1x32x32_S32x32)

/-- The larger of the two row maxima. -/
def top (sc : FVec Ideal S32x512 .f32) (sn : FVec Ideal S32x32 .f32) : FVec Ideal S32x1 .f32 :=
  maximumf (F := Ideal) (shapeCast S32x1 (multiReduction (F := Ideal) .maximumf [1] S32 sc 0xFF800000#32 reduces_S32x512_S32 (.inl rfl) rfl) shapeCasts_S32_S32x1)
    (shapeCast S32x1 (multiReduction (F := Ideal) .maximumf [1] S32 sn 0xFF800000#32 reduces_S32x32_S32 (.inl rfl) rfl) shapeCasts_S32_S32x1)

/-- The weights of the cached keys. -/
def weightC (sc : FVec Ideal S32x512 .f32) (t : FVec Ideal S32x1 .f32) : FVec Ideal S32x512 .f32 :=
  exp (F := Ideal) (subf (F := Ideal) sc (broadcastTo S32x512 t broadcasts_S32x1_S32x512))

/-- The weights of the new keys. -/
def weightN (sn : FVec Ideal S32x32 .f32) (t : FVec Ideal S32x1 .f32) : FVec Ideal S32x32 .f32 :=
  exp (F := Ideal) (subf (F := Ideal) sn (broadcastTo S32x32 t broadcasts_S32x1_S32x32))

/-- The sum of the weights. -/
def total (pc : FVec Ideal S32x512 .f32) (pn : FVec Ideal S32x32 .f32) : FVec Ideal S32x1 .f32 :=
  addf (F := Ideal) (shapeCast S32x1 (multiReduction (F := Ideal) .add [1] S32 pc 0x00000000#32 reduces_S32x512_S32 (.inl rfl) rfl) shapeCasts_S32_S32x1)
    (shapeCast S32x1 (multiReduction (F := Ideal) .add [1] S32 pn 0x00000000#32 reduces_S32x32_S32 (.inl rfl) rfl) shapeCasts_S32_S32x1)

/-- The weighted sum of the values. -/
def mix (pc : FVec Ideal S32x512 .f32) (pn : FVec Ideal S32x32 .f32) (vc : Vec Ideal S1x1x1x64x512 .f32) (vn : Vec Ideal S1x1x64x32 .f32) : FVec Ideal S32x64 .f32 :=
  addf (F := Ideal) (matmul (F := Ideal) dot_S32x512_S64x512_S32x64_1_1_0_0_n_n none (truncf (F := Ideal) .bf16 pc bitsLt_bf16_f32)
      (truncf (F := Ideal) (φ := .f32) .bf16 (shapeCast S64x512 vc shapeCasts_S1x1x1x64x512_S64x512) bitsLt_bf16_f32) (constant (F := Ideal) S32x64 .f32 0x00000000#32))
    (matmul (F := Ideal) dot_S32x32_S64x32_S32x64_1_1_0_0_n_n none (truncf (F := Ideal) .bf16 pn bitsLt_bf16_f32)
      (truncf (F := Ideal) (φ := .f32) .bf16 (shapeCast S64x32 vn shapeCasts_S1x1x64x32_S64x32) bitsLt_bf16_f32) (constant (F := Ideal) S32x64 .f32 0x00000000#32))

/-- The weighted average from the scores. -/
def average (sc : FVec Ideal S32x512 .f32) (sn : FVec Ideal S32x32 .f32) (vc : Vec Ideal S1x1x1x64x512 .f32) (vn : Vec Ideal S1x1x64x32 .f32) : FVec Ideal S32x64 .f32 :=
  divf (F := Ideal) (mix (weightC sc (top sc sn)) (weightN sn (top sc sn)) vc vn) (broadcastTo S32x64 (total (weightC sc (top sc sn)) (weightN sn (top sc sn))) broadcasts_S32x1_S32x64)

/-- One head's attention for one stream. -/
def att (q : Vec Ideal S32x64 .f32) (kc : Vec Ideal S1x1x1x64x512 .f32) (kn : Vec Ideal S1x1x64x32 .f32) (bc : Vec Ideal S1x32x512 .f32) (bn : Vec Ideal S1x32x32 .f32)
    (vc : Vec Ideal S1x1x1x64x512 .f32) (vn : Vec Ideal S1x1x64x32 .f32) : FVec Ideal S32x64 .f32 :=
  average (scoreC q kc bc) (scoreN q kn bn) vc vn

/-- A score against a cached key. -/
theorem scoreC_at (q : Vec Ideal S32x64 .f32) (kc : Vec Ideal S1x1x1x64x512 .f32) (bc : Vec Ideal S1x32x512 .f32) (i : Fin 32) (r : Fin 512) :
    scoreC q kc bc (ix2 i r) = (∑ d : Fin 64, q (ix2 i d) * kc (ix5 0 0 0 d r)) * ((1 / 8 : ℝ) : EReal) + bc (ix3 0 i r) := by
  rw [← eighth]
  unfold scoreC
  pointwise

/-- A score against a new key. -/
theorem scoreN_at (q : Vec Ideal S32x64 .f32) (kn : Vec Ideal S1x1x64x32 .f32) (bn : Vec Ideal S1x32x32 .f32) (i : Fin 32) (r : Fin 32) :
    scoreN q kn bn (ix2 i r) = (∑ d : Fin 64, q (ix2 i d) * kn (ix4 0 0 d r)) * ((1 / 8 : ℝ) : EReal) + bn (ix3 0 i r) := by
  rw [← eighth]
  unfold scoreN
  pointwise

/-- The maximum at an index. -/
theorem top_at (sc : FVec Ideal S32x512 .f32) (sn : FVec Ideal S32x32 .f32) (i : Fin 32) :
    top sc sn (ix2 i 0) = max (Finset.univ.sup fun r : Fin 512 => sc (ix2 i r)) (Finset.univ.sup fun r : Fin 32 => sn (ix2 i r)) := by
  unfold top
  pointwise
  rw [negInf]
  rfl

/-- A cached key's weight. -/
theorem weightC_at (sc : FVec Ideal S32x512 .f32) (t : FVec Ideal S32x1 .f32) (i : Fin 32) (r : Fin 512) :
    weightC sc t (ix2 i r) = Ideal.exp (sc (ix2 i r) - t (ix2 i 0)) := by
  unfold weightC
  pointwise

/-- A new key's weight. -/
theorem weightN_at (sn : FVec Ideal S32x32 .f32) (t : FVec Ideal S32x1 .f32) (i r : Fin 32) :
    weightN sn t (ix2 i r) = Ideal.exp (sn (ix2 i r) - t (ix2 i 0)) := by
  unfold weightN
  pointwise

/-- The weights' sum at an index. -/
theorem total_at (pc : FVec Ideal S32x512 .f32) (pn : FVec Ideal S32x32 .f32) (i : Fin 32) :
    total pc pn (ix2 i 0) = (∑ r : Fin 512, pc (ix2 i r)) + ∑ r : Fin 32, pn (ix2 i r) := by
  unfold total
  pointwise

/-- The weighted sum at an index. -/
theorem mix_at (pc : FVec Ideal S32x512 .f32) (pn : FVec Ideal S32x32 .f32) (vc : Vec Ideal S1x1x1x64x512 .f32) (vn : Vec Ideal S1x1x64x32 .f32) (i : Fin 32) (u : Fin 64) :
    mix pc pn vc vn (ix2 i u) = (∑ r : Fin 512, pc (ix2 i r) * vc (ix5 0 0 0 u r)) + ∑ r : Fin 32, pn (ix2 i r) * vn (ix4 0 0 u r) := by
  unfold mix
  pointwise

/-- The quotient at an index. -/
theorem quot_at (n : FVec Ideal S32x64 .f32) (d : FVec Ideal S32x1 .f32) (i : Fin 32) (u : Fin 64) :
    divf (F := Ideal) n (broadcastTo S32x64 d broadcasts_S32x1_S32x64) (ix2 i u) = Ideal.div (n (ix2 i u)) (d (ix2 i 0)) := by
  pointwise

/-- The average over the cached rows and the new rows, as the kernel forms it. -/
def soft (sc vc : Fin 512 → EReal) (sn vn : Fin 32 → EReal) : EReal :=
  Ideal.div ((∑ r, Ideal.exp (sc r - max (Finset.univ.sup sc) (Finset.univ.sup sn)) * vc r) + ∑ r, Ideal.exp (sn r - max (Finset.univ.sup sc) (Finset.univ.sup sn)) * vn r)
    ((∑ r, Ideal.exp (sc r - max (Finset.univ.sup sc) (Finset.univ.sup sn))) + ∑ r, Ideal.exp (sn r - max (Finset.univ.sup sc) (Finset.univ.sup sn)))

/-- The average at an index. -/
theorem average_at (sc : FVec Ideal S32x512 .f32) (sn : FVec Ideal S32x32 .f32) (vc : Vec Ideal S1x1x1x64x512 .f32) (vn : Vec Ideal S1x1x64x32 .f32) (i : Fin 32) (u : Fin 64) :
    average sc sn vc vn (ix2 i u) = soft (fun r => sc (ix2 i r)) (fun r => vc (ix5 0 0 0 u r)) (fun r => sn (ix2 i r)) (fun r => vn (ix4 0 0 u r)) := by
  unfold average soft
  rw [quot_at, mix_at, total_at]
  simp only [weightC_at, weightN_at, top_at]

/-- One stream's queries of one head. -/
def tileQ (x : Vec Ideal S128x512 .f32) (b : Fin 4) (h : Fin 8) : Vec Ideal S32x64 .f32 := fun j =>
  x (ix2 ⟨32 * b.val + (j 0).val, by have : (j 0).val < 32 := (j 0).isLt; omega⟩ ⟨64 * h.val + (j 1).val, by have : (j 1).val < 64 := (j 1).isLt; omega⟩)

/-- One stream's cached rows of one head. -/
def tileC (x : Vec Ideal S1x4x8x64x512 .f32) (b : Fin 4) (h : Fin 8) : Vec Ideal S1x1x1x64x512 .f32 := fun j => x (ix5 0 b h (j 3) (j 4))

/-- One stream's new rows of one head. -/
def tileN (x : Vec Ideal S4x8x64x32 .f32) (b : Fin 4) (h : Fin 8) : Vec Ideal S1x1x64x32 .f32 := fun j => x (ix4 b h (j 2) (j 3))

/-- One head's bias of the cached rows. -/
def tileB (x : Vec Ideal S8x32x512 .f32) (h : Fin 8) : Vec Ideal S1x32x512 .f32 := fun j => x (ix3 h (j 1) (j 2))

/-- One head's bias of the new rows. -/
def tileM (x : Vec Ideal S8x32x32 .f32) (h : Fin 8) : Vec Ideal S1x32x32 .f32 := fun j => x (ix3 h (j 1) (j 2))

/-- One head's attention for one stream, from the blocks. -/
def attAt (x0 : Vec Ideal S128x512 .f32) (x1 x2 : Vec Ideal S1x4x8x64x512 .f32) (x3 x4 : Vec Ideal S4x8x64x32 .f32) (x5 : Vec Ideal S8x32x512 .f32) (x6 : Vec Ideal S8x32x32 .f32)
    (b : Fin 4) (h : Fin 8) : FVec Ideal S32x64 .f32 :=
  att (tileQ x0 b h) (tileC x1 b h) (tileN x3 b h) (tileB x5 h) (tileM x6 h) (tileC x2 b h) (tileN x4 b h)

/-- The queries the kernel loads are those. -/
theorem load_q (x : Vec Ideal S128x512 .f32) (b : Fin 4) (h : Fin 8) (p : ∀ a, (![32 * b.val, 64 * h.val] : Fin 2 → Nat) a + S32x64.size a ≤ S128x512.size a) :
    View.ld x (Rect.unit (s := S128x512) ![32 * b.val, 64 * h.val] S32x64.size p) = tileQ x b h := by
  funext j
  refine View.ld_unit_apply_of x _ _ _ _ _ (fun a => ?_)
  match a with
  | ⟨0, _⟩ => rfl
  | ⟨1, _⟩ => rfl

/-- The cached rows the kernel loads are those. -/
theorem load_c (x : Vec Ideal S1x4x8x64x512 .f32) (b : Fin 4) (h : Fin 8) (p : ∀ a, (![0, b.val, h.val, 0, 0] : Fin 5 → Nat) a + S1x1x1x64x512.size a ≤ S1x4x8x64x512.size a) :
    View.ld x (Rect.unit (s := S1x4x8x64x512) ![0, b.val, h.val, 0, 0] S1x1x1x64x512.size p) = tileC x b h := by
  funext j
  refine View.ld_unit_apply_of x _ _ _ _ _ (fun a => ?_)
  have h0 : (j 0).val < 1 := (j 0).isLt
  have h1 : (j 1).val < 1 := (j 1).isLt
  have h2 : (j 2).val < 1 := (j 2).isLt
  match a with
  | ⟨0, _⟩ => show 0 = 0 + (j 0).val; omega
  | ⟨1, _⟩ => show b.val = b.val + (j 1).val; omega
  | ⟨2, _⟩ => show h.val = h.val + (j 2).val; omega
  | ⟨3, _⟩ => show (j 3).val = 0 + (j 3).val; omega
  | ⟨4, _⟩ => show (j 4).val = 0 + (j 4).val; omega

/-- The new rows the kernel loads are those. -/
theorem load_n (x : Vec Ideal S4x8x64x32 .f32) (b : Fin 4) (h : Fin 8) (p : ∀ a, (![b.val, h.val, 0, 0] : Fin 4 → Nat) a + S1x1x64x32.size a ≤ S4x8x64x32.size a) :
    View.ld x (Rect.unit (s := S4x8x64x32) ![b.val, h.val, 0, 0] S1x1x64x32.size p) = tileN x b h := by
  funext j
  refine View.ld_unit_apply_of x _ _ _ _ _ (fun a => ?_)
  have h0 : (j 0).val < 1 := (j 0).isLt
  have h1 : (j 1).val < 1 := (j 1).isLt
  match a with
  | ⟨0, _⟩ => show b.val = b.val + (j 0).val; omega
  | ⟨1, _⟩ => show h.val = h.val + (j 1).val; omega
  | ⟨2, _⟩ => show (j 2).val = 0 + (j 2).val; omega
  | ⟨3, _⟩ => show (j 3).val = 0 + (j 3).val; omega

/-- The cached rows' bias the kernel loads is that. -/
theorem load_b (x : Vec Ideal S8x32x512 .f32) (h : Fin 8) (p : ∀ a, (![h.val, 0, 0] : Fin 3 → Nat) a + S1x32x512.size a ≤ S8x32x512.size a) :
    View.ld x (Rect.unit (s := S8x32x512) ![h.val, 0, 0] S1x32x512.size p) = tileB x h := by
  funext j
  refine View.ld_unit_apply_of x _ _ _ _ _ (fun a => ?_)
  have h0 : (j 0).val < 1 := (j 0).isLt
  match a with
  | ⟨0, _⟩ => show h.val = h.val + (j 0).val; omega
  | ⟨1, _⟩ => show (j 1).val = 0 + (j 1).val; omega
  | ⟨2, _⟩ => show (j 2).val = 0 + (j 2).val; omega

/-- The new rows' bias the kernel loads is that. -/
theorem load_m (x : Vec Ideal S8x32x32 .f32) (h : Fin 8) (p : ∀ a, (![h.val, 0, 0] : Fin 3 → Nat) a + S1x32x32.size a ≤ S8x32x32.size a) :
    View.ld x (Rect.unit (s := S8x32x32) ![h.val, 0, 0] S1x32x32.size p) = tileM x h := by
  funext j
  refine View.ld_unit_apply_of x _ _ _ _ _ (fun a => ?_)
  have h0 : (j 0).val < 1 := (j 0).isLt
  match a with
  | ⟨0, _⟩ => show h.val = h.val + (j 0).val; omega
  | ⟨1, _⟩ => show (j 1).val = 0 + (j 1).val; omega
  | ⟨2, _⟩ => show (j 2).val = 0 + (j 2).val; omega

/-- One head's attention for one stream, from what the kernel loads. -/
theorem loaded (x0 : Vec Ideal S128x512 .f32) (x1 x2 : Vec Ideal S1x4x8x64x512 .f32) (x3 x4 : Vec Ideal S4x8x64x32 .f32) (x5 : Vec Ideal S8x32x512 .f32) (x6 : Vec Ideal S8x32x32 .f32)
    (b : Fin 4) (h : Fin 8) (p0 : ∀ a, (![32 * b.val, 64 * h.val] : Fin 2 → Nat) a + S32x64.size a ≤ S128x512.size a) (p1 : ∀ a, (![0, b.val, h.val, 0, 0] : Fin 5 → Nat) a + S1x1x1x64x512.size a ≤ S1x4x8x64x512.size a)
    (p3 : ∀ a, (![b.val, h.val, 0, 0] : Fin 4 → Nat) a + S1x1x64x32.size a ≤ S4x8x64x32.size a) (p5 : ∀ a, (![h.val, 0, 0] : Fin 3 → Nat) a + S1x32x512.size a ≤ S8x32x512.size a)
    (p6 : ∀ a, (![h.val, 0, 0] : Fin 3 → Nat) a + S1x32x32.size a ≤ S8x32x32.size a) :
    att (View.ld x0 (Rect.unit (s := S128x512) ![32 * b.val, 64 * h.val] S32x64.size p0)) (View.ld x1 (Rect.unit (s := S1x4x8x64x512) ![0, b.val, h.val, 0, 0] S1x1x1x64x512.size p1))
      (View.ld x3 (Rect.unit (s := S4x8x64x32) ![b.val, h.val, 0, 0] S1x1x64x32.size p3)) (View.ld x5 (Rect.unit (s := S8x32x512) ![h.val, 0, 0] S1x32x512.size p5))
      (View.ld x6 (Rect.unit (s := S8x32x32) ![h.val, 0, 0] S1x32x32.size p6)) (View.ld x2 (Rect.unit (s := S1x4x8x64x512) ![0, b.val, h.val, 0, 0] S1x1x1x64x512.size p1))
      (View.ld x4 (Rect.unit (s := S4x8x64x32) ![b.val, h.val, 0, 0] S1x1x64x32.size p3)) = attAt x0 x1 x2 x3 x4 x5 x6 b h := by
  unfold attAt
  rw [load_q, load_c, load_n, load_b, load_m, load_c, load_n]

end Cert.Kernel10Ideal.Sample
-- ==== Proof.SampleOut.lean ====
/- The block a grid point of the sample's band attention stores: four streams of eight heads. -/
module

public import proofs.«01_k».proof.Proof.SampleHead

@[expose] public section
set_option maxRecDepth 16384
noncomputable section
namespace Cert.Kernel10Ideal.Sample
open Idealize.ShloMosaic Idealize.ShloMosaic.TcCoe Idealize.SL.Sem
open Cert.Kernel10Ideal.Gen

set_option maxHeartbeats 8000000 in
/-- The block a grid point stores, element by element: stream and position by rows, head and feature by columns. -/
theorem out_at (x0 : Vec Ideal S128x512 .f32) (x1 x2 : Vec Ideal S1x4x8x64x512 .f32) (x3 x4 : Vec Ideal S4x8x64x32 .f32) (x5 : Vec Ideal S8x32x512 .f32) (x6 : Vec Ideal S8x32x32 .f32)
    (b : Fin 4) (i : Fin 32) (h : Fin 8) (u : Fin 64) :
    out0_7 (F := Ideal) x0 x1 x2 x3 x4 x5 x6 (ix2 ⟨32 * b.val + i.val, by omega⟩ ⟨64 * h.val + u.val, by omega⟩) = attAt x0 x1 x2 x3 x4 x5 x6 b h (ix2 i u) := by
  unfold out0_7
  canon_tiles x hh
  all_goals have g0 : 32 * b.val + i.val = _ := hh0
  all_goals have g1 : 64 * h.val + u.val = _ := hh1
  all_goals have l0 : (x 0).val < 32 := (x 0).isLt
  all_goals have l1 : (x 1).val < 64 := (x 1).isLt
  case piece0 =>
    obtain rfl : b = 3 := Fin.ext (by show b.val = 3; omega)
    obtain rfl : h = 7 := Fin.ext (by show h.val = 7; omega)
    have ex : x = ix2 i u := funext fun a => Fin.ext (by
      match a with
      | ⟨0, _⟩ => show (x 0).val = i.val; have : 32 * 3 + i.val = 96 + (x 0).val := g0; omega
      | ⟨1, _⟩ => show (x 1).val = u.val; have : 64 * 7 + u.val = 448 + (x 1).val := g1; omega)
    rw [ex]
    exact congrFun (loaded x0 x1 x2 x3 x4 x5 x6 3 7 inb_S128x512_S32x64_96_448 inb_S1x4x8x64x512_S1x1x1x64x512_0_3_7_0_0 inb_S4x8x64x32_S1x1x64x32_3_7_0_0 inb_S8x32x512_S1x32x512_7_0_0 inb_S8x32x32_S1x32x32_7_0_0) (ix2 i u)
  case piece1 =>
    obtain rfl : b = 2 := Fin.ext (by show b.val = 2; omega)
    obtain rfl : h = 7 := Fin.ext (by show h.val = 7; omega)
    have ex : x = ix2 i u := funext fun a => Fin.ext (by
      match a with
      | ⟨0, _⟩ => show (x 0).val = i.val; have : 32 * 2 + i.val = 64 + (x 0).val := g0; omega
      | ⟨1, _⟩ => show (x 1).val = u.val; have : 64 * 7 + u.val = 448 + (x 1).val := g1; omega)
    rw [ex]
    exact congrFun (loaded x0 x1 x2 x3 x4 x5 x6 2 7 inb_S128x512_S32x64_64_448 inb_S1x4x8x64x512_S1x1x1x64x512_0_2_7_0_0 inb_S4x8x64x32_S1x1x64x32_2_7_0_0 inb_S8x32x512_S1x32x512_7_0_0 inb_S8x32x32_S1x32x32_7_0_0) (ix2 i u)
  case piece2 =>
    obtain rfl : b = 1 := Fin.ext (by show b.val = 1; omega)
    obtain rfl : h = 7 := Fin.ext (by show h.val = 7; omega)
    have ex : x = ix2 i u := funext fun a => Fin.ext (by
      match a with
      | ⟨0, _⟩ => show (x 0).val = i.val; have : 32 * 1 + i.val = 32 + (x 0).val := g0; omega
      | ⟨1, _⟩ => show (x 1).val = u.val; have : 64 * 7 + u.val = 448 + (x 1).val := g1; omega)
    rw [ex]
    exact congrFun (loaded x0 x1 x2 x3 x4 x5 x6 1 7 inb_S128x512_S32x64_32_448 inb_S1x4x8x64x512_S1x1x1x64x512_0_1_7_0_0 inb_S4x8x64x32_S1x1x64x32_1_7_0_0 inb_S8x32x512_S1x32x512_7_0_0 inb_S8x32x32_S1x32x32_7_0_0) (ix2 i u)
  case piece3 =>
    obtain rfl : b = 0 := Fin.ext (by show b.val = 0; omega)
    obtain rfl : h = 7 := Fin.ext (by show h.val = 7; omega)
    have ex : x = ix2 i u := funext fun a => Fin.ext (by
      match a with
      | ⟨0, _⟩ => show (x 0).val = i.val; have : 32 * 0 + i.val = (x 0).val := g0; omega
      | ⟨1, _⟩ => show (x 1).val = u.val; have : 64 * 7 + u.val = 448 + (x 1).val := g1; omega)
    rw [ex]
    exact congrFun (loaded x0 x1 x2 x3 x4 x5 x6 0 7 inb_S128x512_S32x64_0_448 inb_S1x4x8x64x512_S1x1x1x64x512_0_0_7_0_0 inb_S4x8x64x32_S1x1x64x32_0_7_0_0 inb_S8x32x512_S1x32x512_7_0_0 inb_S8x32x32_S1x32x32_7_0_0) (ix2 i u)
  case piece4 =>
    obtain rfl : b = 3 := Fin.ext (by show b.val = 3; omega)
    obtain rfl : h = 6 := Fin.ext (by show h.val = 6; omega)
    have ex : x = ix2 i u := funext fun a => Fin.ext (by
      match a with
      | ⟨0, _⟩ => show (x 0).val = i.val; have : 32 * 3 + i.val = 96 + (x 0).val := g0; omega
      | ⟨1, _⟩ => show (x 1).val = u.val; have : 64 * 6 + u.val = 384 + (x 1).val := g1; omega)
    rw [ex]
    exact congrFun (loaded x0 x1 x2 x3 x4 x5 x6 3 6 inb_S128x512_S32x64_96_384 inb_S1x4x8x64x512_S1x1x1x64x512_0_3_6_0_0 inb_S4x8x64x32_S1x1x64x32_3_6_0_0 inb_S8x32x512_S1x32x512_6_0_0 inb_S8x32x32_S1x32x32_6_0_0) (ix2 i u)
  case piece5 =>
    obtain rfl : b = 2 := Fin.ext (by show b.val = 2; omega)
    obtain rfl : h = 6 := Fin.ext (by show h.val = 6; omega)
    have ex : x = ix2 i u := funext fun a => Fin.ext (by
      match a with
      | ⟨0, _⟩ => show (x 0).val = i.val; have : 32 * 2 + i.val = 64 + (x 0).val := g0; omega
      | ⟨1, _⟩ => show (x 1).val = u.val; have : 64 * 6 + u.val = 384 + (x 1).val := g1; omega)
    rw [ex]
    exact congrFun (loaded x0 x1 x2 x3 x4 x5 x6 2 6 inb_S128x512_S32x64_64_384 inb_S1x4x8x64x512_S1x1x1x64x512_0_2_6_0_0 inb_S4x8x64x32_S1x1x64x32_2_6_0_0 inb_S8x32x512_S1x32x512_6_0_0 inb_S8x32x32_S1x32x32_6_0_0) (ix2 i u)
  case piece6 =>
    obtain rfl : b = 1 := Fin.ext (by show b.val = 1; omega)
    obtain rfl : h = 6 := Fin.ext (by show h.val = 6; omega)
    have ex : x = ix2 i u := funext fun a => Fin.ext (by
      match a with
      | ⟨0, _⟩ => show (x 0).val = i.val; have : 32 * 1 + i.val = 32 + (x 0).val := g0; omega
      | ⟨1, _⟩ => show (x 1).val = u.val; have : 64 * 6 + u.val = 384 + (x 1).val := g1; omega)
    rw [ex]
    exact congrFun (loaded x0 x1 x2 x3 x4 x5 x6 1 6 inb_S128x512_S32x64_32_384 inb_S1x4x8x64x512_S1x1x1x64x512_0_1_6_0_0 inb_S4x8x64x32_S1x1x64x32_1_6_0_0 inb_S8x32x512_S1x32x512_6_0_0 inb_S8x32x32_S1x32x32_6_0_0) (ix2 i u)
  case piece7 =>
    obtain rfl : b = 0 := Fin.ext (by show b.val = 0; omega)
    obtain rfl : h = 6 := Fin.ext (by show h.val = 6; omega)
    have ex : x = ix2 i u := funext fun a => Fin.ext (by
      match a with
      | ⟨0, _⟩ => show (x 0).val = i.val; have : 32 * 0 + i.val = (x 0).val := g0; omega
      | ⟨1, _⟩ => show (x 1).val = u.val; have : 64 * 6 + u.val = 384 + (x 1).val := g1; omega)
    rw [ex]
    exact congrFun (loaded x0 x1 x2 x3 x4 x5 x6 0 6 inb_S128x512_S32x64_0_384 inb_S1x4x8x64x512_S1x1x1x64x512_0_0_6_0_0 inb_S4x8x64x32_S1x1x64x32_0_6_0_0 inb_S8x32x512_S1x32x512_6_0_0 inb_S8x32x32_S1x32x32_6_0_0) (ix2 i u)
  case piece8 =>
    obtain rfl : b = 3 := Fin.ext (by show b.val = 3; omega)
    obtain rfl : h = 5 := Fin.ext (by show h.val = 5; omega)
    have ex : x = ix2 i u := funext fun a => Fin.ext (by
      match a with
      | ⟨0, _⟩ => show (x 0).val = i.val; have : 32 * 3 + i.val = 96 + (x 0).val := g0; omega
      | ⟨1, _⟩ => show (x 1).val = u.val; have : 64 * 5 + u.val = 320 + (x 1).val := g1; omega)
    rw [ex]
    exact congrFun (loaded x0 x1 x2 x3 x4 x5 x6 3 5 inb_S128x512_S32x64_96_320 inb_S1x4x8x64x512_S1x1x1x64x512_0_3_5_0_0 inb_S4x8x64x32_S1x1x64x32_3_5_0_0 inb_S8x32x512_S1x32x512_5_0_0 inb_S8x32x32_S1x32x32_5_0_0) (ix2 i u)
  case piece9 =>
    obtain rfl : b = 2 := Fin.ext (by show b.val = 2; omega)
    obtain rfl : h = 5 := Fin.ext (by show h.val = 5; omega)
    have ex : x = ix2 i u := funext fun a => Fin.ext (by
      match a with
      | ⟨0, _⟩ => show (x 0).val = i.val; have : 32 * 2 + i.val = 64 + (x 0).val := g0; omega
      | ⟨1, _⟩ => show (x 1).val = u.val; have : 64 * 5 + u.val = 320 + (x 1).val := g1; omega)
    rw [ex]
    exact congrFun (loaded x0 x1 x2 x3 x4 x5 x6 2 5 inb_S128x512_S32x64_64_320 inb_S1x4x8x64x512_S1x1x1x64x512_0_2_5_0_0 inb_S4x8x64x32_S1x1x64x32_2_5_0_0 inb_S8x32x512_S1x32x512_5_0_0 inb_S8x32x32_S1x32x32_5_0_0) (ix2 i u)
  case piece10 =>
    obtain rfl : b = 1 := Fin.ext (by show b.val = 1; omega)
    obtain rfl : h = 5 := Fin.ext (by show h.val = 5; omega)
    have ex : x = ix2 i u := funext fun a => Fin.ext (by
      match a with
      | ⟨0, _⟩ => show (x 0).val = i.val; have : 32 * 1 + i.val = 32 + (x 0).val := g0; omega
      | ⟨1, _⟩ => show (x 1).val = u.val; have : 64 * 5 + u.val = 320 + (x 1).val := g1; omega)
    rw [ex]
    exact congrFun (loaded x0 x1 x2 x3 x4 x5 x6 1 5 inb_S128x512_S32x64_32_320 inb_S1x4x8x64x512_S1x1x1x64x512_0_1_5_0_0 inb_S4x8x64x32_S1x1x64x32_1_5_0_0 inb_S8x32x512_S1x32x512_5_0_0 inb_S8x32x32_S1x32x32_5_0_0) (ix2 i u)
  case piece11 =>
    obtain rfl : b = 0 := Fin.ext (by show b.val = 0; omega)
    obtain rfl : h = 5 := Fin.ext (by show h.val = 5; omega)
    have ex : x = ix2 i u := funext fun a => Fin.ext (by
      match a with
      | ⟨0, _⟩ => show (x 0).val = i.val; have : 32 * 0 + i.val = (x 0).val := g0; omega
      | ⟨1, _⟩ => show (x 1).val = u.val; have : 64 * 5 + u.val = 320 + (x 1).val := g1; omega)
    rw [ex]
    exact congrFun (loaded x0 x1 x2 x3 x4 x5 x6 0 5 inb_S128x512_S32x64_0_320 inb_S1x4x8x64x512_S1x1x1x64x512_0_0_5_0_0 inb_S4x8x64x32_S1x1x64x32_0_5_0_0 inb_S8x32x512_S1x32x512_5_0_0 inb_S8x32x32_S1x32x32_5_0_0) (ix2 i u)
  case piece12 =>
    obtain rfl : b = 3 := Fin.ext (by show b.val = 3; omega)
    obtain rfl : h = 4 := Fin.ext (by show h.val = 4; omega)
    have ex : x = ix2 i u := funext fun a => Fin.ext (by
      match a with
      | ⟨0, _⟩ => show (x 0).val = i.val; have : 32 * 3 + i.val = 96 + (x 0).val := g0; omega
      | ⟨1, _⟩ => show (x 1).val = u.val; have : 64 * 4 + u.val = 256 + (x 1).val := g1; omega)
    rw [ex]
    exact congrFun (loaded x0 x1 x2 x3 x4 x5 x6 3 4 inb_S128x512_S32x64_96_256 inb_S1x4x8x64x512_S1x1x1x64x512_0_3_4_0_0 inb_S4x8x64x32_S1x1x64x32_3_4_0_0 inb_S8x32x512_S1x32x512_4_0_0 inb_S8x32x32_S1x32x32_4_0_0) (ix2 i u)
  case piece13 =>
    obtain rfl : b = 2 := Fin.ext (by show b.val = 2; omega)
    obtain rfl : h = 4 := Fin.ext (by show h.val = 4; omega)
    have ex : x = ix2 i u := funext fun a => Fin.ext (by
      match a with
      | ⟨0, _⟩ => show (x 0).val = i.val; have : 32 * 2 + i.val = 64 + (x 0).val := g0; omega
      | ⟨1, _⟩ => show (x 1).val = u.val; have : 64 * 4 + u.val = 256 + (x 1).val := g1; omega)
    rw [ex]
    exact congrFun (loaded x0 x1 x2 x3 x4 x5 x6 2 4 inb_S128x512_S32x64_64_256 inb_S1x4x8x64x512_S1x1x1x64x512_0_2_4_0_0 inb_S4x8x64x32_S1x1x64x32_2_4_0_0 inb_S8x32x512_S1x32x512_4_0_0 inb_S8x32x32_S1x32x32_4_0_0) (ix2 i u)
  case piece14 =>
    obtain rfl : b = 1 := Fin.ext (by show b.val = 1; omega)
    obtain rfl : h = 4 := Fin.ext (by show h.val = 4; omega)
    have ex : x = ix2 i u := funext fun a => Fin.ext (by
      match a with
      | ⟨0, _⟩ => show (x 0).val = i.val; have : 32 * 1 + i.val = 32 + (x 0).val := g0; omega
      | ⟨1, _⟩ => show (x 1).val = u.val; have : 64 * 4 + u.val = 256 + (x 1).val := g1; omega)
    rw [ex]
    exact congrFun (loaded x0 x1 x2 x3 x4 x5 x6 1 4 inb_S128x512_S32x64_32_256 inb_S1x4x8x64x512_S1x1x1x64x512_0_1_4_0_0 inb_S4x8x64x32_S1x1x64x32_1_4_0_0 inb_S8x32x512_S1x32x512_4_0_0 inb_S8x32x32_S1x32x32_4_0_0) (ix2 i u)
  case piece15 =>
    obtain rfl : b = 0 := Fin.ext (by show b.val = 0; omega)
    obtain rfl : h = 4 := Fin.ext (by show h.val = 4; omega)
    have ex : x = ix2 i u := funext fun a => Fin.ext (by
      match a with
      | ⟨0, _⟩ => show (x 0).val = i.val; have : 32 * 0 + i.val = (x 0).val := g0; omega
      | ⟨1, _⟩ => show (x 1).val = u.val; have : 64 * 4 + u.val = 256 + (x 1).val := g1; omega)
    rw [ex]
    exact congrFun (loaded x0 x1 x2 x3 x4 x5 x6 0 4 inb_S128x512_S32x64_0_256 inb_S1x4x8x64x512_S1x1x1x64x512_0_0_4_0_0 inb_S4x8x64x32_S1x1x64x32_0_4_0_0 inb_S8x32x512_S1x32x512_4_0_0 inb_S8x32x32_S1x32x32_4_0_0) (ix2 i u)
  case piece16 =>
    obtain rfl : b = 3 := Fin.ext (by show b.val = 3; omega)
    obtain rfl : h = 3 := Fin.ext (by show h.val = 3; omega)
    have ex : x = ix2 i u := funext fun a => Fin.ext (by
      match a with
      | ⟨0, _⟩ => show (x 0).val = i.val; have : 32 * 3 + i.val = 96 + (x 0).val := g0; omega
      | ⟨1, _⟩ => show (x 1).val = u.val; have : 64 * 3 + u.val = 192 + (x 1).val := g1; omega)
    rw [ex]
    exact congrFun (loaded x0 x1 x2 x3 x4 x5 x6 3 3 inb_S128x512_S32x64_96_192 inb_S1x4x8x64x512_S1x1x1x64x512_0_3_3_0_0 inb_S4x8x64x32_S1x1x64x32_3_3_0_0 inb_S8x32x512_S1x32x512_3_0_0 inb_S8x32x32_S1x32x32_3_0_0) (ix2 i u)
  case piece17 =>
    obtain rfl : b = 2 := Fin.ext (by show b.val = 2; omega)
    obtain rfl : h = 3 := Fin.ext (by show h.val = 3; omega)
    have ex : x = ix2 i u := funext fun a => Fin.ext (by
      match a with
      | ⟨0, _⟩ => show (x 0).val = i.val; have : 32 * 2 + i.val = 64 + (x 0).val := g0; omega
      | ⟨1, _⟩ => show (x 1).val = u.val; have : 64 * 3 + u.val = 192 + (x 1).val := g1; omega)
    rw [ex]
    exact congrFun (loaded x0 x1 x2 x3 x4 x5 x6 2 3 inb_S128x512_S32x64_64_192 inb_S1x4x8x64x512_S1x1x1x64x512_0_2_3_0_0 inb_S4x8x64x32_S1x1x64x32_2_3_0_0 inb_S8x32x512_S1x32x512_3_0_0 inb_S8x32x32_S1x32x32_3_0_0) (ix2 i u)
  case piece18 =>
    obtain rfl : b = 1 := Fin.ext (by show b.val = 1; omega)
    obtain rfl : h = 3 := Fin.ext (by show h.val = 3; omega)
    have ex : x = ix2 i u := funext fun a => Fin.ext (by
      match a with
      | ⟨0, _⟩ => show (x 0).val = i.val; have : 32 * 1 + i.val = 32 + (x 0).val := g0; omega
      | ⟨1, _⟩ => show (x 1).val = u.val; have : 64 * 3 + u.val = 192 + (x 1).val := g1; omega)
    rw [ex]
    exact congrFun (loaded x0 x1 x2 x3 x4 x5 x6 1 3 inb_S128x512_S32x64_32_192 inb_S1x4x8x64x512_S1x1x1x64x512_0_1_3_0_0 inb_S4x8x64x32_S1x1x64x32_1_3_0_0 inb_S8x32x512_S1x32x512_3_0_0 inb_S8x32x32_S1x32x32_3_0_0) (ix2 i u)
  case piece19 =>
    obtain rfl : b = 0 := Fin.ext (by show b.val = 0; omega)
    obtain rfl : h = 3 := Fin.ext (by show h.val = 3; omega)
    have ex : x = ix2 i u := funext fun a => Fin.ext (by
      match a with
      | ⟨0, _⟩ => show (x 0).val = i.val; have : 32 * 0 + i.val = (x 0).val := g0; omega
      | ⟨1, _⟩ => show (x 1).val = u.val; have : 64 * 3 + u.val = 192 + (x 1).val := g1; omega)
    rw [ex]
    exact congrFun (loaded x0 x1 x2 x3 x4 x5 x6 0 3 inb_S128x512_S32x64_0_192 inb_S1x4x8x64x512_S1x1x1x64x512_0_0_3_0_0 inb_S4x8x64x32_S1x1x64x32_0_3_0_0 inb_S8x32x512_S1x32x512_3_0_0 inb_S8x32x32_S1x32x32_3_0_0) (ix2 i u)
  case piece20 =>
    obtain rfl : b = 3 := Fin.ext (by show b.val = 3; omega)
    obtain rfl : h = 2 := Fin.ext (by show h.val = 2; omega)
    have ex : x = ix2 i u := funext fun a => Fin.ext (by
      match a with
      | ⟨0, _⟩ => show (x 0).val = i.val; have : 32 * 3 + i.val = 96 + (x 0).val := g0; omega
      | ⟨1, _⟩ => show (x 1).val = u.val; have : 64 * 2 + u.val = 128 + (x 1).val := g1; omega)
    rw [ex]
    exact congrFun (loaded x0 x1 x2 x3 x4 x5 x6 3 2 inb_S128x512_S32x64_96_128 inb_S1x4x8x64x512_S1x1x1x64x512_0_3_2_0_0 inb_S4x8x64x32_S1x1x64x32_3_2_0_0 inb_S8x32x512_S1x32x512_2_0_0 inb_S8x32x32_S1x32x32_2_0_0) (ix2 i u)
  case piece21 =>
    obtain rfl : b = 2 := Fin.ext (by show b.val = 2; omega)
    obtain rfl : h = 2 := Fin.ext (by show h.val = 2; omega)
    have ex : x = ix2 i u := funext fun a => Fin.ext (by
      match a with
      | ⟨0, _⟩ => show (x 0).val = i.val; have : 32 * 2 + i.val = 64 + (x 0).val := g0; omega
      | ⟨1, _⟩ => show (x 1).val = u.val; have : 64 * 2 + u.val = 128 + (x 1).val := g1; omega)
    rw [ex]
    exact congrFun (loaded x0 x1 x2 x3 x4 x5 x6 2 2 inb_S128x512_S32x64_64_128 inb_S1x4x8x64x512_S1x1x1x64x512_0_2_2_0_0 inb_S4x8x64x32_S1x1x64x32_2_2_0_0 inb_S8x32x512_S1x32x512_2_0_0 inb_S8x32x32_S1x32x32_2_0_0) (ix2 i u)
  case piece22 =>
    obtain rfl : b = 1 := Fin.ext (by show b.val = 1; omega)
    obtain rfl : h = 2 := Fin.ext (by show h.val = 2; omega)
    have ex : x = ix2 i u := funext fun a => Fin.ext (by
      match a with
      | ⟨0, _⟩ => show (x 0).val = i.val; have : 32 * 1 + i.val = 32 + (x 0).val := g0; omega
      | ⟨1, _⟩ => show (x 1).val = u.val; have : 64 * 2 + u.val = 128 + (x 1).val := g1; omega)
    rw [ex]
    exact congrFun (loaded x0 x1 x2 x3 x4 x5 x6 1 2 inb_S128x512_S32x64_32_128 inb_S1x4x8x64x512_S1x1x1x64x512_0_1_2_0_0 inb_S4x8x64x32_S1x1x64x32_1_2_0_0 inb_S8x32x512_S1x32x512_2_0_0 inb_S8x32x32_S1x32x32_2_0_0) (ix2 i u)
  case piece23 =>
    obtain rfl : b = 0 := Fin.ext (by show b.val = 0; omega)
    obtain rfl : h = 2 := Fin.ext (by show h.val = 2; omega)
    have ex : x = ix2 i u := funext fun a => Fin.ext (by
      match a with
      | ⟨0, _⟩ => show (x 0).val = i.val; have : 32 * 0 + i.val = (x 0).val := g0; omega
      | ⟨1, _⟩ => show (x 1).val = u.val; have : 64 * 2 + u.val = 128 + (x 1).val := g1; omega)
    rw [ex]
    exact congrFun (loaded x0 x1 x2 x3 x4 x5 x6 0 2 inb_S128x512_S32x64_0_128 inb_S1x4x8x64x512_S1x1x1x64x512_0_0_2_0_0 inb_S4x8x64x32_S1x1x64x32_0_2_0_0 inb_S8x32x512_S1x32x512_2_0_0 inb_S8x32x32_S1x32x32_2_0_0) (ix2 i u)
  case piece24 =>
    obtain rfl : b = 3 := Fin.ext (by show b.val = 3; omega)
    obtain rfl : h = 1 := Fin.ext (by show h.val = 1; omega)
    have ex : x = ix2 i u := funext fun a => Fin.ext (by
      match a with
      | ⟨0, _⟩ => show (x 0).val = i.val; have : 32 * 3 + i.val = 96 + (x 0).val := g0; omega
      | ⟨1, _⟩ => show (x 1).val = u.val; have : 64 * 1 + u.val = 64 + (x 1).val := g1; omega)
    rw [ex]
    exact congrFun (loaded x0 x1 x2 x3 x4 x5 x6 3 1 inb_S128x512_S32x64_96_64 inb_S1x4x8x64x512_S1x1x1x64x512_0_3_1_0_0 inb_S4x8x64x32_S1x1x64x32_3_1_0_0 inb_S8x32x512_S1x32x512_1_0_0 inb_S8x32x32_S1x32x32_1_0_0) (ix2 i u)
  case piece25 =>
    obtain rfl : b = 2 := Fin.ext (by show b.val = 2; omega)
    obtain rfl : h = 1 := Fin.ext (by show h.val = 1; omega)
    have ex : x = ix2 i u := funext fun a => Fin.ext (by
      match a with
      | ⟨0, _⟩ => show (x 0).val = i.val; have : 32 * 2 + i.val = 64 + (x 0).val := g0; omega
      | ⟨1, _⟩ => show (x 1).val = u.val; have : 64 * 1 + u.val = 64 + (x 1).val := g1; omega)
    rw [ex]
    exact congrFun (loaded x0 x1 x2 x3 x4 x5 x6 2 1 inb_S128x512_S32x64_64_64 inb_S1x4x8x64x512_S1x1x1x64x512_0_2_1_0_0 inb_S4x8x64x32_S1x1x64x32_2_1_0_0 inb_S8x32x512_S1x32x512_1_0_0 inb_S8x32x32_S1x32x32_1_0_0) (ix2 i u)
  case piece26 =>
    obtain rfl : b = 1 := Fin.ext (by show b.val = 1; omega)
    obtain rfl : h = 1 := Fin.ext (by show h.val = 1; omega)
    have ex : x = ix2 i u := funext fun a => Fin.ext (by
      match a with
      | ⟨0, _⟩ => show (x 0).val = i.val; have : 32 * 1 + i.val = 32 + (x 0).val := g0; omega
      | ⟨1, _⟩ => show (x 1).val = u.val; have : 64 * 1 + u.val = 64 + (x 1).val := g1; omega)
    rw [ex]
    exact congrFun (loaded x0 x1 x2 x3 x4 x5 x6 1 1 inb_S128x512_S32x64_32_64 inb_S1x4x8x64x512_S1x1x1x64x512_0_1_1_0_0 inb_S4x8x64x32_S1x1x64x32_1_1_0_0 inb_S8x32x512_S1x32x512_1_0_0 inb_S8x32x32_S1x32x32_1_0_0) (ix2 i u)
  case piece27 =>
    obtain rfl : b = 0 := Fin.ext (by show b.val = 0; omega)
    obtain rfl : h = 1 := Fin.ext (by show h.val = 1; omega)
    have ex : x = ix2 i u := funext fun a => Fin.ext (by
      match a with
      | ⟨0, _⟩ => show (x 0).val = i.val; have : 32 * 0 + i.val = (x 0).val := g0; omega
      | ⟨1, _⟩ => show (x 1).val = u.val; have : 64 * 1 + u.val = 64 + (x 1).val := g1; omega)
    rw [ex]
    exact congrFun (loaded x0 x1 x2 x3 x4 x5 x6 0 1 inb_S128x512_S32x64_0_64 inb_S1x4x8x64x512_S1x1x1x64x512_0_0_1_0_0 inb_S4x8x64x32_S1x1x64x32_0_1_0_0 inb_S8x32x512_S1x32x512_1_0_0 inb_S8x32x32_S1x32x32_1_0_0) (ix2 i u)
  case piece28 =>
    obtain rfl : b = 3 := Fin.ext (by show b.val = 3; omega)
    obtain rfl : h = 0 := Fin.ext (by show h.val = 0; omega)
    have ex : x = ix2 i u := funext fun a => Fin.ext (by
      match a with
      | ⟨0, _⟩ => show (x 0).val = i.val; have : 32 * 3 + i.val = 96 + (x 0).val := g0; omega
      | ⟨1, _⟩ => show (x 1).val = u.val; have : 64 * 0 + u.val = (x 1).val := g1; omega)
    rw [ex]
    exact congrFun (loaded x0 x1 x2 x3 x4 x5 x6 3 0 inb_S128x512_S32x64_96_0 inb_S1x4x8x64x512_S1x1x1x64x512_0_3_0_0_0 inb_S4x8x64x32_S1x1x64x32_3_0_0_0 inb_S8x32x512_S1x32x512_0_0_0 inb_S8x32x32_S1x32x32_0_0_0) (ix2 i u)
  case piece29 =>
    obtain rfl : b = 2 := Fin.ext (by show b.val = 2; omega)
    obtain rfl : h = 0 := Fin.ext (by show h.val = 0; omega)
    have ex : x = ix2 i u := funext fun a => Fin.ext (by
      match a with
      | ⟨0, _⟩ => show (x 0).val = i.val; have : 32 * 2 + i.val = 64 + (x 0).val := g0; omega
      | ⟨1, _⟩ => show (x 1).val = u.val; have : 64 * 0 + u.val = (x 1).val := g1; omega)
    rw [ex]
    exact congrFun (loaded x0 x1 x2 x3 x4 x5 x6 2 0 inb_S128x512_S32x64_64_0 inb_S1x4x8x64x512_S1x1x1x64x512_0_2_0_0_0 inb_S4x8x64x32_S1x1x64x32_2_0_0_0 inb_S8x32x512_S1x32x512_0_0_0 inb_S8x32x32_S1x32x32_0_0_0) (ix2 i u)
  case piece30 =>
    obtain rfl : b = 1 := Fin.ext (by show b.val = 1; omega)
    obtain rfl : h = 0 := Fin.ext (by show h.val = 0; omega)
    have ex : x = ix2 i u := funext fun a => Fin.ext (by
      match a with
      | ⟨0, _⟩ => show (x 0).val = i.val; have : 32 * 1 + i.val = 32 + (x 0).val := g0; omega
      | ⟨1, _⟩ => show (x 1).val = u.val; have : 64 * 0 + u.val = (x 1).val := g1; omega)
    rw [ex]
    exact congrFun (loaded x0 x1 x2 x3 x4 x5 x6 1 0 inb_S128x512_S32x64_32_0 inb_S1x4x8x64x512_S1x1x1x64x512_0_1_0_0_0 inb_S4x8x64x32_S1x1x64x32_1_0_0_0 inb_S8x32x512_S1x32x512_0_0_0 inb_S8x32x32_S1x32x32_0_0_0) (ix2 i u)
  case piece31 =>
    obtain rfl : b = 0 := Fin.ext (by show b.val = 0; omega)
    obtain rfl : h = 0 := Fin.ext (by show h.val = 0; omega)
    have ex : x = ix2 i u := funext fun a => Fin.ext (by
      match a with
      | ⟨0, _⟩ => show (x 0).val = i.val; have : 32 * 0 + i.val = (x 0).val := g0; omega
      | ⟨1, _⟩ => show (x 1).val = u.val; have : 64 * 0 + u.val = (x 1).val := g1; omega)
    rw [ex]
    exact congrFun (loaded x0 x1 x2 x3 x4 x5 x6 0 0 inb_S128x512_S32x64_0_0 inb_S1x4x8x64x512_S1x1x1x64x512_0_0_0_0_0 inb_S4x8x64x32_S1x1x64x32_0_0_0_0 inb_S8x32x512_S1x32x512_0_0_0 inb_S8x32x32_S1x32x32_0_0_0) (ix2 i u)

end Cert.Kernel10Ideal.Sample
-- ==== Proof.SampleEntry.lean ====
/- The arrays the sample's attention region is entered with, read at an index: queries, caches and new rows by stream and head, and the two biases by relative position. -/
module

public import proofs.«01_k».proof.Proof.SampleOut
public import proofs.«01_k».proof.Proof.Gen.Kernel10Ideal.Value

@[expose] public section
set_option maxRecDepth 16384
noncomputable section
namespace Cert.Kernel10Ideal.Sample
open Idealize.ShloMosaic Idealize.ShloMosaic.TcCoe Idealize.SL.Sem
open Idealize.ShloMosaic.Pipeline (Dat)
open Cert.Kernel10Ideal.Gen
variable (m : (ℓ : Loc nD τ sig) → Buf (Elt Ideal) ℓ)

/-- The table's row of each entry of the cached rows' sequence. -/
theorem lit0_at : ∀ n : Fin 544, lit0 n = BitVec.ofNat 32 (if 384 ≤ n.val ∧ n.val < 512 then n.val - 384 else 0) := by decide +kernel

/-- The table's row of each entry of the new rows' sequence. -/
theorem lit1_at : ∀ n : Fin 64, lit1 n = BitVec.ofNat 32 (if n.val < 32 then 128 + n.val else 64 + n.val) := by decide +kernel

/-- The rows of the table in the order of the cached rows' sequence, heads first. -/
def seqC (T : Vec Ideal S257x8 .f32) : Vec Ideal S8x544 .f32 :=
  transpose S8x544 [1, 0]
    (Host.gather gather_S257x8_S544x1_S544x8_1_0_n_n_0_1_18 T
      (broadcastInDim S544x1 ![0] bcast_S544_S544x1_0
        (select (constantI S544 1 0#1)
          (addi (fun i => lit0 (S544.rowMajor i)) (broadcastInDim S544 ![] bcast_S_S544 (constantI S_ 32 257#32)))
          fun i => lit0 (S544.rowMajor i))))
    transposes_S544x8_S8x544_1_0

/-- The cached rows' bias by head, query and row: the sequence laid out so that a diagonal holds one entry. -/
def skewC (T : Vec Ideal S257x8 .f32) : Vec Ideal S8x32x512 .f32 :=
  extractStridedSlice S8x32x512 ![0, 0, 0]
    (shapeCast S8x32x543
      (extractStridedSlice S8x17376 ![0, 0]
        (shapeCast S8x17408
          (broadcastInDim S1x8x32x544 ![0, 1, 2, 3] bcast_S1x8x1x544_S1x8x32x544_0_1_2_3
            (shapeCast S1x8x1x544 (seqC T) shapeCasts_S8x544_S1x8x1x544))
          shapeCasts_S1x8x32x544_S8x17408)
        slices_S8x17408_S8x17376_0_0)
      shapeCasts_S8x17376_S8x32x543)
    slices_S8x32x543_S8x32x512_0_0_0

/-- The cached rows' bias as the region is given it: every row is in every query's band. -/
def biasC (T : Vec Ideal S257x8 .f32) : Vec Ideal S8x32x512 .f32 :=
  select (broadcastInDim S8x32x512 ![0, 1, 2] bcast_S1x32x512_S8x32x512_0_1_2
      (broadcastInDim S1x32x512 ![1, 2] bcast_S32x512_S1x32x512_1_2 (constantI S32x512 1 1#1)))
    (skewC T) (broadcastInDim S8x32x512 ![] bcast_S_S8x32x512 (constant (F := Ideal) S_ .f32 0xF149F2CA#32))

/-- The region's operand is that array. -/
theorem V_biasC (c : Dev nD) : V m c main_v19 = biasC (m ((c : Thread nD τ).loc main_arg5)) := by
  unfold V
  simp only [hostOps0, hostOps0_1, hostOps0_2, hostOps0_3, List.flatten_cons, List.flatten_nil, List.append_nil, List.cons_append, List.nil_append]
  after_results
  simp only [StableHlo.TRef.ofBuf_toBuf, id]
  unfold biasC skewC seqC
  rfl

/-- A gather of whole rows of the table for the cached rows' sequence, at an index. -/
theorem gatherC_at (T : Vec Ideal S257x8 .f32) (idx : IVec S544x1 32) (b : Fin 544) (h : Fin 8) :
    Host.gather gather_S257x8_S544x1_S544x8_1_0_n_n_0_1_18 T idx (ix2 b h) = T (ix2 ⟨min (idx (ix2 b 0)).toInt.toNat 256, by omega⟩ h) := by
  unfold Host.gather
  refine congrArg T ?_
  funext a
  refine Fin.ext ?_
  show gather_S257x8_S544x1_S544x8_1_0_n_n_0_1_18.start (ix2 b h) idx a + gather_S257x8_S544x1_S544x8_1_0_n_n_0_1_18.batchCoord (ix2 b h) a
    + gather_S257x8_S544x1_S544x8_1_0_n_n_0_1_18.offCoord (ix2 b h) a = _
  have h01 : a = 0 ∨ a = 1 := by
    match a with
    | ⟨0, _⟩ => exact Or.inl rfl
    | ⟨1, _⟩ => exact Or.inr rfl
  rcases h01 with rfl | rfl
  · rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S257x8_S544x1_S544x8_1_0_n_n_0_1_18.startIndexMap from List.mem_singleton.mpr rfl)]
    have hsi : gather_S257x8_S544x1_S544x8_1_0_n_n_0_1_18.siIdx (ix2 b h) ⟨List.idxOf (0 : Fin 2) gather_S257x8_S544x1_S544x8_1_0_n_n_0_1_18.startIndexMap,
        List.idxOf_lt_length_iff.2 (List.mem_singleton.mpr rfl)⟩ = ix2 b 0 := by
      funext k; refine Fin.ext ?_
      match k with
      | ⟨0, _⟩ => rfl
      | ⟨1, _⟩ => rfl
    rw [hsi]
    rfl
  · rw [GatherDims.batchCoord_eq_zero _ _ _ List.not_mem_nil]
    unfold GatherDims.start
    rw [dif_neg (show ¬ (1 : Fin 2) ∈ gather_S257x8_S544x1_S544x8_1_0_n_n_0_1_18.startIndexMap from by decide)]
    simp only [Nat.zero_add, Nat.add_zero]
    unfold GatherDims.offCoord
    rw [dif_pos (show (1 : Fin 2) ∈ gather_S257x8_S544x1_S544x8_1_0_n_n_0_1_18.sKept from by decide)]
    rfl

/-- The cached rows' sequence at an index. -/
theorem seqC_at (T : Vec Ideal S257x8 .f32) (h : Fin 8) (b : Fin 544) :
    seqC T (ix2 h b) = T (ix2 ⟨(if 384 ≤ b.val ∧ b.val < 512 then b.val - 384 else 0), by split <;> omega⟩ h) := by
  unfold seqC
  pointwise
  rw [gatherC_at]
  pointwise
  refine congrArg (fun k => T (ix2 k h)) (Fin.ext ?_)
  show min (lit0 (S544.rowMajor (ix1 b))).toInt.toNat 256 = (if 384 ≤ b.val ∧ b.val < 512 then b.val - 384 else 0)
  have e : lit0 (S544.rowMajor (ix1 b)) = lit0 b := congrArg lit0 (Fin.ext (by simp [Shape.rowMajor_val_one]))
  rw [e, lit0_at]
  revert b
  decide +kernel

/-- The laid-out cached rows' sequence at an index. -/
theorem skewC_at (T : Vec Ideal S257x8 .f32) (h : Fin 8) (i : Fin 32) (r : Fin 512) :
    skewC T (ix3 h i r) = seqC T (ix2 h ⟨(543 * i.val + r.val) % 544, Nat.mod_lt _ (by decide)⟩) := by
  unfold skewC
  generalize seqC T = X
  pointwise
  exact congrArg (fun k => X (ix2 h k)) (Fin.ext (by show (i.val * 543 + r.val) % 544 = (543 * i.val + r.val) % 544; omega))

/-- The cached rows' sequence's index names the relative position, clipped. -/
theorem rowC (i : Fin 32) (r : Fin 512) (b : Fin 544) (hb : b.val = (543 * i.val + r.val) % 544) :
    (if 384 ≤ b.val ∧ b.val < 512 then b.val - 384 else 0) = min 256 (r.val - (i.val + 384)) := by
  have hi := i.isLt
  have hr := r.isLt
  have e : b.val = if i.val ≤ r.val then r.val - i.val else 544 + r.val - i.val := by
    rw [hb]
    split
    · rw [show 543 * i.val + r.val = (r.val - i.val) + 544 * i.val by omega, Nat.add_mul_mod_self_left, Nat.mod_eq_of_lt (by omega)]
    · rw [show 543 * i.val + r.val = (544 + r.val - i.val) + 544 * (i.val - 1) by omega, Nat.add_mul_mod_self_left, Nat.mod_eq_of_lt (by omega)]
  rw [e]
  split_ifs <;> omega

/-- The cached rows' bias at an index: the table's entry at the clipped relative position. -/
theorem biasC_at (T : Vec Ideal S257x8 .f32) (h : Fin 8) (i : Fin 32) (r : Fin 512) :
    biasC T (ix3 h i r) = T (ix2 ⟨min 256 (r.val - (i.val + 384)), by omega⟩ h) := by
  have e : biasC T (ix3 h i r) = skewC T (ix3 h i r) := by
    unfold biasC
    generalize skewC T = X
    pointwise
  rw [e, skewC_at, seqC_at]
  exact congrArg (fun k => T (ix2 k h)) (Fin.ext (rowC i r _ rfl))

/-- The rows of the table in the order of the new rows' sequence, heads first. -/
def seqN (T : Vec Ideal S257x8 .f32) : Vec Ideal S8x64 .f32 :=
  transpose S8x64 [1, 0]
    (Host.gather gather_S257x8_S64x1_S64x8_1_0_n_n_0_1_18 T
      (broadcastInDim S64x1 ![0] bcast_S64_S64x1_0
        (select (constantI S64 1 0#1)
          (addi (fun i => lit1 (S64.rowMajor i)) (broadcastInDim S64 ![] bcast_S_S64 (constantI S_ 32 257#32)))
          fun i => lit1 (S64.rowMajor i))))
    transposes_S64x8_S8x64_1_0

/-- The new rows' bias by head, query and row: the sequence laid out so that a diagonal holds one entry. -/
def skewN (T : Vec Ideal S257x8 .f32) : Vec Ideal S8x32x32 .f32 :=
  extractStridedSlice S8x32x32 ![0, 0, 0]
    (shapeCast S8x32x63
      (extractStridedSlice S8x2016 ![0, 0]
        (shapeCast S8x2048
          (broadcastInDim S1x8x32x64 ![0, 1, 2, 3] bcast_S1x8x1x64_S1x8x32x64_0_1_2_3
            (shapeCast S1x8x1x64 (seqN T) shapeCasts_S8x64_S1x8x1x64))
          shapeCasts_S1x8x32x64_S8x2048)
        slices_S8x2048_S8x2016_0_0)
      shapeCasts_S8x2016_S8x32x63)
    slices_S8x32x63_S8x32x32_0_0_0

/-- The new rows' bias as the region is given it: every row is in every query's band. -/
def biasN (T : Vec Ideal S257x8 .f32) : Vec Ideal S8x32x32 .f32 :=
  select (broadcastInDim S8x32x32 ![0, 1, 2] bcast_S1x32x32_S8x32x32_0_1_2
      (broadcastInDim S1x32x32 ![1, 2] bcast_S32x32_S1x32x32_1_2 (constantI S32x32 1 1#1)))
    (skewN T) (broadcastInDim S8x32x32 ![] bcast_S_S8x32x32 (constant (F := Ideal) S_ .f32 0xF149F2CA#32))

/-- The region's operand is that array. -/
theorem V_biasN (c : Dev nD) : V m c main_v33 = biasN (m ((c : Thread nD τ).loc main_arg5)) := by
  unfold V
  simp only [hostOps0, hostOps0_1, hostOps0_2, hostOps0_3, List.flatten_cons, List.flatten_nil, List.append_nil, List.cons_append, List.nil_append]
  after_results
  simp only [StableHlo.TRef.ofBuf_toBuf, id]
  unfold biasN skewN seqN
  rfl

/-- A gather of whole rows of the table for the new rows' sequence, at an index. -/
theorem gatherN_at (T : Vec Ideal S257x8 .f32) (idx : IVec S64x1 32) (b : Fin 64) (h : Fin 8) :
    Host.gather gather_S257x8_S64x1_S64x8_1_0_n_n_0_1_18 T idx (ix2 b h) = T (ix2 ⟨min (idx (ix2 b 0)).toInt.toNat 256, by omega⟩ h) := by
  unfold Host.gather
  refine congrArg T ?_
  funext a
  refine Fin.ext ?_
  show gather_S257x8_S64x1_S64x8_1_0_n_n_0_1_18.start (ix2 b h) idx a + gather_S257x8_S64x1_S64x8_1_0_n_n_0_1_18.batchCoord (ix2 b h) a
    + gather_S257x8_S64x1_S64x8_1_0_n_n_0_1_18.offCoord (ix2 b h) a = _
  have h01 : a = 0 ∨ a = 1 := by
    match a with
    | ⟨0, _⟩ => exact Or.inl rfl
    | ⟨1, _⟩ => exact Or.inr rfl
  rcases h01 with rfl | rfl
  · rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S257x8_S64x1_S64x8_1_0_n_n_0_1_18.startIndexMap from List.mem_singleton.mpr rfl)]
    have hsi : gather_S257x8_S64x1_S64x8_1_0_n_n_0_1_18.siIdx (ix2 b h) ⟨List.idxOf (0 : Fin 2) gather_S257x8_S64x1_S64x8_1_0_n_n_0_1_18.startIndexMap,
        List.idxOf_lt_length_iff.2 (List.mem_singleton.mpr rfl)⟩ = ix2 b 0 := by
      funext k; refine Fin.ext ?_
      match k with
      | ⟨0, _⟩ => rfl
      | ⟨1, _⟩ => rfl
    rw [hsi]
    rfl
  · rw [GatherDims.batchCoord_eq_zero _ _ _ List.not_mem_nil]
    unfold GatherDims.start
    rw [dif_neg (show ¬ (1 : Fin 2) ∈ gather_S257x8_S64x1_S64x8_1_0_n_n_0_1_18.startIndexMap from by decide)]
    simp only [Nat.zero_add, Nat.add_zero]
    unfold GatherDims.offCoord
    rw [dif_pos (show (1 : Fin 2) ∈ gather_S257x8_S64x1_S64x8_1_0_n_n_0_1_18.sKept from by decide)]
    rfl

/-- The new rows' sequence at an index. -/
theorem seqN_at (T : Vec Ideal S257x8 .f32) (h : Fin 8) (b : Fin 64) :
    seqN T (ix2 h b) = T (ix2 ⟨(if b.val < 32 then 128 + b.val else 64 + b.val), by split <;> omega⟩ h) := by
  unfold seqN
  pointwise
  rw [gatherN_at]
  pointwise
  refine congrArg (fun k => T (ix2 k h)) (Fin.ext ?_)
  show min (lit1 (S64.rowMajor (ix1 b))).toInt.toNat 256 = (if b.val < 32 then 128 + b.val else 64 + b.val)
  have e : lit1 (S64.rowMajor (ix1 b)) = lit1 b := congrArg lit1 (Fin.ext (by simp [Shape.rowMajor_val_one]))
  rw [e, lit1_at]
  revert b
  decide +kernel

/-- The laid-out new rows' sequence at an index. -/
theorem skewN_at (T : Vec Ideal S257x8 .f32) (h : Fin 8) (i : Fin 32) (r : Fin 32) :
    skewN T (ix3 h i r) = seqN T (ix2 h ⟨(63 * i.val + r.val) % 64, Nat.mod_lt _ (by decide)⟩) := by
  unfold skewN
  generalize seqN T = X
  pointwise
  exact congrArg (fun k => X (ix2 h k)) (Fin.ext (by show (i.val * 63 + r.val) % 64 = (63 * i.val + r.val) % 64; omega))

/-- The new rows' sequence's index names the relative position, clipped. -/
theorem rowN (i : Fin 32) (r : Fin 32) (b : Fin 64) (hb : b.val = (63 * i.val + r.val) % 64) :
    (if b.val < 32 then 128 + b.val else 64 + b.val) = min 256 (512 + r.val - (i.val + 384)) := by
  have hi := i.isLt
  have hr := r.isLt
  have e : b.val = if i.val ≤ r.val then r.val - i.val else 64 + r.val - i.val := by
    rw [hb]
    split
    · rw [show 63 * i.val + r.val = (r.val - i.val) + 64 * i.val by omega, Nat.add_mul_mod_self_left, Nat.mod_eq_of_lt (by omega)]
    · rw [show 63 * i.val + r.val = (64 + r.val - i.val) + 64 * (i.val - 1) by omega, Nat.add_mul_mod_self_left, Nat.mod_eq_of_lt (by omega)]
  rw [e]
  split_ifs <;> omega

/-- The new rows' bias at an index: the table's entry at the clipped relative position. -/
theorem biasN_at (T : Vec Ideal S257x8 .f32) (h : Fin 8) (i : Fin 32) (r : Fin 32) :
    biasN T (ix3 h i r) = T (ix2 ⟨min 256 (512 + r.val - (i.val + 384)), by omega⟩ h) := by
  have e : biasN T (ix3 h i r) = skewN T (ix3 h i r) := by
    unfold biasN
    generalize skewN T = X
    pointwise
  rw [e, skewN_at, seqN_at]
  exact congrArg (fun k => T (ix2 k h)) (Fin.ext (rowN i r _ rfl))

/-- The cached keys' array with the position last. -/
theorem V_kc (c : Dev nD) : V m c main_v0 = transpose S2x32x8x64x512 [0, 1, 3, 4, 2] (m ((c : Thread nD τ).loc main_arg3)) transposes_S2x32x512x8x64_S2x32x8x64x512_0_1_3_4_2 := by
  unfold V
  simp only [hostOps0, hostOps0_1, hostOps0_2, hostOps0_3, List.flatten_cons, List.flatten_nil, List.append_nil, List.cons_append, List.nil_append]
  after_results

/-- The cached values' array with the position last. -/
theorem V_vc (c : Dev nD) : V m c main_v1 = transpose S2x32x8x64x512 [0, 1, 3, 4, 2] (m ((c : Thread nD τ).loc main_arg4)) transposes_S2x32x512x8x64_S2x32x8x64x512_0_1_3_4_2 := by
  unfold V
  simp only [hostOps0, hostOps0_1, hostOps0_2, hostOps0_3, List.flatten_cons, List.flatten_nil, List.append_nil, List.cons_append, List.nil_append]
  after_results

/-- The new keys' array by stream, head, feature and position. -/
theorem V_kn (c : Dev nD) : V m c main_v3 = transpose S32x8x64x32 [0, 2, 3, 1] (shapeCast S32x32x8x64 (m ((c : Thread nD τ).loc main_arg1)) shapeCasts_S1024x512_S32x32x8x64) transposes_S32x32x8x64_S32x8x64x32_0_2_3_1 := by
  unfold V
  simp only [hostOps0, hostOps0_1, hostOps0_2, hostOps0_3, List.flatten_cons, List.flatten_nil, List.append_nil, List.cons_append, List.nil_append]
  after_results
  rfl

/-- The new values' array by stream, head, feature and position. -/
theorem V_vn (c : Dev nD) : V m c main_v5 = transpose S32x8x64x32 [0, 2, 3, 1] (shapeCast S32x32x8x64 (m ((c : Thread nD τ).loc main_arg2)) shapeCasts_S1024x512_S32x32x8x64) transposes_S32x32x8x64_S32x8x64x32_0_2_3_1 := by
  unfold V
  simp only [hostOps0, hostOps0_1, hostOps0_2, hostOps0_3, List.flatten_cons, List.flatten_nil, List.append_nil, List.cons_append, List.nil_append]
  after_results
  rfl

/-- A cache with the position last, at an index. -/
theorem turned_at (C : Vec Ideal S2x32x512x8x64 .f32) (s : Fin 32) (h : Fin 8) (u : Fin 64) (r : Fin 512) :
    transpose S2x32x8x64x512 [0, 1, 3, 4, 2] C transposes_S2x32x512x8x64_S2x32x8x64x512_0_1_3_4_2 (ix5 0 s h u r) = C (ix5 0 s r h u) := by
  pointwise

/-- The new rows by stream, head, feature and position, at an index. -/
theorem news_at (X : Vec Ideal S1024x512 .f32) (s : Fin 32) (h : Fin 8) (u : Fin 64) (r : Fin 32) :
    transpose S32x8x64x32 [0, 2, 3, 1] (shapeCast S32x32x8x64 X shapeCasts_S1024x512_S32x32x8x64) transposes_S32x32x8x64_S32x8x64x32_0_2_3_1 (ix4 s h u r)
      = X (ix2 ⟨32 * s.val + r.val, by omega⟩ ⟨64 * h.val + u.val, by omega⟩) := by
  have e : shapeCast S32x32x8x64 X shapeCasts_S1024x512_S32x32x8x64 (ix4 s r h u) = X (ix2 ⟨32 * s.val + r.val, by omega⟩ ⟨64 * h.val + u.val, by omega⟩) := by
    refine shapeCast_apply _ _ _ _ ?_
    rw [Shape.rowMajor_val_four, Shape.rowMajor_val_two]
    show (32 * s.val + r.val) * 512 + (64 * h.val + u.val) = ((s.val * 32 + r.val) * 8 + h.val) * 64 + u.val
    omega
  rw [← e]
  generalize shapeCast S32x32x8x64 X shapeCasts_S1024x512_S32x32x8x64 = Y
  pointwise

/-- The block each window reads or writes at a grid point. -/
theorem index_at : ∀ t : Fin cfg0.N, win0_0.index t (0 : Fin 2) = t.val ∧ win0_0.index t (1 : Fin 2) = 0
    ∧ (win0_1.index t (0 : Fin 5) = 0 ∧ win0_1.index t (1 : Fin 5) = t.val ∧ win0_1.index t (2 : Fin 5) = 0 ∧ win0_1.index t (3 : Fin 5) = 0 ∧ win0_1.index t (4 : Fin 5) = 0)
    ∧ (win0_2.index t (0 : Fin 5) = 0 ∧ win0_2.index t (1 : Fin 5) = t.val ∧ win0_2.index t (2 : Fin 5) = 0 ∧ win0_2.index t (3 : Fin 5) = 0 ∧ win0_2.index t (4 : Fin 5) = 0)
    ∧ (win0_3.index t (0 : Fin 4) = t.val ∧ win0_3.index t (1 : Fin 4) = 0 ∧ win0_3.index t (2 : Fin 4) = 0 ∧ win0_3.index t (3 : Fin 4) = 0)
    ∧ (win0_4.index t (0 : Fin 4) = t.val ∧ win0_4.index t (1 : Fin 4) = 0 ∧ win0_4.index t (2 : Fin 4) = 0 ∧ win0_4.index t (3 : Fin 4) = 0)
    ∧ (win0_5.index t (0 : Fin 3) = 0 ∧ win0_5.index t (1 : Fin 3) = 0 ∧ win0_5.index t (2 : Fin 3) = 0)
    ∧ (win0_6.index t (0 : Fin 3) = 0 ∧ win0_6.index t (1 : Fin 3) = 0 ∧ win0_6.index t (2 : Fin 3) = 0)
    ∧ (win0_7.index t (0 : Fin 2) = t.val ∧ win0_7.index t (1 : Fin 2) = 0) :=
  (by decide +kernel : ∀ t : Fin grid0.N, _)

/-- A grid point's queries are 128 rows of the queries. -/
theorem query_block (c : Dev nD) (t : Fin cfg0.N) (x : Fin 128) (e : Fin 512) :
    iblk m c 0 t (ix2 x e) = m ((c : Thread nD τ).loc main_arg0) (ix2 ⟨128 * t.val + x.val, by have := t.isLt; change _ < 8 at this; omega⟩ e) := by
  obtain ⟨h0, h1, _⟩ := index_at t
  blk_ext [iblk, V]

/-- A grid point's cached keys are four streams' cached rows of the first layer. -/
theorem kc_block (c : Dev nD) (t : Fin cfg0.N) (b : Fin 4) (h : Fin 8) (u : Fin 64) (r : Fin 512) :
    iblk m c 1 t (ix5 0 b h u r) = m ((c : Thread nD τ).loc main_arg3) (ix5 0 ⟨4 * t.val + b.val, by have := t.isLt; change _ < 8 at this; omega⟩ r h u) := by
  obtain ⟨_, _, hA, hB, _⟩ := index_at t
  obtain ⟨h0, h1, h2, h3, h4⟩ := hA
  have e1 : iblk m c 1 t (ix5 0 b h u r) = V m c main_v0 (ix5 0 ⟨4 * t.val + b.val, by have := t.isLt; change _ < 8 at this; omega⟩ h u r) := by
    refine congrArg (V m c main_v0) ?_
    funext a
    refine Fin.ext ?_
    fin_cases a
    · show win0_1.index t 0 * 1 + 1 * 0 = 0
      omega
    · show win0_1.index t 1 * 4 + 1 * b.val = 4 * t.val + b.val
      omega
    · show win0_1.index t 2 * 8 + 1 * h.val = h.val
      omega
    · show win0_1.index t 3 * 64 + 1 * u.val = u.val
      omega
    · show win0_1.index t 4 * 512 + 1 * r.val = r.val
      omega
  rw [e1, V_kc]
  exact turned_at _ _ h u r

/-- A grid point's cached values are four streams' cached rows of the first layer. -/
theorem vc_block (c : Dev nD) (t : Fin cfg0.N) (b : Fin 4) (h : Fin 8) (u : Fin 64) (r : Fin 512) :
    iblk m c 2 t (ix5 0 b h u r) = m ((c : Thread nD τ).loc main_arg4) (ix5 0 ⟨4 * t.val + b.val, by have := t.isLt; change _ < 8 at this; omega⟩ r h u) := by
  obtain ⟨_, _, hA, hB, _⟩ := index_at t
  obtain ⟨h0, h1, h2, h3, h4⟩ := hB
  have e1 : iblk m c 2 t (ix5 0 b h u r) = V m c main_v1 (ix5 0 ⟨4 * t.val + b.val, by have := t.isLt; change _ < 8 at this; omega⟩ h u r) := by
    refine congrArg (V m c main_v1) ?_
    funext a
    refine Fin.ext ?_
    fin_cases a
    · show win0_2.index t 0 * 1 + 1 * 0 = 0
      omega
    · show win0_2.index t 1 * 4 + 1 * b.val = 4 * t.val + b.val
      omega
    · show win0_2.index t 2 * 8 + 1 * h.val = h.val
      omega
    · show win0_2.index t 3 * 64 + 1 * u.val = u.val
      omega
    · show win0_2.index t 4 * 512 + 1 * r.val = r.val
      omega
  rw [e1, V_vc]
  exact turned_at _ _ h u r

/-- A grid point's new keys are four streams' new rows. -/
theorem kn_block (c : Dev nD) (t : Fin cfg0.N) (b : Fin 4) (h : Fin 8) (u : Fin 64) (r : Fin 32) :
    iblk m c 3 t (ix4 b h u r) = m ((c : Thread nD τ).loc main_arg1) (ix2 ⟨32 * (4 * t.val + b.val) + r.val, by have := t.isLt; change _ < 8 at this; omega⟩ ⟨64 * h.val + u.val, by omega⟩) := by
  obtain ⟨_, _, _, _, hA, hB, _⟩ := index_at t
  obtain ⟨h0, h1, h2, h3⟩ := hA
  have e1 : iblk m c 3 t (ix4 b h u r) = V m c main_v3 (ix4 ⟨4 * t.val + b.val, by have := t.isLt; change _ < 8 at this; omega⟩ h u r) := by
    refine congrArg (V m c main_v3) ?_
    funext a
    refine Fin.ext ?_
    fin_cases a
    · show win0_3.index t 0 * 4 + 1 * b.val = 4 * t.val + b.val
      omega
    · show win0_3.index t 1 * 8 + 1 * h.val = h.val
      omega
    · show win0_3.index t 2 * 64 + 1 * u.val = u.val
      omega
    · show win0_3.index t 3 * 32 + 1 * r.val = r.val
      omega
  rw [e1, V_kn]
  exact news_at _ ⟨4 * t.val + b.val, by have := t.isLt; change _ < 8 at this; omega⟩ h u r

/-- A grid point's new values are four streams' new rows. -/
theorem vn_block (c : Dev nD) (t : Fin cfg0.N) (b : Fin 4) (h : Fin 8) (u : Fin 64) (r : Fin 32) :
    iblk m c 4 t (ix4 b h u r) = m ((c : Thread nD τ).loc main_arg2) (ix2 ⟨32 * (4 * t.val + b.val) + r.val, by have := t.isLt; change _ < 8 at this; omega⟩ ⟨64 * h.val + u.val, by omega⟩) := by
  obtain ⟨_, _, _, _, hA, hB, _⟩ := index_at t
  obtain ⟨h0, h1, h2, h3⟩ := hB
  have e1 : iblk m c 4 t (ix4 b h u r) = V m c main_v5 (ix4 ⟨4 * t.val + b.val, by have := t.isLt; change _ < 8 at this; omega⟩ h u r) := by
    refine congrArg (V m c main_v5) ?_
    funext a
    refine Fin.ext ?_
    fin_cases a
    · show win0_4.index t 0 * 4 + 1 * b.val = 4 * t.val + b.val
      omega
    · show win0_4.index t 1 * 8 + 1 * h.val = h.val
      omega
    · show win0_4.index t 2 * 64 + 1 * u.val = u.val
      omega
    · show win0_4.index t 3 * 32 + 1 * r.val = r.val
      omega
  rw [e1, V_vn]
  exact news_at _ ⟨4 * t.val + b.val, by have := t.isLt; change _ < 8 at this; omega⟩ h u r

/-- Every grid point's cached rows' bias block is the whole bias. -/
theorem biasC_block (c : Dev nD) (t : Fin cfg0.N) : iblk m c 5 t = biasC (m ((c : Thread nD τ).loc main_arg5)) := by
  obtain ⟨_, _, _, _, _, _, hA, hB, _⟩ := index_at t
  obtain ⟨h0, h1, h2⟩ := hA
  rw [← V_biasC]
  funext j
  refine congrArg (V m c main_v19) ?_
  funext a
  refine Fin.ext ?_
  fin_cases a
  · show win0_5.index t 0 * 8 + 1 * (j 0).val = (j 0).val
    omega
  · show win0_5.index t 1 * 32 + 1 * (j 1).val = (j 1).val
    omega
  · show win0_5.index t 2 * 512 + 1 * (j 2).val = (j 2).val
    omega

/-- Every grid point's new rows' bias block is the whole bias. -/
theorem biasN_block (c : Dev nD) (t : Fin cfg0.N) : iblk m c 6 t = biasN (m ((c : Thread nD τ).loc main_arg5)) := by
  obtain ⟨_, _, _, _, _, _, hA, hB, _⟩ := index_at t
  obtain ⟨h0, h1, h2⟩ := hB
  rw [← V_biasN]
  funext j
  refine congrArg (V m c main_v33) ?_
  funext a
  refine Fin.ext ?_
  fin_cases a
  · show win0_6.index t 0 * 8 + 1 * (j 0).val = (j 0).val
    omega
  · show win0_6.index t 1 * 32 + 1 * (j 1).val = (j 1).val
    omega
  · show win0_6.index t 2 * 32 + 1 * (j 2).val = (j 2).val
    omega

end Cert.Kernel10Ideal.Sample
-- ==== Proof.SampleRef.lean ====
/- The reference of the sample's band attention: its terms, and each read at an index. The band is 512 cached rows followed by the 32 new ones. -/
module

public import proofs.«01_k».proof.Proof.Gen.Reference10Ideal.Run
public import proofs.«01_k».proof.Proof.RefAt

@[expose] public section
set_option maxRecDepth 16384
noncomputable section
namespace Cert.Reference10Ideal.Sample
open Idealize.ShloMosaic Idealize.ShloMosaic.TcCoe Idealize.SL.Sem
open Cert.Reference10Ideal.Gen
open Cert.ReferenceIdeal.Band (negInf eighth row_word)

/-- An operand split into stream, position, head and feature. -/
def split (X : Vec Ideal S1024x512 .f32) : Vec Ideal S32x32x8x64 .f32 := shapeCast _ X shapeCasts_S1024x512_S32x32x8x64

/-- The first layer of a cache. -/
def layer (C : Vec Ideal S2x32x512x8x64 .f32) : Vec Ideal S32x512x8x64 .f32 :=
  shapeCast _ (extractStridedSlice S1x32x512x8x64 ![0, 0, 0, 0, 0] C slices_S2x32x512x8x64_S1x32x512x8x64_0_0_0_0_0) shapeCasts_S1x32x512x8x64_S32x512x8x64

/-- The cached rows with the new rows behind them. -/
def rows (C : Vec Ideal S2x32x512x8x64 .f32) (X : Vec Ideal S1024x512 .f32) : Vec Ideal S32x544x8x64 .f32 :=
  concatenate S32x544x8x64 1 [⟨S32x512x8x64, layer C⟩, ⟨S32x32x8x64, split X⟩] concatenates_S32x512x8x64_S32x32x8x64_S32x544x8x64_d1

/-- The position of each query. -/
def posQ : IVec S32 32 := addi (broadcastInDim S32 ![] bcast_S_S32 (constantI S_ 32 1024#32)) (iotaInDim S32 32 0)

/-- The position of each key. -/
def posK : IVec S544 32 := addi (broadcastInDim S544 ![] bcast_S_S544 (constantI S_ 32 512#32)) (iotaInDim S544 32 0)

/-- The chunk number of each query. -/
def chunkQ : IVec S32 32 :=
  select (andi (cmpi .ne (signi posQ) (broadcastInDim S32 ![] bcast_S_S32 (signi (id (constantI S_ 32 64#32))))) (cmpi .ne (Host.remsi posQ (broadcastInDim S32 ![] bcast_S_S32 (id (constantI S_ 32 64#32)))) (broadcastInDim S32 ![] bcast_S_S32 (constantI S_ 32 0#32)))) (subi (Host.divsi posQ (broadcastInDim S32 ![] bcast_S_S32 (id (constantI S_ 32 64#32)))) (broadcastInDim S32 ![] bcast_S_S32 (constantI S_ 32 1#32))) (Host.divsi posQ (broadcastInDim S32 ![] bcast_S_S32 (id (constantI S_ 32 64#32))))

/-- The chunk number of each key. -/
def chunkK : IVec S544 32 :=
  select (andi (cmpi .ne (signi posK) (broadcastInDim S544 ![] bcast_S_S544 (signi (id (constantI S_ 32 64#32))))) (cmpi .ne (Host.remsi posK (broadcastInDim S544 ![] bcast_S_S544 (id (constantI S_ 32 64#32)))) (broadcastInDim S544 ![] bcast_S_S544 (constantI S_ 32 0#32)))) (subi (Host.divsi posK (broadcastInDim S544 ![] bcast_S_S544 (id (constantI S_ 32 64#32)))) (broadcastInDim S544 ![] bcast_S_S544 (constantI S_ 32 1#32))) (Host.divsi posK (broadcastInDim S544 ![] bcast_S_S544 (id (constantI S_ 32 64#32))))

/-- Whether a key lies in a query's band. -/
def valid : IVec S32x544 1 :=
  andi (andi (broadcastInDim S32x544 ![0, 1] bcast_S1x544_S32x544_0_1 (cmpi .sge (broadcastInDim S1x544 ![1] bcast_S544_S1x544_1 posK) (broadcastInDim S1x544 ![] bcast_S_S1x544 (constantI S_ 32 0#32))))
      (cmpi .sge (broadcastInDim S32x544 ![0, 1] bcast_S1x544_S32x544_0_1 (broadcastInDim S1x544 ![1] bcast_S544_S1x544_1 chunkK)) (broadcastInDim S32x544 ![0, 1] bcast_S32x1_S32x544_0_1 (subi (broadcastInDim S32x1 ![0] bcast_S32_S32x1_0 chunkQ) (broadcastInDim S32x1 ![] bcast_S_S32x1 (constantI S_ 32 8#32))))))
    (cmpi .sle (broadcastInDim S32x544 ![0, 1] bcast_S1x544_S32x544_0_1 (broadcastInDim S1x544 ![1] bcast_S544_S1x544_1 chunkK)) (broadcastInDim S32x544 ![0, 1] bcast_S32x1_S32x544_0_1 (broadcastInDim S32x1 ![0] bcast_S32_S32x1_0 chunkQ)))

/-- The clipped relative position, from zero on. -/
def place : IVec S32x544 32 :=
  addi (minsi (broadcastInDim S32x544 ![] bcast_S_S32x544 (id (constantI S_ 32 128#32))) (maxsi (broadcastInDim S32x544 ![] bcast_S_S32x544 (id (constantI S_ 32 4294967168#32))) (subi (broadcastInDim S32x544 ![0, 1] bcast_S1x544_S32x544_0_1 (broadcastInDim S1x544 ![1] bcast_S544_S1x544_1 posK)) (broadcastInDim S32x544 ![0, 1] bcast_S32x1_S32x544_0_1 (broadcastInDim S32x1 ![0] bcast_S32_S32x1_0 posQ))))) (broadcastInDim S32x544 ![] bcast_S_S32x544 (constantI S_ 32 128#32))

/-- The table's row of a query and a key. -/
def tableRow : IVec S32x544 32 :=
  select (cmpi .slt place (broadcastInDim S32x544 ![] bcast_S_S32x544 (constantI S_ 32 0#32))) (addi place (broadcastInDim S32x544 ![] bcast_S_S32x544 (constantI S_ 32 257#32))) place

/-- The bias by head, query and key. -/
def bias (T : Vec Ideal S257x8 .f32) : Vec Ideal S8x32x544 .f32 :=
  transpose S8x32x544 [2, 0, 1] (Host.gather gather_S257x8_S32x544x1_S32x544x8_2_0_n_n_0_2_18 T (broadcastInDim S32x544x1 ![0, 1] bcast_S32x544_S32x544x1_0_1 tableRow)) transposes_S32x544x8_S8x32x544_2_0_1

/-- The scores. -/
def scores (q : Vec Ideal S32x32x8x64 .f32) (k : Vec Ideal S32x544x8x64 .f32) (b : Vec Ideal S8x32x544 .f32) : Vec Ideal S32x8x32x544 .f32 :=
  select (broadcastInDim S32x8x32x544 ![0, 1, 2, 3] bcast_S1x1x32x544_S32x8x32x544_0_1_2_3 (broadcastInDim S1x1x32x544 ![2, 3] bcast_S32x544_S1x1x32x544_2_3 valid))
    (addf (F := Ideal) (mulf (F := Ideal) (Host.dotGeneral (F := Ideal) (φ₁ := .f32) (φ₂ := .f32) dot_S32x32x8x64_S32x544x8x64_S32x8x32x544_3_3_1_1_02_02 none q k) (broadcastInDim S32x8x32x544 ![] bcast_S_S32x8x32x544 (constant (F := Ideal) S_ .f32 0x3E000000#32))) (broadcastInDim S32x8x32x544 ![0, 1, 2, 3] bcast_S1x8x32x544_S32x8x32x544_0_1_2_3 (broadcastInDim S1x8x32x544 ![1, 2, 3] bcast_S8x32x544_S1x8x32x544_1_2_3 b)))
    (broadcastInDim S32x8x32x544 ![] bcast_S_S32x8x32x544 (id (constant (F := Ideal) S_ .f32 0xFF800000#32)))

/-- The exponentials of the scores less their maximum over the band. -/
def weights (s : Vec Ideal S32x8x32x544 .f32) : Vec Ideal S32x8x32x544 .f32 :=
  Host.exp (F := Ideal) (subf (F := Ideal) s (broadcastInDim S32x8x32x544 ![0, 1, 2, 3] bcast_S32x8x32x1_S32x8x32x544_0_1_2_3 (broadcastInDim S32x8x32x1 ![0, 1, 2] bcast_S32x8x32_S32x8x32x1_0_1_2 (maximumf (F := Ideal) (broadcastInDim S32x8x32 ![] bcast_S_S32x8x32 (constant (F := Ideal) S_ .f32 0xFF800000#32)) (Host.reduce (FloatOps.maximumf (F := Ideal)) s (constant (F := Ideal) S_ .f32 0xFF800000#32) reducesTo_S32x8x32x544_S32x8x32_d3 h_S_)))))

/-- The weights divided by their sum over the band. -/
def normal (e : Vec Ideal S32x8x32x544 .f32) : Vec Ideal S32x8x32x544 .f32 :=
  Host.divf (F := Ideal) e (broadcastInDim S32x8x32x544 ![0, 1, 2, 3] bcast_S32x8x32x1_S32x8x32x544_0_1_2_3 (broadcastInDim S32x8x32x1 ![0, 1, 2] bcast_S32x8x32_S32x8x32x1_0_1_2 (Host.reduceAdd (F := Ideal) e (constant (F := Ideal) S_ .f32 0x00000000#32) reducesTo_S32x8x32x544_S32x8x32_d3 h_S_)))

/-- The weighted sum of the band's values, by stream. -/
def mixed (v : Vec Ideal S32x544x8x64 .f32) (p : Vec Ideal S32x8x32x544 .f32) : Vec Ideal S32x32x8x64 .f32 :=
  transpose S32x32x8x64 [0, 3, 1, 2] (Host.dotGeneral (F := Ideal) (φ₁ := .f32) (φ₂ := .f32) dot_S32x544x8x64_S32x8x32x544_S32x8x64x32_1_3_3_2_02_01 none v p) transposes_S32x8x64x32_S32x32x8x64_0_3_1_2

/-- The reference's result from its arguments. -/
def result (q k v : Vec Ideal S1024x512 .f32) (ck cv : Vec Ideal S2x32x512x8x64 .f32) (T : Vec Ideal S257x8 .f32) : Vec Ideal S1024x512 .f32 :=
  shapeCast _ (mixed (rows cv v) (normal (weights (scores (split q) (rows ck k) (bias T))))) shapeCasts_S32x32x8x64_S1024x512

set_option maxHeartbeats 4000000 in
/-- The run's result is that term. -/
theorem result_eq (m : (ℓ : Loc nD τ sig) → Buf (Elt Ideal) ℓ) (c : Dev nD) :
    Value.res_main_v72 m c = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  unfold Value.res_main_v72 result mixed normal weights scores bias tableRow place valid chunkQ chunkK posQ posK rows layer split
  rfl

/-- A split operand at an index. -/
theorem split_at (X : Vec Ideal S1024x512 .f32) (b i : Fin 32) (h : Fin 8) (d : Fin 64) :
    split X (ix4 b i h d) = X (ix2 ⟨32 * b.val + i.val, by omega⟩ ⟨64 * h.val + d.val, by omega⟩) := by
  unfold split
  refine shapeCast_apply _ _ _ _ ?_
  rw [Shape.rowMajor_val_four, Shape.rowMajor_val_two]
  show (32 * b.val + i.val) * 512 + (64 * h.val + d.val) = ((b.val * 32 + i.val) * 8 + h.val) * 64 + d.val
  omega

/-- The first layer at an index. -/
theorem layer_at (C : Vec Ideal S2x32x512x8x64 .f32) (b : Fin 32) (r : Fin 512) (h : Fin 8) (d : Fin 64) :
    layer C (ix4 b r h d) = C (ix5 0 b r h d) := by
  unfold layer
  pointwise

/-- A cached row of the band. -/
theorem rows_lo (C : Vec Ideal S2x32x512x8x64 .f32) (X : Vec Ideal S1024x512 .f32) (b : Fin 32) (r : Fin 512) (h : Fin 8) (d : Fin 64) :
    rows C X (ix4 b ⟨r.val, by omega⟩ h d) = C (ix5 0 b r h d) := by
  rw [← layer_at C b r h d]
  unfold rows
  generalize layer C = Y
  generalize split X = Z
  pointwise

/-- A new row of the band. -/
theorem rows_hi (C : Vec Ideal S2x32x512x8x64 .f32) (X : Vec Ideal S1024x512 .f32) (b r : Fin 32) (h : Fin 8) (d : Fin 64) :
    rows C X (ix4 b ⟨512 + r.val, by omega⟩ h d) = X (ix2 ⟨32 * b.val + r.val, by omega⟩ ⟨64 * h.val + d.val, by omega⟩) := by
  rw [← split_at X b r h d]
  unfold rows
  generalize layer C = Y
  generalize split X = Z
  pointwise

/-- The chunk number of a query. -/
theorem chunkQ_at (i : Fin 32) : chunkQ (ix1 i) = 16#32 := by
  unfold chunkQ posQ
  pointwise
  revert i
  decide +kernel

/-- The chunk number of a key. -/
theorem chunkK_at (k : Fin 544) : chunkK (ix1 k) = BitVec.ofNat 32 (8 + k.val / 64) := by
  unfold chunkK posK
  pointwise
  revert k
  decide +kernel

/-- The comparisons, on words. -/
theorem valid_word : ∀ k : Fin 544,
    IntOp.andi (IntOp.andi (IntOp.cmpi CmpIPredicate.sge (IntOp.addi 512#32 (BitVec.ofNat 32 k.val)) 0#32)
      (IntOp.cmpi CmpIPredicate.sge (BitVec.ofNat 32 (8 + k.val / 64)) (IntOp.subi 16#32 8#32)))
      (IntOp.cmpi CmpIPredicate.sle (BitVec.ofNat 32 (8 + k.val / 64)) 16#32) = 1#1 := by
  decide +kernel

/-- Every key lies in every query's band. -/
theorem valid_at (i : Fin 32) (k : Fin 544) : valid (ix2 i k) = 1#1 := by
  unfold valid
  have e1 := chunkQ_at i
  have e2 := chunkK_at k
  generalize chunkQ = Q at e1 ⊢
  generalize chunkK = K at e2 ⊢
  unfold posK
  pointwise [e1, e2]
  exact valid_word k

/-- The table's row, by the difference of the key and the query. -/
theorem tableRow_at (i : Fin 32) (k : Fin 544) : min (tableRow (ix2 i k)).toInt.toNat 256 = min 256 (k.val - (i.val + 384)) := by
  unfold tableRow place posQ posK
  pointwise
  have e : IntOp.subi (IntOp.addi 512#32 (BitVec.ofNat 32 k.val)) (IntOp.addi 1024#32 (BitVec.ofNat 32 i.val))
      = IntOp.subi (BitVec.ofNat 32 (k.val + 63 - i.val)) 575#32 := by
    show (512#32 + BitVec.ofNat 32 k.val) - (1024#32 + BitVec.ofNat 32 i.val) = BitVec.ofNat 32 (k.val + 63 - i.val) - 575#32
    have hi := i.isLt
    have hk := k.isLt
    refine BitVec.eq_of_toNat_eq ?_
    simp only [BitVec.toNat_sub, BitVec.toNat_add, BitVec.toNat_ofNat]
    omega
  rw [e, show min 256 (k.val - (i.val + 384)) = min 256 (k.val + 63 - i.val - 447) by omega]
  exact row_word ⟨k.val + 63 - i.val, by omega⟩

/-- A gather of whole rows of the table, at an index. -/
theorem gather_at (T : Vec Ideal S257x8 .f32) (idx : IVec S32x544x1 32) (i : Fin 32) (k : Fin 544) (h : Fin 8) :
    Host.gather gather_S257x8_S32x544x1_S32x544x8_2_0_n_n_0_2_18 T idx (ix3 i k h) = T (ix2 ⟨min (idx (ix3 i k 0)).toInt.toNat 256, by omega⟩ h) := by
  unfold Host.gather
  refine congrArg T ?_
  funext a
  refine Fin.ext ?_
  show gather_S257x8_S32x544x1_S32x544x8_2_0_n_n_0_2_18.start (ix3 i k h) idx a + gather_S257x8_S32x544x1_S32x544x8_2_0_n_n_0_2_18.batchCoord (ix3 i k h) a
    + gather_S257x8_S32x544x1_S32x544x8_2_0_n_n_0_2_18.offCoord (ix3 i k h) a = _
  have h01 : a = 0 ∨ a = 1 := by
    match a with
    | ⟨0, _⟩ => exact Or.inl rfl
    | ⟨1, _⟩ => exact Or.inr rfl
  rcases h01 with rfl | rfl
  · rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S257x8_S32x544x1_S32x544x8_2_0_n_n_0_2_18.startIndexMap from List.mem_singleton.mpr rfl)]
    have hsi : gather_S257x8_S32x544x1_S32x544x8_2_0_n_n_0_2_18.siIdx (ix3 i k h) ⟨List.idxOf (0 : Fin 2) gather_S257x8_S32x544x1_S32x544x8_2_0_n_n_0_2_18.startIndexMap,
        List.idxOf_lt_length_iff.2 (List.mem_singleton.mpr rfl)⟩ = ix3 i k 0 := by
      funext k; refine Fin.ext ?_
      match k with
      | ⟨0, _⟩ => rfl
      | ⟨1, _⟩ => rfl
      | ⟨2, _⟩ => rfl
    rw [hsi]
    rfl
  · rw [GatherDims.batchCoord_eq_zero _ _ _ List.not_mem_nil]
    unfold GatherDims.start
    rw [dif_neg (show ¬ (1 : Fin 2) ∈ gather_S257x8_S32x544x1_S32x544x8_2_0_n_n_0_2_18.startIndexMap from by decide)]
    simp only [Nat.zero_add, Nat.add_zero]
    unfold GatherDims.offCoord
    rw [dif_pos (show (1 : Fin 2) ∈ gather_S257x8_S32x544x1_S32x544x8_2_0_n_n_0_2_18.sKept from by decide)]
    rfl

/-- The bias at an index. -/
theorem bias_at (T : Vec Ideal S257x8 .f32) (h : Fin 8) (i : Fin 32) (k : Fin 544) :
    bias T (ix3 h i k) = T (ix2 ⟨min 256 (k.val - (i.val + 384)), by omega⟩ h) := by
  unfold bias
  have e := tableRow_at i k
  generalize tableRow = R at e ⊢
  pointwise
  rw [gather_at]
  pointwise
  exact congrArg (fun n => T (ix2 n h)) (Fin.ext e)

/-- The scores at an index. -/
theorem scores_at (q : Vec Ideal S32x32x8x64 .f32) (k : Vec Ideal S32x544x8x64 .f32) (B : Vec Ideal S8x32x544 .f32)
    (b : Fin 32) (h : Fin 8) (i : Fin 32) (r : Fin 544) :
    scores q k B (ix4 b h i r) = (∑ d : Fin 64, q (ix4 b i h d) * k (ix4 b r h d)) * ((1 / 8 : ℝ) : EReal) + B (ix3 h i r) := by
  unfold scores
  have e := valid_at i r
  generalize valid = R at e ⊢
  pointwise [e, eighth]

/-- The maximum over the band at an index. -/
theorem top_at (s : Vec Ideal S32x8x32x544 .f32) (b : Fin 32) (h : Fin 8) (i : Fin 32) :
    Host.reduce (FloatOps.maximumf (F := Ideal)) s (constant (F := Ideal) S_ .f32 0xFF800000#32) reducesTo_S32x8x32x544_S32x8x32_d3 h_S_ (ix3 b h i)
      = Finset.univ.sup fun k : Fin 544 => s (ix4 b h i k) := by
  have hr : S32x8x32x544.Reduces [3] S32x8x32 := by decide
  refine (Host.reduce_eq_fold_single (FloatOps.maximumf (F := Ideal) (φ := .f32)) s _ reducesTo_S32x8x32x544_S32x8x32_d3 hr h_S_ (ix3 b h i)).trans ?_
  have e0 : (constant (F := Ideal) S_ .f32 0xFF800000#32) (Shape.Idx.first h_S_) = (⊥ : EReal) := negInf
  rw [e0]
  have e1 : (s ∘ hr.lift (ix3 b h i)) = fun k : Fin 544 => s (ix4 b h i k) := by
    funext k
    refine congrArg s ?_
    funext a
    match a with
    | ⟨0, _⟩ => rfl
    | ⟨1, _⟩ => rfl
    | ⟨2, _⟩ => rfl
    | ⟨3, _⟩ => rfl
  rw [e1]
  rfl

/-- The maximum with minus infinity changes nothing. -/
theorem max_at (M : Vec Ideal S32x8x32 .f32) (j : S32x8x32.Idx) :
    maximumf (F := Ideal) (broadcastInDim S32x8x32 ![] bcast_S_S32x8x32 (constant (F := Ideal) S_ .f32 0xFF800000#32)) M j = M j := by
  show max (Ideal.ofBits .f32 0xFF800000#32) (M j) = M j
  rw [negInf]
  exact max_eq_right bot_le

/-- The exponential of a difference with a row's number, at an index. -/
theorem shifted_at (s : Vec Ideal S32x8x32x544 .f32) (M : Vec Ideal S32x8x32 .f32) (b : Fin 32) (h : Fin 8) (i : Fin 32) (r : Fin 544) :
    Host.exp (F := Ideal) (φ := .f32) (subf (F := Ideal) (φ := .f32) s (broadcastInDim S32x8x32x544 ![0, 1, 2, 3] bcast_S32x8x32x1_S32x8x32x544_0_1_2_3 (broadcastInDim S32x8x32x1 ![0, 1, 2] bcast_S32x8x32_S32x8x32x1_0_1_2 M))) (ix4 b h i r)
      = Ideal.exp (s (ix4 b h i r) - M (ix3 b h i)) := by
  pointwise

/-- The weights at an index. -/
theorem weights_at (s : Vec Ideal S32x8x32x544 .f32) (b : Fin 32) (h : Fin 8) (i : Fin 32) (r : Fin 544) :
    weights s (ix4 b h i r) = Ideal.exp (s (ix4 b h i r) - Finset.univ.sup fun k : Fin 544 => s (ix4 b h i k)) := by
  unfold weights
  exact (shifted_at _ _ b h i r).trans (congrArg (fun w => Ideal.exp (s (ix4 b h i r) - w)) ((max_at _ _).trans (top_at s b h i)))

/-- The normalised weights at an index. -/
theorem normal_at (e : Vec Ideal S32x8x32x544 .f32) (b : Fin 32) (h : Fin 8) (i : Fin 32) (r : Fin 544) :
    normal e (ix4 b h i r) = Ideal.div (e (ix4 b h i r)) (∑ k : Fin 544, e (ix4 b h i k)) := by
  unfold normal
  pointwise

/-- The weighted sum at an index. -/
theorem mixed_at (v : Vec Ideal S32x544x8x64 .f32) (p : Vec Ideal S32x8x32x544 .f32) (b i : Fin 32) (h : Fin 8) (u : Fin 64) :
    mixed v p (ix4 b i h u) = ∑ r : Fin 544, v (ix4 b r h u) * p (ix4 b h i r) := by
  unfold mixed
  pointwise

/-- The result's rows are stream and position, its columns head and feature. -/
theorem joined_at (Y : Vec Ideal S32x32x8x64 .f32) (b i : Fin 32) (h : Fin 8) (u : Fin 64) :
    shapeCast S1024x512 Y shapeCasts_S32x32x8x64_S1024x512 (ix2 ⟨32 * b.val + i.val, by omega⟩ ⟨64 * h.val + u.val, by omega⟩) = Y (ix4 b i h u) := by
  refine shapeCast_apply _ _ _ _ ?_
  rw [Shape.rowMajor_val_four, Shape.rowMajor_val_two]
  show ((b.val * 32 + i.val) * 8 + h.val) * 64 + u.val = (32 * b.val + i.val) * 512 + (64 * h.val + u.val)
  omega

end Cert.Reference10Ideal.Sample
-- ==== Proof.SampleSoft.lean ====
/- The algebra of the sample's softmax average: 512 cached rows and 32 new rows taken apart, one division at the end, against 544 rows with a division per row. -/
module

public import proofs.«01_k».proof.Proof.SampleHead
public import proofs.«01_k».proof.Proof.Softmax

@[expose] public section
set_option maxRecDepth 16384
noncomputable section
namespace Cert.Kernel10Ideal.Sample
open Idealize.ShloMosaic
open Cert.KernelIdeal.Band (Real' coe_sum sum_mul_real exp_real)

/-- A sum over the 544 rows is the cached rows' and the new rows'. -/
theorem sum_rows (f : Fin 544 → EReal) : ∑ r, f r = (∑ r : Fin 512, f ⟨r.val, by omega⟩) + ∑ r : Fin 32, f ⟨512 + r.val, by omega⟩ :=
  Fin.sum_univ_add (a := 512) (b := 32) f

/-- The greatest of the 544 rows is the greater of the cached rows' and the new rows'. -/
theorem sup_rows (f : Fin 544 → EReal) : Finset.univ.sup f
    = max (Finset.univ.sup fun r : Fin 512 => f ⟨r.val, by omega⟩) (Finset.univ.sup fun r : Fin 32 => f ⟨512 + r.val, by omega⟩) := by
  apply le_antisymm
  · refine Finset.sup_le fun r _ => ?_
    by_cases h : r.val < 512
    · exact le_max_of_le_left (Finset.le_sup (f := fun r : Fin 512 => f ⟨r.val, by omega⟩) (Finset.mem_univ ⟨r.val, h⟩))
    · refine le_max_of_le_right ?_
      have e : f r = (fun r : Fin 32 => f ⟨512 + r.val, by omega⟩) ⟨r.val - 512, by omega⟩ := congrArg f (Fin.ext (by show r.val = 512 + (r.val - 512); omega))
      rw [e]
      exact Finset.le_sup (f := fun r : Fin 32 => f ⟨512 + r.val, by omega⟩) (Finset.mem_univ _)
  · exact max_le (Finset.sup_le fun r _ => Finset.le_sup (f := f) (Finset.mem_univ _)) (Finset.sup_le fun r _ => Finset.le_sup (f := f) (Finset.mem_univ _))

/-- The kernel's average over cached and new rows is the reference's over all rows. -/
theorem soft_rows (s v : Fin 544 → EReal) (hs : ∀ r, Real' (s r)) :
    soft (fun r => s ⟨r.val, by omega⟩) (fun r => v ⟨r.val, by omega⟩) (fun r => s ⟨512 + r.val, by omega⟩) (fun r => v ⟨512 + r.val, by omega⟩)
      = ∑ r : Fin 544, v r * Ideal.div (Ideal.exp (s r - Finset.univ.sup s)) (∑ k : Fin 544, Ideal.exp (s k - Finset.univ.sup s)) := by
  obtain ⟨M, hM⟩ : Real' (Finset.univ.sup s) := by
    obtain ⟨r, -, h⟩ := Finset.exists_mem_eq_sup Finset.univ ⟨(⟨0, by omega⟩ : Fin 544), Finset.mem_univ _⟩ s
    exact h ▸ hs r
  have hM' := hM
  rw [sup_rows] at hM'
  have htop : ∀ r, s r ≠ ⊤ := fun r => by
    obtain ⟨y, e⟩ := hs r
    rw [e]; exact EReal.coe_ne_top y
  have hbot : ∀ r, s r ≠ ⊥ := fun r => by
    obtain ⟨y, e⟩ := hs r
    rw [e]; exact EReal.coe_ne_bot y
  choose y hy0 hy hypos using fun r => exp_real (s r) M (htop r)
  have hD : ∑ k : Fin 544, Ideal.exp (s k - (M : EReal)) = ((∑ k, y k : ℝ) : EReal) := by
    rw [coe_sum]
    exact Finset.sum_congr rfl fun k _ => hy k
  have hpos : 0 < ∑ k, y k := Finset.sum_pos' (fun k _ => hy0 k) ⟨⟨0, by omega⟩, Finset.mem_univ _, hypos _ (hbot _)⟩
  unfold soft
  rw [hM', hM, ← sum_rows (fun r => Ideal.exp (s r - (M : EReal))), ← sum_rows (fun r => Ideal.exp (s r - (M : EReal)) * v r), hD,
    Ideal.div_coe hpos.ne', sum_mul_real _ _ _ (by positivity)]
  refine Finset.sum_congr rfl fun r _ => ?_
  rw [Ideal.div_coe hpos.ne', mul_comm (Ideal.exp _) (v r), mul_assoc]

end Cert.Kernel10Ideal.Sample
-- ==== Proof.SampleFinal.lean ====
/- The sample's attention: the kernel's result array is the reference's. -/
module

public import proofs.«01_k».proof.Proof.SampleEntry
public import proofs.«01_k».proof.Proof.SampleRef
public import proofs.«01_k».proof.Proof.SampleSoft

@[expose] public section
set_option maxRecDepth 16384
noncomputable section
namespace Cert.Kernel10Ideal.Sample
open Idealize.ShloMosaic Idealize.ShloMosaic.TcCoe Idealize.SL.Sem
open Idealize.ShloMosaic.Pipeline (Dat)
open Cert.Kernel10Ideal.Gen
open Cert.KernelIdeal.Band (Real')

/-- One head's attention at an index, from the blocks' entries. -/
theorem attAt_at (x0 : Vec Ideal S128x512 .f32) (x1 x2 : Vec Ideal S1x4x8x64x512 .f32) (x3 x4 : Vec Ideal S4x8x64x32 .f32) (x5 : Vec Ideal S8x32x512 .f32) (x6 : Vec Ideal S8x32x32 .f32)
    (b : Fin 4) (h : Fin 8) (i : Fin 32) (u : Fin 64) :
    attAt x0 x1 x2 x3 x4 x5 x6 b h (ix2 i u)
      = soft (fun r => (∑ d : Fin 64, x0 (ix2 ⟨32 * b.val + i.val, by omega⟩ ⟨64 * h.val + d.val, by omega⟩) * x1 (ix5 0 b h d r)) * ((1 / 8 : ℝ) : EReal) + x5 (ix3 h i r))
          (fun r => x2 (ix5 0 b h u r))
          (fun r => (∑ d : Fin 64, x0 (ix2 ⟨32 * b.val + i.val, by omega⟩ ⟨64 * h.val + d.val, by omega⟩) * x3 (ix4 b h d r)) * ((1 / 8 : ℝ) : EReal) + x6 (ix3 h i r))
          (fun r => x4 (ix4 b h u r)) := by
  unfold attAt att
  rw [average_at]
  simp only [scoreC_at, scoreN_at]
  rfl

/-- The reference's scores are real numbers, for finite queries, keys and table. -/
theorem scores_real (q k : Vec Ideal S1024x512 .f32) (ck : Vec Ideal S2x32x512x8x64 .f32) (T : Vec Ideal S257x8 .f32)
    (hq : ∀ j, Real' (q j)) (hk : ∀ j, Real' (k j)) (hc : ∀ j, Real' (ck j)) (hT : ∀ j, Real' (T j)) (b : Fin 32) (h : Fin 8) (i : Fin 32) (r : Fin 544) :
    Real' (Cert.Reference10Ideal.Sample.scores (Cert.Reference10Ideal.Sample.split q) (Cert.Reference10Ideal.Sample.rows ck k) (Cert.Reference10Ideal.Sample.bias T) (ix4 b h i r)) := by
  rw [Cert.Reference10Ideal.Sample.scores_at, Cert.Reference10Ideal.Sample.bias_at]
  refine ((Real'.sum _ _ fun d => Real'.mul ?_ ?_).mul ⟨_, rfl⟩).add (hT _)
  · rw [Cert.Reference10Ideal.Sample.split_at]; exact hq _
  · by_cases hr : r.val < 512
    · rw [show r = ⟨(⟨r.val, hr⟩ : Fin 512).val, r.isLt⟩ from rfl, Cert.Reference10Ideal.Sample.rows_lo]; exact hc _
    · rw [show r = ⟨512 + (⟨r.val - 512, by omega⟩ : Fin 32).val, by show 512 + (r.val - 512) < 544; omega⟩ from Fin.ext (by show r.val = 512 + (r.val - 512); omega),
        Cert.Reference10Ideal.Sample.rows_hi]
      exact hk _

/-- The kernel's average of one stream, position, head and feature is the reference's result. -/
theorem tile_eq (q k v : Vec Ideal S1024x512 .f32) (ck cv : Vec Ideal S2x32x512x8x64 .f32) (T : Vec Ideal S257x8 .f32)
    (hq : ∀ j, Real' (q j)) (hk : ∀ j, Real' (k j)) (hc : ∀ j, Real' (ck j)) (hT : ∀ j, Real' (T j)) (b : Fin 32) (i : Fin 32) (h : Fin 8) (u : Fin 64) :
    soft (fun r => (∑ d : Fin 64, q (ix2 ⟨32 * b.val + i.val, by omega⟩ ⟨64 * h.val + d.val, by omega⟩) * ck (ix5 0 b r h d)) * ((1 / 8 : ℝ) : EReal) + biasC T (ix3 h i r))
        (fun r => cv (ix5 0 b r h u))
        (fun r => (∑ d : Fin 64, q (ix2 ⟨32 * b.val + i.val, by omega⟩ ⟨64 * h.val + d.val, by omega⟩) * k (ix2 ⟨32 * b.val + r.val, by omega⟩ ⟨64 * h.val + d.val, by omega⟩)) * ((1 / 8 : ℝ) : EReal) + biasN T (ix3 h i r))
        (fun r => v (ix2 ⟨32 * b.val + r.val, by omega⟩ ⟨64 * h.val + u.val, by omega⟩))
      = Cert.Reference10Ideal.Sample.result q k v ck cv T (ix2 ⟨32 * b.val + i.val, by omega⟩ ⟨64 * h.val + u.val, by omega⟩) := by
  unfold Cert.Reference10Ideal.Sample.result
  refine Eq.trans ?_ (Cert.Reference10Ideal.Sample.joined_at _ b i h u).symm
  rw [Cert.Reference10Ideal.Sample.mixed_at]
  have e := soft_rows (fun r => Cert.Reference10Ideal.Sample.scores (Cert.Reference10Ideal.Sample.split q) (Cert.Reference10Ideal.Sample.rows ck k) (Cert.Reference10Ideal.Sample.bias T) (ix4 b h i r))
    (fun r => Cert.Reference10Ideal.Sample.rows cv v (ix4 b r h u)) (fun r => scores_real q k ck T hq hk hc hT b h i r)
  refine Eq.trans (Eq.trans ?_ e) ?_
  · congr 1
    · funext r
      rw [Cert.Reference10Ideal.Sample.scores_at, Cert.Reference10Ideal.Sample.bias_at, biasC_at]
      simp only [Cert.Reference10Ideal.Sample.split_at, Cert.Reference10Ideal.Sample.rows_lo]
    · funext r
      rw [Cert.Reference10Ideal.Sample.rows_lo]
    · funext r
      rw [Cert.Reference10Ideal.Sample.scores_at, Cert.Reference10Ideal.Sample.bias_at, biasN_at]
      simp only [Cert.Reference10Ideal.Sample.split_at, Cert.Reference10Ideal.Sample.rows_hi]
    · funext r
      rw [Cert.Reference10Ideal.Sample.rows_hi]
  · refine Finset.sum_congr rfl fun r _ => congrArg (_ * ·) ?_
    rw [Cert.Reference10Ideal.Sample.normal_at, Cert.Reference10Ideal.Sample.weights_at]
    exact congrArg (Ideal.div _) (Finset.sum_congr rfl fun k _ => (Cert.Reference10Ideal.Sample.weights_at _ _ _ _ _).symm)

variable (m : (ℓ : Loc nD τ sig) → Buf (Elt Ideal) ℓ)

/-- What a grid point stores is the reference at the block's place, for finite queries, keys and table. -/
theorem point (c : Dev nD) (hq : ∀ j, Real' (m ((c : Thread nD τ).loc main_arg0) j)) (hk : ∀ j, Real' (m ((c : Thread nD τ).loc main_arg1) j))
    (hc : ∀ j, Real' (m ((c : Thread nD τ).loc main_arg3) j)) (hT : ∀ j, Real' (m ((c : Thread nD τ).loc main_arg5) j)) (t : Fin cfg0.N) (y : S128x512.Idx) :
    out0_7 (F := Ideal) (iblk m c 0 t) (iblk m c 1 t) (iblk m c 2 t) (iblk m c 3 t) (iblk m c 4 t) (iblk m c 5 t) (iblk m c 6 t) y
      = Cert.Reference10Ideal.Sample.result (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) (((cfg0.win 7).blk t).view.emb y) := by
  obtain ⟨_, _, _, _, _, _, _, _, e0, e1⟩ := index_at t
  have ht : t.val < 8 := t.isLt
  have hy0 : (y 0).val < 128 := (y 0).isLt
  have hy1 : (y 1).val < 512 := (y 1).isLt
  obtain ⟨b, i, h, u, hb, hi, hh, hu⟩ : ∃ (b : Fin 4) (i : Fin 32) (h : Fin 8) (u : Fin 64), b.val = (y 0).val / 32 ∧ i.val = (y 0).val % 32 ∧ h.val = (y 1).val / 64 ∧ u.val = (y 1).val % 64 :=
    ⟨⟨(y 0).val / 32, by omega⟩, ⟨(y 0).val % 32, by omega⟩, ⟨(y 1).val / 64, by omega⟩, ⟨(y 1).val % 64, by omega⟩, rfl, rfl, rfl, rfl⟩
  have ex : y = ix2 (⟨32 * b.val + i.val, by omega⟩ : Fin 128) (⟨64 * h.val + u.val, by omega⟩ : Fin 512) := by
    funext z; refine Fin.ext ?_
    match z with
    | ⟨0, _⟩ => show (y 0).val = 32 * b.val + i.val; omega
    | ⟨1, _⟩ => show (y 1).val = 64 * h.val + u.val; omega
  have ey : ((cfg0.win 7).blk t).view.emb y = ix2 (⟨32 * (4 * t.val + b.val) + i.val, by omega⟩ : Fin 1024) (⟨64 * h.val + u.val, by omega⟩ : Fin 512) := by
    funext z; refine Fin.ext ?_
    match z with
    | ⟨0, _⟩ => show win0_7.index t (0 : Fin 2) * 128 + 1 * (y 0).val = 32 * (4 * t.val + b.val) + i.val; omega
    | ⟨1, _⟩ => show win0_7.index t (1 : Fin 2) * 512 + 1 * (y 1).val = 64 * h.val + u.val; omega
  rw [ey, ← tile_eq _ _ _ _ _ _ hq hk hc hT ⟨4 * t.val + b.val, by omega⟩ i h u]
  refine (congrArg _ ex).trans ((out_at _ _ _ _ _ _ _ b i h u).trans ?_)
  rw [attAt_at, biasC_block, biasN_block]
  have hx : ∀ e, iblk m c 0 t (ix2 (⟨32 * b.val + i.val, by omega⟩ : Fin 128) e) = m ((c : Thread nD τ).loc main_arg0) (ix2 ⟨32 * (4 * t.val + b.val) + i.val, by omega⟩ e) := fun e => by
    rw [query_block]
    refine congrArg (fun n => m ((c : Thread nD τ).loc main_arg0) (ix2 n e)) (Fin.ext ?_)
    show 128 * t.val + (32 * b.val + i.val) = 32 * (4 * t.val + b.val) + i.val
    omega
  simp only [kc_block, vc_block, kn_block, vn_block, hx]

/-- The result array after the run, for finite queries, keys and table. -/
theorem final (c : Dev nD) (hq : ∀ j, Real' (m ((c : Thread nD τ).loc main_arg0) j)) (hk : ∀ j, Real' (m ((c : Thread nD τ).loc main_arg1) j))
    (hc : ∀ j, Real' (m ((c : Thread nD τ).loc main_arg3) j)) (hT : ∀ j, Real' (m ((c : Thread nD τ).loc main_arg5) j)) : (dats m 0 c).arrAt 7 (cfgs 0).N
    = Cert.Reference10Ideal.Sample.result (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  refine (dats m 0 c).arrAt_eq_of_covers 7 _ (by decide +kernel) fun t _ y => ?_
  blk_simp
  rw [after0_7]
  exact point m c hq hk hc hT t y

end Cert.Kernel10Ideal.Sample
-- ==== Proof.OutProjSample.lean ====
/- The output projection of the two mixer parts, its residual and its layer norm, for the sample: the array the kernel leaves. -/
module

public import proofs.«01_k».proof.Proof.Gen.Kernel11Ideal.Value
public import proofs.«01_k».proof.Proof.Gen.Reference11Ideal.Run
public import proofs.«01_k».proof.Proof.LnRow
public import Idealize.ShloMosaic.Lib.Pointwise
public import Idealize.ShloMosaic.Lib.Pipeline.ValueKit

@[expose] public section
set_option maxRecDepth 16384
noncomputable section
namespace Cert.Reference11Ideal.OutProj
open Idealize.ShloMosaic Idealize.ShloMosaic.TcCoe Idealize.SL.Sem
open Cert.Reference11Ideal Cert.Reference11Ideal.Gen Cert.Rows

/-- The reference's residual and product, the two mixer parts side by side. -/
def P (a0 a1 : FVec Ideal S1024x512 .f32) (a2 : FVec Ideal S1024x1024 .f32) (a3 : FVec Ideal S1024x1024 .f32) : FVec Ideal S1024x1024 .f32 :=
  addf (mulf (broadcastInDim S1024x1024 ![] bcast_S_S1024x1024 (constant S_ .f32 0x3FD744FD#32)) a3) (Host.dotGeneral dot_S1024x1024_S1024x1024_S1024x1024_1_0_0_1_n_n none (concatenate S1024x1024 1 [⟨S1024x512, a0⟩, ⟨S1024x512, a1⟩] concatenates_S1024x512_S1024x512_S1024x1024_d1) a2)

/-- The reference's row means. -/
def M (P : FVec Ideal S1024x1024 .f32) : FVec Ideal S1024x1024 .f32 :=
  broadcastInDim S1024x1024 ![0, 1] bcast_S1024x1_S1024x1024_0_1 (Host.divf (broadcastInDim S1024x1 ![0] bcast_S1024_S1024x1_0 (Host.reduceAdd P (constant S_ .f32 0x00000000#32) reducesTo_S1024x1024_S1024_d1 h_S_)) (broadcastInDim S1024x1 ![] bcast_S_S1024x1 (constant S_ .f32 0x44800000#32)))

/-- The reference's layer norm of every row. -/
def norm (P : FVec Ideal S1024x1024 .f32) (a3 a4 : FVec Ideal S1024 .f32) : FVec Ideal S1024x1024 .f32 :=
  addf (mulf (mulf (subf P (M P)) (broadcastInDim S1024x1024 ![0, 1] bcast_S1024x1_S1024x1024_0_1 (Host.rsqrt (addf (Host.divf (broadcastInDim S1024x1 ![0] bcast_S1024_S1024x1_0 (Host.reduceAdd (mulf (subf P (M P)) (subf P (M P))) (constant S_ .f32 0x00000000#32) reducesTo_S1024x1024_S1024_d1 h_S_)) (broadcastInDim S1024x1 ![] bcast_S_S1024x1 (constant S_ .f32 0x44800000#32))) (broadcastInDim S1024x1 ![] bcast_S_S1024x1 (constant S_ .f32 0x3727C5AC#32)))))) (broadcastInDim S1024x1024 ![0, 1] bcast_S1x1024_S1024x1024_0_1 (broadcastInDim S1x1024 ![1] bcast_S1024_S1x1024_1 a3))) (broadcastInDim S1024x1024 ![0, 1] bcast_S1x1024_S1024x1024_0_1 (broadcastInDim S1x1024 ![1] bcast_S1024_S1x1024_1 a4))

/-- The residual and product, element by element: the product splits into one of each mixer part. -/
theorem P_at (a0 a1 : FVec Ideal S1024x512 .f32) (a2 : FVec Ideal S1024x1024 .f32) (a3 : FVec Ideal S1024x1024 .f32) (r : Fin 1024) (e : Fin 1024) :
    P a0 a1 a2 a3 (ix2 r e) = Ideal.ofBits .f32 0x3FD744FD#32 * a3 (ix2 r e)
      + (∑ k : Fin 512, a0 (ix2 r k) * a2 (ix2 ⟨k.val, by omega⟩ e) + ∑ k : Fin 512, a1 (ix2 r k) * a2 (ix2 ⟨512 + k.val, by omega⟩ e)) := by
  unfold P
  pointwise

/-- The layer norm, element by element. -/
theorem norm_at (P : FVec Ideal S1024x1024 .f32) (a3 a4 : FVec Ideal S1024 .f32) (r : Fin 1024) (e : Fin 1024) :
    norm P a3 a4 (ix2 r e) = lnRow (fun k => P (ix2 r k)) (fun e => a3 (ix1 e)) (fun e => a4 (ix1 e)) e := by
  unfold norm M
  pointwise
  rfl

end Cert.Reference11Ideal.OutProj

namespace Cert.Kernel11Ideal.OutProj
open Idealize.ShloMosaic Idealize.ShloMosaic.TcCoe Idealize.SL.Sem
open Idealize.ShloMosaic.Pipeline (Dat)
open Cert.Kernel11Ideal.Gen Cert.Rows

variable (m : (ℓ : Loc nD τ sig) → Buf (Elt Ideal) ℓ)

/-- One element of the row before the norm: the scaled residual and the two products. -/
def pre (x : Vec Ideal S512x1024 .f32) (a : Vec Ideal S512x512 .f32) (u : Vec Ideal S512x1024 .bf16) (b : Vec Ideal S512x512 .f32) (v : Vec Ideal S512x1024 .bf16) (r : Fin 512) (e : Fin 1024) : EReal :=
  Ideal.ofBits .f32 0x3FD744FD#32 * x (ix2 r e) + ∑ k : Fin 512, a (ix2 r k) * u (ix2 k e) + ∑ k : Fin 512, b (ix2 r k) * v (ix2 k e)

/-- The stored block, element by element. -/
theorem pay_at (x : Vec Ideal S512x1024 .f32) (a : Vec Ideal S512x512 .f32) (u : Vec Ideal S512x1024 .bf16) (b : Vec Ideal S512x512 .f32) (v : Vec Ideal S512x1024 .bf16) (g h : Vec Ideal S1x1024 .f32) (r : Fin 512) (e : Fin 1024) :
    k0_pay1 (k0_pay2 x a u b v g) (k0_pay3 h) (ix2 r e) = lnRow (pre x a u b v r) (fun e => g (ix2 0 e)) (fun e => h (ix2 0 e)) e := by
  unfold k0_pay1 k0_pay2 k0_pay3
  pointwise
  rfl

/-- The windows' blocks: the rows go with the grid point, the weights and the two norm rows stay. -/
theorem idx : ∀ t : Fin cfg0.N, win0_0.index t = ![t.val, 0] ∧ win0_1.index t = ![t.val, 0] ∧ win0_2.index t = ![0, 0] ∧ win0_3.index t = ![0, 0] ∧ win0_4.index t = ![t.val, 0] ∧ win0_5.index t = ![0, 0] ∧ win0_6.index t = ![0, 0] ∧ win0_7.index t = ![t.val, 0] :=
  (by decide +kernel : ∀ t : Fin grid0.N, _)

/-- A stored block is the reference's block when its inputs are the reference's rows. -/
theorem block_eq (x : Vec Ideal S512x1024 .f32) (a : Vec Ideal S512x512 .f32) (u : Vec Ideal S512x1024 .bf16) (b : Vec Ideal S512x512 .f32) (v : Vec Ideal S512x1024 .bf16) (g h : Vec Ideal S1x1024 .f32)
    (a0 a1 : FVec Ideal S1024x512 .f32) (a2 : FVec Ideal S1024x1024 .f32) (a3 : FVec Ideal S1024x1024 .f32) (a4 a5 : FVec Ideal S1024 .f32)
    (r : Fin 512) (e : Fin 1024) (R : Fin 1024) (hx : ∀ k, x (ix2 r k) = a3 (ix2 R k)) (ha : ∀ k, a (ix2 r k) = a0 (ix2 R k)) (hb : ∀ k, b (ix2 r k) = a1 (ix2 R k))
    (hu : ∀ (k : Fin 512) (e : Fin 1024), u (ix2 k e) = a2 (ix2 ⟨k.val, by omega⟩ e)) (hv : ∀ (k : Fin 512) (e : Fin 1024), v (ix2 k e) = a2 (ix2 ⟨512 + k.val, by omega⟩ e))
    (hg : ∀ k, g (ix2 0 k) = a4 (ix1 k)) (hh : ∀ k, h (ix2 0 k) = a5 (ix1 k)) :
    k0_pay1 (k0_pay2 x a u b v g) (k0_pay3 h) (ix2 r e) = Cert.Reference11Ideal.OutProj.norm (Cert.Reference11Ideal.OutProj.P a0 a1 a2 a3) a4 a5 (ix2 R e) := by
  rw [pay_at, Cert.Reference11Ideal.OutProj.norm_at]
  congr 1
  · funext k
    rw [Cert.Reference11Ideal.OutProj.P_at]
    unfold pre
    rw [hx, add_assoc]
    refine congrArg _ (congrArg₂ (· + ·) (Finset.sum_congr rfl fun j _ => ?_) (Finset.sum_congr rfl fun j _ => ?_))
    · rw [ha, hu]
    · rw [hb, hv]
  · exact funext hg
  · exact funext hh

/-- What the body stores at a point is the reference at the block's place. -/
theorem point (c : Dev nD) (t : Fin cfg0.N) (y : S512x1024.Idx) : k0_pay1 (k0_pay2 (iblk m c 4 t) (iblk m c 0 t) (iblk m c 2 t) (iblk m c 1 t) (iblk m c 3 t) (iblk m c 5 t)) (k0_pay3 (iblk m c 6 t)) y
    = Cert.Reference11Ideal.OutProj.norm (Cert.Reference11Ideal.OutProj.P (m ((c : Thread nD τ).loc main_arg0)) (m ((c : Thread nD τ).loc main_arg1)) (m ((c : Thread nD τ).loc main_arg2)) (m ((c : Thread nD τ).loc main_arg3)))
        (m ((c : Thread nD τ).loc main_arg4)) (m ((c : Thread nD τ).loc main_arg5)) (((cfg0.win 7).blk t).view.emb y) := by
  obtain ⟨r, e, rfl⟩ : ∃ (r : Fin 512) (e : Fin 1024), y = ix2 r e := ⟨y 0, y 1, by blk_ext⟩
  have hN := N_0
  have ht : t.val < 2 := lt_of_lt_of_eq t.isLt hN
  refine Eq.trans (block_eq _ _ _ _ _ _ _ (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) r e ⟨512 * t.val + r.val, by omega⟩ ?_ ?_ ?_ ?_ ?_ ?_ ?_) ?_
  · intro k; blk_ext [iblk, V, idx t]
  · intro k; blk_ext [iblk, V, idx t]
  · intro k; blk_ext [iblk, V, idx t]
  · intro k e; blk_simp [iblk]; entry_read; pointwise; all_goals (blk_ext [idx t])
  · intro k e; blk_simp [iblk]; entry_read; pointwise; all_goals (blk_ext [idx t])
  · intro k; blk_simp [iblk]; entry_read; pointwise; all_goals (blk_ext [idx t])
  · intro k; blk_simp [iblk]; entry_read; pointwise; all_goals (blk_ext [idx t])
  · blk_ext [idx t]

/-- The kernel's final array. -/
theorem final (c : Dev nD) : (dats m 0 c).arrAt 7 (cfgs 0).N
    = Cert.Reference11Ideal.OutProj.norm (Cert.Reference11Ideal.OutProj.P (m ((c : Thread nD τ).loc main_arg0)) (m ((c : Thread nD τ).loc main_arg1)) (m ((c : Thread nD τ).loc main_arg2)) (m ((c : Thread nD τ).loc main_arg3)))
        (m ((c : Thread nD τ).loc main_arg4)) (m ((c : Thread nD τ).loc main_arg5)) := by
  refine (dats m 0 c).arrAt_eq_of_covers 7 _ (by decide +kernel) fun t _ y => ?_
  blk_simp
  rw [after0_7]
  frame_out
  exact point m c t y

end Cert.Kernel11Ideal.OutProj
-- ==== Proof.Up.lean ====
/- The first half of the feed-forward part on the sample batch: the two arrays the kernel leaves. -/
module

public import proofs.«01_k».proof.Proof.Gen.Kernel2Ideal.Value
public import proofs.«01_k».proof.Proof.Gen.Reference2Ideal.Run
public import Idealize.ShloMosaic.Lib.Pointwise
public import Idealize.ShloMosaic.Lib.Pipeline.ValueKit

@[expose] public section
set_option maxRecDepth 16384
noncomputable section
namespace Cert.Reference2Ideal.Up
open Idealize.ShloMosaic Idealize.ShloMosaic.TcCoe Idealize.SL.Sem
open Cert.Reference2Ideal Cert.Reference2Ideal.Gen

/-- The reference's sequences: the product's rows behind the two rows of history. -/
def ext (a0 : FVec Ideal S1024x1024 .f32) (a1 : FVec Ideal S32x2x5632 .f32) (a2 : FVec Ideal S1024x5632 .f32) : FVec Ideal S32x34x5632 .f32 :=
  concatenate S32x34x5632 1 [⟨S32x2x5632, a1⟩, ⟨S32x32x5632, (shapeCast _ (Host.dotGeneral dot_S1024x1024_S1024x5632_S1024x5632_1_0_0_1_n_n none a0 a2) shapeCasts_S1024x5632_S32x32x5632)⟩] concatenates_S32x2x5632_S32x32x5632_S32x34x5632_d1

/-- The reference's causal convolution of three taps. -/
def conv (X : FVec Ideal S32x34x5632 .f32) (a3 : FVec Ideal S3x5632 .f32) : FVec Ideal S32x32x5632 .f32 :=
  addf (addf (addf (broadcastInDim S32x32x5632 ![] bcast_S_S32x32x5632 (constant S_ .f32 0x00000000#32))
    (mulf (extractStridedSlice S32x32x5632 ![0, 0, 0] X slices_S32x34x5632_S32x32x5632_0_0_0) (broadcastInDim S32x32x5632 ![0, 1, 2] bcast_S1x1x5632_S32x32x5632_0_1_2 (broadcastInDim S1x1x5632 ![2] bcast_S5632_S1x1x5632_2 (shapeCast _ (extractStridedSlice S1x5632 ![0, 0] a3 slices_S3x5632_S1x5632_0_0) shapeCasts_S1x5632_S5632)))))
    (mulf (extractStridedSlice S32x32x5632 ![0, 1, 0] X slices_S32x34x5632_S32x32x5632_0_1_0) (broadcastInDim S32x32x5632 ![0, 1, 2] bcast_S1x1x5632_S32x32x5632_0_1_2 (broadcastInDim S1x1x5632 ![2] bcast_S5632_S1x1x5632_2 (shapeCast _ (extractStridedSlice S1x5632 ![1, 0] a3 slices_S3x5632_S1x5632_1_0) shapeCasts_S1x5632_S5632)))))
    (mulf (extractStridedSlice S32x32x5632 ![0, 2, 0] X slices_S32x34x5632_S32x32x5632_0_2_0) (broadcastInDim S32x32x5632 ![0, 1, 2] bcast_S1x1x5632_S32x32x5632_0_1_2 (broadcastInDim S1x1x5632 ![2] bcast_S5632_S1x1x5632_2 (shapeCast _ (extractStridedSlice S1x5632 ![2, 0] a3 slices_S3x5632_S1x5632_2_0) shapeCasts_S1x5632_S5632))))

/-- The reference's gate over the two halves of the columns. -/
def gated (C : FVec Ideal S32x32x5632 .f32) : FVec Ideal S1024x2816 .bf16 :=
  truncf .bf16 (shapeCast _ (mulf (mulf (extractStridedSlice S32x32x2816 ![0, 0, 0] C slices_S32x32x5632_S32x32x2816_0_0_0)
    (Host.divf (broadcastInDim S32x32x2816 ![] bcast_S_S32x32x2816 (constant S_ .f32 0x3F800000#32)) (addf (broadcastInDim S32x32x2816 ![] bcast_S_S32x32x2816 (constant S_ .f32 0x3F800000#32)) (Host.exp (Host.negf (extractStridedSlice S32x32x2816 ![0, 0, 0] C slices_S32x32x5632_S32x32x2816_0_0_0))))))
    (extractStridedSlice S32x32x2816 ![0, 0, 2816] C slices_S32x32x5632_S32x32x2816_0_0_2816)) shapeCasts_S32x32x2816_S1024x2816) bitsLt_bf16_f32

/-- The reference's gated activations. -/
def act (a0 : FVec Ideal S1024x1024 .f32) (a1 : FVec Ideal S32x2x5632 .f32) (a2 : FVec Ideal S1024x5632 .f32) (a3 : FVec Ideal S3x5632 .f32) : FVec Ideal S1024x2816 .bf16 :=
  gated (conv (ext a0 a1 a2) a3)

/-- The reference's new history: the last two rows of each sequence. -/
def hist (a0 : FVec Ideal S1024x1024 .f32) (a1 : FVec Ideal S32x2x5632 .f32) (a2 : FVec Ideal S1024x5632 .f32) : FVec Ideal S32x2x5632 .f32 :=
  extractStridedSlice S32x2x5632 ![0, 32, 0] (ext a0 a1 a2) slices_S32x34x5632_S32x2x5632_0_32_0

/-- The first two rows of a sequence are its history. -/
theorem ext_lo (a0 : FVec Ideal S1024x1024 .f32) (a1 : FVec Ideal S32x2x5632 .f32) (a2 : FVec Ideal S1024x5632 .f32) (b : Fin 32) (p : Fin 2) (e : Fin 5632) :
    ext a0 a1 a2 (ix3 b ⟨p.val, by omega⟩ e) = a1 (ix3 b p e) := by
  unfold ext
  pointwise

/-- The other rows of a sequence are its rows of the product. -/
theorem ext_hi (a0 : FVec Ideal S1024x1024 .f32) (a1 : FVec Ideal S32x2x5632 .f32) (a2 : FVec Ideal S1024x5632 .f32) (b : Fin 32) (r : Fin 32) (e : Fin 5632) :
    ext a0 a1 a2 (ix3 b ⟨2 + r.val, by omega⟩ e) = ∑ k : Fin 1024, a0 (ix2 ⟨b.val * 32 + r.val, by omega⟩ k) * a2 (ix2 k e) := by
  unfold ext
  pointwise

/-- The convolution, element by element. -/
theorem conv_at (X : FVec Ideal S32x34x5632 .f32) (a3 : FVec Ideal S3x5632 .f32) (b : Fin 32) (r : Fin 32) (e : Fin 5632) :
    conv X a3 (ix3 b r e) = X (ix3 b ⟨r.val, by omega⟩ e) * a3 (ix2 0 e) + X (ix3 b ⟨1 + r.val, by omega⟩ e) * a3 (ix2 1 e) + X (ix3 b ⟨2 + r.val, by omega⟩ e) * a3 (ix2 2 e) := by
  unfold conv
  pointwise

/-- A gated pair. -/
def gate (g u : EReal) : EReal := g * Ideal.div 1 (1 + Ideal.exp (0 - g)) * u

/-- The gate, element by element. -/
theorem gated_at (C : FVec Ideal S32x32x5632 .f32) (b : Fin 32) (r : Fin 32) (e : Fin 2816) :
    gated C (ix2 ⟨b.val * 32 + r.val, by omega⟩ e) = gate (C (ix3 b r ⟨e.val, by omega⟩)) (C (ix3 b r ⟨2816 + e.val, by omega⟩)) := by
  unfold gated gate
  rw [zero_sub]
  pointwise

/-- The new history, element by element. -/
theorem hist_at (a0 : FVec Ideal S1024x1024 .f32) (a1 : FVec Ideal S32x2x5632 .f32) (a2 : FVec Ideal S1024x5632 .f32) (b : Fin 32) (p : Fin 2) (e : Fin 5632) :
    hist a0 a1 a2 (ix3 b p e) = ext a0 a1 a2 (ix3 b ⟨32 + p.val, by omega⟩ e) := by
  unfold hist
  pointwise

end Cert.Reference2Ideal.Up

namespace Cert.Kernel2Ideal.Up
open Idealize.ShloMosaic Idealize.ShloMosaic.TcCoe Idealize.SL.Sem
open Cert.Kernel2Ideal.Gen
open Cert.Reference2Ideal.Up (gate)

/-- A load of a box of the scratch array reads what the writes before it left there. -/
theorem load_eq (v : View sig .tc .vmem S8x40x5632 .f32) (L : List (View.Piece (Elt Ideal) S8x40x5632 .f32)) (B : Rect S8x40x5632) :
    v.readCov L B.toLoadRect = View.ld (View.canon L) B := by
  rw [View.readCov_eq_canon']

/-- The product of a tile's rows with the weight, by sequence, time and column. -/
def prod (X : FVec Ideal S256x1024 .f32) (W : FVec Ideal S1024x5632 .bf16) (b : Fin 8) (r : Fin 32) (e : Fin 5632) : EReal :=
  ∑ k : Fin 1024, X (ix2 ⟨b.val * 32 + r.val, by omega⟩ k) * W (ix2 k e)

/-- The writes to the scratch array, last first: the product's column blocks after the two rows of history. -/
def fill (X : FVec Ideal S256x1024 .f32) (W : FVec Ideal S1024x5632 .bf16) (HI : FVec Ideal S8x2x5632 .f32) :
    List (View.Piece (Elt Ideal) S8x40x5632 .f32) :=
  [⟨Rect.unit (s := S8x40x5632) ![0, 8, 5376] ![8, 32, 256] inb_S8x40x5632_S8x32x256_0_8_5376, k0_pay28 (F := Ideal) (k0_pay3 (F := Ideal) X) (View.ld (Val := Elt Ideal) (S := S1024x5632) (e' := .bf16) W (Rect.unit (s := S1024x5632) ![0, 5376] ![1024, 256] inb_S1024x5632_S1024x256_0_5376))⟩,
   ⟨Rect.unit (s := S8x40x5632) ![0, 8, 5120] ![8, 32, 256] inb_S8x40x5632_S8x32x256_0_8_5120, k0_pay27 (F := Ideal) (k0_pay3 (F := Ideal) X) (k0_pay26 (F := Ideal) (View.ld (Val := Elt Ideal) (S := S1024x5632) (e' := .bf16) W (Rect.unit (s := S1024x5632) ![0, 5120] ![1024, 256] inb_S1024x5632_S1024x256_0_5120)))⟩,
   ⟨Rect.unit (s := S8x40x5632) ![0, 8, 4864] ![8, 32, 256] inb_S8x40x5632_S8x32x256_0_8_4864, k0_pay25 (F := Ideal) (k0_pay3 (F := Ideal) X) (View.ld (Val := Elt Ideal) (S := S1024x5632) (e' := .bf16) W (Rect.unit (s := S1024x5632) ![0, 4864] ![1024, 256] inb_S1024x5632_S1024x256_0_4864))⟩,
   ⟨Rect.unit (s := S8x40x5632) ![0, 8, 4608] ![8, 32, 256] inb_S8x40x5632_S8x32x256_0_8_4608, k0_pay24 (F := Ideal) (k0_pay3 (F := Ideal) X) (View.ld (Val := Elt Ideal) (S := S1024x5632) (e' := .bf16) W (Rect.unit (s := S1024x5632) ![0, 4608] ![1024, 256] inb_S1024x5632_S1024x256_0_4608))⟩,
   ⟨Rect.unit (s := S8x40x5632) ![0, 8, 4352] ![8, 32, 256] inb_S8x40x5632_S8x32x256_0_8_4352, k0_pay23 (F := Ideal) (k0_pay3 (F := Ideal) X) (View.ld (Val := Elt Ideal) (S := S1024x5632) (e' := .bf16) W (Rect.unit (s := S1024x5632) ![0, 4352] ![1024, 256] inb_S1024x5632_S1024x256_0_4352))⟩,
   ⟨Rect.unit (s := S8x40x5632) ![0, 8, 4096] ![8, 32, 256] inb_S8x40x5632_S8x32x256_0_8_4096, k0_pay22 (F := Ideal) (k0_pay3 (F := Ideal) X) (View.ld (Val := Elt Ideal) (S := S1024x5632) (e' := .bf16) W (Rect.unit (s := S1024x5632) ![0, 4096] ![1024, 256] inb_S1024x5632_S1024x256_0_4096))⟩,
   ⟨Rect.unit (s := S8x40x5632) ![0, 8, 3840] ![8, 32, 256] inb_S8x40x5632_S8x32x256_0_8_3840, k0_pay21 (F := Ideal) (k0_pay3 (F := Ideal) X) (View.ld (Val := Elt Ideal) (S := S1024x5632) (e' := .bf16) W (Rect.unit (s := S1024x5632) ![0, 3840] ![1024, 256] inb_S1024x5632_S1024x256_0_3840))⟩,
   ⟨Rect.unit (s := S8x40x5632) ![0, 8, 3584] ![8, 32, 256] inb_S8x40x5632_S8x32x256_0_8_3584, k0_pay20 (F := Ideal) (k0_pay3 (F := Ideal) X) (View.ld (Val := Elt Ideal) (S := S1024x5632) (e' := .bf16) W (Rect.unit (s := S1024x5632) ![0, 3584] ![1024, 256] inb_S1024x5632_S1024x256_0_3584))⟩,
   ⟨Rect.unit (s := S8x40x5632) ![0, 8, 3328] ![8, 32, 256] inb_S8x40x5632_S8x32x256_0_8_3328, k0_pay19 (F := Ideal) (k0_pay3 (F := Ideal) X) (View.ld (Val := Elt Ideal) (S := S1024x5632) (e' := .bf16) W (Rect.unit (s := S1024x5632) ![0, 3328] ![1024, 256] inb_S1024x5632_S1024x256_0_3328))⟩,
   ⟨Rect.unit (s := S8x40x5632) ![0, 8, 3072] ![8, 32, 256] inb_S8x40x5632_S8x32x256_0_8_3072, k0_pay18 (F := Ideal) (k0_pay3 (F := Ideal) X) (View.ld (Val := Elt Ideal) (S := S1024x5632) (e' := .bf16) W (Rect.unit (s := S1024x5632) ![0, 3072] ![1024, 256] inb_S1024x5632_S1024x256_0_3072))⟩,
   ⟨Rect.unit (s := S8x40x5632) ![0, 8, 2816] ![8, 32, 256] inb_S8x40x5632_S8x32x256_0_8_2816, k0_pay17 (F := Ideal) (k0_pay16 (F := Ideal) (k0_pay3 (F := Ideal) X) (View.ld (Val := Elt Ideal) (S := S1024x5632) (e' := .bf16) W (Rect.unit (s := S1024x5632) ![0, 2816] ![1024, 256] inb_S1024x5632_S1024x256_0_2816)))⟩,
   ⟨Rect.unit (s := S8x40x5632) ![0, 8, 2560] ![8, 32, 256] inb_S8x40x5632_S8x32x256_0_8_2560, k0_pay15 (F := Ideal) (k0_pay3 (F := Ideal) X) (View.ld (Val := Elt Ideal) (S := S1024x5632) (e' := .bf16) W (Rect.unit (s := S1024x5632) ![0, 2560] ![1024, 256] inb_S1024x5632_S1024x256_0_2560))⟩,
   ⟨Rect.unit (s := S8x40x5632) ![0, 8, 2304] ![8, 32, 256] inb_S8x40x5632_S8x32x256_0_8_2304, k0_pay14 (F := Ideal) (k0_pay3 (F := Ideal) X) (View.ld (Val := Elt Ideal) (S := S1024x5632) (e' := .bf16) W (Rect.unit (s := S1024x5632) ![0, 2304] ![1024, 256] inb_S1024x5632_S1024x256_0_2304))⟩,
   ⟨Rect.unit (s := S8x40x5632) ![0, 8, 2048] ![8, 32, 256] inb_S8x40x5632_S8x32x256_0_8_2048, k0_pay13 (F := Ideal) (k0_pay3 (F := Ideal) X) (View.ld (Val := Elt Ideal) (S := S1024x5632) (e' := .bf16) W (Rect.unit (s := S1024x5632) ![0, 2048] ![1024, 256] inb_S1024x5632_S1024x256_0_2048))⟩,
   ⟨Rect.unit (s := S8x40x5632) ![0, 8, 1792] ![8, 32, 256] inb_S8x40x5632_S8x32x256_0_8_1792, k0_pay12 (F := Ideal) (k0_pay11 (F := Ideal) (k0_pay3 (F := Ideal) X) (View.ld (Val := Elt Ideal) (S := S1024x5632) (e' := .bf16) W (Rect.unit (s := S1024x5632) ![0, 1792] ![1024, 256] inb_S1024x5632_S1024x256_0_1792)))⟩,
   ⟨Rect.unit (s := S8x40x5632) ![0, 8, 1536] ![8, 32, 256] inb_S8x40x5632_S8x32x256_0_8_1536, k0_pay10 (F := Ideal) (k0_pay3 (F := Ideal) X) (View.ld (Val := Elt Ideal) (S := S1024x5632) (e' := .bf16) W (Rect.unit (s := S1024x5632) ![0, 1536] ![1024, 256] inb_S1024x5632_S1024x256_0_1536))⟩,
   ⟨Rect.unit (s := S8x40x5632) ![0, 8, 1280] ![8, 32, 256] inb_S8x40x5632_S8x32x256_0_8_1280, k0_pay9 (F := Ideal) (k0_pay3 (F := Ideal) X) (View.ld (Val := Elt Ideal) (S := S1024x5632) (e' := .bf16) W (Rect.unit (s := S1024x5632) ![0, 1280] ![1024, 256] inb_S1024x5632_S1024x256_0_1280))⟩,
   ⟨Rect.unit (s := S8x40x5632) ![0, 8, 1024] ![8, 32, 256] inb_S8x40x5632_S8x32x256_0_8_1024, k0_pay8 (F := Ideal) (k0_pay3 (F := Ideal) X) (View.ld (Val := Elt Ideal) (S := S1024x5632) (e' := .bf16) W (Rect.unit (s := S1024x5632) ![0, 1024] ![1024, 256] inb_S1024x5632_S1024x256_0_1024))⟩,
   ⟨Rect.unit (s := S8x40x5632) ![0, 8, 768] ![8, 32, 256] inb_S8x40x5632_S8x32x256_0_8_768, k0_pay7 (F := Ideal) (k0_pay3 (F := Ideal) X) (View.ld (Val := Elt Ideal) (S := S1024x5632) (e' := .bf16) W (Rect.unit (s := S1024x5632) ![0, 768] ![1024, 256] inb_S1024x5632_S1024x256_0_768))⟩,
   ⟨Rect.unit (s := S8x40x5632) ![0, 8, 512] ![8, 32, 256] inb_S8x40x5632_S8x32x256_0_8_512, k0_pay6 (F := Ideal) X (View.ld (Val := Elt Ideal) (S := S1024x5632) (e' := .bf16) W (Rect.unit (s := S1024x5632) ![0, 512] ![1024, 256] inb_S1024x5632_S1024x256_0_512))⟩,
   ⟨Rect.unit (s := S8x40x5632) ![0, 8, 256] ![8, 32, 256] inb_S8x40x5632_S8x32x256_0_8_256, k0_pay5 (F := Ideal) X (View.ld (Val := Elt Ideal) (S := S1024x5632) (e' := .bf16) W (Rect.unit (s := S1024x5632) ![0, 256] ![1024, 256] inb_S1024x5632_S1024x256_0_256))⟩,
   ⟨Rect.unit (s := S8x40x5632) ![0, 8, 0] ![8, 32, 256] inb_S8x40x5632_S8x32x256_0_8_0, k0_pay4 (F := Ideal) X (View.ld (Val := Elt Ideal) (S := S1024x5632) (e' := .bf16) W (Rect.unit (s := S1024x5632) ![0, 0] ![1024, 256] inb_S1024x5632_S1024x256_0_0))⟩,
   ⟨Rect.unit (s := S8x40x5632) ![0, 6, 0] ![8, 2, 5632] inb_S8x40x5632_S8x2x5632_0_6_0, k0_pay2 (F := Ideal) HI⟩]

/-- A product block of the scratch array holds its columns of the rows of the tile's sequences. -/
theorem mem_block (k : Nat) (hin : ∀ a, (![0, 8, k] : Fin 3 → Nat) a + (![8, 32, 256] : Fin 3 → Nat) a ≤ S8x40x5632.size a) (b : Fin 8) (p : Fin 40) (e : Fin 5632) :
    (ix3 b p e : S8x40x5632.Idx) ∈ (Rect.unit (s := S8x40x5632) ![0, 8, k] ![8, 32, 256] hin).set ↔ 8 ≤ p.val ∧ k ≤ e.val ∧ e.val < k + 256 := by
  rw [Rect.mem_set_unit]
  constructor
  · intro h; exact ⟨(h 1).1, h 2⟩
  · rintro ⟨h1, h2⟩ a
    fin_cases a
    · exact ⟨Nat.zero_le _, by show b.val < 0 + 8; omega⟩
    · exact ⟨h1, by show p.val < 8 + 32; omega⟩
    · exact h2

/-- The history's block of the scratch array is rows six and seven. -/
theorem mem_hist (hin : ∀ a, (![0, 6, 0] : Fin 3 → Nat) a + (![8, 2, 5632] : Fin 3 → Nat) a ≤ S8x40x5632.size a) (b : Fin 8) (p : Fin 40) (e : Fin 5632) :
    (ix3 b p e : S8x40x5632.Idx) ∈ (Rect.unit (s := S8x40x5632) ![0, 6, 0] ![8, 2, 5632] hin).set ↔ 6 ≤ p.val ∧ p.val < 8 := by
  rw [Rect.mem_set_unit]
  constructor
  · intro h; exact h 1
  · rintro h a
    fin_cases a
    · exact ⟨Nat.zero_le _, by show b.val < 0 + 8; omega⟩
    · exact h
    · exact ⟨Nat.zero_le _, by show e.val < 0 + 5632; omega⟩

/-- The product at a column of a block, the column given by its block and its place there. -/
theorem prod_congr (X : FVec Ideal S256x1024 .f32) (W : FVec Ideal S1024x5632 .bf16) {b x0 : Fin 8} {r x1 : Fin 32} {e e' : Fin 5632}
    (h0 : b.val = x0.val) (h1 : 8 + r.val = 8 + x1.val) (h2 : e.val = e'.val) :
    ∑ k : Fin 1024, X (ix2 ⟨x0.val * 32 + x1.val, by omega⟩ k) * W (ix2 k e') = prod X W b r e := by
  obtain rfl : b = x0 := Fin.ext h0
  obtain rfl : r = x1 := Fin.ext (by omega)
  obtain rfl : e = e' := Fin.ext h2
  rfl

set_option maxHeartbeats 2000000 in
/-- Rows from the eighth on hold the product. -/
theorem fill_hi (X : FVec Ideal S256x1024 .f32) (W : FVec Ideal S1024x5632 .bf16) (HI : FVec Ideal S8x2x5632 .f32) (b : Fin 8) (r : Fin 32) (e : Fin 5632) :
    View.canon (fill X W HI) (ix3 b ⟨8 + r.val, by omega⟩ e) = prod X W b r e := by
  unfold fill
  canon_tiles x hh using (by simp only [List.exists_mem_cons_iff, mem_block, mem_hist]; omega)
  all_goals have h0 : b.val = _ := hh0
  all_goals have h1 : 8 + r.val = _ := hh1
  all_goals have h2 : e.val = _ := hh2
  case piece22 => exfalso; omega
  case piece0 =>
    pointwise [k0_pay28, k0_pay3]
    exact prod_congr X W h0 h1 h2
  case piece1 =>
    pointwise [k0_pay27, k0_pay26, k0_pay3]
    exact prod_congr X W h0 h1 h2
  case piece2 =>
    pointwise [k0_pay25, k0_pay3]
    exact prod_congr X W h0 h1 h2
  case piece3 =>
    pointwise [k0_pay24, k0_pay3]
    exact prod_congr X W h0 h1 h2
  case piece4 =>
    pointwise [k0_pay23, k0_pay3]
    exact prod_congr X W h0 h1 h2
  case piece5 =>
    pointwise [k0_pay22, k0_pay3]
    exact prod_congr X W h0 h1 h2
  case piece6 =>
    pointwise [k0_pay21, k0_pay3]
    exact prod_congr X W h0 h1 h2
  case piece7 =>
    pointwise [k0_pay20, k0_pay3]
    exact prod_congr X W h0 h1 h2
  case piece8 =>
    pointwise [k0_pay19, k0_pay3]
    exact prod_congr X W h0 h1 h2
  case piece9 =>
    pointwise [k0_pay18, k0_pay3]
    exact prod_congr X W h0 h1 h2
  case piece10 =>
    pointwise [k0_pay17, k0_pay16, k0_pay3]
    exact prod_congr X W h0 h1 h2
  case piece11 =>
    pointwise [k0_pay15, k0_pay3]
    exact prod_congr X W h0 h1 h2
  case piece12 =>
    pointwise [k0_pay14, k0_pay3]
    exact prod_congr X W h0 h1 h2
  case piece13 =>
    pointwise [k0_pay13, k0_pay3]
    exact prod_congr X W h0 h1 h2
  case piece14 =>
    pointwise [k0_pay12, k0_pay11, k0_pay3]
    exact prod_congr X W h0 h1 h2
  case piece15 =>
    pointwise [k0_pay10, k0_pay3]
    exact prod_congr X W h0 h1 h2
  case piece16 =>
    pointwise [k0_pay9, k0_pay3]
    exact prod_congr X W h0 h1 h2
  case piece17 =>
    pointwise [k0_pay8, k0_pay3]
    exact prod_congr X W h0 h1 h2
  case piece18 =>
    pointwise [k0_pay7, k0_pay3]
    exact prod_congr X W h0 h1 h2
  case piece19 =>
    pointwise [k0_pay6, k0_pay3]
    exact prod_congr X W h0 h1 h2
  case piece20 =>
    pointwise [k0_pay5, k0_pay3]
    exact prod_congr X W h0 h1 h2
  case piece21 =>
    pointwise [k0_pay4, k0_pay3]
    exact prod_congr X W h0 h1 h2

set_option maxHeartbeats 2000000 in
/-- Rows six and seven hold the history. -/
theorem fill_lo (X : FVec Ideal S256x1024 .f32) (W : FVec Ideal S1024x5632 .bf16) (HI : FVec Ideal S8x2x5632 .f32) (b : Fin 8) (p : Fin 2) (e : Fin 5632) :
    View.canon (fill X W HI) (ix3 b ⟨6 + p.val, by omega⟩ e) = HI (ix3 b p e) := by
  unfold fill
  canon_tiles x hh using (by simp only [List.exists_mem_cons_iff, mem_block, mem_hist]; omega)
  all_goals have h0 : b.val = _ := hh0
  all_goals have h1 : 6 + p.val = _ := hh1
  all_goals have h2 : e.val = _ := hh2
  case piece22 =>
    obtain rfl : b = x 0 := Fin.ext h0
    obtain rfl : p = x 1 := Fin.ext (by omega)
    obtain rfl : e = x 2 := Fin.ext h2
    pointwise [k0_pay2]
  all_goals (exfalso; omega)

/-- The kernel's convolution, read off its scratch. -/
def cv (E : Vec Ideal S8x40x5632 .f32) (CW : Vec Ideal S3x5632 .f32) (b : Fin 8) (r : Fin 32) (e : Fin 5632) : EReal :=
  E (ix3 b ⟨6 + r.val, by omega⟩ e) * CW (ix2 0 e) + E (ix3 b ⟨7 + r.val, by omega⟩ e) * CW (ix2 1 e) + E (ix3 b ⟨8 + r.val, by omega⟩ e) * CW (ix2 2 e)

/-- A gated element depends on the values of its coordinates only. -/
theorem gate_congr (E : Vec Ideal S8x40x5632 .f32) (CW : Vec Ideal S3x5632 .f32) {b b' : Fin 8} {r r' : Fin 32} {g g' u u' : Fin 5632}
    (hb : b'.val = b.val) (hr : r'.val = r.val) (hg : g'.val = g.val) (hu : u'.val = u.val) :
    gate (cv E CW b' r' g') (cv E CW b' r' u') = gate (cv E CW b r g) (cv E CW b r u) := by
  obtain rfl : b' = b := Fin.ext hb
  obtain rfl : r' = r := Fin.ext hr
  obtain rfl : g' = g := Fin.ext hg
  obtain rfl : u' = u := Fin.ext hu
  rfl

variable (m : (ℓ : Loc nD τ sig) → Buf (Elt Ideal) ℓ)

set_option maxHeartbeats 4000000 in
/-- The gated block a grid point stores, element by element. -/
theorem out4_at (c : Dev nD) (t : Fin cfg0.N) (b : Fin 8) (r : Fin 32) (e : Fin 2816) :
    (outsAt0 m c t).1 (ix2 ⟨b.val * 32 + r.val, by omega⟩ e) = gate (cv (View.canon (fill (iblk m c 0 t) (iblk m c 1 t) (iblk m c 3 t))) (iblk m c 2 t) b r ⟨e.val, by omega⟩) (cv (View.canon (fill (iblk m c 0 t) (iblk m c 1 t) (iblk m c 3 t))) (iblk m c 2 t) b r ⟨2816 + e.val, by omega⟩) := by
  unfold outsAt0
  frame_out
  generalize iblk m c 0 t = X
  generalize iblk m c 1 t = W
  generalize iblk m c 2 t = CW
  generalize iblk m c 3 t = HI
  simp only [load_eq]
  generalize hE : View.canon (Val := Elt Ideal) (s := S8x40x5632) (e := .f32) [_, _, _, _, _, _, _, _, _, _, _, _, _, _, _, _, _, _, _, _, _, _, _] = E
  have hE' : View.canon (fill X W HI) = E := hE
  rw [hE']
  clear hE hE'
  canon_tiles x hh
  all_goals have h0 : b.val * 32 + r.val = _ := hh0
  all_goals have h1 : e.val = _ := hh1
  case piece0 =>
    refine Eq.trans ?_ (gate_congr E CW (b' := ⟨(x 0).val / 32, by omega⟩) (r' := ⟨(x 0).val % 32, by omega⟩) (g' := ⟨2560 + (x 1).val, by omega⟩) (u' := ⟨5376 + (x 1).val, by omega⟩) (by dsimp only; omega) (by dsimp only; omega) (by dsimp only; omega) (by dsimp only; omega))
    unfold gate cv
    open_payloads
    pointwise
  case piece1 =>
    refine Eq.trans ?_ (gate_congr E CW (b' := ⟨(x 0).val / 32, by omega⟩) (r' := ⟨(x 0).val % 32, by omega⟩) (g' := ⟨2304 + (x 1).val, by omega⟩) (u' := ⟨5120 + (x 1).val, by omega⟩) (by dsimp only; omega) (by dsimp only; omega) (by dsimp only; omega) (by dsimp only; omega))
    unfold gate cv
    open_payloads
    pointwise
  case piece2 =>
    refine Eq.trans ?_ (gate_congr E CW (b' := ⟨(x 0).val / 32, by omega⟩) (r' := ⟨(x 0).val % 32, by omega⟩) (g' := ⟨2048 + (x 1).val, by omega⟩) (u' := ⟨4864 + (x 1).val, by omega⟩) (by dsimp only; omega) (by dsimp only; omega) (by dsimp only; omega) (by dsimp only; omega))
    unfold gate cv
    open_payloads
    pointwise
  case piece3 =>
    refine Eq.trans ?_ (gate_congr E CW (b' := ⟨(x 0).val / 32, by omega⟩) (r' := ⟨(x 0).val % 32, by omega⟩) (g' := ⟨1792 + (x 1).val, by omega⟩) (u' := ⟨4608 + (x 1).val, by omega⟩) (by dsimp only; omega) (by dsimp only; omega) (by dsimp only; omega) (by dsimp only; omega))
    unfold gate cv
    open_payloads
    pointwise
  case piece4 =>
    refine Eq.trans ?_ (gate_congr E CW (b' := ⟨(x 0).val / 32, by omega⟩) (r' := ⟨(x 0).val % 32, by omega⟩) (g' := ⟨1536 + (x 1).val, by omega⟩) (u' := ⟨4352 + (x 1).val, by omega⟩) (by dsimp only; omega) (by dsimp only; omega) (by dsimp only; omega) (by dsimp only; omega))
    unfold gate cv
    open_payloads
    pointwise
  case piece5 =>
    refine Eq.trans ?_ (gate_congr E CW (b' := ⟨(x 0).val / 32, by omega⟩) (r' := ⟨(x 0).val % 32, by omega⟩) (g' := ⟨1280 + (x 1).val, by omega⟩) (u' := ⟨4096 + (x 1).val, by omega⟩) (by dsimp only; omega) (by dsimp only; omega) (by dsimp only; omega) (by dsimp only; omega))
    unfold gate cv
    open_payloads
    pointwise
  case piece6 =>
    refine Eq.trans ?_ (gate_congr E CW (b' := ⟨(x 0).val / 32, by omega⟩) (r' := ⟨(x 0).val % 32, by omega⟩) (g' := ⟨1024 + (x 1).val, by omega⟩) (u' := ⟨3840 + (x 1).val, by omega⟩) (by dsimp only; omega) (by dsimp only; omega) (by dsimp only; omega) (by dsimp only; omega))
    unfold gate cv
    open_payloads
    pointwise
  case piece7 =>
    refine Eq.trans ?_ (gate_congr E CW (b' := ⟨(x 0).val / 32, by omega⟩) (r' := ⟨(x 0).val % 32, by omega⟩) (g' := ⟨768 + (x 1).val, by omega⟩) (u' := ⟨3584 + (x 1).val, by omega⟩) (by dsimp only; omega) (by dsimp only; omega) (by dsimp only; omega) (by dsimp only; omega))
    unfold gate cv
    open_payloads
    pointwise
  case piece8 =>
    refine Eq.trans ?_ (gate_congr E CW (b' := ⟨(x 0).val / 32, by omega⟩) (r' := ⟨(x 0).val % 32, by omega⟩) (g' := ⟨512 + (x 1).val, by omega⟩) (u' := ⟨3328 + (x 1).val, by omega⟩) (by dsimp only; omega) (by dsimp only; omega) (by dsimp only; omega) (by dsimp only; omega))
    unfold gate cv
    open_payloads
    pointwise
  case piece9 =>
    refine Eq.trans ?_ (gate_congr E CW (b' := ⟨(x 0).val / 32, by omega⟩) (r' := ⟨(x 0).val % 32, by omega⟩) (g' := ⟨256 + (x 1).val, by omega⟩) (u' := ⟨3072 + (x 1).val, by omega⟩) (by dsimp only; omega) (by dsimp only; omega) (by dsimp only; omega) (by dsimp only; omega))
    unfold gate cv
    open_payloads
    pointwise
  case piece10 =>
    refine Eq.trans ?_ (gate_congr E CW (b' := ⟨(x 0).val / 32, by omega⟩) (r' := ⟨(x 0).val % 32, by omega⟩) (g' := ⟨(x 1).val, by omega⟩) (u' := ⟨2816 + (x 1).val, by omega⟩) (by dsimp only; omega) (by dsimp only; omega) (by dsimp only; omega) (by dsimp only; omega))
    unfold gate cv
    open_payloads
    pointwise

set_option maxHeartbeats 4000000 in
/-- The history block a grid point stores, element by element. -/
theorem out5_at (c : Dev nD) (t : Fin cfg0.N) (b : Fin 8) (p : Fin 2) (e : Fin 5632) :
    (outsAt0 m c t).2 (ix3 b p e) = prod (iblk m c 0 t) (iblk m c 1 t) b ⟨30 + p.val, by omega⟩ e := by
  rw [← fill_hi (iblk m c 0 t) (iblk m c 1 t) (iblk m c 3 t)]
  unfold outsAt0
  frame_out
  generalize iblk m c 0 t = X
  generalize iblk m c 1 t = W
  generalize iblk m c 2 t = CW
  generalize iblk m c 3 t = HI
  simp only [load_eq]
  generalize hE : View.canon (Val := Elt Ideal) (s := S8x40x5632) (e := .f32) [_, _, _, _, _, _, _, _, _, _, _, _, _, _, _, _, _, _, _, _, _, _, _] = E
  have hE' : View.canon (fill X W HI) = E := hE
  rw [hE']
  clear hE hE'
  show E _ = E _
  refine congrArg E (funext fun a => Fin.ext ?_)
  rw [Rect.idx_unit_val]
  fin_cases a
  · exact Nat.zero_add _
  · show 38 + p.val = 8 + (30 + p.val)
    omega
  · exact Nat.zero_add _

/-- The kernel's scratch rows are the reference's sequence rows. -/
theorem fill_eq (X : FVec Ideal S256x1024 .f32) (W : FVec Ideal S1024x5632 .bf16) (HI : FVec Ideal S8x2x5632 .f32)
    (a0 : FVec Ideal S1024x1024 .f32) (a1 : FVec Ideal S32x2x5632 .f32) (a2 : FVec Ideal S1024x5632 .f32) (q : Fin 4)
    (hX : ∀ (i : Fin 256) (k : Fin 1024), X (ix2 i k) = a0 (ix2 ⟨256 * q.val + i.val, by omega⟩ k))
    (hW : ∀ (k : Fin 1024) (e : Fin 5632), W (ix2 k e) = a2 (ix2 k e))
    (hH : ∀ (b : Fin 8) (p : Fin 2) (e : Fin 5632), HI (ix3 b p e) = a1 (ix3 ⟨8 * q.val + b.val, by omega⟩ p e))
    (b : Fin 8) (j : Fin 40) (p : Fin 34) (hj : j.val = 6 + p.val) (e : Fin 5632) :
    View.canon (fill X W HI) (ix3 b j e) = Cert.Reference2Ideal.Up.ext a0 a1 a2 (ix3 ⟨8 * q.val + b.val, by omega⟩ p e) := by
  by_cases h : p.val < 2
  · rw [show j = ⟨6 + (⟨p.val, h⟩ : Fin 2).val, by dsimp only; omega⟩ from Fin.ext hj, fill_lo, hH]
    exact (Cert.Reference2Ideal.Up.ext_lo a0 a1 a2 _ ⟨p.val, h⟩ e).symm
  · obtain ⟨r, hr⟩ : ∃ r : Fin 32, p.val = 2 + r.val := ⟨⟨p.val - 2, by omega⟩, by dsimp only; omega⟩
    have hlt : 2 + r.val < 34 := by clear hj hr h; omega
    obtain rfl : p = ⟨2 + r.val, hlt⟩ := Fin.ext hr
    rw [show j = ⟨8 + r.val, by omega⟩ from Fin.ext (by dsimp only at hj ⊢; omega), fill_hi, Cert.Reference2Ideal.Up.ext_hi]
    unfold prod
    refine Finset.sum_congr rfl fun k _ => ?_
    rw [hX, hW]
    refine congrArg (fun i => a0 (ix2 i k) * a2 (ix2 k e)) (Fin.ext ?_)
    dsimp only
    omega

/-- The kernel's convolution is the reference's. -/
theorem cv_eq (X : FVec Ideal S256x1024 .f32) (W : FVec Ideal S1024x5632 .bf16) (CW : FVec Ideal S3x5632 .f32) (HI : FVec Ideal S8x2x5632 .f32)
    (a0 : FVec Ideal S1024x1024 .f32) (a1 : FVec Ideal S32x2x5632 .f32) (a2 : FVec Ideal S1024x5632 .f32) (a3 : FVec Ideal S3x5632 .f32) (q : Fin 4)
    (hX : ∀ (i : Fin 256) (k : Fin 1024), X (ix2 i k) = a0 (ix2 ⟨256 * q.val + i.val, by omega⟩ k))
    (hW : ∀ (k : Fin 1024) (e : Fin 5632), W (ix2 k e) = a2 (ix2 k e))
    (hC : ∀ (j : Fin 3) (e : Fin 5632), CW (ix2 j e) = a3 (ix2 j e))
    (hH : ∀ (b : Fin 8) (p : Fin 2) (e : Fin 5632), HI (ix3 b p e) = a1 (ix3 ⟨8 * q.val + b.val, by omega⟩ p e))
    (b : Fin 8) (r : Fin 32) (e : Fin 5632) :
    cv (View.canon (fill X W HI)) CW b r e = Cert.Reference2Ideal.Up.conv (Cert.Reference2Ideal.Up.ext a0 a1 a2) a3 (ix3 ⟨8 * q.val + b.val, by omega⟩ r e) := by
  unfold cv
  rw [fill_eq X W HI a0 a1 a2 q hX hW hH b _ ⟨r.val, by omega⟩ rfl e,
    fill_eq X W HI a0 a1 a2 q hX hW hH b _ ⟨1 + r.val, by omega⟩ (by dsimp only; omega) e,
    fill_eq X W HI a0 a1 a2 q hX hW hH b _ ⟨2 + r.val, by omega⟩ (by dsimp only; omega) e,
    Cert.Reference2Ideal.Up.conv_at, hC, hC, hC]

/-- The windows' blocks: the rows and the histories go with the grid point, the weights stay. -/
theorem idx : ∀ t : Fin cfg0.N, win0_0.index t = ![t.val, 0] ∧ win0_1.index t = ![0, 0] ∧ win0_2.index t = ![0, 0] ∧ win0_3.index t = ![t.val, 0, 0] ∧ win0_4.index t = ![t.val, 0] ∧ win0_5.index t = ![t.val, 0, 0] :=
  (by decide +kernel : ∀ t : Fin grid0.N, _)

/-- The block of rows at a grid point. -/
theorem inX (c : Dev nD) (t : Fin cfg0.N) (q : Fin 4) (hq : q.val = t.val) (i : Fin 256) (k : Fin 1024) :
    iblk m c 0 t (ix2 i k) = m ((c : Thread nD τ).loc main_arg0) (ix2 ⟨256 * q.val + i.val, by omega⟩ k) := by
  blk_ext [iblk, V, idx t]

/-- The converted weight at a grid point. -/
theorem inW (c : Dev nD) (t : Fin cfg0.N) (k : Fin 1024) (e : Fin 5632) :
    iblk m c 1 t (ix2 k e) = m ((c : Thread nD τ).loc main_arg2) (ix2 k e) := by
  blk_simp [iblk]
  entry_read
  pointwise
  all_goals (blk_ext [idx t])

/-- The taps at a grid point. -/
theorem inC (c : Dev nD) (t : Fin cfg0.N) (j : Fin 3) (e : Fin 5632) :
    iblk m c 2 t (ix2 j e) = m ((c : Thread nD τ).loc main_arg3) (ix2 j e) := by
  blk_ext [iblk, V, idx t]

/-- The histories at a grid point. -/
theorem inH (c : Dev nD) (t : Fin cfg0.N) (q : Fin 4) (hq : q.val = t.val) (b : Fin 8) (p : Fin 2) (e : Fin 5632) :
    iblk m c 3 t (ix3 b p e) = m ((c : Thread nD τ).loc main_arg1) (ix3 ⟨8 * q.val + b.val, by omega⟩ p e) := by
  blk_ext [iblk, V, idx t]

/-- What a grid point stores of the activations is the reference at the block's place. -/
theorem point4 (c : Dev nD) (t : Fin cfg0.N) (y : S256x2816.Idx) : (outsAt0 m c t).1 y
    = Cert.Reference2Ideal.Up.act (m ((c : Thread nD τ).loc main_arg0)) (m ((c : Thread nD τ).loc main_arg1)) (m ((c : Thread nD τ).loc main_arg2)) (m ((c : Thread nD τ).loc main_arg3)) (((cfg0.win 4).blk t).view.emb y) := by
  have ht : t.val < 4 := lt_of_lt_of_eq t.isLt N_0
  obtain ⟨b, r, e, rfl⟩ : ∃ (b : Fin 8) (r : Fin 32) (e : Fin 2816), y = ix2 ⟨b.val * 32 + r.val, by omega⟩ e := by
    have h0 : (y 0).val < 256 := (y 0).isLt
    exact ⟨⟨(y 0).val / 32, by omega⟩, ⟨(y 0).val % 32, by omega⟩, y 1, by blk_ext⟩
  have h := fun e' => cv_eq (iblk m c 0 t) (iblk m c 1 t) (iblk m c 2 t) (iblk m c 3 t) (m ((c : Thread nD τ).loc main_arg0)) (m ((c : Thread nD τ).loc main_arg1)) (m ((c : Thread nD τ).loc main_arg2)) (m ((c : Thread nD τ).loc main_arg3)) ⟨t.val, ht⟩
    (inX m c t ⟨t.val, ht⟩ rfl) (inW m c t) (inC m c t) (inH m c t ⟨t.val, ht⟩ rfl) b r e'
  rw [out4_at, h, h]
  unfold Cert.Reference2Ideal.Up.act
  refine (Cert.Reference2Ideal.Up.gated_at _ ⟨8 * t.val + b.val, by omega⟩ r e).symm.trans ?_
  blk_ext [idx t]

/-- What a grid point stores of the history is the reference at the block's place. -/
theorem point5 (c : Dev nD) (t : Fin cfg0.N) (y : S8x2x5632.Idx) : (outsAt0 m c t).2 y
    = Cert.Reference2Ideal.Up.hist (m ((c : Thread nD τ).loc main_arg0)) (m ((c : Thread nD τ).loc main_arg1)) (m ((c : Thread nD τ).loc main_arg2)) (((cfg0.win 5).blk t).view.emb y) := by
  have ht : t.val < 4 := lt_of_lt_of_eq t.isLt N_0
  obtain ⟨b, p, e, rfl⟩ : ∃ (b : Fin 8) (p : Fin 2) (e : Fin 5632), y = ix3 b p e := ⟨y 0, y 1, y 2, by blk_ext⟩
  rw [out5_at, ← fill_hi (iblk m c 0 t) (iblk m c 1 t) (iblk m c 3 t),
    fill_eq (iblk m c 0 t) (iblk m c 1 t) (iblk m c 3 t) (m ((c : Thread nD τ).loc main_arg0)) (m ((c : Thread nD τ).loc main_arg1)) (m ((c : Thread nD τ).loc main_arg2)) ⟨t.val, ht⟩ (inX m c t ⟨t.val, ht⟩ rfl) (inW m c t) (inH m c t ⟨t.val, ht⟩ rfl) b _ ⟨32 + p.val, by omega⟩ (by dsimp only; omega) e]
  refine (Cert.Reference2Ideal.Up.hist_at (m ((c : Thread nD τ).loc main_arg0)) (m ((c : Thread nD τ).loc main_arg1)) (m ((c : Thread nD τ).loc main_arg2)) ⟨8 * t.val + b.val, by omega⟩ p e).symm.trans ?_
  blk_ext [idx t]

/-- The kernel's final activations. -/
theorem final_act (c : Dev nD) : (dats m 0 c).arrAt 4 (cfgs 0).N = Cert.Reference2Ideal.Up.act (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]
  exact point4 m c t y

/-- The kernel's final history. -/
theorem final_hist (c : Dev nD) : (dats m 0 c).arrAt 5 (cfgs 0).N = Cert.Reference2Ideal.Up.hist (m ((c : Thread nD τ).loc main_arg0)) (m ((c : Thread nD τ).loc main_arg1)) (m ((c : Thread nD τ).loc main_arg2)) := by
  refine (dats m 0 c).arrAt_eq_of_covers 5 _ (by decide +kernel) fun t _ y => ?_
  blk_simp
  rw [after0_5]
  exact point5 m c t y

end Cert.Kernel2Ideal.Up
-- ==== Proof.lean ====
/- The certificate of the band attention: the three frames, the named mask constant, and the kernel's value. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Ref
public import proofs.«01_k».proof.Proof.Final
public import proofs.«01_k».proof.Proof.Pre
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Down
public import proofs.«01_k».proof.Proof.OutProj
public import proofs.«01_k».proof.Proof.ProjOdd
public import proofs.«01_k».proof.Proof.ProjEven
public import proofs.«01_k».proof.Proof.DownSample
public import proofs.«01_k».proof.Proof.ProjOddSample
public import proofs.«01_k».proof.Proof.ProjEvenSample
public import proofs.«01_k».proof.Proof.SamplePre
public import proofs.«01_k».proof.Proof.SampleFinal
public import proofs.«01_k».proof.Proof.OutProjSample
public import proofs.«01_k».proof.Proof.Up
public import Idealize.ShloMosaic.Adequacy
public import Idealize.ShloMosaic.Init

@[expose] public section

noncomputable section

namespace Cert.Proof

open Idealize.ShloMosaic Idealize.SL.Sem Cert.Kernel

/-- The reference runs, keeps its arguments, and leaves every counter at zero. -/
theorem frame_ri (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0) :=
  (θ_run Cert.ReferenceIdeal.defs _ _).mono (fun r h => ⟨fun c => (h c).2, Idealize.ShloMosaic.sem_eq_zero_of_no_sems (by decide) r.2⟩)
    (Cert.ReferenceIdeal.Value.run (F := Ideal) m g)

/-- For finite queries, keys and table the kernel ends with the reference's band attention. -/
theorem algebraic : Cert.algebraic_KernelIdeal_ReferenceIdeal_pre_finite_in (hPre_finite_in := Cert.Pre_finite_in.facts) := by
  intro m g m' g' hpre hargs
  refine ⟨fun c => Cert.ReferenceIdeal.Band.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)), ?_, ?_⟩
  · refine (θ_run Cert.KernelIdeal.defs _ _).mono (fun r h c => ?_) (Cert.KernelIdeal.Value.run_blocks (F := Ideal) m g)
    obtain ⟨hq, hk, hT⟩ := Cert.Pre_finite_in.finite (hF := Cert.Pre_finite_in.facts) _ _ _ _ (hpre c)
    exact ⟨(h c).1.trans (Cert.KernelIdeal.Band.final_eq m c hq hk hT), (h c).2⟩
  · refine (θ_run Cert.ReferenceIdeal.defs _ _).mono (fun r h c => ?_) (Cert.ReferenceIdeal.Value.run (F := Ideal) m' g')
    obtain ⟨a0, a1, a2, a3⟩ := hargs c
    refine ⟨(h c).1.trans ((Cert.ReferenceIdeal.Band.result_eq m' c).trans ?_), (h c).2⟩
    exact (congrArg (fun x => Cert.ReferenceIdeal.Band.result x _ _ _) a0).trans ((congrArg (fun x => Cert.ReferenceIdeal.Band.result _ x _ _) a1).trans
      ((congrArg (fun x => Cert.ReferenceIdeal.Band.result _ _ x _) a2).trans (congrArg (fun x => Cert.ReferenceIdeal.Band.result _ _ _ x) a3)))

/-- The reference of the second program runs, keeps its arguments, and leaves every counter at zero. -/
theorem frame_ri2 (m : (ℓ : Loc Cert.Reference2Ideal.nD Cert.Reference2Ideal.τ Cert.Reference2Ideal.sig) → Buf (Elt Ideal) ℓ) (g : Dev Cert.Reference2Ideal.nD → PrngReg) :
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0) :=
  (θ_run Cert.Reference2Ideal.defs _ _).mono (fun r h => ⟨fun c => (h c).2.2, Idealize.ShloMosaic.sem_eq_zero_of_no_sems (by decide) r.2⟩)
    (Cert.Reference2Ideal.Value.run (F := Ideal) m g)

/-- The sample batch's first feed-forward half: the kernel ends with the reference's gated activations and history. -/
theorem algebraic2 : Cert.algebraic_Kernel2Ideal_Reference2Ideal := by
  intro m g m' g' hpre hargs
  refine ⟨fun c => Cert.Reference2Ideal.Up.act (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)), fun c => Cert.Reference2Ideal.Up.hist (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)), ?_, ?_⟩
  · refine (θ_run Cert.Kernel2Ideal.defs _ _).mono (fun r h c => ?_) (Cert.Kernel2Ideal.Value.run_blocks (F := Ideal) m g)
    exact ⟨(h c).1.trans (Cert.Kernel2Ideal.Up.final_act m c), (h c).2.1.trans (Cert.Kernel2Ideal.Up.final_hist m c), (h c).2.2⟩
  · refine (θ_run Cert.Reference2Ideal.defs _ _).mono (fun r h c => ?_) (Cert.Reference2Ideal.Value.run (F := Ideal) m' g')
    obtain ⟨a0, a1, a2, a3⟩ := hargs c
    refine ⟨(h c).1.trans ?_, (h c).2.1.trans ?_, (h c).2.2⟩
    · exact ((congrArg (fun X => Cert.Reference2Ideal.Up.act X _ _ _) a0).trans ((congrArg (fun X => Cert.Reference2Ideal.Up.act _ X _ _) a1).trans ((congrArg (fun X => Cert.Reference2Ideal.Up.act _ _ X _) a2).trans (congrArg (fun X => Cert.Reference2Ideal.Up.act _ _ _ X) a3))))
    · exact ((congrArg (fun X => Cert.Reference2Ideal.Up.hist X _ _) a0).trans ((congrArg (fun X => Cert.Reference2Ideal.Up.hist _ X _) a1).trans (congrArg (fun X => Cert.Reference2Ideal.Up.hist _ _ X) a2)))

/-- The reference of the third program runs, keeps its arguments, and leaves every counter at zero. -/
theorem frame_ri3 (m : (ℓ : Loc Cert.Reference3Ideal.nD Cert.Reference3Ideal.τ Cert.Reference3Ideal.sig) → Buf (Elt Ideal) ℓ) (g : Dev Cert.Reference3Ideal.nD → PrngReg) :
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0) :=
  (θ_run Cert.Reference3Ideal.defs _ _).mono (fun r h => ⟨fun c => (h c).2, Idealize.ShloMosaic.sem_eq_zero_of_no_sems (by decide) r.2⟩)
    (Cert.Reference3Ideal.Value.run (F := Ideal) m g)

/-- The second product of the feed-forward part: the kernel ends with the reference's normed rows. -/
theorem algebraic3 : Cert.algebraic_Kernel3Ideal_Reference3Ideal := by
  intro m g m' g' hpre hargs
  refine ⟨fun c => Cert.Reference3Ideal.Down.norm (Cert.Reference3Ideal.Down.P (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2))) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)), ?_, ?_⟩
  · refine (θ_run Cert.Kernel3Ideal.defs _ _).mono (fun r h c => ?_) (Cert.Kernel3Ideal.Value.run_blocks (F := Ideal) m g)
    exact ⟨(h c).1.trans (Cert.Kernel3Ideal.Down.final m c), (h c).2⟩
  · refine (θ_run Cert.Reference3Ideal.defs _ _).mono (fun r h c => ?_) (Cert.Reference3Ideal.Value.run (F := Ideal) m' g')
    obtain ⟨a0, a1, a2, a3, a4⟩ := hargs c
    refine ⟨(h c).1.trans ?_, (h c).2⟩
    · exact ((congrArg (fun X => Cert.Reference3Ideal.Down.norm (Cert.Reference3Ideal.Down.P X _ _) _ _) a0).trans ((congrArg (fun X => Cert.Reference3Ideal.Down.norm (Cert.Reference3Ideal.Down.P _ X _) _ _) a1).trans ((congrArg (fun X => Cert.Reference3Ideal.Down.norm (Cert.Reference3Ideal.Down.P _ _ X) _ _) a2).trans ((congrArg (fun X => Cert.Reference3Ideal.Down.norm (Cert.Reference3Ideal.Down.P _ _ _) X _) a3).trans (congrArg (fun X => Cert.Reference3Ideal.Down.norm (Cert.Reference3Ideal.Down.P _ _ _) _ X) a4)))))

/-- The reference of the fourth program runs, keeps its arguments, and leaves every counter at zero. -/
theorem frame_ri4 (m : (ℓ : Loc Cert.Reference4Ideal.nD Cert.Reference4Ideal.τ Cert.Reference4Ideal.sig) → Buf (Elt Ideal) ℓ) (g : Dev Cert.Reference4Ideal.nD → PrngReg) :
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0) :=
  (θ_run Cert.Reference4Ideal.defs _ _).mono (fun r h => ⟨fun c => (h c).2, Idealize.ShloMosaic.sem_eq_zero_of_no_sems (by decide) r.2⟩)
    (Cert.Reference4Ideal.Value.run (F := Ideal) m g)

/-- The output projection: the kernel ends with the reference's normed rows. -/
theorem algebraic4 : Cert.algebraic_Kernel4Ideal_Reference4Ideal := by
  intro m g m' g' hpre hargs
  refine ⟨fun c => Cert.Reference4Ideal.OutProj.norm (Cert.Reference4Ideal.OutProj.P (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3))) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)), ?_, ?_⟩
  · refine (θ_run Cert.Kernel4Ideal.defs _ _).mono (fun r h c => ?_) (Cert.Kernel4Ideal.Value.run_blocks (F := Ideal) m g)
    exact ⟨(h c).1.trans (Cert.Kernel4Ideal.OutProj.final m c), (h c).2⟩
  · refine (θ_run Cert.Reference4Ideal.defs _ _).mono (fun r h c => ?_) (Cert.Reference4Ideal.Value.run (F := Ideal) m' g')
    obtain ⟨a0, a1, a2, a3, a4, a5⟩ := hargs c
    refine ⟨(h c).1.trans ?_, (h c).2⟩
    · exact ((congrArg (fun X => Cert.Reference4Ideal.OutProj.norm (Cert.Reference4Ideal.OutProj.P X _ _ _) _ _) a0).trans ((congrArg (fun X => Cert.Reference4Ideal.OutProj.norm (Cert.Reference4Ideal.OutProj.P _ X _ _) _ _) a1).trans ((congrArg (fun X => Cert.Reference4Ideal.OutProj.norm (Cert.Reference4Ideal.OutProj.P _ _ X _) _ _) a2).trans ((congrArg (fun X => Cert.Reference4Ideal.OutProj.norm (Cert.Reference4Ideal.OutProj.P _ _ _ X) _ _) a3).trans ((congrArg (fun X => Cert.Reference4Ideal.OutProj.norm (Cert.Reference4Ideal.OutProj.P _ _ _ _) X _) a4).trans (congrArg (fun X => Cert.Reference4Ideal.OutProj.norm (Cert.Reference4Ideal.OutProj.P _ _ _ _) _ X) a5))))))

/-- The reference of the fifth program runs, keeps its arguments, and leaves every counter at zero. -/
theorem frame_ri5 (m : (ℓ : Loc Cert.Reference5Ideal.nD Cert.Reference5Ideal.τ Cert.Reference5Ideal.sig) → Buf (Elt Ideal) ℓ) (g : Dev Cert.Reference5Ideal.nD → PrngReg) :
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0) :=
  (θ_run Cert.Reference5Ideal.defs _ _).mono (fun r h => ⟨fun c => (h c).2.2.2.2.2.2.2, Idealize.ShloMosaic.sem_eq_zero_of_no_sems (by decide) r.2⟩)
    (Cert.Reference5Ideal.Value.run (F := Ideal) m g)

/-- The odd layers' input projection: the kernel ends with the reference's columns. -/
theorem algebraic5 : Cert.algebraic_Kernel5Ideal_Reference5Ideal := by
  intro m g m' g' hpre hargs
  refine ⟨fun c => Cert.Reference5Ideal.Proj.qk (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)), fun c => Cert.Reference5Ideal.Proj.v (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)), fun c => Cert.Reference5Ideal.Proj.o (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)), fun c => Cert.Reference5Ideal.Proj.qd (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)), fun c => Cert.Reference5Ideal.Proj.kd (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)), fun c => Cert.Reference5Ideal.Proj.vd (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)), fun c => Cert.Reference5Ideal.Proj.misc (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)), ?_, ?_⟩
  · refine (θ_run Cert.Kernel5Ideal.defs _ _).mono (fun r h c => ?_) (Cert.Kernel5Ideal.Value.run_blocks (F := Ideal) m g)
    exact ⟨(h c).1.trans (Cert.Kernel5Ideal.Proj.final_qk m c), (h c).2.1.trans (Cert.Kernel5Ideal.Proj.final_v m c), (h c).2.2.1.trans (Cert.Kernel5Ideal.Proj.final_o m c), (h c).2.2.2.1.trans (Cert.Kernel5Ideal.Proj.final_qd m c), (h c).2.2.2.2.1.trans (Cert.Kernel5Ideal.Proj.final_kd m c), (h c).2.2.2.2.2.1.trans (Cert.Kernel5Ideal.Proj.final_vd m c), (h c).2.2.2.2.2.2.1.trans (Cert.Kernel5Ideal.Proj.final_misc m c), (h c).2.2.2.2.2.2.2⟩
  · refine (θ_run Cert.Reference5Ideal.defs _ _).mono (fun r h c => ?_) (Cert.Reference5Ideal.Value.run (F := Ideal) m' g')
    obtain ⟨a0, a1⟩ := hargs c
    refine ⟨(h c).1.trans ?_, (h c).2.1.trans ?_, (h c).2.2.1.trans ?_, (h c).2.2.2.1.trans ?_, (h c).2.2.2.2.1.trans ?_, (h c).2.2.2.2.2.1.trans ?_, (h c).2.2.2.2.2.2.1.trans ?_, (h c).2.2.2.2.2.2.2⟩
    · exact ((congrArg (fun X => Cert.Reference5Ideal.Proj.qk X _) a0).trans (congrArg (fun X => Cert.Reference5Ideal.Proj.qk _ X) a1))
    · exact ((congrArg (fun X => Cert.Reference5Ideal.Proj.v X _) a0).trans (congrArg (fun X => Cert.Reference5Ideal.Proj.v _ X) a1))
    · exact ((congrArg (fun X => Cert.Reference5Ideal.Proj.o X _) a0).trans (congrArg (fun X => Cert.Reference5Ideal.Proj.o _ X) a1))
    · exact ((congrArg (fun X => Cert.Reference5Ideal.Proj.qd X _) a0).trans (congrArg (fun X => Cert.Reference5Ideal.Proj.qd _ X) a1))
    · exact ((congrArg (fun X => Cert.Reference5Ideal.Proj.kd X _) a0).trans (congrArg (fun X => Cert.Reference5Ideal.Proj.kd _ X) a1))
    · exact ((congrArg (fun X => Cert.Reference5Ideal.Proj.vd X _) a0).trans (congrArg (fun X => Cert.Reference5Ideal.Proj.vd _ X) a1))
    · exact ((congrArg (fun X => Cert.Reference5Ideal.Proj.misc X _) a0).trans (congrArg (fun X => Cert.Reference5Ideal.Proj.misc _ X) a1))

/-- The reference of the sixth program runs, keeps its arguments, and leaves every counter at zero. -/
theorem frame_ri6 (m : (ℓ : Loc Cert.Reference6Ideal.nD Cert.Reference6Ideal.τ Cert.Reference6Ideal.sig) → Buf (Elt Ideal) ℓ) (g : Dev Cert.Reference6Ideal.nD → PrngReg) :
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0) :=
  (θ_run Cert.Reference6Ideal.defs _ _).mono (fun r h => ⟨fun c => (h c).2.2.2.2.2.2.2, Idealize.ShloMosaic.sem_eq_zero_of_no_sems (by decide) r.2⟩)
    (Cert.Reference6Ideal.Value.run (F := Ideal) m g)

/-- The even layers' input projection: the kernel ends with the reference's columns. -/
theorem algebraic6 : Cert.algebraic_Kernel6Ideal_Reference6Ideal := by
  intro m g m' g' hpre hargs
  refine ⟨fun c => Cert.Reference6Ideal.Proj.qa (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)), fun c => Cert.Reference6Ideal.Proj.ka (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)), fun c => Cert.Reference6Ideal.Proj.va (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)), fun c => Cert.Reference6Ideal.Proj.qi (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)), fun c => Cert.Reference6Ideal.Proj.qkv (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)), fun c => Cert.Reference6Ideal.Proj.z (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)), fun c => Cert.Reference6Ideal.Proj.misc (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)), ?_, ?_⟩
  · refine (θ_run Cert.Kernel6Ideal.defs _ _).mono (fun r h c => ?_) (Cert.Kernel6Ideal.Value.run_blocks (F := Ideal) m g)
    exact ⟨(h c).1.trans (Cert.Kernel6Ideal.Proj.final_qa m c), (h c).2.1.trans (Cert.Kernel6Ideal.Proj.final_ka m c), (h c).2.2.1.trans (Cert.Kernel6Ideal.Proj.final_va m c), (h c).2.2.2.1.trans (Cert.Kernel6Ideal.Proj.final_qi m c), (h c).2.2.2.2.1.trans (Cert.Kernel6Ideal.Proj.final_qkv m c), (h c).2.2.2.2.2.1.trans (Cert.Kernel6Ideal.Proj.final_z m c), (h c).2.2.2.2.2.2.1.trans (Cert.Kernel6Ideal.Proj.final_misc m c), (h c).2.2.2.2.2.2.2⟩
  · refine (θ_run Cert.Reference6Ideal.defs _ _).mono (fun r h c => ?_) (Cert.Reference6Ideal.Value.run (F := Ideal) m' g')
    obtain ⟨a0, a1⟩ := hargs c
    refine ⟨(h c).1.trans ?_, (h c).2.1.trans ?_, (h c).2.2.1.trans ?_, (h c).2.2.2.1.trans ?_, (h c).2.2.2.2.1.trans ?_, (h c).2.2.2.2.2.1.trans ?_, (h c).2.2.2.2.2.2.1.trans ?_, (h c).2.2.2.2.2.2.2⟩
    · exact ((congrArg (fun X => Cert.Reference6Ideal.Proj.qa X _) a0).trans (congrArg (fun X => Cert.Reference6Ideal.Proj.qa _ X) a1))
    · exact ((congrArg (fun X => Cert.Reference6Ideal.Proj.ka X _) a0).trans (congrArg (fun X => Cert.Reference6Ideal.Proj.ka _ X) a1))
    · exact ((congrArg (fun X => Cert.Reference6Ideal.Proj.va X _) a0).trans (congrArg (fun X => Cert.Reference6Ideal.Proj.va _ X) a1))
    · exact ((congrArg (fun X => Cert.Reference6Ideal.Proj.qi X _) a0).trans (congrArg (fun X => Cert.Reference6Ideal.Proj.qi _ X) a1))
    · exact ((congrArg (fun X => Cert.Reference6Ideal.Proj.qkv X _) a0).trans (congrArg (fun X => Cert.Reference6Ideal.Proj.qkv _ X) a1))
    · exact ((congrArg (fun X => Cert.Reference6Ideal.Proj.z X _) a0).trans (congrArg (fun X => Cert.Reference6Ideal.Proj.z _ X) a1))
    · exact ((congrArg (fun X => Cert.Reference6Ideal.Proj.misc X _) a0).trans (congrArg (fun X => Cert.Reference6Ideal.Proj.misc _ X) a1))

/-- The reference of the seventh program runs, keeps its arguments, and leaves every counter at zero. -/
theorem frame_ri7 (m : (ℓ : Loc Cert.Reference7Ideal.nD Cert.Reference7Ideal.τ Cert.Reference7Ideal.sig) → Buf (Elt Ideal) ℓ) (g : Dev Cert.Reference7Ideal.nD → PrngReg) :
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0) :=
  (θ_run Cert.Reference7Ideal.defs _ _).mono (fun r h => ⟨fun c => (h c).2, Idealize.ShloMosaic.sem_eq_zero_of_no_sems (by decide) r.2⟩)
    (Cert.Reference7Ideal.Value.run (F := Ideal) m g)

/-- The second product of the feed-forward part for the sample: the kernel ends with the reference's normed rows. -/
theorem algebraic7 : Cert.algebraic_Kernel7Ideal_Reference7Ideal := by
  intro m g m' g' hpre hargs
  refine ⟨fun c => Cert.Reference7Ideal.Down.norm (Cert.Reference7Ideal.Down.P (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2))) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)), ?_, ?_⟩
  · refine (θ_run Cert.Kernel7Ideal.defs _ _).mono (fun r h c => ?_) (Cert.Kernel7Ideal.Value.run_blocks (F := Ideal) m g)
    exact ⟨(h c).1.trans (Cert.Kernel7Ideal.Down.final m c), (h c).2⟩
  · refine (θ_run Cert.Reference7Ideal.defs _ _).mono (fun r h c => ?_) (Cert.Reference7Ideal.Value.run (F := Ideal) m' g')
    obtain ⟨a0, a1, a2, a3, a4⟩ := hargs c
    refine ⟨(h c).1.trans ?_, (h c).2⟩
    · exact ((congrArg (fun X => Cert.Reference7Ideal.Down.norm (Cert.Reference7Ideal.Down.P X _ _) _ _) a0).trans ((congrArg (fun X => Cert.Reference7Ideal.Down.norm (Cert.Reference7Ideal.Down.P _ X _) _ _) a1).trans ((congrArg (fun X => Cert.Reference7Ideal.Down.norm (Cert.Reference7Ideal.Down.P _ _ X) _ _) a2).trans ((congrArg (fun X => Cert.Reference7Ideal.Down.norm (Cert.Reference7Ideal.Down.P _ _ _) X _) a3).trans (congrArg (fun X => Cert.Reference7Ideal.Down.norm (Cert.Reference7Ideal.Down.P _ _ _) _ X) a4)))))

/-- The reference of the eighth program runs, keeps its arguments, and leaves every counter at zero. -/
theorem frame_ri8 (m : (ℓ : Loc Cert.Reference8Ideal.nD Cert.Reference8Ideal.τ Cert.Reference8Ideal.sig) → Buf (Elt Ideal) ℓ) (g : Dev Cert.Reference8Ideal.nD → PrngReg) :
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0) :=
  (θ_run Cert.Reference8Ideal.defs _ _).mono (fun r h => ⟨fun c => (h c).2.2.2.2.2.2.2, Idealize.ShloMosaic.sem_eq_zero_of_no_sems (by decide) r.2⟩)
    (Cert.Reference8Ideal.Value.run (F := Ideal) m g)

/-- The odd layers' input projection for the sample: the kernel ends with the reference's columns. -/
theorem algebraic8 : Cert.algebraic_Kernel8Ideal_Reference8Ideal := by
  intro m g m' g' hpre hargs
  refine ⟨fun c => Cert.Reference8Ideal.Proj.qk (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)), fun c => Cert.Reference8Ideal.Proj.v (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)), fun c => Cert.Reference8Ideal.Proj.o (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)), fun c => Cert.Reference8Ideal.Proj.qd (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)), fun c => Cert.Reference8Ideal.Proj.kd (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)), fun c => Cert.Reference8Ideal.Proj.vd (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)), fun c => Cert.Reference8Ideal.Proj.misc (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)), ?_, ?_⟩
  · refine (θ_run Cert.Kernel8Ideal.defs _ _).mono (fun r h c => ?_) (Cert.Kernel8Ideal.Value.run_blocks (F := Ideal) m g)
    exact ⟨(h c).1.trans (Cert.Kernel8Ideal.Proj.final_qk m c), (h c).2.1.trans (Cert.Kernel8Ideal.Proj.final_v m c), (h c).2.2.1.trans (Cert.Kernel8Ideal.Proj.final_o m c), (h c).2.2.2.1.trans (Cert.Kernel8Ideal.Proj.final_qd m c), (h c).2.2.2.2.1.trans (Cert.Kernel8Ideal.Proj.final_kd m c), (h c).2.2.2.2.2.1.trans (Cert.Kernel8Ideal.Proj.final_vd m c), (h c).2.2.2.2.2.2.1.trans (Cert.Kernel8Ideal.Proj.final_misc m c), (h c).2.2.2.2.2.2.2⟩
  · refine (θ_run Cert.Reference8Ideal.defs _ _).mono (fun r h c => ?_) (Cert.Reference8Ideal.Value.run (F := Ideal) m' g')
    obtain ⟨a0, a1⟩ := hargs c
    refine ⟨(h c).1.trans ?_, (h c).2.1.trans ?_, (h c).2.2.1.trans ?_, (h c).2.2.2.1.trans ?_, (h c).2.2.2.2.1.trans ?_, (h c).2.2.2.2.2.1.trans ?_, (h c).2.2.2.2.2.2.1.trans ?_, (h c).2.2.2.2.2.2.2⟩
    · exact ((congrArg (fun X => Cert.Reference8Ideal.Proj.qk X _) a0).trans (congrArg (fun X => Cert.Reference8Ideal.Proj.qk _ X) a1))
    · exact ((congrArg (fun X => Cert.Reference8Ideal.Proj.v X _) a0).trans (congrArg (fun X => Cert.Reference8Ideal.Proj.v _ X) a1))
    · exact ((congrArg (fun X => Cert.Reference8Ideal.Proj.o X _) a0).trans (congrArg (fun X => Cert.Reference8Ideal.Proj.o _ X) a1))
    · exact ((congrArg (fun X => Cert.Reference8Ideal.Proj.qd X _) a0).trans (congrArg (fun X => Cert.Reference8Ideal.Proj.qd _ X) a1))
    · exact ((congrArg (fun X => Cert.Reference8Ideal.Proj.kd X _) a0).trans (congrArg (fun X => Cert.Reference8Ideal.Proj.kd _ X) a1))
    · exact ((congrArg (fun X => Cert.Reference8Ideal.Proj.vd X _) a0).trans (congrArg (fun X => Cert.Reference8Ideal.Proj.vd _ X) a1))
    · exact ((congrArg (fun X => Cert.Reference8Ideal.Proj.misc X _) a0).trans (congrArg (fun X => Cert.Reference8Ideal.Proj.misc _ X) a1))

/-- The reference of the ninth program runs, keeps its arguments, and leaves every counter at zero. -/
theorem frame_ri9 (m : (ℓ : Loc Cert.Reference9Ideal.nD Cert.Reference9Ideal.τ Cert.Reference9Ideal.sig) → Buf (Elt Ideal) ℓ) (g : Dev Cert.Reference9Ideal.nD → PrngReg) :
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0) :=
  (θ_run Cert.Reference9Ideal.defs _ _).mono (fun r h => ⟨fun c => (h c).2.2.2.2.2.2.2, Idealize.ShloMosaic.sem_eq_zero_of_no_sems (by decide) r.2⟩)
    (Cert.Reference9Ideal.Value.run (F := Ideal) m g)

/-- The even layers' input projection for the sample: the kernel ends with the reference's columns. -/
theorem algebraic9 : Cert.algebraic_Kernel9Ideal_Reference9Ideal := by
  intro m g m' g' hpre hargs
  refine ⟨fun c => Cert.Reference9Ideal.Proj.qa (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)), fun c => Cert.Reference9Ideal.Proj.ka (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)), fun c => Cert.Reference9Ideal.Proj.va (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)), fun c => Cert.Reference9Ideal.Proj.qi (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)), fun c => Cert.Reference9Ideal.Proj.qkv (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)), fun c => Cert.Reference9Ideal.Proj.z (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)), fun c => Cert.Reference9Ideal.Proj.misc (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)), ?_, ?_⟩
  · refine (θ_run Cert.Kernel9Ideal.defs _ _).mono (fun r h c => ?_) (Cert.Kernel9Ideal.Value.run_blocks (F := Ideal) m g)
    exact ⟨(h c).1.trans (Cert.Kernel9Ideal.Proj.final_qa m c), (h c).2.1.trans (Cert.Kernel9Ideal.Proj.final_ka m c), (h c).2.2.1.trans (Cert.Kernel9Ideal.Proj.final_va m c), (h c).2.2.2.1.trans (Cert.Kernel9Ideal.Proj.final_qi m c), (h c).2.2.2.2.1.trans (Cert.Kernel9Ideal.Proj.final_qkv m c), (h c).2.2.2.2.2.1.trans (Cert.Kernel9Ideal.Proj.final_z m c), (h c).2.2.2.2.2.2.1.trans (Cert.Kernel9Ideal.Proj.final_misc m c), (h c).2.2.2.2.2.2.2⟩
  · refine (θ_run Cert.Reference9Ideal.defs _ _).mono (fun r h c => ?_) (Cert.Reference9Ideal.Value.run (F := Ideal) m' g')
    obtain ⟨a0, a1⟩ := hargs c
    refine ⟨(h c).1.trans ?_, (h c).2.1.trans ?_, (h c).2.2.1.trans ?_, (h c).2.2.2.1.trans ?_, (h c).2.2.2.2.1.trans ?_, (h c).2.2.2.2.2.1.trans ?_, (h c).2.2.2.2.2.2.1.trans ?_, (h c).2.2.2.2.2.2.2⟩
    · exact ((congrArg (fun X => Cert.Reference9Ideal.Proj.qa X _) a0).trans (congrArg (fun X => Cert.Reference9Ideal.Proj.qa _ X) a1))
    · exact ((congrArg (fun X => Cert.Reference9Ideal.Proj.ka X _) a0).trans (congrArg (fun X => Cert.Reference9Ideal.Proj.ka _ X) a1))
    · exact ((congrArg (fun X => Cert.Reference9Ideal.Proj.va X _) a0).trans (congrArg (fun X => Cert.Reference9Ideal.Proj.va _ X) a1))
    · exact ((congrArg (fun X => Cert.Reference9Ideal.Proj.qi X _) a0).trans (congrArg (fun X => Cert.Reference9Ideal.Proj.qi _ X) a1))
    · exact ((congrArg (fun X => Cert.Reference9Ideal.Proj.qkv X _) a0).trans (congrArg (fun X => Cert.Reference9Ideal.Proj.qkv _ X) a1))
    · exact ((congrArg (fun X => Cert.Reference9Ideal.Proj.z X _) a0).trans (congrArg (fun X => Cert.Reference9Ideal.Proj.z _ X) a1))
    · exact ((congrArg (fun X => Cert.Reference9Ideal.Proj.misc X _) a0).trans (congrArg (fun X => Cert.Reference9Ideal.Proj.misc _ X) a1))

/-- The reference of the tenth program runs, keeps its arguments, and leaves every counter at zero. -/
theorem frame_ri10 (m : (ℓ : Loc Cert.Reference10Ideal.nD Cert.Reference10Ideal.τ Cert.Reference10Ideal.sig) → Buf (Elt Ideal) ℓ) (g : Dev Cert.Reference10Ideal.nD → PrngReg) :
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5))
      ∧ r.2.sem = fun _ => 0) :=
  (θ_run Cert.Reference10Ideal.defs _ _).mono (fun r h => ⟨fun c => (h c).2, Idealize.ShloMosaic.sem_eq_zero_of_no_sems (by decide) r.2⟩)
    (Cert.Reference10Ideal.Value.run (F := Ideal) m g)

/-- The sample's band attention: for finite queries, keys, cached keys and table the kernel ends with the reference's. -/
theorem algebraic10 : Cert.algebraic_Kernel10Ideal_Reference10Ideal_pre_finite_in10 (hPre_finite_in10 := Cert.Pre_finite_in10.facts) := by
  intro m g m' g' hpre hargs
  refine ⟨fun c => Cert.Reference10Ideal.Sample.result (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)) (m ((c.tc : Thread Cert.Kernel10Ideal.nD Cert.Kernel10Ideal.τ).loc Cert.Kernel10Ideal.main_arg4)) (m ((c.tc : Thread Cert.Kernel10Ideal.nD Cert.Kernel10Ideal.τ).loc Cert.Kernel10Ideal.main_arg5)), ?_, ?_⟩
  · refine (θ_run Cert.Kernel10Ideal.defs _ _).mono (fun r h c => ?_) (Cert.Kernel10Ideal.Value.run_blocks (F := Ideal) m g)
    obtain ⟨hq, hk, hc, hT⟩ := Cert.Pre_finite_in10.finite (hF := Cert.Pre_finite_in10.facts) _ _ _ _ _ _ (hpre c)
    exact ⟨(h c).1.trans (Cert.Kernel10Ideal.Sample.final m c hq hk hc hT), (h c).2⟩
  · refine (θ_run Cert.Reference10Ideal.defs _ _).mono (fun r h c => ?_) (Cert.Reference10Ideal.Value.run (F := Ideal) m' g')
    obtain ⟨a0, a1, a2, a3, a4, a5⟩ := hargs c
    refine ⟨(h c).1.trans ((Cert.Reference10Ideal.Sample.result_eq m' c).trans ?_), (h c).2⟩
    exact ((congrArg (fun X => Cert.Reference10Ideal.Sample.result X _ _ _ _ _) a0).trans ((congrArg (fun X => Cert.Reference10Ideal.Sample.result _ X _ _ _ _) a1).trans ((congrArg (fun X => Cert.Reference10Ideal.Sample.result _ _ X _ _ _) a2).trans ((congrArg (fun X => Cert.Reference10Ideal.Sample.result _ _ _ X _ _) a3).trans ((congrArg (fun X => Cert.Reference10Ideal.Sample.result _ _ _ _ X _) a4).trans (congrArg (fun X => Cert.Reference10Ideal.Sample.result _ _ _ _ _ X) a5))))))

/-- The reference of the eleventh program runs, keeps its arguments, and leaves every counter at zero. -/
theorem frame_ri11 (m : (ℓ : Loc Cert.Reference11Ideal.nD Cert.Reference11Ideal.τ Cert.Reference11Ideal.sig) → Buf (Elt Ideal) ℓ) (g : Dev Cert.Reference11Ideal.nD → PrngReg) :
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4)
      ∧ r.2.mem ((c.tc : Thread Cert.Reference11Ideal.nD Cert.Reference11Ideal.τ).loc Cert.Reference11Ideal.main_arg5) = m ((c.tc : Thread Cert.Reference11Ideal.nD Cert.Reference11Ideal.τ).loc Cert.Reference11Ideal.main_arg5))
      ∧ r.2.sem = fun _ => 0) :=
  (θ_run Cert.Reference11Ideal.defs _ _).mono (fun r h => ⟨fun c => (h c).2, Idealize.ShloMosaic.sem_eq_zero_of_no_sems (by decide) r.2⟩)
    (Cert.Reference11Ideal.Value.run (F := Ideal) m g)

/-- The output projection for the sample: the kernel ends with the reference's normed rows. -/
theorem algebraic11 : Cert.algebraic_Kernel11Ideal_Reference11Ideal := by
  intro m g m' g' hpre hargs
  refine ⟨fun c => Cert.Reference11Ideal.OutProj.norm (Cert.Reference11Ideal.OutProj.P (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3))) (m ((c.tc : Thread Cert.Kernel11Ideal.nD Cert.Kernel11Ideal.τ).loc Cert.Kernel11Ideal.main_arg4)) (m ((c.tc : Thread Cert.Kernel11Ideal.nD Cert.Kernel11Ideal.τ).loc Cert.Kernel11Ideal.main_arg5)), ?_, ?_⟩
  · refine (θ_run Cert.Kernel11Ideal.defs _ _).mono (fun r h c => ?_) (Cert.Kernel11Ideal.Value.run_blocks (F := Ideal) m g)
    exact ⟨(h c).1.trans (Cert.Kernel11Ideal.OutProj.final m c), (h c).2⟩
  · refine (θ_run Cert.Reference11Ideal.defs _ _).mono (fun r h c => ?_) (Cert.Reference11Ideal.Value.run (F := Ideal) m' g')
    obtain ⟨a0, a1, a2, a3, a4, a5⟩ := hargs c
    refine ⟨(h c).1.trans ?_, (h c).2⟩
    · exact ((congrArg (fun X => Cert.Reference11Ideal.OutProj.norm (Cert.Reference11Ideal.OutProj.P X _ _ _) _ _) a0).trans ((congrArg (fun X => Cert.Reference11Ideal.OutProj.norm (Cert.Reference11Ideal.OutProj.P _ X _ _) _ _) a1).trans ((congrArg (fun X => Cert.Reference11Ideal.OutProj.norm (Cert.Reference11Ideal.OutProj.P _ _ X _) _ _) a2).trans ((congrArg (fun X => Cert.Reference11Ideal.OutProj.norm (Cert.Reference11Ideal.OutProj.P _ _ _ X) _ _) a3).trans ((congrArg (fun X => Cert.Reference11Ideal.OutProj.norm (Cert.Reference11Ideal.OutProj.P _ _ _ _) X _) a4).trans (congrArg (fun X => Cert.Reference11Ideal.OutProj.norm (Cert.Reference11Ideal.OutProj.P _ _ _ _) _ X) a5))))))

/-- The certificate. -/
theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Pre_finite_in.facts, Cert.Pre_finite_in10.facts,
  fun m g _ => Cert.Kernel.Gen.frame m g, fun m g _ => Cert.KernelIdeal.Gen.frame m g, fun m g _ => Cert.KernelIdeal.Gen.frame m g,
  fun m g _ => frame_ri m g, fun m g _ => frame_ri m g,
  fun m g _ => Cert.Kernel2.Gen.frame m g, fun m g _ => Cert.Kernel2Ideal.Gen.frame m g, fun m g _ => frame_ri2 m g,
  fun m g _ => Cert.Kernel3.Gen.frame m g, fun m g _ => Cert.Kernel3Ideal.Gen.frame m g, fun m g _ => frame_ri3 m g,
  fun m g _ => Cert.Kernel4.Gen.frame m g, fun m g _ => Cert.Kernel4Ideal.Gen.frame m g, fun m g _ => frame_ri4 m g,
  fun m g _ => Cert.Kernel5.Gen.frame m g, fun m g _ => Cert.Kernel5Ideal.Gen.frame m g, fun m g _ => frame_ri5 m g,
  fun m g _ => Cert.Kernel6.Gen.frame m g, fun m g _ => Cert.Kernel6Ideal.Gen.frame m g, fun m g _ => frame_ri6 m g,
  fun m g _ => Cert.Kernel7.Gen.frame m g, fun m g _ => Cert.Kernel7Ideal.Gen.frame m g, fun m g _ => frame_ri7 m g,
  fun m g _ => Cert.Kernel8.Gen.frame m g, fun m g _ => Cert.Kernel8Ideal.Gen.frame m g, fun m g _ => frame_ri8 m g,
  fun m g _ => Cert.Kernel9.Gen.frame m g, fun m g _ => Cert.Kernel9Ideal.Gen.frame m g, fun m g _ => frame_ri9 m g,
  fun m g _ => Cert.Kernel10.Gen.frame m g, fun m g _ => Cert.Kernel10Ideal.Gen.frame m g, fun m g _ => Cert.Kernel10Ideal.Gen.frame m g, fun m g _ => frame_ri10 m g, fun m g _ => frame_ri10 m g,
  fun m g _ => Cert.Kernel11.Gen.frame m g, fun m g _ => Cert.Kernel11Ideal.Gen.frame m g, fun m g _ => frame_ri11 m g,
  IdealRules.named_const.statement Cert.KernelIdeal.κ "mask" .f32 0xF149F2CA#32 ⊥ rfl, algebraic,
  trivial, algebraic2, trivial, algebraic3, trivial, algebraic4, trivial, algebraic5, trivial, algebraic6, trivial, algebraic7, trivial, algebraic8, trivial, algebraic9, trivial, algebraic10, trivial, algebraic11⟩

end Cert.Proof

end
